-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![1, 2048, 32, 128]⟩ ⟨4, ![1, 2048, 64, 128]⟩ (Layout.meshBlock [2, 2, 4] ![[], [], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![8192, 8192]⟩ (Layout.meshBlock [2, 2, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = Layout.blockN ⟨3, ![1, 1024, 8192]⟩ ⟨3, ![1, 2048, 8192]⟩ (Layout.meshBlock [2, 2, 4] ![[], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x32x128 : Shape := ⟨4, ![1, 2048, 32, 128]⟩
abbrev S4096x8192 : Shape := ⟨2, ![4096, 8192]⟩
abbrev S2048x4096 : Shape := ⟨2, ![2048, 4096]⟩
abbrev S_ : Shape := ⟨0, ![]⟩
abbrev S1 : Shape := ⟨1, ![1]⟩
abbrev S1x1024x8192 : Shape := ⟨3, ![1, 1024, 8192]⟩
abbrev S4096x256 : Shape := ⟨2, ![4096, 256]⟩
abbrev S4x512x256 : Shape := ⟨3, ![4, 512, 256]⟩
abbrev S2x512x256 : Shape := ⟨3, ![2, 512, 256]⟩
abbrev S4 : Shape := ⟨1, ![4]⟩
abbrev S2 : Shape := ⟨1, ![2]⟩
abbrev S1x512x256 : Shape := ⟨3, ![1, 512, 256]⟩
abbrev S512x256 : Shape := ⟨2, ![512, 256]⟩
abbrev S512x4096 : Shape := ⟨2, ![512, 4096]⟩

abbrev nBuf : Space → Nat
  | .hbm => 11
  | .vmem => 16
  | .smem => 1
  | _ => 0

abbrev bufTy : (tb : Table) → Fin (tcTables nBuf tb) → BufTy
  | .hbm, ⟨0, _⟩ => ⟨S1x2048x32x128, .f32⟩
  | .hbm, ⟨1, _⟩ => ⟨S4096x8192, .f32⟩
  | .hbm, ⟨2, _⟩ => ⟨S2048x4096, .f32⟩
  | .hbm, ⟨3, _⟩ => ⟨S2048x4096, .bf16⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1x1024x8192, .f32⟩
  | .local _ .vmem, ⟨0, _⟩ => ⟨S2048x4096, .bf16⟩
  | .local _ .vmem, ⟨1, _⟩ => ⟨S4096x256, .f32⟩
  | .local _ .vmem, ⟨2, _⟩ => ⟨S4096x256, .f32⟩
  | .local _ .vmem, ⟨3, _⟩ => ⟨S4096x256, .bf16⟩
  | .local _ .vmem, ⟨4, _⟩ => ⟨S4x512x256, .bf16⟩
  | .local _ .vmem, ⟨5, _⟩ => ⟨S4x512x256, .bf16⟩
  | .local _ .vmem, ⟨6, _⟩ => ⟨S2x512x256, .bf16⟩
  | .local _ .vmem, ⟨7, _⟩ => ⟨S2x512x256, .f32⟩
  | .local _ .vmem, ⟨8, _⟩ => ⟨S4x512x256, .bf16⟩
  | .local _ .vmem, ⟨9, _⟩ => ⟨S4x512x256, .bf16⟩
  | .local _ .vmem, ⟨10, _⟩ => ⟨S2x512x256, .bf16⟩
  | .local _ .vmem, ⟨11, _⟩ => ⟨S4x512x256, .bf16⟩
  | .local _ .vmem, ⟨12, _⟩ => ⟨S4x512x256, .bf16⟩
  | .local _ .vmem, ⟨13, _⟩ => ⟨S2x512x256, .f32⟩
  | .local _ .vmem, ⟨14, _⟩ => ⟨S2x512x256, .f32⟩
  | .local _ .vmem, ⟨15, _⟩ => ⟨S2x512x256, .f32⟩
  | .local _ .smem, ⟨0, _⟩ => ⟨S1, .i32⟩
  | _, _ => ⟨S1x2048x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v8 : Ref sig .tc := ⟨.hbm, 10, rfl⟩
abbrev main_v7 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_sem0_0 : DmaSem sig := 0
abbrev cc0_sem1_0 : DmaSem sig := 1
abbrev cc0_sem1_1 : DmaSem sig := 2
abbrev barrier0 : Sem sig := 0

abbrev nD : Nat := 16
abbrev τ : Topo := Topo.v7x

variable {F : FTy → Type} [FloatOps F]

abbrev grid0 : Pipeline.Grid := ⟨1, ![19], ![false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_17 : BitVec 32 := 0#32
  let v33 : BitVec 1 := Scalar.cmpi .eq arg0 c0_i32_17
  let v34 : BitVec 32 := Scalar.extui v33
  let c0_i32_18 : BitVec 32 := 0#32
  let v35 : BitVec 1 := Scalar.cmpi .ne v34 c0_i32_18
  v35

def k0_dev1 (d0 : Dev nD) : Nat :=
  let c0_i32_38 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_37 : BitVec 32 := 8#32
  let v71 : BitVec 32 := Scalar.muli v2 c8_i32_37
  let v72 : BitVec 32 := Scalar.addi c0_i32_38 v71
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_39 : BitVec 32 := 4#32
  let v73 : BitVec 32 := Scalar.muli v19 c4_i32_39
  let v74 : BitVec 32 := Scalar.addi v72 v73
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v75 : BitVec 32 := Scalar.muli v8 c1_i32_40
  let v76 : BitVec 32 := Scalar.addi v74 v75
  v76.toNat
def k0_dev2 (d0 : Dev nD) : Nat :=
  let c0_i32_43 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_42 : BitVec 32 := 8#32
  let v77 : BitVec 32 := Scalar.muli v20 c8_i32_42
  let v78 : BitVec 32 := Scalar.addi c0_i32_43 v77
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_44 : BitVec 32 := 4#32
  let v79 : BitVec 32 := Scalar.muli v5 c4_i32_44
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v81 : BitVec 32 := Scalar.muli v8 c1_i32_45
  let v82 : BitVec 32 := Scalar.addi v80 v81
  v82.toNat
def k0_dev3 (d0 : Dev nD) : Nat :=
  let c0_i32_48 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_47 : BitVec 32 := 8#32
  let v83 : BitVec 32 := Scalar.muli v2 c8_i32_47
  let v84 : BitVec 32 := Scalar.addi c0_i32_48 v83
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_49 : BitVec 32 := 4#32
  let v85 : BitVec 32 := Scalar.muli v5 c4_i32_49
  let v86 : BitVec 32 := Scalar.addi v84 v85
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_50 : BitVec 32 := 1#32
  let v87 : BitVec 32 := Scalar.muli v23 c1_i32_50
  let v88 : BitVec 32 := Scalar.addi v86 v87
  v88.toNat
def k0_cond2 (i : grid0.Coords) : BitVec 1 :=
  let arg0 : BitVec 32 := BitVec.ofNat 32 (i 0).val
  let c4_i32_19 : BitVec 32 := 4#32
  let v36 : BitVec 1 := Scalar.cmpi .sge arg0 c4_i32_19
  let c16_i32 : BitVec 32 := 16#32
  let v37 : BitVec 1 := Scalar.cmpi .slt arg0 c16_i32
  let v38 : BitVec 1 := Scalar.andi v36 v37
  let v39 : BitVec 32 := Scalar.extui v38
  let c0_i32_20 : BitVec 32 := 0#32
  let v40 : BitVec 1 := Scalar.cmpi .ne v39 c0_i32_20
  v40

def k0_off1 (i : grid0.Coords) : Fin 1 → Nat :=
  let arg0 : BitVec 32 := BitVec.ofNat 32 (i 0).val
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi arg0 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  ![v79.toNat]
def k0_off2 (i : grid0.Coords) : Fin 3 → Nat :=
  let arg0 : BitVec 32 := BitVec.ofNat 32 (i 0).val
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi arg0 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c0_i32_43 : BitVec 32 := 0#32
  let c0_i32_44 : BitVec 32 := 0#32
  ![v79.toNat, 0, 0]
def k0_cond3 (i : grid0.Coords) : BitVec 1 :=
  let arg0 : BitVec 32 := BitVec.ofNat 32 (i 0).val
  let c16_i32_21 : BitVec 32 := 16#32
  let v41 : BitVec 1 := Scalar.cmpi .slt arg0 c16_i32_21
  let v42 : BitVec 32 := Scalar.extui v41
  let c0_i32_22 : BitVec 32 := 0#32
  let v43 : BitVec 1 := Scalar.cmpi .ne v42 c0_i32_22
  v43

def k0_off3 (d0 : Dev nD) : Fin 2 → Nat :=
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_11 v5
  let c1024_i32_12 : BitVec 32 := 1024#32
  let v26 : BitVec 32 := Scalar.muli v25 c1024_i32_12
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32_39 : BitVec 32 := 512#32
  let v76 : BitVec 32 := Scalar.muli v18 c512_i32_39
  let v77 : BitVec 32 := Scalar.addi v26 v76
  let v78 : Index := Scalar.indexCast v77
  let c0_40 : Index := 0#32
  ![v78.toNat, 0]
def k0_off4 (i : grid0.Coords) : Fin 3 → Nat :=
  let arg0 : BitVec 32 := BitVec.ofNat 32 (i 0).val
  let c4_i32_43 : BitVec 32 := 4#32
  let c0_i32_44 : BitVec 32 := 0#32
  let v84 : BitVec 1 := Scalar.cmpi .eq c4_i32_43 c0_i32_44
  let c1_i32_45 : BitVec 32 := 1#32
  let v85 : BitVec 32 := Scalar.select v84 c1_i32_45 c4_i32_43
  let v86 : BitVec 32 := Scalar.remsi arg0 v85
  let c0_i32_47 : BitVec 32 := 0#32
  let v88 : BitVec 1 := Scalar.cmpi .slt v86 c0_i32_47
  let c0_i32_48 : BitVec 32 := 0#32
  let v89 : BitVec 1 := Scalar.cmpi .slt v85 c0_i32_48
  let v90 : BitVec 1 := Scalar.xori v88 v89
  let c0_i32_46 : BitVec 32 := 0#32
  let v87 : BitVec 1 := Scalar.cmpi .ne v86 c0_i32_46
  let v91 : BitVec 1 := Scalar.andi v90 v87
  let v92 : BitVec 32 := Scalar.addi v86 v85
  let v93 : BitVec 32 := Scalar.select v91 v92 v86
  let v94 : Index := Scalar.indexCast v93
  let c0_49 : Index := 0#32
  let c0_50 : Index := 0#32
  ![v94.toNat, 0, 0]
def k0_off5 (i : grid0.Coords) : Fin 1 → Nat :=
  let arg0 : BitVec 32 := BitVec.ofNat 32 (i 0).val
  let c4_i32_51 : BitVec 32 := 4#32
  let c0_i32_52 : BitVec 32 := 0#32
  let v98 : BitVec 1 := Scalar.cmpi .eq c4_i32_51 c0_i32_52
  let c1_i32_53 : BitVec 32 := 1#32
  let v99 : BitVec 32 := Scalar.select v98 c1_i32_53 c4_i32_51
  let v100 : BitVec 32 := Scalar.remsi arg0 v99
  let c0_i32_55 : BitVec 32 := 0#32
  let v102 : BitVec 1 := Scalar.cmpi .slt v100 c0_i32_55
  let c0_i32_56 : BitVec 32 := 0#32
  let v103 : BitVec 1 := Scalar.cmpi .slt v99 c0_i32_56
  let v104 : BitVec 1 := Scalar.xori v102 v103
  let c0_i32_54 : BitVec 32 := 0#32
  let v101 : BitVec 1 := Scalar.cmpi .ne v100 c0_i32_54
  let v105 : BitVec 1 := Scalar.andi v104 v101
  let v106 : BitVec 32 := Scalar.addi v100 v99
  let v107 : BitVec 32 := Scalar.select v105 v106 v100
  ![v107.toNat]
def k0_off6 (i : grid0.Coords) : Fin 3 → Nat :=
  let arg0 : BitVec 32 := BitVec.ofNat 32 (i 0).val
  let c4_i32_51 : BitVec 32 := 4#32
  let c0_i32_52 : BitVec 32 := 0#32
  let v98 : BitVec 1 := Scalar.cmpi .eq c4_i32_51 c0_i32_52
  let c1_i32_53 : BitVec 32 := 1#32
  let v99 : BitVec 32 := Scalar.select v98 c1_i32_53 c4_i32_51
  let v100 : BitVec 32 := Scalar.remsi arg0 v99
  let c0_i32_55 : BitVec 32 := 0#32
  let v102 : BitVec 1 := Scalar.cmpi .slt v100 c0_i32_55
  let c0_i32_56 : BitVec 32 := 0#32
  let v103 : BitVec 1 := Scalar.cmpi .slt v99 c0_i32_56
  let v104 : BitVec 1 := Scalar.xori v102 v103
  let c0_i32_54 : BitVec 32 := 0#32
  let v101 : BitVec 1 := Scalar.cmpi .ne v100 c0_i32_54
  let v105 : BitVec 1 := Scalar.andi v104 v101
  let v106 : BitVec 32 := Scalar.addi v100 v99
  let v107 : BitVec 32 := Scalar.select v105 v106 v100
  let c0_i32_61 : BitVec 32 := 0#32
  let c0_i32_62 : BitVec 32 := 0#32
  ![v107.toNat, 0, 0]
def k0_dev4 (d0 : Dev nD) : Nat :=
  let c0_i32_58 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_57 : BitVec 32 := 8#32
  let v108 : BitVec 32 := Scalar.muli v2 c8_i32_57
  let v109 : BitVec 32 := Scalar.addi c0_i32_58 v108
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_59 : BitVec 32 := 4#32
  let v110 : BitVec 32 := Scalar.muli v19 c4_i32_59
  let v111 : BitVec 32 := Scalar.addi v109 v110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v112 : BitVec 32 := Scalar.muli v8 c1_i32_60
  let v113 : BitVec 32 := Scalar.addi v111 v112
  v113.toNat
def k0_cond4 (i : grid0.Coords) : BitVec 1 :=
  let arg0 : BitVec 32 := BitVec.ofNat 32 (i 0).val
  let c1_i32_23 : BitVec 32 := 1#32
  let v44 : BitVec 1 := Scalar.cmpi .sge arg0 c1_i32_23
  let c16_i32_24 : BitVec 32 := 16#32
  let v45 : BitVec 1 := Scalar.cmpi .sle arg0 c16_i32_24
  let v46 : BitVec 1 := Scalar.andi v44 v45
  let v47 : BitVec 32 := Scalar.extui v46
  let c0_i32_25 : BitVec 32 := 0#32
  let v48 : BitVec 1 := Scalar.cmpi .ne v47 c0_i32_25
  v48

def k0_off7 (i : grid0.Coords) : Fin 1 → Nat :=
  let arg0 : BitVec 32 := BitVec.ofNat 32 (i 0).val
  let c1_i32_36 : BitVec 32 := 1#32
  let v70 : BitVec 32 := Scalar.subi arg0 c1_i32_36
  let c4_i32_43 : BitVec 32 := 4#32
  let c0_i32_44 : BitVec 32 := 0#32
  let v81 : BitVec 1 := Scalar.cmpi .eq c4_i32_43 c0_i32_44
  let c1_i32_45 : BitVec 32 := 1#32
  let v82 : BitVec 32 := Scalar.select v81 c1_i32_45 c4_i32_43
  let v83 : BitVec 32 := Scalar.remsi v70 v82
  let c0_i32_47 : BitVec 32 := 0#32
  let v85 : BitVec 1 := Scalar.cmpi .slt v83 c0_i32_47
  let c0_i32_48 : BitVec 32 := 0#32
  let v86 : BitVec 1 := Scalar.cmpi .slt v82 c0_i32_48
  let v87 : BitVec 1 := Scalar.xori v85 v86
  let c0_i32_46 : BitVec 32 := 0#32
  let v84 : BitVec 1 := Scalar.cmpi .ne v83 c0_i32_46
  let v88 : BitVec 1 := Scalar.andi v87 v84
  let v89 : BitVec 32 := Scalar.addi v83 v82
  let v90 : BitVec 32 := Scalar.select v88 v89 v83
  ![v90.toNat]
def k0_off8 (i : grid0.Coords) : Fin 3 → Nat :=
  let arg0 : BitVec 32 := BitVec.ofNat 32 (i 0).val
  let c1_i32_36 : BitVec 32 := 1#32
  let v70 : BitVec 32 := Scalar.subi arg0 c1_i32_36
  let c4_i32_43 : BitVec 32 := 4#32
  let c0_i32_44 : BitVec 32 := 0#32
  let v81 : BitVec 1 := Scalar.cmpi .eq c4_i32_43 c0_i32_44
  let c1_i32_45 : BitVec 32 := 1#32
  let v82 : BitVec 32 := Scalar.select v81 c1_i32_45 c4_i32_43
  let v83 : BitVec 32 := Scalar.remsi v70 v82
  let c0_i32_47 : BitVec 32 := 0#32
  let v85 : BitVec 1 := Scalar.cmpi .slt v83 c0_i32_47
  let c0_i32_48 : BitVec 32 := 0#32
  let v86 : BitVec 1 := Scalar.cmpi .slt v82 c0_i32_48
  let v87 : BitVec 1 := Scalar.xori v85 v86
  let c0_i32_46 : BitVec 32 := 0#32
  let v84 : BitVec 1 := Scalar.cmpi .ne v83 c0_i32_46
  let v88 : BitVec 1 := Scalar.andi v87 v84
  let v89 : BitVec 32 := Scalar.addi v83 v82
  let v90 : BitVec 32 := Scalar.select v88 v89 v83
  let c0_i32_53 : BitVec 32 := 0#32
  let c0_i32_54 : BitVec 32 := 0#32
  ![v90.toNat, 0, 0]
def k0_cond5 (i : grid0.Coords) : BitVec 1 :=
  let arg0 : BitVec 32 := BitVec.ofNat 32 (i 0).val
  let c1_i32_36 : BitVec 32 := 1#32
  let v70 : BitVec 32 := Scalar.subi arg0 c1_i32_36
  let c2_i32_57 : BitVec 32 := 2#32
  let v103 : BitVec 1 := Scalar.cmpi .sge v70 c2_i32_57
  let v104 : BitVec 32 := Scalar.extui v103
  let c0_i32_58 : BitVec 32 := 0#32
  let v105 : BitVec 1 := Scalar.cmpi .ne v104 c0_i32_58
  v105

def k0_off9 (i : grid0.Coords) : Fin 1 → Nat :=
  let arg0 : BitVec 32 := BitVec.ofNat 32 (i 0).val
  let c1_i32_36 : BitVec 32 := 1#32
  let v70 : BitVec 32 := Scalar.subi arg0 c1_i32_36
  let c2_i32_37 : BitVec 32 := 2#32
  let c0_i32_38 : BitVec 32 := 0#32
  let v71 : BitVec 1 := Scalar.cmpi .eq c2_i32_37 c0_i32_38
  let c1_i32_39 : BitVec 32 := 1#32
  let v72 : BitVec 32 := Scalar.select v71 c1_i32_39 c2_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  ![v80.toNat]
def k0_off10 (i : grid0.Coords) (d0 : Dev nD) : Fin 3 → Nat :=
  let c0_i32_89 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32 : BitVec 32 := 512#32
  let v30 : BitVec 32 := Scalar.muli v18 c512_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v27 : BitVec 32 := Scalar.muli v2 c4096_i32
  let arg0 : BitVec 32 := BitVec.ofNat 32 (i 0).val
  let c1_i32_36 : BitVec 32 := 1#32
  let v70 : BitVec 32 := Scalar.subi arg0 c1_i32_36
  let c2_i32_87 : BitVec 32 := 2#32
  let v163 : BitVec 32 := Scalar.subi v70 c2_i32_87
  let c256_i32_88 : BitVec 32 := 256#32
  let v164 : BitVec 32 := Scalar.muli v163 c256_i32_88
  let v165 : BitVec 32 := Scalar.addi v27 v164
  ![0, v30.toNat, v165.toNat]
def k0_off11 (i : grid0.Coords) : Fin 3 → Nat :=
  let arg0 : BitVec 32 := BitVec.ofNat 32 (i 0).val
  let c1_i32_36 : BitVec 32 := 1#32
  let v70 : BitVec 32 := Scalar.subi arg0 c1_i32_36
  let c2_i32_37 : BitVec 32 := 2#32
  let c0_i32_38 : BitVec 32 := 0#32
  let v71 : BitVec 1 := Scalar.cmpi .eq c2_i32_37 c0_i32_38
  let c1_i32_39 : BitVec 32 := 1#32
  let v72 : BitVec 32 := Scalar.select v71 c1_i32_39 c2_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  let c0_i32_90 : BitVec 32 := 0#32
  let c0_i32_91 : BitVec 32 := 0#32
  ![v80.toNat, 0, 0]
def k0_cond6 (i : grid0.Coords) : BitVec 1 :=
  let arg0 : BitVec 32 := BitVec.ofNat 32 (i 0).val
  let c1_i32_36 : BitVec 32 := 1#32
  let v70 : BitVec 32 := Scalar.subi arg0 c1_i32_36
  let c4_i32_59 : BitVec 32 := 4#32
  let v106 : BitVec 1 := Scalar.cmpi .sge v70 c4_i32_59
  let v107 : BitVec 32 := Scalar.extui v106
  let c0_i32_60 : BitVec 32 := 0#32
  let v108 : BitVec 1 := Scalar.cmpi .ne v107 c0_i32_60
  v108

def k0_off12 (i : grid0.Coords) : Fin 1 → Nat :=
  let arg0 : BitVec 32 := BitVec.ofNat 32 (i 0).val
  let c1_i32_36 : BitVec 32 := 1#32
  let v70 : BitVec 32 := Scalar.subi arg0 c1_i32_36
  let c4_i32_43 : BitVec 32 := 4#32
  let c0_i32_44 : BitVec 32 := 0#32
  let v81 : BitVec 1 := Scalar.cmpi .eq c4_i32_43 c0_i32_44
  let c1_i32_45 : BitVec 32 := 1#32
  let v82 : BitVec 32 := Scalar.select v81 c1_i32_45 c4_i32_43
  let v83 : BitVec 32 := Scalar.remsi v70 v82
  let c0_i32_47 : BitVec 32 := 0#32
  let v85 : BitVec 1 := Scalar.cmpi .slt v83 c0_i32_47
  let c0_i32_48 : BitVec 32 := 0#32
  let v86 : BitVec 1 := Scalar.cmpi .slt v82 c0_i32_48
  let v87 : BitVec 1 := Scalar.xori v85 v86
  let c0_i32_46 : BitVec 32 := 0#32
  let v84 : BitVec 1 := Scalar.cmpi .ne v83 c0_i32_46
  let v88 : BitVec 1 := Scalar.andi v87 v84
  let v89 : BitVec 32 := Scalar.addi v83 v82
  let v90 : BitVec 32 := Scalar.select v88 v89 v83
  ![v90.toNat]
def k0_off13 (i : grid0.Coords) : Fin 3 → Nat :=
  let arg0 : BitVec 32 := BitVec.ofNat 32 (i 0).val
  let c1_i32_36 : BitVec 32 := 1#32
  let v70 : BitVec 32 := Scalar.subi arg0 c1_i32_36
  let c4_i32_43 : BitVec 32 := 4#32
  let c0_i32_44 : BitVec 32 := 0#32
  let v81 : BitVec 1 := Scalar.cmpi .eq c4_i32_43 c0_i32_44
  let c1_i32_45 : BitVec 32 := 1#32
  let v82 : BitVec 32 := Scalar.select v81 c1_i32_45 c4_i32_43
  let v83 : BitVec 32 := Scalar.remsi v70 v82
  let c0_i32_47 : BitVec 32 := 0#32
  let v85 : BitVec 1 := Scalar.cmpi .slt v83 c0_i32_47
  let c0_i32_48 : BitVec 32 := 0#32
  let v86 : BitVec 1 := Scalar.cmpi .slt v82 c0_i32_48
  let v87 : BitVec 1 := Scalar.xori v85 v86
  let c0_i32_46 : BitVec 32 := 0#32
  let v84 : BitVec 1 := Scalar.cmpi .ne v83 c0_i32_46
  let v88 : BitVec 1 := Scalar.andi v87 v84
  let v89 : BitVec 32 := Scalar.addi v83 v82
  let v90 : BitVec 32 := Scalar.select v88 v89 v83
  let c0_i32_88 : BitVec 32 := 0#32
  let c0_i32_89 : BitVec 32 := 0#32
  ![v90.toNat, 0, 0]
def k0_off14 (i : grid0.Coords) : Fin 3 → Nat :=
  let arg0 : BitVec 32 := BitVec.ofNat 32 (i 0).val
  let c1_i32_36 : BitVec 32 := 1#32
  let v70 : BitVec 32 := Scalar.subi arg0 c1_i32_36
  let c2_i32_37 : BitVec 32 := 2#32
  let c0_i32_38 : BitVec 32 := 0#32
  let v71 : BitVec 1 := Scalar.cmpi .eq c2_i32_37 c0_i32_38
  let c1_i32_39 : BitVec 32 := 1#32
  let v72 : BitVec 32 := Scalar.select v71 c1_i32_39 c2_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  let v109 : Index := Scalar.indexCast v80
  let c0 : Index := 0#32
  let c0_61 : Index := 0#32
  ![v109.toNat, 0, 0]
def k0_off15 (i : grid0.Coords) : Fin 3 → Nat :=
  let arg0 : BitVec 32 := BitVec.ofNat 32 (i 0).val
  let c1_i32_36 : BitVec 32 := 1#32
  let v70 : BitVec 32 := Scalar.subi arg0 c1_i32_36
  let c4_i32_43 : BitVec 32 := 4#32
  let c0_i32_44 : BitVec 32 := 0#32
  let v81 : BitVec 1 := Scalar.cmpi .eq c4_i32_43 c0_i32_44
  let c1_i32_45 : BitVec 32 := 1#32
  let v82 : BitVec 32 := Scalar.select v81 c1_i32_45 c4_i32_43
  let v83 : BitVec 32 := Scalar.remsi v70 v82
  let c0_i32_47 : BitVec 32 := 0#32
  let v85 : BitVec 1 := Scalar.cmpi .slt v83 c0_i32_47
  let c0_i32_48 : BitVec 32 := 0#32
  let v86 : BitVec 1 := Scalar.cmpi .slt v82 c0_i32_48
  let v87 : BitVec 1 := Scalar.xori v85 v86
  let c0_i32_46 : BitVec 32 := 0#32
  let v84 : BitVec 1 := Scalar.cmpi .ne v83 c0_i32_46
  let v88 : BitVec 1 := Scalar.andi v87 v84
  let v89 : BitVec 32 := Scalar.addi v83 v82
  let v90 : BitVec 32 := Scalar.select v88 v89 v83
  let v113 : Index := Scalar.indexCast v90
  let c0_62 : Index := 0#32
  let c0_63 : Index := 0#32
  ![v113.toNat, 0, 0]
def k0_dev5 (d0 : Dev nD) : Nat :=
  let c0_i32_69 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_68 : BitVec 32 := 8#32
  let v127 : BitVec 32 := Scalar.muli v20 c8_i32_68
  let v128 : BitVec 32 := Scalar.addi c0_i32_69 v127
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_70 : BitVec 32 := 4#32
  let v129 : BitVec 32 := Scalar.muli v5 c4_i32_70
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v131 : BitVec 32 := Scalar.muli v8 c1_i32_71
  let v132 : BitVec 32 := Scalar.addi v130 v131
  v132.toNat
def k0_dev6 (d0 : Dev nD) : Nat :=
  let c0_i32_77 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_76 : BitVec 32 := 8#32
  let v141 : BitVec 32 := Scalar.muli v2 c8_i32_76
  let v142 : BitVec 32 := Scalar.addi c0_i32_77 v141
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_78 : BitVec 32 := 4#32
  let v143 : BitVec 32 := Scalar.muli v5 c4_i32_78
  let v144 : BitVec 32 := Scalar.addi v142 v143
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_79 : BitVec 32 := 1#32
  let v145 : BitVec 32 := Scalar.muli v23 c1_i32_79
  let v146 : BitVec 32 := Scalar.addi v144 v145
  v146.toNat
def k0_off16 (i : grid0.Coords) : Fin 1 → Nat :=
  let arg0 : BitVec 32 := BitVec.ofNat 32 (i 0).val
  let c1_i32_36 : BitVec 32 := 1#32
  let v70 : BitVec 32 := Scalar.subi arg0 c1_i32_36
  let c2_i32_37 : BitVec 32 := 2#32
  let c0_i32_38 : BitVec 32 := 0#32
  let v71 : BitVec 1 := Scalar.cmpi .eq c2_i32_37 c0_i32_38
  let c1_i32_39 : BitVec 32 := 1#32
  let v72 : BitVec 32 := Scalar.select v71 c1_i32_39 c2_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  ![v80.toNat]
def k0_off17 (i : grid0.Coords) (d0 : Dev nD) : Fin 3 → Nat :=
  let c0_i32_84 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32 : BitVec 32 := 512#32
  let v30 : BitVec 32 := Scalar.muli v18 c512_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v27 : BitVec 32 := Scalar.muli v2 c4096_i32
  let arg0 : BitVec 32 := BitVec.ofNat 32 (i 0).val
  let c1_i32_36 : BitVec 32 := 1#32
  let v70 : BitVec 32 := Scalar.subi arg0 c1_i32_36
  let c256_i32 : BitVec 32 := 256#32
  let v155 : BitVec 32 := Scalar.muli v70 c256_i32
  let v156 : BitVec 32 := Scalar.addi v27 v155
  ![0, v30.toNat, v156.toNat]
def k0_off18 (i : grid0.Coords) : Fin 3 → Nat :=
  let arg0 : BitVec 32 := BitVec.ofNat 32 (i 0).val
  let c1_i32_36 : BitVec 32 := 1#32
  let v70 : BitVec 32 := Scalar.subi arg0 c1_i32_36
  let c2_i32_37 : BitVec 32 := 2#32
  let c0_i32_38 : BitVec 32 := 0#32
  let v71 : BitVec 1 := Scalar.cmpi .eq c2_i32_37 c0_i32_38
  let c1_i32_39 : BitVec 32 := 1#32
  let v72 : BitVec 32 := Scalar.select v71 c1_i32_39 c2_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  let c0_i32_85 : BitVec 32 := 0#32
  let c0_i32_86 : BitVec 32 := 0#32
  ![v80.toNat, 0, 0]
def k0_cond7 (i : grid0.Coords) : BitVec 1 :=
  let arg0 : BitVec 32 := BitVec.ofNat 32 (i 0).val
  let c16_i32_26 : BitVec 32 := 16#32
  let v49 : BitVec 1 := Scalar.cmpi .slt arg0 c16_i32_26
  let v50 : BitVec 32 := Scalar.extui v49
  let c0_i32_27 : BitVec 32 := 0#32
  let v51 : BitVec 1 := Scalar.cmpi .ne v50 c0_i32_27
  v51

def k0_off19 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v24 : BitVec 32 := Scalar.muli v5 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32_36 : BitVec 32 := 512#32
  let v70 : BitVec 32 := Scalar.muli v18 c512_i32_36
  let v71 : BitVec 32 := Scalar.addi v24 v70
  let v72 : Index := Scalar.indexCast v71
  let c0 : Index := 0#32
  ![v72.toNat, 0]
def k0_off20 (i : grid0.Coords) : Fin 3 → Nat :=
  let arg0 : BitVec 32 := BitVec.ofNat 32 (i 0).val
  let c2_i32_39 : BitVec 32 := 2#32
  let c0_i32_40 : BitVec 32 := 0#32
  let v78 : BitVec 1 := Scalar.cmpi .eq c2_i32_39 c0_i32_40
  let c1_i32_41 : BitVec 32 := 1#32
  let v79 : BitVec 32 := Scalar.select v78 c1_i32_41 c2_i32_39
  let v80 : BitVec 32 := Scalar.remsi arg0 v79
  let c0_i32_43 : BitVec 32 := 0#32
  let v82 : BitVec 1 := Scalar.cmpi .slt v80 c0_i32_43
  let c0_i32_44 : BitVec 32 := 0#32
  let v83 : BitVec 1 := Scalar.cmpi .slt v79 c0_i32_44
  let v84 : BitVec 1 := Scalar.xori v82 v83
  let c0_i32_42 : BitVec 32 := 0#32
  let v81 : BitVec 1 := Scalar.cmpi .ne v80 c0_i32_42
  let v85 : BitVec 1 := Scalar.andi v84 v81
  let v86 : BitVec 32 := Scalar.addi v80 v79
  let v87 : BitVec 32 := Scalar.select v85 v86 v80
  let v88 : Index := Scalar.indexCast v87
  let c0_45 : Index := 0#32
  let c0_46 : Index := 0#32
  ![v88.toNat, 0, 0]
def k0_cond8 (i : grid0.Coords) : BitVec 1 :=
  let arg0 : BitVec 32 := BitVec.ofNat 32 (i 0).val
  let c2_i32_28 : BitVec 32 := 2#32
  let v52 : BitVec 1 := Scalar.cmpi .sge arg0 c2_i32_28
  let c17_i32 : BitVec 32 := 17#32
  let v53 : BitVec 1 := Scalar.cmpi .sle arg0 c17_i32
  let v54 : BitVec 1 := Scalar.andi v52 v53
  let v55 : BitVec 32 := Scalar.extui v54
  let c0_i32_29 : BitVec 32 := 0#32
  let v56 : BitVec 1 := Scalar.cmpi .ne v55 c0_i32_29
  v56

def k0_off21 (i : grid0.Coords) : Fin 1 → Nat :=
  let arg0 : BitVec 32 := BitVec.ofNat 32 (i 0).val
  let c2_i32_36 : BitVec 32 := 2#32
  let v70 : BitVec 32 := Scalar.subi arg0 c2_i32_36
  let c4_i32_43 : BitVec 32 := 4#32
  let c0_i32_44 : BitVec 32 := 0#32
  let v81 : BitVec 1 := Scalar.cmpi .eq c4_i32_43 c0_i32_44
  let c1_i32_45 : BitVec 32 := 1#32
  let v82 : BitVec 32 := Scalar.select v81 c1_i32_45 c4_i32_43
  let v83 : BitVec 32 := Scalar.remsi v70 v82
  let c0_i32_47 : BitVec 32 := 0#32
  let v85 : BitVec 1 := Scalar.cmpi .slt v83 c0_i32_47
  let c0_i32_48 : BitVec 32 := 0#32
  let v86 : BitVec 1 := Scalar.cmpi .slt v82 c0_i32_48
  let v87 : BitVec 1 := Scalar.xori v85 v86
  let c0_i32_46 : BitVec 32 := 0#32
  let v84 : BitVec 1 := Scalar.cmpi .ne v83 c0_i32_46
  let v88 : BitVec 1 := Scalar.andi v87 v84
  let v89 : BitVec 32 := Scalar.addi v83 v82
  let v90 : BitVec 32 := Scalar.select v88 v89 v83
  ![v90.toNat]
def k0_off22 (i : grid0.Coords) : Fin 3 → Nat :=
  let arg0 : BitVec 32 := BitVec.ofNat 32 (i 0).val
  let c2_i32_36 : BitVec 32 := 2#32
  let v70 : BitVec 32 := Scalar.subi arg0 c2_i32_36
  let c4_i32_43 : BitVec 32 := 4#32
  let c0_i32_44 : BitVec 32 := 0#32
  let v81 : BitVec 1 := Scalar.cmpi .eq c4_i32_43 c0_i32_44
  let c1_i32_45 : BitVec 32 := 1#32
  let v82 : BitVec 32 := Scalar.select v81 c1_i32_45 c4_i32_43
  let v83 : BitVec 32 := Scalar.remsi v70 v82
  let c0_i32_47 : BitVec 32 := 0#32
  let v85 : BitVec 1 := Scalar.cmpi .slt v83 c0_i32_47
  let c0_i32_48 : BitVec 32 := 0#32
  let v86 : BitVec 1 := Scalar.cmpi .slt v82 c0_i32_48
  let v87 : BitVec 1 := Scalar.xori v85 v86
  let c0_i32_46 : BitVec 32 := 0#32
  let v84 : BitVec 1 := Scalar.cmpi .ne v83 c0_i32_46
  let v88 : BitVec 1 := Scalar.andi v87 v84
  let v89 : BitVec 32 := Scalar.addi v83 v82
  let v90 : BitVec 32 := Scalar.select v88 v89 v83
  let c0_i32_53 : BitVec 32 := 0#32
  let c0_i32_54 : BitVec 32 := 0#32
  ![v90.toNat, 0, 0]
def k0_cond9 (i : grid0.Coords) : BitVec 1 :=
  let arg0 : BitVec 32 := BitVec.ofNat 32 (i 0).val
  let c2_i32_36 : BitVec 32 := 2#32
  let v70 : BitVec 32 := Scalar.subi arg0 c2_i32_36
  let c2_i32_57 : BitVec 32 := 2#32
  let v103 : BitVec 1 := Scalar.cmpi .sge v70 c2_i32_57
  let v104 : BitVec 32 := Scalar.extui v103
  let c0_i32_58 : BitVec 32 := 0#32
  let v105 : BitVec 1 := Scalar.cmpi .ne v104 c0_i32_58
  v105

def k0_off23 (i : grid0.Coords) : Fin 1 → Nat :=
  let arg0 : BitVec 32 := BitVec.ofNat 32 (i 0).val
  let c2_i32_36 : BitVec 32 := 2#32
  let v70 : BitVec 32 := Scalar.subi arg0 c2_i32_36
  let c2_i32_79 : BitVec 32 := 2#32
  let v146 : BitVec 32 := Scalar.subi v70 c2_i32_79
  let c4_i32_80 : BitVec 32 := 4#32
  let c0_i32_81 : BitVec 32 := 0#32
  let v147 : BitVec 1 := Scalar.cmpi .eq c4_i32_80 c0_i32_81
  let c1_i32_82 : BitVec 32 := 1#32
  let v148 : BitVec 32 := Scalar.select v147 c1_i32_82 c4_i32_80
  let v149 : BitVec 32 := Scalar.remsi v146 v148
  let c0_i32_84 : BitVec 32 := 0#32
  let v151 : BitVec 1 := Scalar.cmpi .slt v149 c0_i32_84
  let c0_i32_85 : BitVec 32 := 0#32
  let v152 : BitVec 1 := Scalar.cmpi .slt v148 c0_i32_85
  let v153 : BitVec 1 := Scalar.xori v151 v152
  let c0_i32_83 : BitVec 32 := 0#32
  let v150 : BitVec 1 := Scalar.cmpi .ne v149 c0_i32_83
  let v154 : BitVec 1 := Scalar.andi v153 v150
  let v155 : BitVec 32 := Scalar.addi v149 v148
  let v156 : BitVec 32 := Scalar.select v154 v155 v149
  ![v156.toNat]
def k0_off24 (i : grid0.Coords) : Fin 3 → Nat :=
  let arg0 : BitVec 32 := BitVec.ofNat 32 (i 0).val
  let c2_i32_36 : BitVec 32 := 2#32
  let v70 : BitVec 32 := Scalar.subi arg0 c2_i32_36
  let c2_i32_37 : BitVec 32 := 2#32
  let c0_i32_38 : BitVec 32 := 0#32
  let v71 : BitVec 1 := Scalar.cmpi .eq c2_i32_37 c0_i32_38
  let c1_i32_39 : BitVec 32 := 1#32
  let v72 : BitVec 32 := Scalar.select v71 c1_i32_39 c2_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  let c0_i32_87 : BitVec 32 := 0#32
  let c0_i32_88 : BitVec 32 := 0#32
  ![v80.toNat, 0, 0]
def k0_off25 (i : grid0.Coords) : Fin 3 → Nat :=
  let arg0 : BitVec 32 := BitVec.ofNat 32 (i 0).val
  let c2_i32_36 : BitVec 32 := 2#32
  let v70 : BitVec 32 := Scalar.subi arg0 c2_i32_36
  let c2_i32_79 : BitVec 32 := 2#32
  let v146 : BitVec 32 := Scalar.subi v70 c2_i32_79
  let c4_i32_80 : BitVec 32 := 4#32
  let c0_i32_81 : BitVec 32 := 0#32
  let v147 : BitVec 1 := Scalar.cmpi .eq c4_i32_80 c0_i32_81
  let c1_i32_82 : BitVec 32 := 1#32
  let v148 : BitVec 32 := Scalar.select v147 c1_i32_82 c4_i32_80
  let v149 : BitVec 32 := Scalar.remsi v146 v148
  let c0_i32_84 : BitVec 32 := 0#32
  let v151 : BitVec 1 := Scalar.cmpi .slt v149 c0_i32_84
  let c0_i32_85 : BitVec 32 := 0#32
  let v152 : BitVec 1 := Scalar.cmpi .slt v148 c0_i32_85
  let v153 : BitVec 1 := Scalar.xori v151 v152
  let c0_i32_83 : BitVec 32 := 0#32
  let v150 : BitVec 1 := Scalar.cmpi .ne v149 c0_i32_83
  let v154 : BitVec 1 := Scalar.andi v153 v150
  let v155 : BitVec 32 := Scalar.addi v149 v148
  let v156 : BitVec 32 := Scalar.select v154 v155 v149
  let c0_i32_89 : BitVec 32 := 0#32
  let c0_i32_90 : BitVec 32 := 0#32
  ![v156.toNat, 0, 0]
def k0_cond10 (i : grid0.Coords) : BitVec 1 :=
  let arg0 : BitVec 32 := BitVec.ofNat 32 (i 0).val
  let c2_i32_36 : BitVec 32 := 2#32
  let v70 : BitVec 32 := Scalar.subi arg0 c2_i32_36
  let c2_i32_59 : BitVec 32 := 2#32
  let v106 : BitVec 1 := Scalar.cmpi .sge v70 c2_i32_59
  let v107 : BitVec 32 := Scalar.extui v106
  let c0_i32_60 : BitVec 32 := 0#32
  let v108 : BitVec 1 := Scalar.cmpi .ne v107 c0_i32_60
  v108

def k0_off26 (i : grid0.Coords) : Fin 1 → Nat :=
  let arg0 : BitVec 32 := BitVec.ofNat 32 (i 0).val
  let c2_i32_36 : BitVec 32 := 2#32
  let v70 : BitVec 32 := Scalar.subi arg0 c2_i32_36
  let c2_i32_37 : BitVec 32 := 2#32
  let c0_i32_38 : BitVec 32 := 0#32
  let v71 : BitVec 1 := Scalar.cmpi .eq c2_i32_37 c0_i32_38
  let c1_i32_39 : BitVec 32 := 1#32
  let v72 : BitVec 32 := Scalar.select v71 c1_i32_39 c2_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  ![v80.toNat]
def k0_off27 (i : grid0.Coords) (d0 : Dev nD) : Fin 3 → Nat :=
  let c0_i32_81 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32 : BitVec 32 := 512#32
  let v30 : BitVec 32 := Scalar.muli v18 c512_i32
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_13 v2
  let c4096_i32_14 : BitVec 32 := 4096#32
  let v29 : BitVec 32 := Scalar.muli v28 c4096_i32_14
  let arg0 : BitVec 32 := BitVec.ofNat 32 (i 0).val
  let c2_i32_36 : BitVec 32 := 2#32
  let v70 : BitVec 32 := Scalar.subi arg0 c2_i32_36
  let c2_i32_79 : BitVec 32 := 2#32
  let v146 : BitVec 32 := Scalar.subi v70 c2_i32_79
  let c256_i32_80 : BitVec 32 := 256#32
  let v147 : BitVec 32 := Scalar.muli v146 c256_i32_80
  let v148 : BitVec 32 := Scalar.addi v29 v147
  ![0, v30.toNat, v148.toNat]
def k0_off28 (i : grid0.Coords) : Fin 3 → Nat :=
  let arg0 : BitVec 32 := BitVec.ofNat 32 (i 0).val
  let c2_i32_36 : BitVec 32 := 2#32
  let v70 : BitVec 32 := Scalar.subi arg0 c2_i32_36
  let c2_i32_37 : BitVec 32 := 2#32
  let c0_i32_38 : BitVec 32 := 0#32
  let v71 : BitVec 1 := Scalar.cmpi .eq c2_i32_37 c0_i32_38
  let c1_i32_39 : BitVec 32 := 1#32
  let v72 : BitVec 32 := Scalar.select v71 c1_i32_39 c2_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  let c0_i32_82 : BitVec 32 := 0#32
  let c0_i32_83 : BitVec 32 := 0#32
  ![v80.toNat, 0, 0]
def k0_off29 (i : grid0.Coords) : Fin 3 → Nat :=
  let arg0 : BitVec 32 := BitVec.ofNat 32 (i 0).val
  let c2_i32_36 : BitVec 32 := 2#32
  let v70 : BitVec 32 := Scalar.subi arg0 c2_i32_36
  let c4_i32_43 : BitVec 32 := 4#32
  let c0_i32_44 : BitVec 32 := 0#32
  let v81 : BitVec 1 := Scalar.cmpi .eq c4_i32_43 c0_i32_44
  let c1_i32_45 : BitVec 32 := 1#32
  let v82 : BitVec 32 := Scalar.select v81 c1_i32_45 c4_i32_43
  let v83 : BitVec 32 := Scalar.remsi v70 v82
  let c0_i32_47 : BitVec 32 := 0#32
  let v85 : BitVec 1 := Scalar.cmpi .slt v83 c0_i32_47
  let c0_i32_48 : BitVec 32 := 0#32
  let v86 : BitVec 1 := Scalar.cmpi .slt v82 c0_i32_48
  let v87 : BitVec 1 := Scalar.xori v85 v86
  let c0_i32_46 : BitVec 32 := 0#32
  let v84 : BitVec 1 := Scalar.cmpi .ne v83 c0_i32_46
  let v88 : BitVec 1 := Scalar.andi v87 v84
  let v89 : BitVec 32 := Scalar.addi v83 v82
  let v90 : BitVec 32 := Scalar.select v88 v89 v83
  let v109 : Index := Scalar.indexCast v90
  let c0 : Index := 0#32
  let c0_61 : Index := 0#32
  ![v109.toNat, 0, 0]
def k0_off30 (i : grid0.Coords) : Fin 3 → Nat :=
  let arg0 : BitVec 32 := BitVec.ofNat 32 (i 0).val
  let c2_i32_36 : BitVec 32 := 2#32
  let v70 : BitVec 32 := Scalar.subi arg0 c2_i32_36
  let c2_i32_37 : BitVec 32 := 2#32
  let c0_i32_38 : BitVec 32 := 0#32
  let v71 : BitVec 1 := Scalar.cmpi .eq c2_i32_37 c0_i32_38
  let c1_i32_39 : BitVec 32 := 1#32
  let v72 : BitVec 32 := Scalar.select v71 c1_i32_39 c2_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  let v112 : Index := Scalar.indexCast v80
  let c0_62 : Index := 0#32
  let c0_63 : Index := 0#32
  ![v112.toNat, 0, 0]
def k0_off31 (i : grid0.Coords) : Fin 3 → Nat :=
  let arg0 : BitVec 32 := BitVec.ofNat 32 (i 0).val
  let c2_i32_36 : BitVec 32 := 2#32
  let v70 : BitVec 32 := Scalar.subi arg0 c2_i32_36
  let c2_i32_37 : BitVec 32 := 2#32
  let c0_i32_38 : BitVec 32 := 0#32
  let v71 : BitVec 1 := Scalar.cmpi .eq c2_i32_37 c0_i32_38
  let c1_i32_39 : BitVec 32 := 1#32
  let v72 : BitVec 32 := Scalar.select v71 c1_i32_39 c2_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  let c0_i32_70 : BitVec 32 := 0#32
  let c0_i32_71 : BitVec 32 := 0#32
  ![v80.toNat, 0, 0]
def k0_dev7 (d0 : Dev nD) : Nat :=
  let c0_i32_65 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_64 : BitVec 32 := 8#32
  let v116 : BitVec 32 := Scalar.muli v2 c8_i32_64
  let v117 : BitVec 32 := Scalar.addi c0_i32_65 v116
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_66 : BitVec 32 := 4#32
  let v118 : BitVec 32 := Scalar.muli v5 c4_i32_66
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_67 : BitVec 32 := 1#32
  let v120 : BitVec 32 := Scalar.muli v23 c1_i32_67
  let v121 : BitVec 32 := Scalar.addi v119 v120
  v121.toNat
def k0_off32 (i : grid0.Coords) : Fin 1 → Nat :=
  let arg0 : BitVec 32 := BitVec.ofNat 32 (i 0).val
  let c2_i32_36 : BitVec 32 := 2#32
  let v70 : BitVec 32 := Scalar.subi arg0 c2_i32_36
  let c2_i32_37 : BitVec 32 := 2#32
  let c0_i32_38 : BitVec 32 := 0#32
  let v71 : BitVec 1 := Scalar.cmpi .eq c2_i32_37 c0_i32_38
  let c1_i32_39 : BitVec 32 := 1#32
  let v72 : BitVec 32 := Scalar.select v71 c1_i32_39 c2_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  ![v80.toNat]
def k0_off33 (i : grid0.Coords) (d0 : Dev nD) : Fin 3 → Nat :=
  let c0_i32_76 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32 : BitVec 32 := 512#32
  let v30 : BitVec 32 := Scalar.muli v18 c512_i32
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_13 v2
  let c4096_i32_14 : BitVec 32 := 4096#32
  let v29 : BitVec 32 := Scalar.muli v28 c4096_i32_14
  let arg0 : BitVec 32 := BitVec.ofNat 32 (i 0).val
  let c2_i32_36 : BitVec 32 := 2#32
  let v70 : BitVec 32 := Scalar.subi arg0 c2_i32_36
  let c256_i32 : BitVec 32 := 256#32
  let v138 : BitVec 32 := Scalar.muli v70 c256_i32
  let v139 : BitVec 32 := Scalar.addi v29 v138
  ![0, v30.toNat, v139.toNat]
def k0_cond11 (i : grid0.Coords) : BitVec 1 :=
  let arg0 : BitVec 32 := BitVec.ofNat 32 (i 0).val
  let c2_i32_30 : BitVec 32 := 2#32
  let v57 : BitVec 1 := Scalar.cmpi .sge arg0 c2_i32_30
  let c17_i32_31 : BitVec 32 := 17#32
  let v58 : BitVec 1 := Scalar.cmpi .sle arg0 c17_i32_31
  let v59 : BitVec 1 := Scalar.andi v57 v58
  let v60 : BitVec 32 := Scalar.extui v59
  let c0_i32_32 : BitVec 32 := 0#32
  let v61 : BitVec 1 := Scalar.cmpi .ne v60 c0_i32_32
  v61

def k0_off34 (i : grid0.Coords) : Fin 1 → Nat :=
  let arg0 : BitVec 32 := BitVec.ofNat 32 (i 0).val
  let c2_i32_36 : BitVec 32 := 2#32
  let v70 : BitVec 32 := Scalar.subi arg0 c2_i32_36
  let c4_i32_43 : BitVec 32 := 4#32
  let c0_i32_44 : BitVec 32 := 0#32
  let v81 : BitVec 1 := Scalar.cmpi .eq c4_i32_43 c0_i32_44
  let c1_i32_45 : BitVec 32 := 1#32
  let v82 : BitVec 32 := Scalar.select v81 c1_i32_45 c4_i32_43
  let v83 : BitVec 32 := Scalar.remsi v70 v82
  let c0_i32_47 : BitVec 32 := 0#32
  let v85 : BitVec 1 := Scalar.cmpi .slt v83 c0_i32_47
  let c0_i32_48 : BitVec 32 := 0#32
  let v86 : BitVec 1 := Scalar.cmpi .slt v82 c0_i32_48
  let v87 : BitVec 1 := Scalar.xori v85 v86
  let c0_i32_46 : BitVec 32 := 0#32
  let v84 : BitVec 1 := Scalar.cmpi .ne v83 c0_i32_46
  let v88 : BitVec 1 := Scalar.andi v87 v84
  let v89 : BitVec 32 := Scalar.addi v83 v82
  let v90 : BitVec 32 := Scalar.select v88 v89 v83
  ![v90.toNat]
def k0_off35 (i : grid0.Coords) : Fin 3 → Nat :=
  let arg0 : BitVec 32 := BitVec.ofNat 32 (i 0).val
  let c2_i32_36 : BitVec 32 := 2#32
  let v70 : BitVec 32 := Scalar.subi arg0 c2_i32_36
  let c4_i32_43 : BitVec 32 := 4#32
  let c0_i32_44 : BitVec 32 := 0#32
  let v81 : BitVec 1 := Scalar.cmpi .eq c4_i32_43 c0_i32_44
  let c1_i32_45 : BitVec 32 := 1#32
  let v82 : BitVec 32 := Scalar.select v81 c1_i32_45 c4_i32_43
  let v83 : BitVec 32 := Scalar.remsi v70 v82
  let c0_i32_47 : BitVec 32 := 0#32
  let v85 : BitVec 1 := Scalar.cmpi .slt v83 c0_i32_47
  let c0_i32_48 : BitVec 32 := 0#32
  let v86 : BitVec 1 := Scalar.cmpi .slt v82 c0_i32_48
  let v87 : BitVec 1 := Scalar.xori v85 v86
  let c0_i32_46 : BitVec 32 := 0#32
  let v84 : BitVec 1 := Scalar.cmpi .ne v83 c0_i32_46
  let v88 : BitVec 1 := Scalar.andi v87 v84
  let v89 : BitVec 32 := Scalar.addi v83 v82
  let v90 : BitVec 32 := Scalar.select v88 v89 v83
  let c0_i32_53 : BitVec 32 := 0#32
  let c0_i32_54 : BitVec 32 := 0#32
  ![v90.toNat, 0, 0]
def k0_cond12 (i : grid0.Coords) : BitVec 1 :=
  let arg0 : BitVec 32 := BitVec.ofNat 32 (i 0).val
  let c2_i32_36 : BitVec 32 := 2#32
  let v70 : BitVec 32 := Scalar.subi arg0 c2_i32_36
  let c2_i32_57 : BitVec 32 := 2#32
  let v103 : BitVec 1 := Scalar.cmpi .sge v70 c2_i32_57
  let v104 : BitVec 32 := Scalar.extui v103
  let c0_i32_58 : BitVec 32 := 0#32
  let v105 : BitVec 1 := Scalar.cmpi .ne v104 c0_i32_58
  v105

def k0_off36 (i : grid0.Coords) : Fin 1 → Nat :=
  let arg0 : BitVec 32 := BitVec.ofNat 32 (i 0).val
  let c2_i32_36 : BitVec 32 := 2#32
  let v70 : BitVec 32 := Scalar.subi arg0 c2_i32_36
  let c2_i32_37 : BitVec 32 := 2#32
  let c0_i32_38 : BitVec 32 := 0#32
  let v71 : BitVec 1 := Scalar.cmpi .eq c2_i32_37 c0_i32_38
  let c1_i32_39 : BitVec 32 := 1#32
  let v72 : BitVec 32 := Scalar.select v71 c1_i32_39 c2_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  ![v80.toNat]
def k0_off37 (i : grid0.Coords) (d0 : Dev nD) : Fin 3 → Nat :=
  let c0_i32_67 : BitVec 32 := 0#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let c512_i32_16 : BitVec 32 := 512#32
  let v32 : BitVec 32 := Scalar.muli v31 c512_i32_16
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v27 : BitVec 32 := Scalar.muli v2 c4096_i32
  let arg0 : BitVec 32 := BitVec.ofNat 32 (i 0).val
  let c2_i32_36 : BitVec 32 := 2#32
  let v70 : BitVec 32 := Scalar.subi arg0 c2_i32_36
  let c2_i32_65 : BitVec 32 := 2#32
  let v122 : BitVec 32 := Scalar.subi v70 c2_i32_65
  let c256_i32_66 : BitVec 32 := 256#32
  let v123 : BitVec 32 := Scalar.muli v122 c256_i32_66
  let v124 : BitVec 32 := Scalar.addi v27 v123
  ![0, v32.toNat, v124.toNat]
def k0_off38 (i : grid0.Coords) : Fin 3 → Nat :=
  let arg0 : BitVec 32 := BitVec.ofNat 32 (i 0).val
  let c2_i32_36 : BitVec 32 := 2#32
  let v70 : BitVec 32 := Scalar.subi arg0 c2_i32_36
  let c2_i32_37 : BitVec 32 := 2#32
  let c0_i32_38 : BitVec 32 := 0#32
  let v71 : BitVec 1 := Scalar.cmpi .eq c2_i32_37 c0_i32_38
  let c1_i32_39 : BitVec 32 := 1#32
  let v72 : BitVec 32 := Scalar.select v71 c1_i32_39 c2_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  let c0_i32_68 : BitVec 32 := 0#32
  let c0_i32_69 : BitVec 32 := 0#32
  ![v80.toNat, 0, 0]
def k0_off39 (i : grid0.Coords) : Fin 3 → Nat :=
  let arg0 : BitVec 32 := BitVec.ofNat 32 (i 0).val
  let c2_i32_36 : BitVec 32 := 2#32
  let v70 : BitVec 32 := Scalar.subi arg0 c2_i32_36
  let c4_i32_43 : BitVec 32 := 4#32
  let c0_i32_44 : BitVec 32 := 0#32
  let v81 : BitVec 1 := Scalar.cmpi .eq c4_i32_43 c0_i32_44
  let c1_i32_45 : BitVec 32 := 1#32
  let v82 : BitVec 32 := Scalar.select v81 c1_i32_45 c4_i32_43
  let v83 : BitVec 32 := Scalar.remsi v70 v82
  let c0_i32_47 : BitVec 32 := 0#32
  let v85 : BitVec 1 := Scalar.cmpi .slt v83 c0_i32_47
  let c0_i32_48 : BitVec 32 := 0#32
  let v86 : BitVec 1 := Scalar.cmpi .slt v82 c0_i32_48
  let v87 : BitVec 1 := Scalar.xori v85 v86
  let c0_i32_46 : BitVec 32 := 0#32
  let v84 : BitVec 1 := Scalar.cmpi .ne v83 c0_i32_46
  let v88 : BitVec 1 := Scalar.andi v87 v84
  let v89 : BitVec 32 := Scalar.addi v83 v82
  let v90 : BitVec 32 := Scalar.select v88 v89 v83
  let v106 : Index := Scalar.indexCast v90
  let c0 : Index := 0#32
  let c0_59 : Index := 0#32
  ![v106.toNat, 0, 0]
def k0_off40 (i : grid0.Coords) : Fin 3 → Nat :=
  let arg0 : BitVec 32 := BitVec.ofNat 32 (i 0).val
  let c2_i32_36 : BitVec 32 := 2#32
  let v70 : BitVec 32 := Scalar.subi arg0 c2_i32_36
  let c2_i32_37 : BitVec 32 := 2#32
  let c0_i32_38 : BitVec 32 := 0#32
  let v71 : BitVec 1 := Scalar.cmpi .eq c2_i32_37 c0_i32_38
  let c1_i32_39 : BitVec 32 := 1#32
  let v72 : BitVec 32 := Scalar.select v71 c1_i32_39 c2_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  let v110 : Index := Scalar.indexCast v80
  let c0_60 : Index := 0#32
  let c0_61 : Index := 0#32
  ![v110.toNat, 0, 0]
def k0_off41 (i : grid0.Coords) : Fin 1 → Nat :=
  let arg0 : BitVec 32 := BitVec.ofNat 32 (i 0).val
  let c2_i32_36 : BitVec 32 := 2#32
  let v70 : BitVec 32 := Scalar.subi arg0 c2_i32_36
  let c2_i32_37 : BitVec 32 := 2#32
  let c0_i32_38 : BitVec 32 := 0#32
  let v71 : BitVec 1 := Scalar.cmpi .eq c2_i32_37 c0_i32_38
  let c1_i32_39 : BitVec 32 := 1#32
  let v72 : BitVec 32 := Scalar.select v71 c1_i32_39 c2_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  ![v80.toNat]
def k0_off42 (i : grid0.Coords) (d0 : Dev nD) : Fin 3 → Nat :=
  let c0_i32_62 : BitVec 32 := 0#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let c512_i32_16 : BitVec 32 := 512#32
  let v32 : BitVec 32 := Scalar.muli v31 c512_i32_16
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v27 : BitVec 32 := Scalar.muli v2 c4096_i32
  let arg0 : BitVec 32 := BitVec.ofNat 32 (i 0).val
  let c2_i32_36 : BitVec 32 := 2#32
  let v70 : BitVec 32 := Scalar.subi arg0 c2_i32_36
  let c256_i32 : BitVec 32 := 256#32
  let v114 : BitVec 32 := Scalar.muli v70 c256_i32
  let v115 : BitVec 32 := Scalar.addi v27 v114
  ![0, v32.toNat, v115.toNat]
def k0_off43 (i : grid0.Coords) : Fin 3 → Nat :=
  let arg0 : BitVec 32 := BitVec.ofNat 32 (i 0).val
  let c2_i32_36 : BitVec 32 := 2#32
  let v70 : BitVec 32 := Scalar.subi arg0 c2_i32_36
  let c2_i32_37 : BitVec 32 := 2#32
  let c0_i32_38 : BitVec 32 := 0#32
  let v71 : BitVec 1 := Scalar.cmpi .eq c2_i32_37 c0_i32_38
  let c1_i32_39 : BitVec 32 := 1#32
  let v72 : BitVec 32 := Scalar.select v71 c1_i32_39 c2_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  let c0_i32_63 : BitVec 32 := 0#32
  let c0_i32_64 : BitVec 32 := 0#32
  ![v80.toNat, 0, 0]
def k0_cond13 (i : grid0.Coords) : BitVec 1 :=
  let arg0 : BitVec 32 := BitVec.ofNat 32 (i 0).val
  let c3_i32 : BitVec 32 := 3#32
  let v62 : BitVec 1 := Scalar.cmpi .sge arg0 c3_i32
  let c18_i32 : BitVec 32 := 18#32
  let v63 : BitVec 1 := Scalar.cmpi .sle arg0 c18_i32
  let v64 : BitVec 1 := Scalar.andi v62 v63
  let v65 : BitVec 32 := Scalar.extui v64
  let c0_i32_33 : BitVec 32 := 0#32
  let v66 : BitVec 1 := Scalar.cmpi .ne v65 c0_i32_33
  v66

def k0_off44 (i : grid0.Coords) : Fin 1 → Nat :=
  let arg0 : BitVec 32 := BitVec.ofNat 32 (i 0).val
  let c3_i32_36 : BitVec 32 := 3#32
  let v70 : BitVec 32 := Scalar.subi arg0 c3_i32_36
  let c4_i32_43 : BitVec 32 := 4#32
  let c0_i32_44 : BitVec 32 := 0#32
  let v81 : BitVec 1 := Scalar.cmpi .eq c4_i32_43 c0_i32_44
  let c1_i32_45 : BitVec 32 := 1#32
  let v82 : BitVec 32 := Scalar.select v81 c1_i32_45 c4_i32_43
  let v83 : BitVec 32 := Scalar.remsi v70 v82
  let c0_i32_47 : BitVec 32 := 0#32
  let v85 : BitVec 1 := Scalar.cmpi .slt v83 c0_i32_47
  let c0_i32_48 : BitVec 32 := 0#32
  let v86 : BitVec 1 := Scalar.cmpi .slt v82 c0_i32_48
  let v87 : BitVec 1 := Scalar.xori v85 v86
  let c0_i32_46 : BitVec 32 := 0#32
  let v84 : BitVec 1 := Scalar.cmpi .ne v83 c0_i32_46
  let v88 : BitVec 1 := Scalar.andi v87 v84
  let v89 : BitVec 32 := Scalar.addi v83 v82
  let v90 : BitVec 32 := Scalar.select v88 v89 v83
  ![v90.toNat]
def k0_off45 (i : grid0.Coords) : Fin 3 → Nat :=
  let arg0 : BitVec 32 := BitVec.ofNat 32 (i 0).val
  let c3_i32_36 : BitVec 32 := 3#32
  let v70 : BitVec 32 := Scalar.subi arg0 c3_i32_36
  let c4_i32_43 : BitVec 32 := 4#32
  let c0_i32_44 : BitVec 32 := 0#32
  let v81 : BitVec 1 := Scalar.cmpi .eq c4_i32_43 c0_i32_44
  let c1_i32_45 : BitVec 32 := 1#32
  let v82 : BitVec 32 := Scalar.select v81 c1_i32_45 c4_i32_43
  let v83 : BitVec 32 := Scalar.remsi v70 v82
  let c0_i32_47 : BitVec 32 := 0#32
  let v85 : BitVec 1 := Scalar.cmpi .slt v83 c0_i32_47
  let c0_i32_48 : BitVec 32 := 0#32
  let v86 : BitVec 1 := Scalar.cmpi .slt v82 c0_i32_48
  let v87 : BitVec 1 := Scalar.xori v85 v86
  let c0_i32_46 : BitVec 32 := 0#32
  let v84 : BitVec 1 := Scalar.cmpi .ne v83 c0_i32_46
  let v88 : BitVec 1 := Scalar.andi v87 v84
  let v89 : BitVec 32 := Scalar.addi v83 v82
  let v90 : BitVec 32 := Scalar.select v88 v89 v83
  let c0_i32_53 : BitVec 32 := 0#32
  let c0_i32_54 : BitVec 32 := 0#32
  ![v90.toNat, 0, 0]
def k0_off46 (i : grid0.Coords) : Fin 3 → Nat :=
  let arg0 : BitVec 32 := BitVec.ofNat 32 (i 0).val
  let c3_i32_36 : BitVec 32 := 3#32
  let v70 : BitVec 32 := Scalar.subi arg0 c3_i32_36
  let c2_i32_37 : BitVec 32 := 2#32
  let c0_i32_38 : BitVec 32 := 0#32
  let v71 : BitVec 1 := Scalar.cmpi .eq c2_i32_37 c0_i32_38
  let c1_i32_39 : BitVec 32 := 1#32
  let v72 : BitVec 32 := Scalar.select v71 c1_i32_39 c2_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  let c0_i32_55 : BitVec 32 := 0#32
  let c0_i32_56 : BitVec 32 := 0#32
  ![v80.toNat, 0, 0]
def k0_cond14 (i : grid0.Coords) : BitVec 1 :=
  let arg0 : BitVec 32 := BitVec.ofNat 32 (i 0).val
  let c3_i32_36 : BitVec 32 := 3#32
  let v70 : BitVec 32 := Scalar.subi arg0 c3_i32_36
  let c2_i32_57 : BitVec 32 := 2#32
  let v103 : BitVec 1 := Scalar.cmpi .sge v70 c2_i32_57
  let v104 : BitVec 32 := Scalar.extui v103
  let c0_i32_58 : BitVec 32 := 0#32
  let v105 : BitVec 1 := Scalar.cmpi .ne v104 c0_i32_58
  v105

def k0_off47 (i : grid0.Coords) : Fin 1 → Nat :=
  let arg0 : BitVec 32 := BitVec.ofNat 32 (i 0).val
  let c3_i32_36 : BitVec 32 := 3#32
  let v70 : BitVec 32 := Scalar.subi arg0 c3_i32_36
  let c2_i32_37 : BitVec 32 := 2#32
  let c0_i32_38 : BitVec 32 := 0#32
  let v71 : BitVec 1 := Scalar.cmpi .eq c2_i32_37 c0_i32_38
  let c1_i32_39 : BitVec 32 := 1#32
  let v72 : BitVec 32 := Scalar.select v71 c1_i32_39 c2_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  ![v80.toNat]
def k0_off48 (i : grid0.Coords) (d0 : Dev nD) : Fin 3 → Nat :=
  let c0_i32_67 : BitVec 32 := 0#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let c512_i32_16 : BitVec 32 := 512#32
  let v32 : BitVec 32 := Scalar.muli v31 c512_i32_16
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_13 v2
  let c4096_i32_14 : BitVec 32 := 4096#32
  let v29 : BitVec 32 := Scalar.muli v28 c4096_i32_14
  let arg0 : BitVec 32 := BitVec.ofNat 32 (i 0).val
  let c3_i32_36 : BitVec 32 := 3#32
  let v70 : BitVec 32 := Scalar.subi arg0 c3_i32_36
  let c2_i32_65 : BitVec 32 := 2#32
  let v122 : BitVec 32 := Scalar.subi v70 c2_i32_65
  let c256_i32_66 : BitVec 32 := 256#32
  let v123 : BitVec 32 := Scalar.muli v122 c256_i32_66
  let v124 : BitVec 32 := Scalar.addi v29 v123
  ![0, v32.toNat, v124.toNat]
def k0_off49 (i : grid0.Coords) : Fin 3 → Nat :=
  let arg0 : BitVec 32 := BitVec.ofNat 32 (i 0).val
  let c3_i32_36 : BitVec 32 := 3#32
  let v70 : BitVec 32 := Scalar.subi arg0 c3_i32_36
  let c2_i32_37 : BitVec 32 := 2#32
  let c0_i32_38 : BitVec 32 := 0#32
  let v71 : BitVec 1 := Scalar.cmpi .eq c2_i32_37 c0_i32_38
  let c1_i32_39 : BitVec 32 := 1#32
  let v72 : BitVec 32 := Scalar.select v71 c1_i32_39 c2_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  let c0_i32_68 : BitVec 32 := 0#32
  let c0_i32_69 : BitVec 32 := 0#32
  ![v80.toNat, 0, 0]
def k0_off50 (i : grid0.Coords) : Fin 3 → Nat :=
  let arg0 : BitVec 32 := BitVec.ofNat 32 (i 0).val
  let c3_i32_36 : BitVec 32 := 3#32
  let v70 : BitVec 32 := Scalar.subi arg0 c3_i32_36
  let c4_i32_43 : BitVec 32 := 4#32
  let c0_i32_44 : BitVec 32 := 0#32
  let v81 : BitVec 1 := Scalar.cmpi .eq c4_i32_43 c0_i32_44
  let c1_i32_45 : BitVec 32 := 1#32
  let v82 : BitVec 32 := Scalar.select v81 c1_i32_45 c4_i32_43
  let v83 : BitVec 32 := Scalar.remsi v70 v82
  let c0_i32_47 : BitVec 32 := 0#32
  let v85 : BitVec 1 := Scalar.cmpi .slt v83 c0_i32_47
  let c0_i32_48 : BitVec 32 := 0#32
  let v86 : BitVec 1 := Scalar.cmpi .slt v82 c0_i32_48
  let v87 : BitVec 1 := Scalar.xori v85 v86
  let c0_i32_46 : BitVec 32 := 0#32
  let v84 : BitVec 1 := Scalar.cmpi .ne v83 c0_i32_46
  let v88 : BitVec 1 := Scalar.andi v87 v84
  let v89 : BitVec 32 := Scalar.addi v83 v82
  let v90 : BitVec 32 := Scalar.select v88 v89 v83
  let v106 : Index := Scalar.indexCast v90
  let c0 : Index := 0#32
  let c0_59 : Index := 0#32
  ![v106.toNat, 0, 0]
def k0_off51 (i : grid0.Coords) : Fin 3 → Nat :=
  let arg0 : BitVec 32 := BitVec.ofNat 32 (i 0).val
  let c3_i32_36 : BitVec 32 := 3#32
  let v70 : BitVec 32 := Scalar.subi arg0 c3_i32_36
  let c2_i32_37 : BitVec 32 := 2#32
  let c0_i32_38 : BitVec 32 := 0#32
  let v71 : BitVec 1 := Scalar.cmpi .eq c2_i32_37 c0_i32_38
  let c1_i32_39 : BitVec 32 := 1#32
  let v72 : BitVec 32 := Scalar.select v71 c1_i32_39 c2_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  let v110 : Index := Scalar.indexCast v80
  let c0_60 : Index := 0#32
  let c0_61 : Index := 0#32
  ![v110.toNat, 0, 0]
def k0_off52 (i : grid0.Coords) : Fin 1 → Nat :=
  let arg0 : BitVec 32 := BitVec.ofNat 32 (i 0).val
  let c3_i32_36 : BitVec 32 := 3#32
  let v70 : BitVec 32 := Scalar.subi arg0 c3_i32_36
  let c2_i32_37 : BitVec 32 := 2#32
  let c0_i32_38 : BitVec 32 := 0#32
  let v71 : BitVec 1 := Scalar.cmpi .eq c2_i32_37 c0_i32_38
  let c1_i32_39 : BitVec 32 := 1#32
  let v72 : BitVec 32 := Scalar.select v71 c1_i32_39 c2_i32_37
  let v73 : BitVec 32 := Scalar.remsi v70 v72
  let c0_i32_41 : BitVec 32 := 0#32
  let v75 : BitVec 1 := Scalar.cmpi .slt v73 c0_i32_41
  let c0_i32_42 : BitVec 32 := 0#32
  let v76 : BitVec 1 := Scalar.cmpi .slt v72 c0_i32_42
  let v77 : BitVec 1 := Scalar.xori v75 v76
  let c0_i32_40 : BitVec 32 := 0#32
  let v74 : BitVec 1 := Scalar.cmpi .ne v73 c0_i32_40
  let v78 : BitVec 1 := Scalar.andi v77 v74
  let v79 : BitVec 32 := Scalar.addi v73 v72
  let v80 : BitVec 32 := Scalar.select v78 v79 v73
  ![v80.toNat]
def k0_off53 (i : grid0.Coords) (d0 : Dev nD) : Fin 3 → Nat :=
  let c0_i32_62 : BitVec 32 := 0#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let c512_i32_16 : BitVec 32 := 512#32
  let v32 : BitVec 32 := Scalar.muli v31 c512_i32_16
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_13 v2
  let c4096_i32_14 : BitVec 32 := 4096#32
  let v29 : BitVec 32 := Scalar.muli v28 c4096_i32_14
  let arg0 : BitVec 32 := BitVec.ofNat 32 (i 0).val
  let c3_i32_36 : BitVec 32 := 3#32
  let v70 : BitVec 32 := Scalar.subi arg0 c3_i32_36
  let c256_i32 : BitVec 32 := 256#32
  let v114 : BitVec 32 := Scalar.muli v70 c256_i32
  let v115 : BitVec 32 := Scalar.addi v29 v114
  ![0, v32.toNat, v115.toNat]
def k0_cond15 (i : grid0.Coords) : BitVec 1 :=
  let arg0 : BitVec 32 := BitVec.ofNat 32 (i 0).val
  let c18_i32_34 : BitVec 32 := 18#32
  let v67 : BitVec 1 := Scalar.cmpi .eq arg0 c18_i32_34
  let v68 : BitVec 32 := Scalar.extui v67
  let c0_i32_35 : BitVec 32 := 0#32
  let v69 : BitVec 1 := Scalar.cmpi .ne v68 c0_i32_35
  v69

def k0_off54 (d0 : Dev nD) (c3584_i32 : BitVec 32) : Fin 3 → Nat :=
  let c0_i32_154 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32 : BitVec 32 := 512#32
  let v30 : BitVec 32 := Scalar.muli v18 c512_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v27 : BitVec 32 := Scalar.muli v2 c4096_i32
  let v148 : BitVec 32 := Scalar.addi v27 c3584_i32
  ![0, v30.toNat, v148.toNat]
def k0_off55 (d0 : Dev nD) (c3584_i32_158 : BitVec 32) : Fin 3 → Nat :=
  let c0_i32_160 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32 : BitVec 32 := 512#32
  let v30 : BitVec 32 := Scalar.muli v18 c512_i32
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_13 v2
  let c4096_i32_14 : BitVec 32 := 4096#32
  let v29 : BitVec 32 := Scalar.muli v28 c4096_i32_14
  let v155 : BitVec 32 := Scalar.addi v29 c3584_i32_158
  ![0, v30.toNat, v155.toNat]
def k0_off56 (d0 : Dev nD) (c3584_i32_164 : BitVec 32) : Fin 3 → Nat :=
  let c0_i32_166 : BitVec 32 := 0#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let c512_i32_16 : BitVec 32 := 512#32
  let v32 : BitVec 32 := Scalar.muli v31 c512_i32_16
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v27 : BitVec 32 := Scalar.muli v2 c4096_i32
  let v162 : BitVec 32 := Scalar.addi v27 c3584_i32_164
  ![0, v32.toNat, v162.toNat]
def k0_off57 (d0 : Dev nD) (c3584_i32_170 : BitVec 32) : Fin 3 → Nat :=
  let c0_i32_172 : BitVec 32 := 0#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let c512_i32_16 : BitVec 32 := 512#32
  let v32 : BitVec 32 := Scalar.muli v31 c512_i32_16
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v28 : BitVec 32 := Scalar.subi c1_i32_13 v2
  let c4096_i32_14 : BitVec 32 := 4096#32
  let v29 : BitVec 32 := Scalar.muli v28 c4096_i32_14
  let v169 : BitVec 32 := Scalar.addi v29 c3584_i32_170
  ![0, v32.toNat, v169.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c16_i32 : BitVec 32 := 16#32
  let v1 : BitVec 32 := Scalar.muli v0 c16_i32
  let c15_i32 : BitVec 32 := 15#32
  let v2 : BitVec 32 := Scalar.minsi arg0 c15_i32
  let v3 : BitVec 32 := Scalar.addi v1 v2
  let c0_i32 : BitVec 32 := 0#32
  let c0_i32_0 : BitVec 32 := 0#32
  ![c0_i32.toNat, v3.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1x2048x64x128 : Shape := ⟨4, ![1, 2048, 64, 128]⟩
abbrev S8192x8192 : Shape := ⟨2, ![8192, 8192]⟩
abbrev S1x2048x8192 : Shape := ⟨3, ![1, 2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S1x2048x64x128, .f32⟩
  | .hbm, ⟨1, _⟩ => ⟨S8192x8192, .f32⟩
  | .hbm, ⟨2, _⟩ => ⟨S1x2048x8192, .f32⟩
  | .hbm, ⟨3, _⟩ => ⟨S1x2048x8192, .f32⟩
  | _, _ => ⟨S1x2048x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Steps.lean ====
/- One step of a kernel, in the terms the proof holds its memory in: a memref is OWNED at the contents it reads
   (`owns`). Loads, stores, addressed transfers and local transfers between slots of scratch buffers. -/
module

public import Idealize.ShloMosaic.Lib.Rounds
public import Idealize.ShloMosaic.Lib.Memref
public import Idealize.ShloMosaic.Lib.Writes
public import Idealize.ShloMosaic.Lib.ViewIndex
public import Idealize.ShloMosaic.Lib.Tactic

@[expose] public section

noncomputable section

namespace Cert.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Ix : Type} [DecidableEq Ix] {D : Type} [DecidableEq D]
variable {Val : EltTy → Type} {Name : Type} [DecidableEq Name]
variable {U : Type} [URA U] {Lvl : Type} {Λ : Labels}

local notation "𝕄" => MT nD τ sig Ix Val Name U Lvl

section Owns

variable (c : Dev nD) {sp : Space} {s s' : Shape} {e : EltTy}

theorem owns_elim (m : Memref sig .tc sp s e) (q : PosShare TreeShare) (X : s.Idx → Val e) :
    (ownsTc c m q X : sProp 𝕄) ⊢ iprop(∃ f, ⌜m.view.read Val f = X⌝ ∗ m.view.loc (c : Thread nD τ) ↦[m.view.set]{q} f) := .rfl

theorem owns_of_pts (m : Memref sig .tc sp s e) (q : PosShare TreeShare) (X : s.Idx → Val e) (f : m.view.ty.Contents Val)
    (h : m.view.read Val f = X) : (m.view.loc (c : Thread nD τ) ↦[m.view.set]{q} f : sProp 𝕄) ⊢ ownsTc c m q X := by
  subst h; exact owns_intro (c : Thread nD τ) m q f

/-- What a memref reads after the contents of another, both re-indexed alike, are written through it whole. -/
theorem read_write_squeeze {sp' : Space} (ms : Memref sig .tc sp s e) (md : Memref sig .tc sp' s e) (h : s.Squeezes s')
    (fs : ms.view.ty.Contents Val) (fd : md.view.ty.Contents Val) :
    md.view.read Val ((md.squeeze s' h).view.write Val fd ((ms.squeeze s' h).view.read Val fs) Finset.univ) = ms.view.read Val fs := by
  funext x
  obtain ⟨y, rfl⟩ := (Shape.reshapeEquiv h.numel_eq).surjective x
  exact View.read_write_reshape _ _ _ _ y

end Owns

section Rules

variable [Preorder Lvl] {defs : Defs nD τ sig Val Λ} (𝒱 : Variants) (c : Dev nD) {bd : Option 𝒱.V}
variable {α : Type} {Q : α → sProp (MT nD τ sig Ix Val Name U Lvl)} {s s' : Shape} {e : EltTy} {Es : Set Name}

/-- A load through a rectangle, the memref under that rectangle owned. -/
theorem wp_load_owns {cs : CoreSpace} {m : Memref sig .tc cs s e} {r : Rect s} (hr : ∀ a, r.stride a = 1)
    {hl : m.view.LoadsAt r.toLoadRect} {k : (r.shape.Idx → Val e) → Prog (TpuEff nD τ sig Val Λ .tc) α}
    {q : PosShare TreeShare} {X : r.shape.Idx → Val e} :
    (ownsTc c (m.slice r hr) q X : sProp 𝕄)
      ⊢ iprop((ownsTc c (m.slice r hr) q X -∗ wp frame (wpE defs 𝒱 (c : Thread nD τ) bd) Es (k X) Q)
        -∗ wp frame (wpE defs 𝒱 (c : Thread nD τ) bd) Es (.op (.load m r.toLoadRect hl) k) Q) := by
  iintro Ho Hk
  ihave H := (owns_elim c (m.slice r hr) q X) $$ Ho
  icases H with ⟨%f, %hf, H⟩
  iapply (wp_load_rect (defs := defs) 𝒱 (c : Thread nD τ) bd Es (m := m) (r := r) (q := q) (f := f) subset_rfl) $$ [H]
  · iexact H
  iintro H
  have e1 : (m.access r).read Val f = X := hf
  rw [e1]
  iapply Hk
  iapply (owns_of_pts c (m.slice r hr) q X f hf)
  iexact H

/-- A load through a rectangle of a memref owned as a whole. -/
theorem wp_load_part {cs : CoreSpace} {m : Memref sig .tc cs s e} {r : Rect s}
    {hl : m.view.LoadsAt r.toLoadRect} {k : (r.shape.Idx → Val e) → Prog (TpuEff nD τ sig Val Λ .tc) α}
    {q : PosShare TreeShare} {X : s.Idx → Val e} :
    (ownsTc c m q X : sProp 𝕄)
      ⊢ iprop((ownsTc c m q X -∗ wp frame (wpE defs 𝒱 (c : Thread nD τ) bd) Es (k fun j => X (r.emb j)) Q)
        -∗ wp frame (wpE defs 𝒱 (c : Thread nD τ) bd) Es (.op (.load m r.toLoadRect hl) k) Q) := by
  iintro Ho Hk
  ihave H := (owns_elim c m q X) $$ Ho
  icases H with ⟨%f, %hf, H⟩
  iapply (wp_load_rect (defs := defs) 𝒱 (c : Thread nD τ) bd Es (m := m) (r := r) (q := q) (f := f) (View.set_slice_subset _ _)) $$ [H]
  · iexact H
  iintro H
  have e1 : (m.access r).read Val f = fun j => X (r.emb j) := by subst hf; rfl
  rw [e1]
  iapply Hk
  iapply (owns_of_pts c m q X f hf)
  iexact H

/-- A store through a rectangle, the memref under that rectangle owned. -/
theorem wp_store_owns {cs : CoreSpace} {m : Memref sig .tc cs s e} {r : Rect s} (hr : ∀ a, r.stride a = 1)
    {w : r.shape.Idx → Val e} {hx : (m.access r).Stores Finset.univ} {hm : Finset.univ = Finset.univ ∨ ∀ a, r.stride a = 1}
    {k : PUnit → Prog (TpuEff nD τ sig Val Λ .tc) α} {X : r.shape.Idx → Val e} :
    (ownsTc c (m.slice r hr) fullShare X : sProp 𝕄)
      ⊢ iprop((ownsTc c (m.slice r hr) fullShare w -∗ wp frame (wpE defs 𝒱 (c : Thread nD τ) bd) Es (k ⟨⟩) Q)
        -∗ wp frame (wpE defs 𝒱 (c : Thread nD τ) bd) Es (.op (.store m r w Finset.univ hx hm) k) Q) := by
  iintro Ho Hk
  ihave H := (owns_elim c (m.slice r hr) fullShare X) $$ Ho
  icases H with ⟨%f, %hf, H⟩
  iapply (wp_store (defs := defs) 𝒱 (c : Thread nD τ) bd Es (m := m) (r := r) (w := w) (Mk := Finset.univ) (hx := hx) (hm := hm) (f := f) (S := (m.access r).set) subset_rfl) $$ [H]
  · iexact H
  iintro H
  iapply Hk
  iapply (owns_of_pts c (m.slice r hr) fullShare w _ (View.read_write_univ _ _))
  iexact H

/-- A store through a rectangle that is the whole of the memref's shape: what the memref then reads. -/
theorem wp_store_full {cs : CoreSpace} {m : Memref sig .tc cs s e} {r : Rect s}
    {w : r.shape.Idx → Val e} {hx : (m.access r).Stores Finset.univ} {hm : Finset.univ = Finset.univ ∨ ∀ a, r.stride a = 1}
    {k : PUnit → Prog (TpuEff nD τ sig Val Λ .tc) α} {X : s.Idx → Val e} (w' : s.Idx → Val e) (φ : s.Idx → r.shape.Idx)
    (hφ : ∀ i, r.emb (φ i) = i) (hw : ∀ i, w (φ i) = w' i) :
    (ownsTc c m fullShare X : sProp 𝕄)
      ⊢ iprop((ownsTc c m fullShare w' -∗ wp frame (wpE defs 𝒱 (c : Thread nD τ) bd) Es (k ⟨⟩) Q)
        -∗ wp frame (wpE defs 𝒱 (c : Thread nD τ) bd) Es (.op (.store m r w Finset.univ hx hm) k) Q) := by
  iintro Ho Hk
  ihave H := (owns_elim c m fullShare X) $$ Ho
  icases H with ⟨%f, %hf, H⟩
  iapply (wp_store (defs := defs) 𝒱 (c : Thread nD τ) bd Es (m := m) (r := r) (w := w) (Mk := Finset.univ) (hx := hx) (hm := hm) (f := f) (S := m.view.set) (View.set_slice_subset _ _)) $$ [H]
  · iexact H
  iintro H
  iapply Hk
  iapply (owns_of_pts c m fullShare w' _ (by
    funext i
    have h1 : (m.access r).read Val ((m.access r).write Val f w Finset.univ) (φ i) = w (φ i) := congrFun (View.read_write_univ _ _) _
    have h2 : ∀ g : m.view.ty.Contents Val, (m.access r).read Val g (φ i) = m.view.read Val g (r.emb (φ i)) := fun g => rfl
    rw [h2, hφ, hw] at h1
    exact h1))
  iexact H

variable (E : Emb (URounds (GSem nD τ sig) D) (MT nD τ sig Ix Val Name U Lvl)) (Rd : Schedule (GSem nD τ sig) D (MT nD τ sig Ix Val Name U Lvl)) {sp sp' : Space}

/-- An addressed transfer of one memref into another device's, both squeezed alike: it pays the receiver's duty with the
    destination at the source's contents (and whatever else rides along), the sender's with the source's share. -/
theorem wp_send_owns {c' : Dev nD} {ms : Memref sig .tc sp s e} {md : Memref sig .tc sp' s e} (h : s.Squeezes s')
    {hsc : (md.squeeze s' h).view.ref.isScScratch = false} {sS sem : SemLoc sig}
    {hsrc : (ms.squeeze s' h).view.WordExact} {hdst : (md.squeeze s' h).view.WordExact}
    {hsem : DmaTarget.Typed sp sem (.remote (c' : Thread nD τ) (md.squeeze s' h) sS hsc)}
    {k : PUnit → Prog (TpuEff nD τ sig Val Λ .tc) α} {q : PosShare TreeShare}
    {X X' : s.Idx → Val e} {FF : sProp 𝕄} {r₁ r₂ : ℕ} {d₁ d₂ : D} {κ₁ κ₂ : Name}
    (hd₁ : d₁ ∈ Rd.duties ((c : Thread nD τ), sS) r₁) (hd₂ : d₂ ∈ Rd.duties ((c' : Thread nD τ), sem) r₂)
    (ι ι' : Ix) (N : ℕ) (hN : (md.squeeze s' h).view.amount sem = N)
    (hk₁ : Rd.amount ((c : Thread nD τ), sS) r₁ d₁ = N) (hk₂ : Rd.amount ((c' : Thread nD τ), sem) r₂ d₂ = N)
    {O₀ : CellTallies nD τ sig Ix} (O : CellTallies nD τ sig Ix) (hO : O₀ = O + tallyAt ((c' : Thread nD τ), sem) ι N) {W : Waits sig Ix}
    (hpay₁ : (ownsTc c ms q X : sProp 𝕄) ⊢ Rd.payload ((c : Thread nD τ), sS) r₁ d₁)
    (hpay₂ : (iprop(ownsTc c' md fullShare X ∗ FF) : sProp 𝕄) ⊢ Rd.payload ((c' : Thread nD τ), sem) r₂ d₂)
    (hr : τ.routes (c : Thread nD τ) (c' : Thread nD τ) = true) :
    iprop(cellInv E Rd κ₁ ((c : Thread nD τ), sS) ∗ cellInv E Rd κ₂ ((c' : Thread nD τ), sem)
        ∗ ownsTc c ms q X ∗ (ownsTc c' md fullShare X' ∗ FF)
        ∗ owes (c : Thread nD τ) O₀ W
        ∗ dutyTok E ((c : Thread nD τ), sS) r₁ d₁ ∗ reached E ((c : Thread nD τ), sS) r₁
        ∗ dutyTok E ((c' : Thread nD τ), sem) r₂ d₂ ∗ reached E ((c' : Thread nD τ), sem) r₂)
      ⊢ iprop(((cred (tallyAt ((c : Thread nD τ), sS) ι' N) ∗ owes (c : Thread nD τ) O W) -∗ wp frame (wpE defs 𝒱 (c : Thread nD τ) bd) Es (k ⟨⟩) Q)
          -∗ wp frame (wpE defs 𝒱 (c : Thread nD τ) bd) Es
              (.op (.enqueueDma (ms.squeeze s' h) (.remote (c' : Thread nD τ) (md.squeeze s' h) sS hsc) sem hsrc hdst hsem) k) Q) := by
  iintro ⟨H1, H2, Hs, ⟨Hd, HF⟩, HO, Ht1, Hr1, Ht2, Hr2⟩ Hk
  ihave Hs := (owns_elim c ms q X) $$ Hs
  icases Hs with ⟨%fs, %hfs, Hs⟩
  ihave Hd := (owns_elim c' md fullShare X') $$ Hd
  icases Hd with ⟨%fd, %hfd, Hd⟩
  iapply (Rounds.wp_send_pointsTo_with (defs := defs) 𝒱 E Rd (c : Thread nD τ) bd (c' := (c' : Thread nD τ)) (src := ms.squeeze s' h) (dst := md.squeeze s' h)
      (hsc := hsc) (sS := sS) (sem := sem) (q := q) (fs := fs) (fd := fd) (F := FF) (κ₁ := κ₁) (κ₂ := κ₂) hd₁ hd₂ ι ι' N hN hk₁ hk₂ O hO (W := W)
      (by
        rw [show (ms.squeeze s' h).view.set = ms.view.set from View.set_reshape _ _]
        exact (owns_of_pts c ms q X fs hfs).trans hpay₁)
      (by
        rw [show (md.squeeze s' h).view.set = md.view.set from View.set_reshape _ _]
        exact (sep_mono_left (owns_of_pts c' md fullShare X _ ((read_write_squeeze ms md h fs fd).trans hfs))).trans hpay₂)
      hr) $$ [H1 H2 Hs Hd HF HO Ht1 Hr1 Ht2 Hr2]
  · isplitl [H1]; · iexact H1
    isplitl [H2]; · iexact H2
    isplitl [Hs]; · rw [show (ms.squeeze s' h).view.set = ms.view.set from View.set_reshape _ _]; iexact Hs
    isplitl [Hd HF]
    · isplitl [Hd]; · rw [show (md.squeeze s' h).view.set = md.view.set from View.set_reshape _ _]; iexact Hd
      iexact HF
    isplitl [HO]; · iexact HO
    isplitl [Ht1]; · iexact Ht1
    isplitl [Hr1]; · iexact Hr1
    isplitl [Ht2]; · iexact Ht2
    iexact Hr2
  iexact Hk

/-- A local transfer of one memref into another of the same device, both squeezed alike. -/
theorem wp_copy_owns {ms : Memref sig .tc sp s e} {md : Memref sig .tc sp' s e} (h : s.Squeezes s') {sem : SemLoc sig}
    {hsrc : (ms.squeeze s' h).view.WordExact} {hdst : (md.squeeze s' h).view.WordExact}
    {hsem : DmaTarget.Typed (nD := nD) (τ := τ) (p := .tc) sp sem (.here (md.squeeze s' h))}
    {k : PUnit → Prog (TpuEff nD τ sig Val Λ .tc) α} {q : PosShare TreeShare}
    {X X' : s.Idx → Val e} {r : ℕ} {d : D} {κ : Name}
    (hd : d ∈ Rd.duties ((c : Thread nD τ), sem) r) (ι : Ix) (N : ℕ)
    (hN : (md.squeeze s' h).view.amount sem = N) (hk : Rd.amount ((c : Thread nD τ), sem) r d = N)
    (hpay : (iprop(ownsTc c md fullShare X ∗ ownsTc c ms q X) : sProp 𝕄) ⊢ Rd.payload ((c : Thread nD τ), sem) r d) :
    iprop(cellInv E Rd κ ((c : Thread nD τ), sem) ∗ ownsTc c ms q X ∗ ownsTc c md fullShare X'
        ∗ dutyTok E ((c : Thread nD τ), sem) r d ∗ reached E ((c : Thread nD τ), sem) r)
      ⊢ iprop((cred (tallyAt ((c : Thread nD τ), sem) ι N) -∗ wp frame (wpE defs 𝒱 (c : Thread nD τ) bd) Es (k ⟨⟩) Q)
          -∗ wp frame (wpE defs 𝒱 (c : Thread nD τ) bd) Es
              (.op (.enqueueDma (ms.squeeze s' h) (.here (md.squeeze s' h)) sem hsrc hdst hsem) k) Q) := by
  iintro ⟨H1, Hs, Hd, Ht1, Hr1⟩ Hk
  ihave Hs := (owns_elim c ms q X) $$ Hs
  icases Hs with ⟨%fs, %hfs, Hs⟩
  ihave Hd := (owns_elim c md fullShare X') $$ Hd
  icases Hd with ⟨%fd, %hfd, Hd⟩
  iapply (Rounds.wp_copy_pointsTo (defs := defs) 𝒱 E Rd (c : Thread nD τ) bd (src := ms.squeeze s' h) (dst := md.squeeze s' h)
      (sem := sem) (q := q) (fs := fs) (fd := fd) (κ := κ) hd ι N hN hk
      (by
        rw [show (md.squeeze s' h).view.set = md.view.set from View.set_reshape _ _,
          show (ms.squeeze s' h).view.set = ms.view.set from View.set_reshape _ _]
        exact (BIClass.sep_mono (owns_of_pts c md fullShare X _ ((read_write_squeeze ms md h fs fd).trans hfs)) (owns_of_pts c ms q X fs hfs)).trans hpay))
      $$ [H1 Hs Hd Ht1 Hr1]
  · isplitl [H1]; · iexact H1
    isplitl [Hs]; · rw [show (ms.squeeze s' h).view.set = ms.view.set from View.set_reshape _ _]; iexact Hs
    isplitl [Hd]; · rw [show (md.squeeze s' h).view.set = md.view.set from View.set_reshape _ _]; iexact Hd
    isplitl [Ht1]; · iexact Ht1
    iexact Hr1
  iexact Hk

end Rules

/-! ## Windows of a row of assertions -/

section Windows

variable {M : Type} [URA M] (Φ : ℕ → sProp M)

/-- A row of assertions, one for each number from `a` up to (not including) `b`. -/
def win (a b : ℕ) : sProp M := bigSep (Finset.Ico a b) Φ

theorem win_empty {a b : ℕ} (h : b ≤ a) : (win Φ a b : sProp M) = (BI.emp : sProp M) := by
  unfold win; rw [Finset.Ico_eq_empty (by omega), BI.bigSep_empty]

theorem win_pop {a b : ℕ} (h : a < b) : (win Φ a b : sProp M) = iprop(Φ a ∗ win Φ (a + 1) b) := by
  unfold win
  have e : Finset.Ico a b = insert a (Finset.Ico (a + 1) b) := by ext x; simp only [Finset.mem_insert, Finset.mem_Ico]; omega
  rw [e, BI.bigSep_insert (by simp)]
  rfl

theorem win_push {a b : ℕ} (h : a ≤ b) : (win Φ a (b + 1) : sProp M) = iprop(win Φ a b ∗ Φ b) := by
  unfold win
  have e : Finset.Ico a (b + 1) = insert b (Finset.Ico a b) := by ext x; simp only [Finset.mem_insert, Finset.mem_Ico]; omega
  rw [e, BI.bigSep_insert (by simp)]
  exact BI.equiv_iff.mp ⟨(sep_comm (PROP := sProp M)).1, (sep_comm (PROP := sProp M)).1⟩

end Windows

end Cert.Steps
-- ==== Proof.Protocol.lean ====
/- The protocol the sixteen devices follow, before any step of it is taken.

   Device c = (x, y, z) has a y peer (its y flipped), an x peer (its x flipped) and a z twin (the lowest bit of its z flipped).
   Four CHANNELS carry tiles 0 … 15 of 512 x 256 elements, each through four slots (tile u through slot u mod 4):
     channel 0: the half products to the y peer;              channel 1: the sums to the x peer;
     channel 2: the sums to the z twin;                       channel 3: what came from the x peer, on to the z twin.
   Per tile a channel uses round u / 4 of the receiver's receive semaphore of the slot (raised by the transfer, waited on by
   the receiver) and round u / 4 of the sender's send semaphore of the slot (raised by the transfer, waited on by the sender).
   A transfer hands over the receiver's slot holding the tile and, with it, the SENDER's own receive slot for tile u + 2, which
   the sender has by then read: so a device always holds its peer's slots for the next tiles it is to send. The first two slots of
   every channel are handed over by the barrier's signals.
   Four further channels copy finished tiles from a two-slot buffer to the result in HBM, on semaphores of their own. -/
module

public import proofs.«01_k».proof.Proof.Gen.KernelIdeal.Launch
public import proofs.«01_k».proof.Proof.Gen.KernelIdeal.Skeleton
public import proofs.«01_k».proof.Proof.Steps

@[expose] public section

noncomputable section

namespace Cert.KernelIdeal.Kern

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UU : Type := UR sig nD τ × URounds (GSem nD τ sig) (Fin 3)

abbrev MM (F : FTy → Type) : Type := MT nD τ sig ℕ (Elt F) ℕ UU ℕ

abbrev EP : Emb (UR sig nD τ) (MM F) := embL
abbrev ER : Emb (URounds (GSem nD τ sig) (Fin 3)) (MM F) := embR

/-! ## Devices -/

/-- The device channel `ch` of device `c` sends to (and receives from). -/
def peer (ch : Fin 4) (c : Dev nD) : Dev nD :=
  ⟨(c.val ^^^ (match ch with | 0 => 4 | 1 => 8 | 2 => 1 | 3 => 1)) % 16, Nat.mod_lt _ (by decide)⟩

theorem peer_peer (ch : Fin 4) (c : Dev nD) : peer ch (peer ch c) = c := by revert ch c; decide
theorem peer_three (c : Dev nD) : peer 3 c = peer 2 c := rfl

/-- The device's place along the x axis, along the y axis, and the lowest bit of its place along the z axis. -/
def px (c : Dev nD) : ℕ := c.val / 8
def py (c : Dev nD) : ℕ := c.val / 4 % 2
def pz (c : Dev nD) : ℕ := c.val % 2

theorem px_lt (c : Dev nD) : px c < 2 := by have : c.val < 16 := c.isLt; unfold px; omega
theorem py_lt (c : Dev nD) : py c < 2 := by unfold py; omega
theorem pz_lt (c : Dev nD) : pz c < 2 := by unfold pz; omega

/-! ## Slots -/

theorem inb4 (u : ℕ) : ∀ a, (![u % 4, 0, 0] : Fin 3 → ℕ) a + S1x512x256.size a ≤ S4x512x256.size a := by
  have h : u % 4 < 4 := Nat.mod_lt _ (by decide)
  intro a; fin_cases a
  · show u % 4 + 1 ≤ 4; omega
  · show 0 + 512 ≤ 512; omega
  · show 0 + 256 ≤ 256; omega
theorem inb2 (u : ℕ) : ∀ a, (![u % 2, 0, 0] : Fin 3 → ℕ) a + S1x512x256.size a ≤ S2x512x256.size a := by
  have h : u % 2 < 2 := Nat.mod_lt _ (by decide)
  intro a; fin_cases a
  · show u % 2 + 1 ≤ 2; omega
  · show 0 + 512 ≤ 512; omega
  · show 0 + 256 ≤ 256; omega

/-- Slot `u mod 4` of a buffer of four tiles, slot `u mod 2` of a buffer of two. -/
abbrev r4 (u : ℕ) : Rect S4x512x256 := Rect.unit (s := S4x512x256) ![u % 4, 0, 0] S1x512x256.size (inb4 u)
abbrev r2 (u : ℕ) : Rect S2x512x256 := Rect.unit (s := S2x512x256) ![u % 2, 0, 0] S1x512x256.size (inb2 u)

abbrev slot4 {e : EltTy} (M : Memref sig .tc .vmem S4x512x256 e) (u : ℕ) : Memref sig .tc .vmem S1x512x256 e := M.slice (r4 u) (fun _ => rfl)
abbrev slot2 {e : EltTy} (M : Memref sig .tc .vmem S2x512x256 e) (u : ℕ) : Memref sig .tc .vmem S1x512x256 e := M.slice (r2 u) (fun _ => rfl)

abbrev bWb : Memref sig .tc .vmem S4096x256 .bf16 := Memref.whole cc0_scratch0
abbrev bYsend : Memref sig .tc .vmem S4x512x256 .bf16 := Memref.whole cc0_scratch1
abbrev bYrecv : Memref sig .tc .vmem S4x512x256 .bf16 := Memref.whole cc0_scratch2
abbrev bMine : Memref sig .tc .vmem S2x512x256 .bf16 := Memref.whole cc0_scratch3
abbrev bSum : Memref sig .tc .vmem S2x512x256 .f32 := Memref.whole cc0_scratch4
abbrev bSumbf : Memref sig .tc .vmem S4x512x256 .bf16 := Memref.whole cc0_scratch5
abbrev bXrecv : Memref sig .tc .vmem S4x512x256 .bf16 := Memref.whole cc0_scratch6
abbrev bZbsrc : Memref sig .tc .vmem S2x512x256 .bf16 := Memref.whole cc0_scratch7
abbrev bZrecva : Memref sig .tc .vmem S4x512x256 .bf16 := Memref.whole cc0_scratch8
abbrev bZrecvb : Memref sig .tc .vmem S4x512x256 .bf16 := Memref.whole cc0_scratch9
abbrev bXstore : Memref sig .tc .vmem S2x512x256 .f32 := Memref.whole cc0_scratch10
abbrev bZastore : Memref sig .tc .vmem S2x512x256 .f32 := Memref.whole cc0_scratch11
abbrev bZbstore : Memref sig .tc .vmem S2x512x256 .f32 := Memref.whole cc0_scratch12
abbrev bOut : Memref sig .tc .hbm S1x1024x8192 .f32 := Memref.whole main_v8

/-- The slot tile `u` of channel `ch` is sent from, and the one it arrives in. -/
def srcSlot (ch : Fin 4) (u : ℕ) : Memref sig .tc .vmem S1x512x256 .bf16 :=
  match ch with | 0 => slot4 bYsend u | 1 => slot4 bSumbf u | 2 => slot4 bSumbf u | 3 => slot2 bZbsrc u
def recvSlot (ch : Fin 4) (u : ℕ) : Memref sig .tc .vmem S1x512x256 .bf16 :=
  match ch with | 0 => slot4 bYrecv u | 1 => slot4 bXrecv u | 2 => slot4 bZrecva u | 3 => slot4 bZrecvb u
/-- The slot tile `u` of copy channel `l` is copied from. -/
def locSlot (l : Fin 4) (u : ℕ) : Memref sig .tc .vmem S1x512x256 .f32 :=
  match l with | 0 => slot2 bSum u | 1 => slot2 bXstore u | 2 => slot2 bZastore u | 3 => slot2 bZbstore u

/-- The row and the column of the result at which tile `u` of copy channel `l` begins. -/
def outRow (l : Fin 4) (c : Dev nD) : ℕ := match l with | 0 => pz c * 512 | 1 => pz c * 512 | 2 => (1 - pz c) * 512 | 3 => (1 - pz c) * 512
def outCol (l : Fin 4) (c : Dev nD) (u : ℕ) : ℕ :=
  (match l with | 0 => px c | 1 => 1 - px c | 2 => px c | 3 => 1 - px c) * 4096 + u % 16 * 256

theorem inbOut (l : Fin 4) (c : Dev nD) (u : ℕ) :
    ∀ a, (![0, outRow l c, outCol l c u] : Fin 3 → ℕ) a + S1x512x256.size a ≤ S1x1024x8192.size a := by
  have h1 := px_lt c
  have h2 := pz_lt c
  have h3 : u % 16 < 16 := Nat.mod_lt _ (by decide)
  intro a; fin_cases a
  · show 0 + 1 ≤ 1; omega
  · show outRow l c + 512 ≤ 1024
    unfold outRow; fin_cases l <;> dsimp only <;> omega
  · show outCol l c u + 256 ≤ 8192
    unfold outCol; fin_cases l <;> dsimp only <;> omega

abbrev rOut (l : Fin 4) (c : Dev nD) (u : ℕ) : Rect S1x1024x8192 :=
  Rect.unit (s := S1x1024x8192) ![0, outRow l c, outCol l c u] S1x512x256.size (inbOut l c u)
/-- The tile of the result copy channel `l` writes. -/
abbrev outReg (l : Fin 4) (c : Dev nD) (u : ℕ) : Memref sig .tc .hbm S1x512x256 .f32 := bOut.slice (rOut l c u) (fun _ => rfl)

/-! ## Semaphores -/

def sendSem (ch : Fin 4) (u : ℕ) : DmaSem sig := ⟨3 + 8 * ch.val + u % 4, by have := ch.isLt; show _ < 43; omega⟩
def recvSem (ch : Fin 4) (u : ℕ) : DmaSem sig := ⟨7 + 8 * ch.val + u % 4, by have := ch.isLt; show _ < 43; omega⟩
def locSem (l : Fin 4) (u : ℕ) : DmaSem sig := ⟨35 + 2 * l.val + u % 2, by have := l.isLt; show _ < 43; omega⟩

abbrev barCell (c : Dev nD) : GSem nD τ sig := ((c : Thread nD τ), .reg barrier0)
abbrev sendCell (ch : Fin 4) (c : Dev nD) (u : ℕ) : GSem nD τ sig := ((c : Thread nD τ), .dma (sendSem ch u))
abbrev recvCell (ch : Fin 4) (c : Dev nD) (u : ℕ) : GSem nD τ sig := ((c : Thread nD τ), .dma (recvSem ch u))
abbrev locCell (l : Fin 4) (c : Dev nD) (u : ℕ) : GSem nD τ sig := ((c : Thread nD τ), .dma (locSem l u))

/-- What a transfer of one tile credits: a bf16 tile, an f32 tile. -/
def Nb : ℕ := RefSig.tileCredit S512x256 .bf16
def Nf : ℕ := RefSig.tileCredit S512x256 .f32
theorem Nb_pos : 0 < Nb := by unfold Nb; exact RefSig.tileCredit_pos _ _ (by decide)
theorem Nf_pos : 0 < Nf := by unfold Nf; exact RefSig.tileCredit_pos _ _ (by decide)

/-! ## Contents -/

section Contents

/- `A c`: what device c's left operand holds, in bf16; `B c u`: tile u of the columns of its right operand it works on. -/
variable (A : Dev nD → S2048x4096.Idx → Elt F .bf16) (B : Dev nD → ℕ → S4096x256.Idx → Elt F .f32)

theorem inbA (q : ℕ) (c : Dev nD) (hq : q < 2) : ∀ a, (![q * 1024 + pz c * 512, 0] : Fin 2 → ℕ) a + S512x4096.size a ≤ S2048x4096.size a := by
  have h2 := pz_lt c
  intro a; fin_cases a
  · show q * 1024 + pz c * 512 + 512 ≤ 2048; omega
  · show 0 + 4096 ≤ 4096; omega

/-- The rows of the left operand that go into the half product kept, and into the one sent to the y peer. -/
abbrev rMine (c : Dev nD) : Rect S2048x4096 := Rect.unit (s := S2048x4096) ![py c * 1024 + pz c * 512, 0] S512x4096.size (inbA (py c) c (py_lt c))
abbrev rPeer (c : Dev nD) : Rect S2048x4096 := Rect.unit (s := S2048x4096) ![(1 - py c) * 1024 + pz c * 512, 0] S512x4096.size (inbA (1 - py c) c (by omega))

def wbD (c : Dev nD) (u : ℕ) : S4096x256.Idx → Elt F .bf16 := k0_pay2 (F := F) (B c u)
/-- The half product sent, the one kept, the two summed in f32 and the sum in bf16. -/
def ydD (c : Dev nD) (u : ℕ) : S1x512x256.Idx → Elt F .bf16 := k0_pay3 (F := F) (fun j => A c ((rPeer c).emb j)) (wbD B c u)
def mineD (c : Dev nD) (u : ℕ) : S1x512x256.Idx → Elt F .bf16 := k0_pay9 (F := F) (fun j => A c ((rMine c).emb j)) (wbD B c u)
def sumD (c : Dev nD) (u : ℕ) : S1x512x256.Idx → Elt F .f32 := k0_pay5 (F := F) (mineD A B c u) (ydD A B (peer 0 c) u)
def sbD (c : Dev nD) (u : ℕ) : S1x512x256.Idx → Elt F .bf16 := k0_pay6 (F := F) (mineD A B c u) (ydD A B (peer 0 c) u)
def zbD (c : Dev nD) (u : ℕ) : S1x512x256.Idx → Elt F .bf16 := k0_pay7 (F := F) (sbD A B (peer 1 c) u)

/-- What tile `u` of channel `ch` holds when device `c` sends it. -/
def chD (ch : Fin 4) (c : Dev nD) (u : ℕ) : S1x512x256.Idx → Elt F .bf16 :=
  match ch with | 0 => ydD A B c u | 1 => sbD A B c u | 2 => sbD A B c u | 3 => zbD A B c u
/-- What tile `u` of the result's part `l` holds on device `c`. -/
def outD (l : Fin 4) (c : Dev nD) (u : ℕ) : S1x512x256.Idx → Elt F .f32 :=
  match l with
  | 0 => sumD A B c u
  | 1 => k0_pay8 (F := F) (sbD A B (peer 1 c) u)
  | 2 => k0_pay10 (F := F) (sbD A B (peer 2 c) u)
  | 3 => k0_pay1 (F := F) (zbD A B (peer 3 c) u)

/-! ## The schedule -/

/-- The share of its source slot a channel's transfer takes: channels 1 and 2 send the same slot. -/
def shareOf (ch : Fin 4) : PosShare TreeShare :=
  match ch with | 0 => fullShare | 1 => fullShare.left | 2 => fullShare.right | 3 => fullShare

/-- Device `p`'s receive slot of channel `ch` for tile `u` is free for its peer to write. -/
def freeR (ch : Fin 4) (p : Dev nD) (u : ℕ) : sProp (MM F) :=
  iprop((∃ X, ownsTc p (recvSlot ch u) fullShare X) ∗ reached ER (recvCell ch p u) (u / 4))

/-- What the barrier's three units hand device `c`. -/
def barPay (c : Dev nD) (d : Fin 3) : sProp (MM F) :=
  match d with
  | 0 => iprop(freeR 0 (peer 0 c) 0 ∗ freeR 0 (peer 0 c) 1)
  | 1 => iprop(freeR 1 (peer 1 c) 0 ∗ freeR 1 (peer 1 c) 1)
  | 2 => iprop((freeR 2 (peer 2 c) 0 ∗ freeR 2 (peer 2 c) 1) ∗ (freeR 3 (peer 3 c) 0 ∗ freeR 3 (peer 3 c) 1))

def sendPay (ch : Fin 4) (c : Dev nD) (u : ℕ) : sProp (MM F) := ownsTc c (srcSlot ch u) (shareOf ch) (chD A B ch c u)
/-- The slot freed for the next tile but one, if there is one. -/
def nextFree (ch : Fin 4) (p : Dev nD) (u : ℕ) : sProp (MM F) := if u + 2 < 16 then freeR ch p (u + 2) else iprop(emp)
def recvPay (ch : Fin 4) (c : Dev nD) (u : ℕ) : sProp (MM F) :=
  iprop(ownsTc c (recvSlot ch u) fullShare (chD A B ch (peer ch c) u) ∗ nextFree ch (peer ch c) u)
def locPay (l : Fin 4) (c : Dev nD) (u : ℕ) : sProp (MM F) :=
  iprop(ownsTc c (outReg l c u) fullShare (outD A B l c u) ∗ ∃ X, ownsTc c (locSlot l u) fullShare X)

def chOf (s : DmaSem sig) : Fin 4 := ⟨(s.val - 3) / 8 % 4, Nat.mod_lt _ (by decide)⟩
def locOf (s : DmaSem sig) : Fin 4 := ⟨(s.val - 35) / 2 % 4, Nat.mod_lt _ (by decide)⟩

def dutiesOf (sm : SemLoc sig) (r : ℕ) : Finset (Fin 3) :=
  match sm with
  | .reg s => if s = barrier0 ∧ r = 0 then Finset.univ else ∅
  | .dma s => if s.val < 3 then ∅ else if s.val < 35 then (if r < 4 then {0} else ∅) else (if r < 8 then {0} else ∅)
def amountOfSem (sm : SemLoc sig) : ℕ :=
  match sm with | .reg _ => 1 | .dma s => if s.val < 35 then Nb else Nf
def payOf (c : Dev nD) (sm : SemLoc sig) (r : ℕ) (d : Fin 3) : sProp (MM F) :=
  match sm with
  | .reg _ => barPay c d
  | .dma s =>
    if s.val < 35 then
      (if (s.val - 3) / 4 % 2 = 0 then sendPay A B (chOf s) c (4 * r + (s.val - 3) % 4) else recvPay A B (chOf s) c (4 * r + (s.val - 3) % 4))
    else locPay A B (locOf s) c (2 * r + (s.val - 35) % 2)

/-- One duty a round on every receive, send and copy semaphore, three in the barrier's one round. -/
def Rd : Rounds.Schedule (GSem nD τ sig) (Fin 3) (MM F) where
  duties g r := if g.1.2 = .tc then dutiesOf g.2 r else ∅
  unitless _ := False
  amount g _ _ := amountOfSem g.2
  payload g r d := payOf A B g.1.1 g.2 r d
  amount_pos g _ _ _ := by
    obtain ⟨t, sm⟩ := g
    cases sm with
    | reg s => exact Nat.one_pos
    | dma s =>
      show 0 < (if s.val < 35 then Nb else Nf)
      split
      · exact Nb_pos
      · exact Nf_pos

instance freeR_storable (ch : Fin 4) (p : Dev nD) (u : ℕ) : BI.Storable (upEmb : UEmb _ (MM F)) (freeR ch p u) := by
  unfold freeR; infer_instance
instance barPay_storable (c : Dev nD) (d : Fin 3) : BI.Storable (upEmb : UEmb _ (MM F)) (barPay c d) := by
  unfold barPay; split <;> infer_instance
instance nextFree_storable (ch : Fin 4) (p : Dev nD) (u : ℕ) : BI.Storable (upEmb : UEmb _ (MM F)) (nextFree ch p u) := by
  unfold nextFree; split <;> infer_instance
instance sendPay_storable (ch : Fin 4) (c : Dev nD) (u : ℕ) : BI.Storable (upEmb : UEmb _ (MM F)) (sendPay A B ch c u) := by
  unfold sendPay; infer_instance
instance recvPay_storable (ch : Fin 4) (c : Dev nD) (u : ℕ) : BI.Storable (upEmb : UEmb _ (MM F)) (recvPay A B ch c u) := by
  unfold recvPay; infer_instance
instance locPay_storable (l : Fin 4) (c : Dev nD) (u : ℕ) : BI.Storable (upEmb : UEmb _ (MM F)) (locPay A B l c u) := by
  unfold locPay; infer_instance
instance payload_storable (g : GSem nD τ sig) (r : ℕ) (d : Fin 3) : BI.Storable (upEmb : UEmb _ (MM F)) ((Rd A B).payload g r d) := by
  show BI.Storable upEmb (payOf A B g.1.1 g.2 r d)
  unfold payOf
  repeat' split
  all_goals infer_instance

/-! ### What the schedule says of each semaphore -/

variable (c : Dev nD) (ch l : Fin 4) (u : ℕ)

theorem send_lt : 3 ≤ (sendSem ch u).val ∧ (sendSem ch u).val < 35 := by have := ch.isLt; show 3 ≤ 3 + 8 * ch.val + u % 4 ∧ 3 + 8 * ch.val + u % 4 < 35; omega
theorem recv_lt : 3 ≤ (recvSem ch u).val ∧ (recvSem ch u).val < 35 := by have := ch.isLt; show 3 ≤ 7 + 8 * ch.val + u % 4 ∧ 7 + 8 * ch.val + u % 4 < 35; omega
theorem loc_ge : ¬ (locSem l u).val < 3 ∧ ¬ (locSem l u).val < 35 := by show ¬ 35 + 2 * l.val + u % 2 < 3 ∧ ¬ 35 + 2 * l.val + u % 2 < 35; omega

theorem duties_bar : (Rd A B).duties (barCell c) 0 = Finset.univ := by
  show (if (Proc.tc : Proc τ) = .tc then dutiesOf (.reg barrier0) 0 else ∅) = _
  rw [if_pos rfl]
  show (if barrier0 = barrier0 ∧ 0 = 0 then (Finset.univ : Finset (Fin 3)) else ∅) = _
  exact if_pos ⟨rfl, rfl⟩
theorem duties_send (hu : u < 16) : (Rd A B).duties (sendCell ch c u) (u / 4) = {0} := by
  show (if (Proc.tc : Proc τ) = .tc then dutiesOf (.dma (sendSem ch u)) (u / 4) else ∅) = _
  have h := send_lt ch u
  rw [if_pos rfl]
  show (if (sendSem ch u).val < 3 then ∅ else if (sendSem ch u).val < 35 then (if u / 4 < 4 then ({0} : Finset (Fin 3)) else ∅) else _) = _
  rw [if_neg (by omega), if_pos h.2, if_pos (by omega)]
theorem duties_recv (hu : u < 16) : (Rd A B).duties (recvCell ch c u) (u / 4) = {0} := by
  show (if (Proc.tc : Proc τ) = .tc then dutiesOf (.dma (recvSem ch u)) (u / 4) else ∅) = _
  have h := recv_lt ch u
  rw [if_pos rfl]
  show (if (recvSem ch u).val < 3 then ∅ else if (recvSem ch u).val < 35 then (if u / 4 < 4 then ({0} : Finset (Fin 3)) else ∅) else _) = _
  rw [if_neg (by omega), if_pos h.2, if_pos (by omega)]
theorem duties_loc (hu : u < 16) : (Rd A B).duties (locCell l c u) (u / 2) = {0} := by
  show (if (Proc.tc : Proc τ) = .tc then dutiesOf (.dma (locSem l u)) (u / 2) else ∅) = _
  have h := loc_ge l u
  rw [if_pos rfl]
  show (if (locSem l u).val < 3 then ∅ else if (locSem l u).val < 35 then _ else (if u / 2 < 8 then ({0} : Finset (Fin 3)) else ∅)) = _
  rw [if_neg h.1, if_neg h.2, if_pos (by omega)]
theorem duties_late4 (r : ℕ) (hr : 4 ≤ r) (s : DmaSem sig) (hs : s.val < 35) : (Rd A B).duties ((c : Thread nD τ), .dma s) r = ∅ := by
  show (if (Proc.tc : Proc τ) = .tc then dutiesOf (.dma s) r else ∅) = _
  rw [if_pos rfl]
  show (if s.val < 3 then ∅ else if s.val < 35 then (if r < 4 then ({0} : Finset (Fin 3)) else ∅) else _) = _
  rw [if_pos hs]
  split
  · rfl
  · exact if_neg (by omega)
theorem duties_late8 (r : ℕ) (hr : 8 ≤ r) (s : DmaSem sig) : (Rd A B).duties ((c : Thread nD τ), .dma s) r = ∅ := by
  show (if (Proc.tc : Proc τ) = .tc then dutiesOf (.dma s) r else ∅) = _
  rw [if_pos rfl]
  show (if s.val < 3 then ∅ else if s.val < 35 then (if r < 4 then ({0} : Finset (Fin 3)) else ∅) else (if r < 8 then ({0} : Finset (Fin 3)) else ∅)) = _
  rw [if_neg (show ¬ r < 4 by omega), if_neg (show ¬ r < 8 by omega)]
  split
  · rfl
  · split <;> rfl
theorem duties_late_bar (r : ℕ) (hr : 1 ≤ r) : (Rd A B).duties (barCell c) r = ∅ := by
  show (if (Proc.tc : Proc τ) = .tc then dutiesOf (.reg barrier0) r else ∅) = _
  rw [if_pos rfl]; exact if_neg (fun h => by omega)

theorem amount_bar (r : ℕ) (d : Fin 3) : (Rd A B).amount (barCell c) r d = 1 := rfl
theorem amount_send (r : ℕ) (d : Fin 3) : (Rd A B).amount (sendCell ch c u) r d = Nb := if_pos (send_lt ch u).2
theorem amount_recv (r : ℕ) (d : Fin 3) : (Rd A B).amount (recvCell ch c u) r d = Nb := if_pos (recv_lt ch u).2
theorem amount_loc (r : ℕ) (d : Fin 3) : (Rd A B).amount (locCell l c u) r d = Nf := if_neg (loc_ge l u).2

theorem expect_bar : (Rd A B).expect (barCell c) 0 = 3 := by
  unfold Schedule.expect Schedule.amountOf; rw [duties_bar]; rfl
theorem expect_send (hu : u < 16) : (Rd A B).expect (sendCell ch c u) (u / 4) = Nb := by
  unfold Schedule.expect Schedule.amountOf; rw [duties_send A B c ch u hu, Finset.sum_singleton, amount_send]
theorem expect_recv (hu : u < 16) : (Rd A B).expect (recvCell ch c u) (u / 4) = Nb := by
  unfold Schedule.expect Schedule.amountOf; rw [duties_recv A B c ch u hu, Finset.sum_singleton, amount_recv]
theorem expect_loc (hu : u < 16) : (Rd A B).expect (locCell l c u) (u / 2) = Nf := by
  unfold Schedule.expect Schedule.amountOf; rw [duties_loc A B c l u hu, Finset.sum_singleton, amount_loc]

theorem payload_bar (r : ℕ) (d : Fin 3) : (Rd A B).payload (barCell c) r d = barPay c d := rfl
theorem payload_send (d : Fin 3) : (Rd A B).payload (sendCell ch c u) (u / 4) d = sendPay A B ch c u := by
  have h4 := ch.isLt
  have h := send_lt ch u
  show (if (sendSem ch u).val < 35 then (if ((sendSem ch u).val - 3) / 4 % 2 = 0 then
      sendPay A B (chOf (sendSem ch u)) c (4 * (u / 4) + ((sendSem ch u).val - 3) % 4) else _) else _) = _
  have e : (sendSem ch u).val = 3 + 8 * ch.val + u % 4 := rfl
  rw [if_pos h.2, if_pos (by rw [e]; omega)]
  have e1 : chOf (sendSem ch u) = ch := Fin.ext (by show ((sendSem ch u).val - 3) / 8 % 4 = ch.val; rw [e]; omega)
  have e2 : 4 * (u / 4) + ((sendSem ch u).val - 3) % 4 = u := by rw [e]; omega
  rw [e1, e2]
theorem payload_recv (d : Fin 3) : (Rd A B).payload (recvCell ch c u) (u / 4) d = recvPay A B ch c u := by
  have h4 := ch.isLt
  have h := recv_lt ch u
  show (if (recvSem ch u).val < 35 then (if ((recvSem ch u).val - 3) / 4 % 2 = 0 then _ else
      recvPay A B (chOf (recvSem ch u)) c (4 * (u / 4) + ((recvSem ch u).val - 3) % 4)) else _) = _
  have e : (recvSem ch u).val = 7 + 8 * ch.val + u % 4 := rfl
  rw [if_pos h.2, if_neg (by rw [e]; omega)]
  have e1 : chOf (recvSem ch u) = ch := Fin.ext (by show ((recvSem ch u).val - 3) / 8 % 4 = ch.val; rw [e]; omega)
  have e2 : 4 * (u / 4) + ((recvSem ch u).val - 3) % 4 = u := by rw [e]; omega
  rw [e1, e2]
theorem payload_loc (d : Fin 3) : (Rd A B).payload (locCell l c u) (u / 2) d = locPay A B l c u := by
  have h4 := l.isLt
  have h := loc_ge l u
  show (if (locSem l u).val < 35 then _ else locPay A B (locOf (locSem l u)) c (2 * (u / 2) + ((locSem l u).val - 35) % 2)) = _
  have e : (locSem l u).val = 35 + 2 * l.val + u % 2 := rfl
  rw [if_neg h.2]
  have e1 : locOf (locSem l u) = l := Fin.ext (by show ((locSem l u).val - 35) / 2 % 4 = l.val; rw [e]; omega)
  have e2 : 2 * (u / 2) + ((locSem l u).val - 35) % 2 = u := by rw [e]; omega
  rw [e1, e2]

theorem rest_send (hu : u < 16) : bigSep ((Rd A B).duties (sendCell ch c u) (u / 4) \ ∅) (fun d => (Rd A B).payload (sendCell ch c u) (u / 4) d) = sendPay A B ch c u := by
  rw [Finset.sdiff_empty, duties_send A B c ch u hu, bigSep_singleton, payload_send]
theorem rest_recv (hu : u < 16) : bigSep ((Rd A B).duties (recvCell ch c u) (u / 4) \ ∅) (fun d => (Rd A B).payload (recvCell ch c u) (u / 4) d) = recvPay A B ch c u := by
  rw [Finset.sdiff_empty, duties_recv A B c ch u hu, bigSep_singleton, payload_recv]
theorem rest_loc (hu : u < 16) : bigSep ((Rd A B).duties (locCell l c u) (u / 2) \ ∅) (fun d => (Rd A B).payload (locCell l c u) (u / 2) d) = locPay A B l c u := by
  rw [Finset.sdiff_empty, duties_loc A B c l u hu, bigSep_singleton, payload_loc]
theorem rest_bar : bigSep ((Rd A B).duties (barCell c) 0 \ ∅) (fun d => (Rd A B).payload (barCell c) 0 d)
    = (iprop(barPay c 0 ∗ barPay c 1 ∗ barPay c 2) : sProp (MM F)) := by
  rw [Finset.sdiff_empty, duties_bar]
  exact bigSep_univ_eq_bigSepL [(0 : Fin 3), (1 : Fin 3), (2 : Fin 3)] (by decide) (by decide) _

end Contents

/-! ## Levels, and what a device owes -/

/-- How many steps after its product is formed a channel's tile is sent. -/
def delay (ch : Fin 4) : ℕ := match ch with | 0 => 0 | 1 => 1 | 2 => 1 | 3 => 2

def L (g : GSem nD τ sig) : Finset ℕ := if g.1.2 = .tc then Finset.range 32 else ∅
/-- The level of a wait: the barrier first, then a channel's tile u at the step it is waited for. -/
def lv (g : GSem nD τ sig) (u : ℕ) : ℕ :=
  match g.2 with
  | .reg _ => 1
  | .dma s => if 3 ≤ s.val ∧ s.val < 35 ∧ (s.val - 3) / 4 % 2 = 1 then 10 * (u + 1 + delay (chOf s)) + 1 + 2 * delay (chOf s) else 0

theorem L_of_ne (g : GSem nD τ sig) (h : g.1.2 ≠ .tc) : L g = ∅ := if_neg h
theorem L_tc (c : Dev nD) (sm : SemLoc sig) : L ((c : Thread nD τ), sm) = Finset.range 32 := if_pos rfl

theorem chOf_recv (ch : Fin 4) (u : ℕ) : chOf (recvSem ch u) = ch :=
  Fin.ext (by have := ch.isLt; show (7 + 8 * ch.val + u % 4 - 3) / 8 % 4 = ch.val; omega)

theorem lv_recv (ch : Fin 4) (c : Dev nD) (u v : ℕ) : lv (recvCell ch c u) v = 10 * (v + 1 + delay ch) + 1 + 2 * delay ch := by
  have e : (recvSem ch u).val = 7 + 8 * ch.val + u % 4 := rfl
  have h := recv_lt ch u
  have h4 := ch.isLt
  show (if 3 ≤ (recvSem ch u).val ∧ (recvSem ch u).val < 35 ∧ ((recvSem ch u).val - 3) / 4 % 2 = 1 then
    10 * (v + 1 + delay (chOf (recvSem ch u))) + 1 + 2 * delay (chOf (recvSem ch u)) else 0) = _
  rw [chOf_recv, if_pos ⟨h.1, h.2, by rw [e]; omega⟩]
theorem lv_send (ch : Fin 4) (c : Dev nD) (u v : ℕ) : lv (sendCell ch c u) v = 0 := by
  have e : (sendSem ch u).val = 3 + 8 * ch.val + u % 4 := rfl
  exact if_neg (by rw [e]; omega)
theorem lv_loc (l : Fin 4) (c : Dev nD) (u v : ℕ) : lv (locCell l c u) v = 0 := by
  have e : (locSem l u).val = 35 + 2 * l.val + u % 2 := rfl
  exact if_neg (by rw [e]; omega)
theorem lv_stage (c : Dev nD) (s : DmaSem sig) (hs : s.val < 3) (v : ℕ) : lv ((c : Thread nD τ), .dma s) v = 0 := if_neg (by omega)
theorem lv_bar (c : Dev nD) (v : ℕ) : lv (barCell c) v = 1 := rfl

/-- What a device owes channel `ch` of its peer from tile `n` on. -/
def debt1 (ch : Fin 4) (c : Dev nD) (n : ℕ) : CellTallies nD τ sig ℕ :=
  ∑ u ∈ Finset.Ico n 16, tallyAt (recvCell ch (peer ch c) u) u Nb

theorem debt1_pop (ch : Fin 4) (c : Dev nD) (n : ℕ) (hn : n < 16) :
    debt1 ch c n = debt1 ch c (n + 1) + tallyAt (recvCell ch (peer ch c) n) n Nb := by
  unfold debt1
  have e : Finset.Ico n 16 = insert n (Finset.Ico (n + 1) 16) := by ext x; simp only [Finset.mem_insert, Finset.mem_Ico]; omega
  rw [e, Finset.sum_insert (by simp), add_comm]
theorem debt1_done (ch : Fin 4) (c : Dev nD) (n : ℕ) (hn : 16 ≤ n) : debt1 ch c n = 0 := by
  unfold debt1; rw [Finset.Ico_eq_empty (by omega), Finset.sum_empty]

/-- What it owes on all four channels, so many tiles sent on each. -/
def debt (c : Dev nD) (ns : Fin 4 → ℕ) : CellTallies nD τ sig ℕ := ∑ ch, debt1 ch c (ns ch)

theorem debt_pop (c : Dev nD) (ns : Fin 4 → ℕ) (ch : Fin 4) (h : ns ch < 16) :
    debt c ns = debt c (Function.update ns ch (ns ch + 1)) + tallyAt (recvCell ch (peer ch c) (ns ch)) (ns ch) Nb := by
  unfold debt
  rw [← Finset.add_sum_erase _ _ (Finset.mem_univ ch), ← Finset.add_sum_erase Finset.univ (fun k => debt1 k c (Function.update ns ch (ns ch + 1) k)) (Finset.mem_univ ch)]
  rw [Finset.sum_congr rfl (fun k hk => by rw [Function.update_of_ne (Finset.ne_of_mem_erase hk)] :
    ∀ k ∈ Finset.univ.erase ch, debt1 k c (Function.update ns ch (ns ch + 1) k) = debt1 k c (ns k))]
  rw [Function.update_self, debt1_pop ch c (ns ch) h]
  exact add_right_comm _ _ _

theorem debt_mem (c : Dev nD) (ns : Fin 4 → ℕ) (g : GSem nD τ sig) (v : ℕ) (h : 0 < debt c ns g v) :
    ∃ ch, ns ch ≤ v ∧ v < 16 ∧ g = recvCell ch (peer ch c) v := by
  unfold debt at h
  by_contra hno
  push Not at hno
  refine absurd h (by
    rw [Finset.sum_apply, Finsupp.finset_sum_apply]
    rw [Finset.sum_eq_zero]
    · exact Nat.lt_irrefl 0
    · intro ch _
      unfold debt1
      rw [Finset.sum_apply, Finsupp.finset_sum_apply]
      refine Finset.sum_eq_zero fun u hu => ?_
      rw [tallyAt_apply]
      refine if_neg fun h' => ?_
      obtain ⟨h1, h2⟩ := h'
      subst h2
      rw [Finset.mem_Ico] at hu
      exact hno ch hu.1 hu.2 h1)

/-- A wait of a step no later than `j` may be entered while only tiles of later steps are owed. -/
theorem mayWait (c : Dev nD) (ns : Fin 4 → ℕ) (j : ℕ) (sm : SemLoc sig) (ι : ℕ) (hι : ι < 32)
    (hj : ∀ ch, j ≤ ns ch + delay ch ∨ 16 ≤ ns ch) (hl : lv ((c : Thread nD τ), sm) ι ≤ 10 * j + 10) :
    (levAts L lv : sProp (MM F)) ⊢ MayWait (c : Thread nD τ) sm ι (debt c ns) :=
  MayOwe.of_cut (L := L) (lev := lv) (10 * j + 10) (fun p hp => by rw [Finset.mem_singleton.mp hp, L_tc]; exact Finset.mem_range.2 hι)
    (fun g u hg => by
      obtain ⟨ch, h1, h2, rfl⟩ := debt_mem c ns g u hg
      rw [L_tc]; exact Finset.mem_range.2 (by omega))
    (fun p hp => by rw [Finset.mem_singleton.mp hp]; exact hl)
    (fun g u hg => by
      obtain ⟨ch, h1, h2, rfl⟩ := debt_mem c ns g u hg
      rw [lv_recv]
      rcases hj ch with h | h <;> omega)

end Cert.KernelIdeal.Kern
-- ==== Proof.Chan.lean ====
/- The state of one channel on one device, and what each kind of step does to it: sending the next tile, receiving the
   next one, freeing the slot it arrived in, taking back the slot the oldest tile on its way was sent from. -/
module

public import proofs.«01_k».proof.Proof.Protocol

@[expose] public section

noncomputable section

namespace Cert.KernelIdeal.Kern

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Slots come round -/

theorem unit_congr {s : Shape} {off off' : Fin s.rank → ℕ} {size : Fin s.rank → ℕ} (h : off = off')
    (h₁ : ∀ a, off a + size a ≤ s.size a) (h₂ : ∀ a, off' a + size a ≤ s.size a) :
    Rect.unit (s := s) off size h₁ = Rect.unit (s := s) off' size h₂ := by subst h; rfl

theorem r4_congr {u v : ℕ} (h : u % 4 = v % 4) : r4 u = r4 v := unit_congr (by rw [h]) _ _
theorem r2_congr {u v : ℕ} (h : u % 2 = v % 2) : r2 u = r2 v := unit_congr (by rw [h]) _ _

theorem slot4_congr {e : EltTy} (M : Memref sig .tc .vmem S4x512x256 e) {u v : ℕ} (h : u % 4 = v % 4) : slot4 M u = slot4 M v := by
  have : ∀ (r r' : Rect S4x512x256) (e1 : r = r') (h1 : ∀ a, r.stride a = 1) (h2 : ∀ a, r'.stride a = 1)
      (hs : r.shape = r'.shape), HEq (M.slice r h1) (M.slice r' h2) := by intro r r' e1; subst e1; intros; rfl
  exact eq_of_heq (this _ _ (r4_congr h) _ _ rfl)
theorem slot2_congr {e : EltTy} (M : Memref sig .tc .vmem S2x512x256 e) {u v : ℕ} (h : u % 2 = v % 2) : slot2 M u = slot2 M v := by
  have : ∀ (r r' : Rect S2x512x256) (e1 : r = r') (h1 : ∀ a, r.stride a = 1) (h2 : ∀ a, r'.stride a = 1)
      (hs : r.shape = r'.shape), HEq (M.slice r h1) (M.slice r' h2) := by intro r r' e1; subst e1; intros; rfl
  exact eq_of_heq (this _ _ (r2_congr h) _ _ rfl)

theorem recvSlot_congr (ch : Fin 4) {u v : ℕ} (h : u % 4 = v % 4) : recvSlot ch u = recvSlot ch v := by
  unfold recvSlot; fin_cases ch <;> exact slot4_congr _ h
theorem srcSlot_congr (ch : Fin 4) {u v : ℕ} (h : u % 4 = v % 4) : srcSlot ch u = srcSlot ch v := by
  unfold srcSlot; fin_cases ch
  · exact slot4_congr _ h
  · exact slot4_congr _ h
  · exact slot4_congr _ h
  · exact slot2_congr _ (by omega)
theorem locSlot_congr (l : Fin 4) {u v : ℕ} (h : u % 2 = v % 2) : locSlot l u = locSlot l v := by
  unfold locSlot; fin_cases l <;> exact slot2_congr _ h
theorem sendSem_congr (ch : Fin 4) {u v : ℕ} (h : u % 4 = v % 4) : sendSem ch u = sendSem ch v := Fin.ext (by show 3 + 8 * ch.val + u % 4 = _; rw [h]; rfl)
theorem recvSem_congr (ch : Fin 4) {u v : ℕ} (h : u % 4 = v % 4) : recvSem ch u = recvSem ch v := Fin.ext (by show 7 + 8 * ch.val + u % 4 = _; rw [h]; rfl)
theorem locSem_congr (l : Fin 4) {u v : ℕ} (h : u % 2 = v % 2) : locSem l u = locSem l v := Fin.ext (by show 35 + 2 * l.val + u % 2 = _; rw [h]; rfl)

theorem send_amount (ch : Fin 4) (u : ℕ) (h : S1x512x256.Squeezes S512x256) (s : DmaSem sig) :
    ((recvSlot ch u).squeeze S512x256 h).view.amount (.dma s) = Nb := by unfold recvSlot; fin_cases ch <;> rfl
theorem copy_amount (l : Fin 4) (c : Dev nD) (u : ℕ) (h : S1x512x256.Squeezes S512x256) (s : DmaSem sig) :
    ((outReg l c u).squeeze S512x256 h).view.amount (.dma s) = Nf := rfl

/-! ## The protocol's cells -/

/-- The semaphores the devices talk over. -/
def talkSems : Finset (SemLoc sig) :=
  insert (.reg barrier0) ((Finset.univ.filter fun s : DmaSem sig => 3 ≤ s.val).map ⟨SemLoc.dma, fun _ _ h => by injection h⟩)
def talkCells : Finset (GSem nD τ sig) :=
  (Finset.univ ×ˢ talkSems).map ⟨fun p : Dev nD × SemLoc sig => ((p.1 : Thread nD τ), p.2), fun p p' h => by
    obtain ⟨c, s⟩ := p; obtain ⟨c', s'⟩ := p'
    injection h with h1 h2
    injection h1 with h3 h4
    exact Prod.ext h3 h2⟩

theorem bar_mem (c : Dev nD) : barCell c ∈ talkCells :=
  Finset.mem_map.2 ⟨(c, .reg barrier0), Finset.mem_product.2 ⟨Finset.mem_univ _, Finset.mem_insert_self _ _⟩, rfl⟩
theorem dma_mem (c : Dev nD) (s : DmaSem sig) (h : 3 ≤ s.val) : ((c : Thread nD τ), SemLoc.dma s) ∈ talkCells :=
  Finset.mem_map.2 ⟨(c, .dma s), Finset.mem_product.2 ⟨Finset.mem_univ _, Finset.mem_insert_of_mem
    (Finset.mem_map.2 ⟨s, Finset.mem_filter.2 ⟨Finset.mem_univ _, h⟩, rfl⟩)⟩, rfl⟩

section

variable (A : Dev nD → S2048x4096.Idx → Elt F .bf16) (B : Dev nD → ℕ → S4096x256.Idx → Elt F .f32)
variable (K : GSem nD τ sig → ℕ)

/-- Every semaphore the devices talk over is governed by the schedule. -/
def invs : sProp (MM F) := bigSep talkCells fun g => cellInv ER (Rd A B) (K g) g

theorem bigSep_pers {I : Type} [DecidableEq I] (s : Finset I) (Φ : I → sProp (MM F)) [∀ i, BI.Persistent (Φ i)] : BI.Persistent (bigSep s Φ) := by
  induction s using Finset.induction_on with
  | empty => exact (inferInstance : BI.Persistent (BIBase.emp : sProp (MM F)))
  | insert i s hi ih => rw [BI.bigSep_insert hi]; exact (inferInstance : BI.Persistent iprop(Φ i ∗ bigSep s Φ))

instance invs_persistent : BI.Persistent (invs A B K : sProp (MM F)) := bigSep_pers _ _

theorem invs_elim {g : GSem nD τ sig} (h : g ∈ talkCells) : invs A B K ⊢ cellInv ER (Rd A B) (K g) g := BI.bigSep_elim h
theorem invs_send (ch : Fin 4) (c : Dev nD) (u : ℕ) : invs A B K ⊢ cellInv ER (Rd A B) (K (sendCell ch c u)) (sendCell ch c u) :=
  invs_elim A B K (dma_mem c _ (send_lt ch u).1)
theorem invs_recv (ch : Fin 4) (c : Dev nD) (u : ℕ) : invs A B K ⊢ cellInv ER (Rd A B) (K (recvCell ch c u)) (recvCell ch c u) :=
  invs_elim A B K (dma_mem c _ (recv_lt ch u).1)
theorem invs_loc (l : Fin 4) (c : Dev nD) (u : ℕ) : invs A B K ⊢ cellInv ER (Rd A B) (K (locCell l c u)) (locCell l c u) :=
  invs_elim A B K (dma_mem c _ (by have := loc_ge l u; omega))

/-- What a device owes, whatever waits it has recorded. -/
def owesE (c : Dev nD) (O : CellTallies nD τ sig ℕ) : sProp (MM F) := iprop(∃ W, owes (c : Thread nD τ) O W)

/-! ## A channel between two devices -/

/-- Tiles up to `n` are sent, up to `m` received, the source slots of those up to `w` taken back; the peer's slots for tiles
    up to `pb` have come, the device's own slots for tiles `fa` up to `f` are its to hand over. -/
def chS (ch : Fin 4) (c : Dev nD) (n m w pb fa f : ℕ) : sProp (MM F) :=
  iprop(win (fun u => dutyTok ER (recvCell ch (peer ch c) u) (u / 4) 0) n 16
    ∗ win (fun u => dutyTok ER (sendCell ch c u) (u / 4) 0) n 16
    ∗ win (fun u => cred (tallyAt (recvCell ch c u) u Nb)) m 16
    ∗ win (fun u => atPos ER (recvCell ch c u) (u / 4) ∅ 0) m (m + 4)
    ∗ win (fun u => atPos ER (sendCell ch c u) (u / 4) ∅ 0) w (w + 4)
    ∗ win (fun u => reached ER (sendCell ch c u) (u / 4)) n (w + 4)
    ∗ win (fun u => cred (tallyAt (sendCell ch c u) u Nb)) w n
    ∗ win (fun u => freeR ch (peer ch c) u) n pb
    ∗ win (fun u => freeR ch c u) fa f)

variable {Λ : Labels} {defs : Defs nD τ sig (Elt F) Λ} (𝒱 : Variants) (c : Dev nD) {bd : Option 𝒱.V}
variable {α : Type} {Q : α → sProp (MM F)}

/-- Sending the next tile. -/
theorem ch_send (ch : Fin 4) {n m w pb fa f : ℕ} (ns : Fin 4 → ℕ) (hns : ns ch = n) (hn : n < 16) (hwn : w ≤ n) (hw : n < w + 4) (hpb : n < pb)
    (hfa : fa = min (n + 2) 16) (hf : fa < f ∨ 14 ≤ n) {c' : Dev nD} (hc' : c' = peer ch c)
    {ms md : Memref sig .tc .vmem S1x512x256 .bf16} (hms : ms = srcSlot ch n) (hmd : md = recvSlot ch n)
    {sS sR : DmaSem sig} (hsS : sS = sendSem ch n) (hsR : sR = recvSem ch n) (h : S1x512x256.Squeezes S512x256)
    {hsc : (md.squeeze S512x256 h).view.ref.isScScratch = false}
    {hsrc : (ms.squeeze S512x256 h).view.WordExact} {hdst : (md.squeeze S512x256 h).view.WordExact}
    {hsem : DmaTarget.Typed .vmem (.dma sR) (.remote (c' : Thread nD τ) (md.squeeze S512x256 h) (.dma sS) hsc)}
    {k : PUnit → Prog (TpuEff nD τ sig (Elt F) Λ .tc) α} :
    iprop(invs A B K ∗ chS ch c n m w pb fa f ∗ ownsTc c (srcSlot ch n) (shareOf ch) (chD A B ch c n) ∗ owesE c (debt c ns))
      ⊢ iprop(((chS ch c (n + 1) m w pb (min (n + 3) 16) f ∗ owesE c (debt c (Function.update ns ch (n + 1))))
            -∗ wp frame (wpE defs 𝒱 (c : Thread nD τ) bd) Set.univ (k ⟨⟩) Q)
          -∗ wp frame (wpE defs 𝒱 (c : Thread nD τ) bd) Set.univ
              (.op (.enqueueDma (ms.squeeze S512x256 h) (.remote (c' : Thread nD τ) (md.squeeze S512x256 h) (.dma sS) hsc) (.dma sR) hsrc hdst hsem) k) Q) := by
  subst hc' hms hmd hsS hsR hns
  unfold chS owesE
  rw [win_pop _ hn, win_pop _ hn, win_pop _ hw, win_pop _ hpb, win_push _ hwn]
  iintro ⟨#HI, ⟨⟨Ht2, Hw1⟩, ⟨Ht1, Hw2⟩, Hw3, Hw4, Hw5, ⟨Hr1, Hw6⟩, Hw7, ⟨Hfr, Hw8⟩, Hw9⟩, Hs, ⟨%W, HO⟩⟩ Hk
  unfold freeR
  icases Hfr with ⟨⟨%X', Hd⟩, Hr2⟩
  -- the slot for the tile but one after this, if there is one
  have hsplit : (win (fun u => iprop((∃ X, ownsTc c (recvSlot ch u) fullShare X) ∗ reached ER (recvCell ch c u) (u / 4))) fa f : sProp (MM F))
      ⊢ iprop(nextFree ch c (ns ch) ∗ win (fun u => iprop((∃ X, ownsTc c (recvSlot ch u) fullShare X) ∗ reached ER (recvCell ch c u) (u / 4))) (min (ns ch + 3) 16) f) := by
    unfold nextFree
    by_cases h2 : ns ch + 2 < 16
    · have e1 : fa = ns ch + 2 := by omega
      have e2 : min (ns ch + 3) 16 = ns ch + 2 + 1 := by omega
      have e3 : ns ch + 2 < f := by rcases hf with h | h <;> omega
      rw [if_pos h2, e1, e2, win_pop _ e3]
      unfold freeR
      exact .rfl
    · have e1 : fa = 16 := by omega
      have e2 : min (ns ch + 3) 16 = 16 := by omega
      rw [if_neg h2, e1, e2]
      iintro H
      isplitr
      · iempintro
      · iexact H
  ihave Hw9 := hsplit $$ Hw9
  icases Hw9 with ⟨Hnf, Hw9⟩
  iapply (wp_send_owns (defs := defs) 𝒱 c ER (Rd A B) (c' := peer ch c) (ms := srcSlot ch (ns ch)) (md := recvSlot ch (ns ch)) h
      (hsc := hsc) (sS := .dma (sendSem ch (ns ch))) (sem := .dma (recvSem ch (ns ch))) (q := shareOf ch) (X := chD A B ch c (ns ch)) (X' := X')
      (FF := nextFree ch c (ns ch)) (r₁ := ns ch / 4) (r₂ := ns ch / 4) (d₁ := 0) (d₂ := 0)
      (κ₁ := K (sendCell ch c (ns ch))) (κ₂ := K (recvCell ch (peer ch c) (ns ch)))
      (by rw [duties_send A B c ch _ hn]; exact Finset.mem_singleton_self _) (by rw [duties_recv A B (peer ch c) ch _ hn]; exact Finset.mem_singleton_self _)
      (ns ch) (ns ch) Nb (send_amount ch _ h _) (amount_send A B c ch _ _ _) (amount_recv A B (peer ch c) ch _ _ _)
      (O₀ := debt c ns) (debt c (Function.update ns ch (ns ch + 1))) (debt_pop c ns ch hn) (W := W)
      (by rw [payload_send]; exact .rfl)
      (by rw [payload_recv]; unfold recvPay; rw [peer_peer])
      (by routes)) $$ [Hs Hd Hnf HO Ht1 Hr1 Ht2 Hr2]
  · isplitr; · iapply (invs_send A B K ch c (ns ch)); iexact HI
    isplitr; · iapply (invs_recv A B K ch (peer ch c) (ns ch)); iexact HI
    isplitl [Hs]; · iexact Hs
    isplitl [Hd Hnf]
    · isplitl [Hd]; · iexact Hd
      iexact Hnf
    isplitl [HO]; · iexact HO
    isplitl [Ht1]; · iexact Ht1
    isplitl [Hr1]; · iexact Hr1
    isplitl [Ht2]; · iexact Ht2
    iexact Hr2
  iintro ⟨Hc, HO⟩
  iapply Hk
  isplitr [HO]
  · isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7 Hc]
    · isplitl [Hw7]; · iexact Hw7
      iexact Hc
    isplitl [Hw8]; · iexact Hw8
    iexact Hw9
  · iexists W; iexact HO

/-- Receiving the next tile: what its slot then holds, and that the slot's round is over. -/
theorem ch_recv (ch : Fin 4) {n m w pb fa f : ℕ} (ns : Fin 4 → ℕ) (j : ℕ) (hm : m < 16) (hpb : pb = min (m + 2) 16) (hn : n ≤ pb)
    (hj : ∀ ch, j ≤ ns ch + delay ch ∨ 16 ≤ ns ch) (hj' : m + 1 + delay ch ≤ j)
    {s : DmaSem sig} (hs : s = recvSem ch m) {sp sp' : Space} {sh sh' : Shape} {e e' : EltTy} {md : Memref sig .tc sp sh e} {ms : Memref sig .tc sp' sh' e'}
    (hcr : md.view.dmaCredit = Nb) {h1 : ms.view.WordExact} {h2 : md.view.WordExact} {k : PUnit → Prog (TpuEff nD τ sig (Elt F) Λ .tc) α} :
    iprop(invs A B K ∗ levAts L lv ∗ chS ch c n m w pb fa f ∗ owesE c (debt c ns))
      ⊢ iprop(((chS ch c n (m + 1) w (min (m + 3) 16) fa f ∗ ownsTc c (recvSlot ch m) fullShare (chD A B ch (peer ch c) m)
              ∗ reached ER (recvCell ch c (m + 4)) ((m + 4) / 4) ∗ owesE c (debt c ns))
            -∗ wp frame (wpE defs 𝒱 (c : Thread nD τ) bd) Set.univ (k ⟨⟩) Q)
          -∗ wp frame (wpE defs 𝒱 (c : Thread nD τ) bd) Set.univ (.op (.waitDma2 s ms md h1 h2) k) Q) := by
  subst hs
  have e4 : (m + 4) / 4 = m / 4 + 1 := by omega
  have ec : recvCell ch c (m + 4) = recvCell ch c m := by show ((c : Thread nD τ), SemLoc.dma (recvSem ch (m + 4))) = _; rw [recvSem_congr ch (show (m + 4) % 4 = m % 4 by omega)]
  unfold chS owesE
  rw [win_pop (fun u => cred (tallyAt (recvCell ch c u) u Nb)) hm, win_pop (fun u => atPos ER (recvCell ch c u) (u / 4) ∅ 0) (show m < m + 4 by omega),
    show m + 1 + 4 = m + 4 + 1 by omega, win_push (fun u => atPos ER (recvCell ch c u) (u / 4) ∅ 0) (show m + 1 ≤ m + 4 by omega), ec, e4]
  iintro ⟨#HI, #HL, ⟨Hw1, Hw2, ⟨Hc, Hw3⟩, ⟨Hat, Hw4⟩, Hw5, Hw6, Hw7, Hw8, Hw9⟩, ⟨%W, HO⟩⟩ Hk
  iapply (Rounds.wp_wait_rest_token (defs := defs) 𝒱 ER (Rd A B) (c : Thread nD τ) bd (κ := K (recvCell ch c m))
      (wpE_waitDma2_eq (src := ms) (dst := md) 𝒱 (c : Thread nD τ) bd Set.univ) (Set.mem_univ _) m (O := debt c ns) (W := W) (R := m / 4) (m := 0) (T := ∅)
      ((Nat.zero_add _).trans (hcr.trans (expect_recv A B c ch m hm).symm))) $$ [Hc HO Hat]
  · isplitr; · iapply (invs_recv A B K ch c m); iexact HI
    isplitl [Hc]; · rw [hcr]; iexact Hc
    isplitl [HO]; · iexact HO
    isplitr
    · iapply (mayWait c ns j (.dma (recvSem ch m)) m (by omega) hj (by
        rw [lv_recv]; have : delay ch ≤ 2 := by unfold delay; fin_cases ch <;> decide
        omega)); iexact HL
    iexact Hat
  iintro ⟨HO, Hat, Hr, Hpay⟩
  ihave Hp := (Entails.of_eq (rest_recv A B c ch m hm)) $$ Hpay
  unfold recvPay
  icases Hp with ⟨Hd, Hnf⟩
  have hgrow : (iprop(win (fun u => freeR ch (peer ch c) u) n pb ∗ nextFree ch (peer ch c) m) : sProp (MM F))
      ⊢ win (fun u => freeR ch (peer ch c) u) n (min (m + 3) 16) := by
    unfold nextFree
    by_cases h2 : m + 2 < 16
    · have e1 : pb = m + 2 := by omega
      have e2 : min (m + 3) 16 = m + 2 + 1 := by omega
      rw [if_pos h2, e2, win_push _ (by omega : n ≤ m + 2), e1]
    · have e1 : pb = 16 := by omega
      have e2 : min (m + 3) 16 = 16 := by omega
      rw [if_neg h2, e1, e2]
      iintro ⟨H, -⟩
      iexact H
  ihave Hw8 := hgrow $$ [Hw8 Hnf]
  · isplitl [Hw8]; · iexact Hw8
    iexact Hnf
  iapply Hk
  isplitr [Hd Hr HO]
  · isplitl [Hw1]; · iexact Hw1
    isplitl [Hw2]; · iexact Hw2
    isplitl [Hw3]; · iexact Hw3
    isplitl [Hw4 Hat]
    · isplitl [Hw4]; · iexact Hw4
      iexact Hat
    isplitl [Hw5]; · iexact Hw5
    isplitl [Hw6]; · iexact Hw6
    isplitl [Hw7]; · iexact Hw7
    isplitl [Hw8]; · iexact Hw8
    iexact Hw9
  · isplitl [Hd]; · iexact Hd
    isplitl [Hr]; · iexact Hr
    iexists _; iexact HO

/-- The slot a tile arrived in, once read, is the device's to hand over for the tile four later. -/
theorem ch_free (ch : Fin 4) {n m w pb fa f : ℕ} (u : ℕ) (hf : f = u + 4) (hfa : fa ≤ f) (X : S1x512x256.Idx → Elt F .bf16) :
    (iprop(chS ch c n m w pb fa f ∗ ownsTc c (recvSlot ch u) fullShare X ∗ reached ER (recvCell ch c (u + 4)) ((u + 4) / 4)) : sProp (MM F))
      ⊢ chS ch c n m w pb fa (f + 1) := by
  subst hf
  unfold chS
  rw [win_push (fun u => freeR ch c u) hfa]
  unfold freeR
  rw [recvSlot_congr ch (show (u + 4) % 4 = u % 4 by omega)]
  iintro ⟨⟨Hw1, Hw2, Hw3, Hw4, Hw5, Hw6, Hw7, Hw8, Hw9⟩, Hd, Hr⟩
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [Hw8]; · iexact Hw8
  isplitl [Hw9]; · iexact Hw9
  isplitl [Hd]; · iexists X; iexact Hd
  iexact Hr

/-- Waiting until the oldest tile on its way has left: its source slot comes back. -/
theorem ch_left (ch : Fin 4) {n m w pb fa f : ℕ} (ns : Fin 4 → ℕ) (j : ℕ) (hw : w < 16) (hwn : w < n) (hn : n ≤ w + 4)
    (hj : ∀ ch, j ≤ ns ch + delay ch ∨ 16 ≤ ns ch)
    {s : DmaSem sig} (hs : s = sendSem ch w) {sp sp' : Space} {sh sh' : Shape} {e e' : EltTy} {md : Memref sig .tc sp sh e} {ms : Memref sig .tc sp' sh' e'}
    (hcr : md.view.dmaCredit = Nb) {h1 : ms.view.WordExact} {h2 : md.view.WordExact} {k : PUnit → Prog (TpuEff nD τ sig (Elt F) Λ .tc) α} :
    iprop(invs A B K ∗ levAts L lv ∗ chS ch c n m w pb fa f ∗ owesE c (debt c ns))
      ⊢ iprop(((chS ch c n m (w + 1) pb fa f ∗ ownsTc c (srcSlot ch w) (shareOf ch) (chD A B ch c w) ∗ owesE c (debt c ns))
            -∗ wp frame (wpE defs 𝒱 (c : Thread nD τ) bd) Set.univ (k ⟨⟩) Q)
          -∗ wp frame (wpE defs 𝒱 (c : Thread nD τ) bd) Set.univ (.op (.waitDma2 s ms md h1 h2) k) Q) := by
  subst hs
  have e4 : (w + 4) / 4 = w / 4 + 1 := by omega
  have ec : sendCell ch c (w + 4) = sendCell ch c w := by show ((c : Thread nD τ), SemLoc.dma (sendSem ch (w + 4))) = _; rw [sendSem_congr ch (show (w + 4) % 4 = w % 4 by omega)]
  unfold chS owesE
  rw [win_pop (fun u => cred (tallyAt (sendCell ch c u) u Nb)) hwn, win_pop (fun u => atPos ER (sendCell ch c u) (u / 4) ∅ 0) (show w < w + 4 by omega),
    show w + 1 + 4 = w + 4 + 1 by omega, win_push (fun u => atPos ER (sendCell ch c u) (u / 4) ∅ 0) (show w + 1 ≤ w + 4 by omega),
    win_push (fun u => reached ER (sendCell ch c u) (u / 4)) hn, ec, e4]
  iintro ⟨#HI, #HL, ⟨Hw1, Hw2, Hw3, Hw4, ⟨Hat, Hw5⟩, Hw6, ⟨Hc, Hw7⟩, Hw8, Hw9⟩, ⟨%W, HO⟩⟩ Hk
  iapply (Rounds.wp_wait_rest_token (defs := defs) 𝒱 ER (Rd A B) (c : Thread nD τ) bd (κ := K (sendCell ch c w))
      (wpE_waitDma2_eq (src := ms) (dst := md) 𝒱 (c : Thread nD τ) bd Set.univ) (Set.mem_univ _) w (O := debt c ns) (W := W) (R := w / 4) (m := 0) (T := ∅)
      ((Nat.zero_add _).trans (hcr.trans (expect_send A B c ch w hw).symm))) $$ [Hc HO Hat]
  · isplitr; · iapply (invs_send A B K ch c w); iexact HI
    isplitl [Hc]; · rw [hcr]; iexact Hc
    isplitl [HO]; · iexact HO
    isplitr
    · iapply (mayWait c ns j (.dma (sendSem ch w)) w (by omega) hj (by rw [lv_send]; omega)); iexact HL
    iexact Hat
  iintro ⟨HO, Hat, Hr, Hpay⟩
  ihave Hp := (Entails.of_eq (rest_send A B c ch w hw)) $$ Hpay
  unfold sendPay
  iapply Hk
  isplitr [Hp HO]
  · isplitl [Hw1]; · iexact Hw1
    isplitl [Hw2]; · iexact Hw2
    isplitl [Hw3]; · iexact Hw3
    isplitl [Hw4]; · iexact Hw4
    isplitl [Hw5 Hat]
    · isplitl [Hw5]; · iexact Hw5
      iexact Hat
    isplitl [Hw6 Hr]
    · isplitl [Hw6]; · iexact Hw6
      iexact Hr
    isplitl [Hw7]; · iexact Hw7
    isplitl [Hw8]; · iexact Hw8
    iexact Hw9
  · isplitl [Hp]; · iexact Hp
    iexists _; iexact HO

/-! ## A copy channel: finished tiles to the result -/

/-- Tiles up to `n` have been copied, up to `w` waited for; the slots of tiles from `s` on are free to fill. -/
def locS (l : Fin 4) (c : Dev nD) (n w s : ℕ) : sProp (MM F) :=
  iprop(win (fun u => dutyTok ER (locCell l c u) (u / 2) 0) n 16
    ∗ win (fun u => atPos ER (locCell l c u) (u / 2) ∅ 0) w (w + 2)
    ∗ win (fun u => reached ER (locCell l c u) (u / 2)) n (w + 2)
    ∗ win (fun u => cred (tallyAt (locCell l c u) u Nf)) w n
    ∗ win (fun u => iprop(∃ X, ownsTc c (locSlot l u) fullShare X)) s (w + 2)
    ∗ win (fun u => iprop(∃ X, ownsTc c (outReg l c u) fullShare X)) n 16
    ∗ win (fun u => ownsTc c (outReg l c u) fullShare (outD A B l c u)) 0 w)

/-- The next slot, to fill. -/
theorem loc_open (l : Fin 4) {n w s : ℕ} (hs : s < w + 2) :
    locS A B l c n w s ⊢ iprop((∃ X, ownsTc c (locSlot l s) fullShare X) ∗ locS A B l c n w (s + 1)) := by
  unfold locS
  rw [win_pop _ hs]
  iintro ⟨Hw1, Hw2, Hw3, Hw4, ⟨H, Hw5⟩, Hw6, Hw7⟩
  isplitl [H]; · iexact H
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  iexact Hw7

/-- Copying the next tile out. -/
theorem loc_copy (l : Fin 4) {n w s : ℕ} (hn : n < 16) (hwn : w ≤ n) (hw : n < w + 2)
    {ms : Memref sig .tc .vmem S1x512x256 .f32} {md : Memref sig .tc .hbm S1x512x256 .f32} (hms : ms = locSlot l n) (hmd : md = outReg l c n)
    {sm : DmaSem sig} (hsm : sm = locSem l n) (h : S1x512x256.Squeezes S512x256)
    {hsrc : (ms.squeeze S512x256 h).view.WordExact} {hdst : (md.squeeze S512x256 h).view.WordExact}
    {hsem : DmaTarget.Typed (nD := nD) (τ := τ) (p := .tc) .vmem (.dma sm) (.here (md.squeeze S512x256 h))}
    {k : PUnit → Prog (TpuEff nD τ sig (Elt F) Λ .tc) α} :
    iprop(invs A B K ∗ locS A B l c n w s ∗ ownsTc c (locSlot l n) fullShare (outD A B l c n))
      ⊢ iprop((locS A B l c (n + 1) w s -∗ wp frame (wpE defs 𝒱 (c : Thread nD τ) bd) Set.univ (k ⟨⟩) Q)
          -∗ wp frame (wpE defs 𝒱 (c : Thread nD τ) bd) Set.univ
              (.op (.enqueueDma (ms.squeeze S512x256 h) (.here (md.squeeze S512x256 h)) (.dma sm) hsrc hdst hsem) k) Q) := by
  subst hms hmd hsm
  unfold locS
  rw [win_pop (fun u => dutyTok ER (locCell l c u) (u / 2) 0) hn, win_pop (fun u => reached ER (locCell l c u) (u / 2)) hw,
    win_push (fun u => cred (tallyAt (locCell l c u) u Nf)) hwn, win_pop (fun u => iprop(∃ X, ownsTc c (outReg l c u) fullShare X)) hn]
  iintro ⟨#HI, ⟨⟨Ht, Hw1⟩, Hw2, ⟨Hr, Hw3⟩, Hw4, Hw5, ⟨⟨%X', Hd⟩, Hw6⟩, Hw7⟩, Hs⟩ Hk
  iapply (wp_copy_owns (defs := defs) 𝒱 c ER (Rd A B) (ms := locSlot l n) (md := outReg l c n) h (sem := .dma (locSem l n)) (q := fullShare)
      (X := outD A B l c n) (X' := X') (r := n / 2) (d := 0) (κ := K (locCell l c n))
      (by rw [duties_loc A B c l n hn]; exact Finset.mem_singleton_self _) n Nf (copy_amount l c n h _) (amount_loc A B c l _ _ _)
      (by
        rw [payload_loc]; unfold locPay
        iintro ⟨H1, H2⟩
        isplitl [H1]; · iexact H1
        iexists _; iexact H2)) $$ [Hs Hd Ht Hr]
  · isplitr; · iapply (invs_loc A B K l c n); iexact HI
    isplitl [Hs]; · iexact Hs
    isplitl [Hd]; · iexact Hd
    isplitl [Ht]; · iexact Ht
    iexact Hr
  iintro Hc
  iapply Hk
  isplitl [Hw1]; · iexact Hw1
  isplitl [Hw2]; · iexact Hw2
  isplitl [Hw3]; · iexact Hw3
  isplitl [Hw4 Hc]
  · isplitl [Hw4]; · iexact Hw4
    iexact Hc
  isplitl [Hw5]; · iexact Hw5
  isplitl [Hw6]; · iexact Hw6
  iexact Hw7

/-- Waiting for the oldest tile on its way out. -/
theorem loc_wait (l : Fin 4) {n w s : ℕ} (ns : Fin 4 → ℕ) (j : ℕ) (hw : w < 16) (hwn : w < n) (hn : n ≤ w + 2) (hs2 : s ≤ w + 2)
    (hj : ∀ ch, j ≤ ns ch + delay ch ∨ 16 ≤ ns ch)
    {sm : DmaSem sig} (hsm : sm = locSem l w) {sp sp' : Space} {sh sh' : Shape} {e e' : EltTy} {md : Memref sig .tc sp sh e} {ms : Memref sig .tc sp' sh' e'}
    (hcr : md.view.dmaCredit = Nf) {h1 : ms.view.WordExact} {h2 : md.view.WordExact} {k : PUnit → Prog (TpuEff nD τ sig (Elt F) Λ .tc) α} :
    iprop(invs A B K ∗ levAts L lv ∗ locS A B l c n w s ∗ owesE c (debt c ns))
      ⊢ iprop(((locS A B l c n (w + 1) s ∗ owesE c (debt c ns))
            -∗ wp frame (wpE defs 𝒱 (c : Thread nD τ) bd) Set.univ (k ⟨⟩) Q)
          -∗ wp frame (wpE defs 𝒱 (c : Thread nD τ) bd) Set.univ (.op (.waitDma2 sm ms md h1 h2) k) Q) := by
  subst hsm
  have e4 : (w + 2) / 2 = w / 2 + 1 := by omega
  have ec : locCell l c (w + 2) = locCell l c w := by show ((c : Thread nD τ), SemLoc.dma (locSem l (w + 2))) = _; rw [locSem_congr l (show (w + 2) % 2 = w % 2 by omega)]
  unfold locS owesE
  rw [win_pop (fun u => cred (tallyAt (locCell l c u) u Nf)) hwn, win_pop (fun u => atPos ER (locCell l c u) (u / 2) ∅ 0) (show w < w + 2 by omega),
    show w + 1 + 2 = w + 2 + 1 by omega, win_push (fun u => atPos ER (locCell l c u) (u / 2) ∅ 0) (show w + 1 ≤ w + 2 by omega),
    win_push (fun u => reached ER (locCell l c u) (u / 2)) hn, win_push (fun u => iprop(∃ X, ownsTc c (locSlot l u) fullShare X)) hs2,
    win_push (fun u => ownsTc c (outReg l c u) fullShare (outD A B l c u)) (Nat.zero_le w), ec, e4, locSlot_congr l (show (w + 2) % 2 = w % 2 by omega)]
  iintro ⟨#HI, #HL, ⟨Hw1, ⟨Hat, Hw2⟩, Hw3, ⟨Hc, Hw4⟩, Hw5, Hw6, Hw7⟩, ⟨%W, HO⟩⟩ Hk
  iapply (Rounds.wp_wait_rest_token (defs := defs) 𝒱 ER (Rd A B) (c : Thread nD τ) bd (κ := K (locCell l c w))
      (wpE_waitDma2_eq (src := ms) (dst := md) 𝒱 (c : Thread nD τ) bd Set.univ) (Set.mem_univ _) w (O := debt c ns) (W := W) (R := w / 2) (m := 0) (T := ∅)
      ((Nat.zero_add _).trans (hcr.trans (expect_loc A B c l w hw).symm))) $$ [Hc HO Hat]
  · isplitr; · iapply (invs_loc A B K l c w); iexact HI
    isplitl [Hc]; · rw [hcr]; iexact Hc
    isplitl [HO]; · iexact HO
    isplitr
    · iapply (mayWait c ns j (.dma (locSem l w)) w (by omega) hj (by rw [lv_loc]; omega)); iexact HL
    iexact Hat
  iintro ⟨HO, Hat, Hr, Hpay⟩
  ihave Hp := (Entails.of_eq (rest_loc A B c l w hw)) $$ Hpay
  unfold locPay
  icases Hp with ⟨Hd, Hs⟩
  iapply Hk
  isplitr [HO]
  · isplitl [Hw1]; · iexact Hw1
    isplitl [Hw2 Hat]
    · isplitl [Hw2]; · iexact Hw2
      iexact Hat
    isplitl [Hw3 Hr]
    · isplitl [Hw3]; · iexact Hw3
      iexact Hr
    isplitl [Hw4]; · iexact Hw4
    isplitl [Hw5 Hs]
    · isplitl [Hw5]; · iexact Hw5
      iexact Hs
    isplitl [Hw6]; · iexact Hw6
    isplitl [Hw7]; · iexact Hw7
    iexact Hd
  · iexists _; iexact HO

end

end Cert.KernelIdeal.Kern
-- ==== Proof.Slots.lean ====
/- The slots and semaphores the kernel's body names, as the protocol's: by the offset they are taken at. -/
module

public import proofs.«01_k».proof.Proof.Chan

@[expose] public section

noncomputable section

namespace Cert.KernelIdeal.Kern

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem consecutive4 {N : ℕ} (base : ℕ) (hb : base + S4.numel ≤ N) {off : Fin 1 → ℕ} {u : ℕ} (h : off = ![u % 4]) (inb : ∀ a, off a + S1.size a ≤ S4.size a) (hs : S1.Squeezes S_) :
    (((SemArray.consecutive base S4 hb).slice (Rect.unit (s := S4) off S1.size inb)).squeeze S_ hs).sem.val = base + u % 4 := by
  subst h
  have key : ∀ j : S1.Idx, ((S4.rowMajor ((Rect.unit (s := S4) ![u % 4] S1.size inb).emb j)).val) = u % 4 := by
    intro j
    have hj : (j 0).val < 1 := (j 0).isLt
    refine (Shape.rowMajor_val_one _).trans ?_
    show u % 4 + 1 * (j 0).val = u % 4
    omega
  exact congrArg (base + ·) (key _)
theorem consecutive2 {N : ℕ} (base : ℕ) (hb : base + S2.numel ≤ N) {off : Fin 1 → ℕ} {u : ℕ} (h : off = ![u % 2]) (inb : ∀ a, off a + S1.size a ≤ S2.size a) (hs : S1.Squeezes S_) :
    (((SemArray.consecutive base S2 hb).slice (Rect.unit (s := S2) off S1.size inb)).squeeze S_ hs).sem.val = base + u % 2 := by
  subst h
  have key : ∀ j : S1.Idx, ((S2.rowMajor ((Rect.unit (s := S2) ![u % 2] S1.size inb).emb j)).val) = u % 2 := by
    intro j
    have hj : (j 0).val < 1 := (j 0).isLt
    refine (Shape.rowMajor_val_one _).trans ?_
    show u % 2 + 1 * (j 0).val = u % 2
    omega
  exact congrArg (base + ·) (key _)
theorem sem13 {off : Fin 1 → ℕ} {u : ℕ} (h : off = ![u % 4]) (inb : ∀ a, off a + S1.size a ≤ S4.size a) (hs : S1.Squeezes S_) :
    ((cc0_scratch13.slice (Rect.unit (s := S4) off S1.size inb)).squeeze S_ hs).sem = sendSem 0 u :=
  Fin.ext (consecutive4 3 _ h inb hs)
theorem sem14 {off : Fin 1 → ℕ} {u : ℕ} (h : off = ![u % 4]) (inb : ∀ a, off a + S1.size a ≤ S4.size a) (hs : S1.Squeezes S_) :
    ((cc0_scratch14.slice (Rect.unit (s := S4) off S1.size inb)).squeeze S_ hs).sem = recvSem 0 u :=
  Fin.ext (consecutive4 7 _ h inb hs)
theorem sem15 {off : Fin 1 → ℕ} {u : ℕ} (h : off = ![u % 4]) (inb : ∀ a, off a + S1.size a ≤ S4.size a) (hs : S1.Squeezes S_) :
    ((cc0_scratch15.slice (Rect.unit (s := S4) off S1.size inb)).squeeze S_ hs).sem = sendSem 1 u :=
  Fin.ext (consecutive4 11 _ h inb hs)
theorem sem16 {off : Fin 1 → ℕ} {u : ℕ} (h : off = ![u % 4]) (inb : ∀ a, off a + S1.size a ≤ S4.size a) (hs : S1.Squeezes S_) :
    ((cc0_scratch16.slice (Rect.unit (s := S4) off S1.size inb)).squeeze S_ hs).sem = recvSem 1 u :=
  Fin.ext (consecutive4 15 _ h inb hs)
theorem sem17 {off : Fin 1 → ℕ} {u : ℕ} (h : off = ![u % 4]) (inb : ∀ a, off a + S1.size a ≤ S4.size a) (hs : S1.Squeezes S_) :
    ((cc0_scratch17.slice (Rect.unit (s := S4) off S1.size inb)).squeeze S_ hs).sem = sendSem 2 u :=
  Fin.ext (consecutive4 19 _ h inb hs)
theorem sem18 {off : Fin 1 → ℕ} {u : ℕ} (h : off = ![u % 4]) (inb : ∀ a, off a + S1.size a ≤ S4.size a) (hs : S1.Squeezes S_) :
    ((cc0_scratch18.slice (Rect.unit (s := S4) off S1.size inb)).squeeze S_ hs).sem = recvSem 2 u :=
  Fin.ext (consecutive4 23 _ h inb hs)
theorem sem19 {off : Fin 1 → ℕ} {u : ℕ} (h : off = ![u % 4]) (inb : ∀ a, off a + S1.size a ≤ S4.size a) (hs : S1.Squeezes S_) :
    ((cc0_scratch19.slice (Rect.unit (s := S4) off S1.size inb)).squeeze S_ hs).sem = sendSem 3 u :=
  Fin.ext (consecutive4 27 _ h inb hs)
theorem sem20 {off : Fin 1 → ℕ} {u : ℕ} (h : off = ![u % 4]) (inb : ∀ a, off a + S1.size a ≤ S4.size a) (hs : S1.Squeezes S_) :
    ((cc0_scratch20.slice (Rect.unit (s := S4) off S1.size inb)).squeeze S_ hs).sem = recvSem 3 u :=
  Fin.ext (consecutive4 31 _ h inb hs)
theorem sem21 {off : Fin 1 → ℕ} {u : ℕ} (h : off = ![u % 2]) (inb : ∀ a, off a + S1.size a ≤ S2.size a) (hs : S1.Squeezes S_) :
    ((cc0_scratch21.slice (Rect.unit (s := S2) off S1.size inb)).squeeze S_ hs).sem = locSem 0 u :=
  Fin.ext (consecutive2 35 _ h inb hs)
theorem sem22 {off : Fin 1 → ℕ} {u : ℕ} (h : off = ![u % 2]) (inb : ∀ a, off a + S1.size a ≤ S2.size a) (hs : S1.Squeezes S_) :
    ((cc0_scratch22.slice (Rect.unit (s := S2) off S1.size inb)).squeeze S_ hs).sem = locSem 1 u :=
  Fin.ext (consecutive2 37 _ h inb hs)
theorem sem23 {off : Fin 1 → ℕ} {u : ℕ} (h : off = ![u % 2]) (inb : ∀ a, off a + S1.size a ≤ S2.size a) (hs : S1.Squeezes S_) :
    ((cc0_scratch23.slice (Rect.unit (s := S2) off S1.size inb)).squeeze S_ hs).sem = locSem 2 u :=
  Fin.ext (consecutive2 39 _ h inb hs)
theorem sem24 {off : Fin 1 → ℕ} {u : ℕ} (h : off = ![u % 2]) (inb : ∀ a, off a + S1.size a ≤ S2.size a) (hs : S1.Squeezes S_) :
    ((cc0_scratch24.slice (Rect.unit (s := S2) off S1.size inb)).squeeze S_ hs).sem = locSem 3 u :=
  Fin.ext (consecutive2 41 _ h inb hs)

theorem slOut (l : Fin 4) (c : Dev nD) (u : ℕ) {off : Fin 3 → ℕ} (h : off = ![0, outRow l c, outCol l c u]) (inb : ∀ a, off a + S1x512x256.size a ≤ S1x1024x8192.size a) :
    bOut.slice (Rect.unit (s := S1x1024x8192) off S1x512x256.size inb) (fun _ => rfl) = outReg l c u := by subst h; rfl

theorem dev_congr {n : ℕ} {c : Dev nD} (h : n = c.val) (hn : n < nD) : (⟨n, hn⟩ : Dev nD) = c := Fin.ext h

variable {Λ : Labels} {defs : Defs nD τ sig (Elt F) Λ} (𝒱 : Variants) (c : Dev nD) {bd : Option 𝒱.V}
variable {α : Type} {Q : α → sProp (MM F)}

/-- A load of one tile of a buffer of 4, and a store into it. -/
theorem ld4 {e : EltTy} {M : Memref sig .tc .vmem S4x512x256 e} {off : Fin 3 → ℕ} (u : ℕ) (h : off = ![u % 4, 0, 0]) {inb : ∀ a, off a + S1x512x256.size a ≤ S4x512x256.size a}
    {hl : M.view.LoadsAt (Rect.unit (s := S4x512x256) off S1x512x256.size inb).toLoadRect} {k : (S1x512x256.Idx → Elt F e) → Prog (TpuEff nD τ sig (Elt F) Λ .tc) α}
    {q : PosShare TreeShare} {X : S1x512x256.Idx → Elt F e} :
    (ownsTc c (slot4 M u) q X : sProp (MM F))
      ⊢ iprop((ownsTc c (slot4 M u) q X -∗ wp frame (wpE defs 𝒱 (c : Thread nD τ) bd) Set.univ (k X) Q)
        -∗ wp frame (wpE defs 𝒱 (c : Thread nD τ) bd) Set.univ (.op (.load M (Rect.unit (s := S4x512x256) off S1x512x256.size inb).toLoadRect hl) k) Q) := by
  subst h; exact wp_load_owns 𝒱 c (fun _ => rfl)
theorem st4 {e : EltTy} {M : Memref sig .tc .vmem S4x512x256 e} {off : Fin 3 → ℕ} (u : ℕ) (h : off = ![u % 4, 0, 0]) {inb : ∀ a, off a + S1x512x256.size a ≤ S4x512x256.size a}
    {w : S1x512x256.Idx → Elt F e} {hx : (M.access (Rect.unit (s := S4x512x256) off S1x512x256.size inb)).Stores Finset.univ}
    {hm : Finset.univ = Finset.univ ∨ ∀ a, (Rect.unit (s := S4x512x256) off S1x512x256.size inb).stride a = 1}
    {k : PUnit → Prog (TpuEff nD τ sig (Elt F) Λ .tc) α} {X : S1x512x256.Idx → Elt F e} :
    (ownsTc c (slot4 M u) fullShare X : sProp (MM F))
      ⊢ iprop((ownsTc c (slot4 M u) fullShare w -∗ wp frame (wpE defs 𝒱 (c : Thread nD τ) bd) Set.univ (k ⟨⟩) Q)
        -∗ wp frame (wpE defs 𝒱 (c : Thread nD τ) bd) Set.univ (.op (.store M (Rect.unit (s := S4x512x256) off S1x512x256.size inb) w Finset.univ hx hm) k) Q) := by
  subst h; exact wp_store_owns 𝒱 c (fun _ => rfl)
theorem sl4 {e : EltTy} (M : Memref sig .tc .vmem S4x512x256 e) {off : Fin 3 → ℕ} {u : ℕ} (h : off = ![u % 4, 0, 0]) (inb : ∀ a, off a + S1x512x256.size a ≤ S4x512x256.size a) :
    M.slice (Rect.unit (s := S4x512x256) off S1x512x256.size inb) (fun _ => rfl) = slot4 M u := by subst h; rfl
/-- A load of one tile of a buffer of 2, and a store into it. -/
theorem ld2 {e : EltTy} {M : Memref sig .tc .vmem S2x512x256 e} {off : Fin 3 → ℕ} (u : ℕ) (h : off = ![u % 2, 0, 0]) {inb : ∀ a, off a + S1x512x256.size a ≤ S2x512x256.size a}
    {hl : M.view.LoadsAt (Rect.unit (s := S2x512x256) off S1x512x256.size inb).toLoadRect} {k : (S1x512x256.Idx → Elt F e) → Prog (TpuEff nD τ sig (Elt F) Λ .tc) α}
    {q : PosShare TreeShare} {X : S1x512x256.Idx → Elt F e} :
    (ownsTc c (slot2 M u) q X : sProp (MM F))
      ⊢ iprop((ownsTc c (slot2 M u) q X -∗ wp frame (wpE defs 𝒱 (c : Thread nD τ) bd) Set.univ (k X) Q)
        -∗ wp frame (wpE defs 𝒱 (c : Thread nD τ) bd) Set.univ (.op (.load M (Rect.unit (s := S2x512x256) off S1x512x256.size inb).toLoadRect hl) k) Q) := by
  subst h; exact wp_load_owns 𝒱 c (fun _ => rfl)
theorem st2 {e : EltTy} {M : Memref sig .tc .vmem S2x512x256 e} {off : Fin 3 → ℕ} (u : ℕ) (h : off = ![u % 2, 0, 0]) {inb : ∀ a, off a + S1x512x256.size a ≤ S2x512x256.size a}
    {w : S1x512x256.Idx → Elt F e} {hx : (M.access (Rect.unit (s := S2x512x256) off S1x512x256.size inb)).Stores Finset.univ}
    {hm : Finset.univ = Finset.univ ∨ ∀ a, (Rect.unit (s := S2x512x256) off S1x512x256.size inb).stride a = 1}
    {k : PUnit → Prog (TpuEff nD τ sig (Elt F) Λ .tc) α} {X : S1x512x256.Idx → Elt F e} :
    (ownsTc c (slot2 M u) fullShare X : sProp (MM F))
      ⊢ iprop((ownsTc c (slot2 M u) fullShare w -∗ wp frame (wpE defs 𝒱 (c : Thread nD τ) bd) Set.univ (k ⟨⟩) Q)
        -∗ wp frame (wpE defs 𝒱 (c : Thread nD τ) bd) Set.univ (.op (.store M (Rect.unit (s := S2x512x256) off S1x512x256.size inb) w Finset.univ hx hm) k) Q) := by
  subst h; exact wp_store_owns 𝒱 c (fun _ => rfl)
theorem sl2 {e : EltTy} (M : Memref sig .tc .vmem S2x512x256 e) {off : Fin 3 → ℕ} {u : ℕ} (h : off = ![u % 2, 0, 0]) (inb : ∀ a, off a + S1x512x256.size a ≤ S2x512x256.size a) :
    M.slice (Rect.unit (s := S2x512x256) off S1x512x256.size inb) (fun _ => rfl) = slot2 M u := by subst h; rfl

theorem emb_full (x : S4096x256.Idx) (inb : ∀ a, (![0, 0] : Fin 2 → ℕ) a + S4096x256.size a ≤ S4096x256.size a) :
    (Rect.unit (s := S4096x256) ![0, 0] S4096x256.size inb).emb x = x := by
  funext a
  apply Fin.ext
  fin_cases a
  · show 0 + 1 * (x 0).val = (x 0).val; omega
  · show 0 + 1 * (x 1).val = (x 1).val; omega

/-- A load and a store of a whole right-hand tile. -/
theorem ldW {e : EltTy} {M : Memref sig .tc .vmem S4096x256 e} {inb : ∀ a, (![0, 0] : Fin 2 → ℕ) a + S4096x256.size a ≤ S4096x256.size a}
    {hl : M.view.LoadsAt (Rect.unit (s := S4096x256) ![0, 0] S4096x256.size inb).toLoadRect} {k : (S4096x256.Idx → Elt F e) → Prog (TpuEff nD τ sig (Elt F) Λ .tc) α}
    {q : PosShare TreeShare} {X : S4096x256.Idx → Elt F e} :
    (ownsTc c M q X : sProp (MM F))
      ⊢ iprop((ownsTc c M q X -∗ wp frame (wpE defs 𝒱 (c : Thread nD τ) bd) Set.univ (k X) Q)
        -∗ wp frame (wpE defs 𝒱 (c : Thread nD τ) bd) Set.univ (.op (.load M (Rect.unit (s := S4096x256) ![0, 0] S4096x256.size inb).toLoadRect hl) k) Q) := by
  have e : (fun x : S4096x256.Idx => X ((Rect.unit (s := S4096x256) ![0, 0] S4096x256.size inb).emb x)) = X := funext fun x => congrArg X (emb_full x inb)
  have h : (ownsTc c M q X : sProp (MM F))
      ⊢ iprop((ownsTc c M q X -∗ wp frame (wpE defs 𝒱 (c : Thread nD τ) bd) Set.univ (k (fun x : S4096x256.Idx => X ((Rect.unit (s := S4096x256) ![0, 0] S4096x256.size inb).emb x))) Q)
        -∗ wp frame (wpE defs 𝒱 (c : Thread nD τ) bd) Set.univ (.op (.load M (Rect.unit (s := S4096x256) ![0, 0] S4096x256.size inb).toLoadRect hl) k) Q) :=
    wp_load_part (Ix := ℕ) (Name := ℕ) (U := UU) (Lvl := ℕ) (Q := Q) (bd := bd) (defs := defs) 𝒱 c (Es := Set.univ) (m := M) (r := (Rect.unit (s := S4096x256) ![0, 0] S4096x256.size inb)) (hl := hl) (k := k) (q := q) (X := X)
  rw [e] at h
  exact h
theorem stW {e : EltTy} {M : Memref sig .tc .vmem S4096x256 e} {inb : ∀ a, (![0, 0] : Fin 2 → ℕ) a + S4096x256.size a ≤ S4096x256.size a}
    {w : S4096x256.Idx → Elt F e} {hx : (M.access (Rect.unit (s := S4096x256) ![0, 0] S4096x256.size inb)).Stores Finset.univ}
    {hm : Finset.univ = Finset.univ ∨ ∀ a, (Rect.unit (s := S4096x256) ![0, 0] S4096x256.size inb).stride a = 1}
    {k : PUnit → Prog (TpuEff nD τ sig (Elt F) Λ .tc) α} {X : S4096x256.Idx → Elt F e} :
    (ownsTc c M fullShare X : sProp (MM F))
      ⊢ iprop((ownsTc c M fullShare w -∗ wp frame (wpE defs 𝒱 (c : Thread nD τ) bd) Set.univ (k ⟨⟩) Q)
        -∗ wp frame (wpE defs 𝒱 (c : Thread nD τ) bd) Set.univ (.op (.store M (Rect.unit (s := S4096x256) ![0, 0] S4096x256.size inb) w Finset.univ hx hm) k) Q) :=
  wp_store_full (Ix := ℕ) (Name := ℕ) (U := UU) (Lvl := ℕ) (Q := Q) (bd := bd) (defs := defs) 𝒱 c (Es := Set.univ) (m := M) (r := (Rect.unit (s := S4096x256) ![0, 0] S4096x256.size inb)) (w := w) (hx := hx) (hm := hm) (k := k) (X := X) w (fun x => x) (fun x => emb_full x inb) (fun _ => rfl)
/-- A load of some rows of the left operand. -/
theorem ldA {e : EltTy} {M : Memref sig .tc .vmem S2048x4096 e} {off off' : Fin 2 → ℕ} (h : off = off') {inb : ∀ a, off a + S512x4096.size a ≤ S2048x4096.size a}
    (inb' : ∀ a, off' a + S512x4096.size a ≤ S2048x4096.size a)
    {hl : M.view.LoadsAt (Rect.unit (s := S2048x4096) off S512x4096.size inb).toLoadRect} {k : (S512x4096.Idx → Elt F e) → Prog (TpuEff nD τ sig (Elt F) Λ .tc) α}
    {q : PosShare TreeShare} {X : S2048x4096.Idx → Elt F e} :
    (ownsTc c M q X : sProp (MM F))
      ⊢ iprop((ownsTc c M q X -∗ wp frame (wpE defs 𝒱 (c : Thread nD τ) bd) Set.univ (k fun x => X ((Rect.unit (s := S2048x4096) off' S512x4096.size inb').emb x)) Q)
        -∗ wp frame (wpE defs 𝒱 (c : Thread nD τ) bd) Set.univ (.op (.load M (Rect.unit (s := S2048x4096) off S512x4096.size inb).toLoadRect hl) k) Q) := by
  subst h
  exact wp_load_part (Ix := ℕ) (Name := ℕ) (U := UU) (Lvl := ℕ) (Q := Q) (bd := bd) (defs := defs) 𝒱 c (Es := Set.univ) (m := M) (r := Rect.unit (s := S2048x4096) off S512x4096.size inb) (hl := hl) (k := k) (q := q) (X := X)

end Cert.KernelIdeal.Kern
-- ==== Proof.Offsets.lean ====
/- The offsets, semaphore numbers, device numbers and conditions of the kernel's body in closed form: they are functions of
   the grid step and the device, checked at each of the nineteen steps and sixteen devices. -/
module

public import proofs.«01_k».proof.Proof.Protocol

@[expose] public section

set_option maxRecDepth 100000

noncomputable section

namespace Cert.KernelIdeal.Kern

open Cert.KernelIdeal Cert.KernelIdeal.Gen
open Idealize.ShloMosaic

/-- The coordinates of grid step `n`. -/
def co (n : Fin 19) : grid0.Coords := fun a => ⟨n.val, by fin_cases a; exact n.isLt⟩

theorem co_eq (i : grid0.Coords) : ∃ n : Fin 19, i = co n ∧ (i 0).val = n.val :=
  ⟨⟨(i 0).val, (i 0).isLt⟩, funext fun a => by fin_cases a; rfl, rfl⟩

theorem cond1 (i : grid0.Coords) : k0_cond1 i = 1#1 ↔ (i 0).val = 0 := by
  have key : ∀ m : Fin 19, k0_cond1 (co m) = 1#1 ↔ m.val = 0 := by decide +kernel
  obtain ⟨m, rfl, hm⟩ := co_eq i
  rw [hm]; exact key m
theorem cond2 (i : grid0.Coords) : k0_cond2 i = 1#1 ↔ 4 ≤ (i 0).val ∧ (i 0).val < 16 := by
  have key : ∀ m : Fin 19, k0_cond2 (co m) = 1#1 ↔ 4 ≤ m.val ∧ m.val < 16 := by decide +kernel
  obtain ⟨m, rfl, hm⟩ := co_eq i
  rw [hm]; exact key m
theorem cond3 (i : grid0.Coords) : k0_cond3 i = 1#1 ↔ (i 0).val < 16 := by
  have key : ∀ m : Fin 19, k0_cond3 (co m) = 1#1 ↔ m.val < 16 := by decide +kernel
  obtain ⟨m, rfl, hm⟩ := co_eq i
  rw [hm]; exact key m
theorem cond4 (i : grid0.Coords) : k0_cond4 i = 1#1 ↔ 1 ≤ (i 0).val ∧ (i 0).val ≤ 16 := by
  have key : ∀ m : Fin 19, k0_cond4 (co m) = 1#1 ↔ 1 ≤ m.val ∧ m.val ≤ 16 := by decide +kernel
  obtain ⟨m, rfl, hm⟩ := co_eq i
  rw [hm]; exact key m
theorem cond5 (i : grid0.Coords) : k0_cond5 i = 1#1 ↔ 3 ≤ (i 0).val := by
  have key : ∀ m : Fin 19, k0_cond5 (co m) = 1#1 ↔ 3 ≤ m.val := by decide +kernel
  obtain ⟨m, rfl, hm⟩ := co_eq i
  rw [hm]; exact key m
theorem cond6 (i : grid0.Coords) : k0_cond6 i = 1#1 ↔ 5 ≤ (i 0).val := by
  have key : ∀ m : Fin 19, k0_cond6 (co m) = 1#1 ↔ 5 ≤ m.val := by decide +kernel
  obtain ⟨m, rfl, hm⟩ := co_eq i
  rw [hm]; exact key m
theorem cond7 (i : grid0.Coords) : k0_cond7 i = 1#1 ↔ (i 0).val < 16 := by
  have key : ∀ m : Fin 19, k0_cond7 (co m) = 1#1 ↔ m.val < 16 := by decide +kernel
  obtain ⟨m, rfl, hm⟩ := co_eq i
  rw [hm]; exact key m
theorem cond8 (i : grid0.Coords) : k0_cond8 i = 1#1 ↔ 2 ≤ (i 0).val ∧ (i 0).val ≤ 17 := by
  have key : ∀ m : Fin 19, k0_cond8 (co m) = 1#1 ↔ 2 ≤ m.val ∧ m.val ≤ 17 := by decide +kernel
  obtain ⟨m, rfl, hm⟩ := co_eq i
  rw [hm]; exact key m
theorem cond9 (i : grid0.Coords) : k0_cond9 i = 1#1 ↔ 4 ≤ (i 0).val := by
  have key : ∀ m : Fin 19, k0_cond9 (co m) = 1#1 ↔ 4 ≤ m.val := by decide +kernel
  obtain ⟨m, rfl, hm⟩ := co_eq i
  rw [hm]; exact key m
theorem cond10 (i : grid0.Coords) : k0_cond10 i = 1#1 ↔ 4 ≤ (i 0).val := by
  have key : ∀ m : Fin 19, k0_cond10 (co m) = 1#1 ↔ 4 ≤ m.val := by decide +kernel
  obtain ⟨m, rfl, hm⟩ := co_eq i
  rw [hm]; exact key m
theorem cond11 (i : grid0.Coords) : k0_cond11 i = 1#1 ↔ 2 ≤ (i 0).val ∧ (i 0).val ≤ 17 := by
  have key : ∀ m : Fin 19, k0_cond11 (co m) = 1#1 ↔ 2 ≤ m.val ∧ m.val ≤ 17 := by decide +kernel
  obtain ⟨m, rfl, hm⟩ := co_eq i
  rw [hm]; exact key m
theorem cond12 (i : grid0.Coords) : k0_cond12 i = 1#1 ↔ 4 ≤ (i 0).val := by
  have key : ∀ m : Fin 19, k0_cond12 (co m) = 1#1 ↔ 4 ≤ m.val := by decide +kernel
  obtain ⟨m, rfl, hm⟩ := co_eq i
  rw [hm]; exact key m
theorem cond13 (i : grid0.Coords) : k0_cond13 i = 1#1 ↔ 3 ≤ (i 0).val ∧ (i 0).val ≤ 18 := by
  have key : ∀ m : Fin 19, k0_cond13 (co m) = 1#1 ↔ 3 ≤ m.val ∧ m.val ≤ 18 := by decide +kernel
  obtain ⟨m, rfl, hm⟩ := co_eq i
  rw [hm]; exact key m
theorem cond14 (i : grid0.Coords) : k0_cond14 i = 1#1 ↔ 5 ≤ (i 0).val := by
  have key : ∀ m : Fin 19, k0_cond14 (co m) = 1#1 ↔ 5 ≤ m.val := by decide +kernel
  obtain ⟨m, rfl, hm⟩ := co_eq i
  rw [hm]; exact key m
theorem cond15 (i : grid0.Coords) : k0_cond15 i = 1#1 ↔ (i 0).val = 18 := by
  have key : ∀ m : Fin 19, k0_cond15 (co m) = 1#1 ↔ m.val = 18 := by decide +kernel
  obtain ⟨m, rfl, hm⟩ := co_eq i
  rw [hm]; exact key m
theorem off1 (i : grid0.Coords) (h : k0_cond2 i = 1#1) : k0_off1 i = ![((i 0).val - 4) % 4] := by
  have key : ∀ m : Fin 19, k0_cond2 (co m) = 1#1 → k0_off1 (co m) = (![(m.val - 4) % 4] : (Fin 1 → ℕ)) := by decide +kernel
  obtain ⟨m, rfl, hm⟩ := co_eq i
  rw [hm]; exact key m h
theorem off5 (i : grid0.Coords) (h : k0_cond3 i = 1#1) : k0_off5 i = ![(i 0).val % 4] := by
  have key : ∀ m : Fin 19, k0_cond3 (co m) = 1#1 → k0_off5 (co m) = (![m.val % 4] : (Fin 1 → ℕ)) := by decide +kernel
  obtain ⟨m, rfl, hm⟩ := co_eq i
  rw [hm]; exact key m h
theorem off7 (i : grid0.Coords) (h : k0_cond4 i = 1#1) : k0_off7 i = ![((i 0).val - 1) % 4] := by
  have key : ∀ m : Fin 19, k0_cond4 (co m) = 1#1 → k0_off7 (co m) = (![(m.val - 1) % 4] : (Fin 1 → ℕ)) := by decide +kernel
  obtain ⟨m, rfl, hm⟩ := co_eq i
  rw [hm]; exact key m h
theorem off9 (i : grid0.Coords) (h : k0_cond5 i = 1#1) : k0_off9 i = ![((i 0).val - 3) % 2] := by
  have key : ∀ m : Fin 19, k0_cond5 (co m) = 1#1 → k0_off9 (co m) = (![(m.val - 3) % 2] : (Fin 1 → ℕ)) := by decide +kernel
  obtain ⟨m, rfl, hm⟩ := co_eq i
  rw [hm]; exact key m h
theorem off12 (i : grid0.Coords) (h : k0_cond6 i = 1#1) : k0_off12 i = ![((i 0).val - 5) % 4] := by
  have key : ∀ m : Fin 19, k0_cond6 (co m) = 1#1 → k0_off12 (co m) = (![(m.val - 5) % 4] : (Fin 1 → ℕ)) := by decide +kernel
  obtain ⟨m, rfl, hm⟩ := co_eq i
  rw [hm]; exact key m h
theorem off16 (i : grid0.Coords) (h : k0_cond4 i = 1#1) : k0_off16 i = ![((i 0).val - 1) % 2] := by
  have key : ∀ m : Fin 19, k0_cond4 (co m) = 1#1 → k0_off16 (co m) = (![(m.val - 1) % 2] : (Fin 1 → ℕ)) := by decide +kernel
  obtain ⟨m, rfl, hm⟩ := co_eq i
  rw [hm]; exact key m h
theorem off21 (i : grid0.Coords) (h : k0_cond8 i = 1#1) : k0_off21 i = ![((i 0).val - 2) % 4] := by
  have key : ∀ m : Fin 19, k0_cond8 (co m) = 1#1 → k0_off21 (co m) = (![(m.val - 2) % 4] : (Fin 1 → ℕ)) := by decide +kernel
  obtain ⟨m, rfl, hm⟩ := co_eq i
  rw [hm]; exact key m h
theorem off23 (i : grid0.Coords) (h : k0_cond9 i = 1#1) : k0_off23 i = ![((i 0).val - 4) % 4] := by
  have key : ∀ m : Fin 19, k0_cond9 (co m) = 1#1 → k0_off23 (co m) = (![(m.val - 4) % 4] : (Fin 1 → ℕ)) := by decide +kernel
  obtain ⟨m, rfl, hm⟩ := co_eq i
  rw [hm]; exact key m h
theorem off26 (i : grid0.Coords) (h : k0_cond10 i = 1#1) : k0_off26 i = ![((i 0).val - 4) % 2] := by
  have key : ∀ m : Fin 19, k0_cond10 (co m) = 1#1 → k0_off26 (co m) = (![(m.val - 4) % 2] : (Fin 1 → ℕ)) := by decide +kernel
  obtain ⟨m, rfl, hm⟩ := co_eq i
  rw [hm]; exact key m h
theorem off32 (i : grid0.Coords) (h : k0_cond8 i = 1#1) : k0_off32 i = ![((i 0).val - 2) % 2] := by
  have key : ∀ m : Fin 19, k0_cond8 (co m) = 1#1 → k0_off32 (co m) = (![(m.val - 2) % 2] : (Fin 1 → ℕ)) := by decide +kernel
  obtain ⟨m, rfl, hm⟩ := co_eq i
  rw [hm]; exact key m h
theorem off34 (i : grid0.Coords) (h : k0_cond11 i = 1#1) : k0_off34 i = ![((i 0).val - 2) % 4] := by
  have key : ∀ m : Fin 19, k0_cond11 (co m) = 1#1 → k0_off34 (co m) = (![(m.val - 2) % 4] : (Fin 1 → ℕ)) := by decide +kernel
  obtain ⟨m, rfl, hm⟩ := co_eq i
  rw [hm]; exact key m h
theorem off36 (i : grid0.Coords) (h : k0_cond12 i = 1#1) : k0_off36 i = ![((i 0).val - 4) % 2] := by
  have key : ∀ m : Fin 19, k0_cond12 (co m) = 1#1 → k0_off36 (co m) = (![(m.val - 4) % 2] : (Fin 1 → ℕ)) := by decide +kernel
  obtain ⟨m, rfl, hm⟩ := co_eq i
  rw [hm]; exact key m h
theorem off41 (i : grid0.Coords) (h : k0_cond11 i = 1#1) : k0_off41 i = ![((i 0).val - 2) % 2] := by
  have key : ∀ m : Fin 19, k0_cond11 (co m) = 1#1 → k0_off41 (co m) = (![(m.val - 2) % 2] : (Fin 1 → ℕ)) := by decide +kernel
  obtain ⟨m, rfl, hm⟩ := co_eq i
  rw [hm]; exact key m h
theorem off44 (i : grid0.Coords) (h : k0_cond13 i = 1#1) : k0_off44 i = ![((i 0).val - 3) % 4] := by
  have key : ∀ m : Fin 19, k0_cond13 (co m) = 1#1 → k0_off44 (co m) = (![(m.val - 3) % 4] : (Fin 1 → ℕ)) := by decide +kernel
  obtain ⟨m, rfl, hm⟩ := co_eq i
  rw [hm]; exact key m h
theorem off47 (i : grid0.Coords) (h : k0_cond14 i = 1#1) : k0_off47 i = ![((i 0).val - 5) % 2] := by
  have key : ∀ m : Fin 19, k0_cond14 (co m) = 1#1 → k0_off47 (co m) = (![(m.val - 5) % 2] : (Fin 1 → ℕ)) := by decide +kernel
  obtain ⟨m, rfl, hm⟩ := co_eq i
  rw [hm]; exact key m h
theorem off52 (i : grid0.Coords) (h : k0_cond13 i = 1#1) : k0_off52 i = ![((i 0).val - 3) % 2] := by
  have key : ∀ m : Fin 19, k0_cond13 (co m) = 1#1 → k0_off52 (co m) = (![(m.val - 3) % 2] : (Fin 1 → ℕ)) := by decide +kernel
  obtain ⟨m, rfl, hm⟩ := co_eq i
  rw [hm]; exact key m h
theorem off4 (i : grid0.Coords) (h : k0_cond3 i = 1#1) : k0_off4 i = ![(i 0).val % 4, 0, 0] := by
  have key : ∀ m : Fin 19, k0_cond3 (co m) = 1#1 → k0_off4 (co m) = (![m.val % 4, 0, 0] : (Fin 3 → ℕ)) := by decide +kernel
  obtain ⟨m, rfl, hm⟩ := co_eq i
  rw [hm]; exact key m h
theorem off6 (i : grid0.Coords) (h : k0_cond3 i = 1#1) : k0_off6 i = ![(i 0).val % 4, 0, 0] := by
  have key : ∀ m : Fin 19, k0_cond3 (co m) = 1#1 → k0_off6 (co m) = (![m.val % 4, 0, 0] : (Fin 3 → ℕ)) := by decide +kernel
  obtain ⟨m, rfl, hm⟩ := co_eq i
  rw [hm]; exact key m h
theorem off8 (i : grid0.Coords) (h : k0_cond4 i = 1#1) : k0_off8 i = ![((i 0).val - 1) % 4, 0, 0] := by
  have key : ∀ m : Fin 19, k0_cond4 (co m) = 1#1 → k0_off8 (co m) = (![(m.val - 1) % 4, 0, 0] : (Fin 3 → ℕ)) := by decide +kernel
  obtain ⟨m, rfl, hm⟩ := co_eq i
  rw [hm]; exact key m h
theorem off14 (i : grid0.Coords) (h : k0_cond4 i = 1#1) : k0_off14 i = ![((i 0).val - 1) % 2, 0, 0] := by
  have key : ∀ m : Fin 19, k0_cond4 (co m) = 1#1 → k0_off14 (co m) = (![(m.val - 1) % 2, 0, 0] : (Fin 3 → ℕ)) := by decide +kernel
  obtain ⟨m, rfl, hm⟩ := co_eq i
  rw [hm]; exact key m h
theorem off15 (i : grid0.Coords) (h : k0_cond4 i = 1#1) : k0_off15 i = ![((i 0).val - 1) % 4, 0, 0] := by
  have key : ∀ m : Fin 19, k0_cond4 (co m) = 1#1 → k0_off15 (co m) = (![(m.val - 1) % 4, 0, 0] : (Fin 3 → ℕ)) := by decide +kernel
  obtain ⟨m, rfl, hm⟩ := co_eq i
  rw [hm]; exact key m h
theorem off18 (i : grid0.Coords) (h : k0_cond4 i = 1#1) : k0_off18 i = ![((i 0).val - 1) % 2, 0, 0] := by
  have key : ∀ m : Fin 19, k0_cond4 (co m) = 1#1 → k0_off18 (co m) = (![(m.val - 1) % 2, 0, 0] : (Fin 3 → ℕ)) := by decide +kernel
  obtain ⟨m, rfl, hm⟩ := co_eq i
  rw [hm]; exact key m h
theorem off20 (i : grid0.Coords) (h : k0_cond7 i = 1#1) : k0_off20 i = ![(i 0).val % 2, 0, 0] := by
  have key : ∀ m : Fin 19, k0_cond7 (co m) = 1#1 → k0_off20 (co m) = (![m.val % 2, 0, 0] : (Fin 3 → ℕ)) := by decide +kernel
  obtain ⟨m, rfl, hm⟩ := co_eq i
  rw [hm]; exact key m h
theorem off22 (i : grid0.Coords) (h : k0_cond8 i = 1#1) : k0_off22 i = ![((i 0).val - 2) % 4, 0, 0] := by
  have key : ∀ m : Fin 19, k0_cond8 (co m) = 1#1 → k0_off22 (co m) = (![(m.val - 2) % 4, 0, 0] : (Fin 3 → ℕ)) := by decide +kernel
  obtain ⟨m, rfl, hm⟩ := co_eq i
  rw [hm]; exact key m h
theorem off29 (i : grid0.Coords) (h : k0_cond8 i = 1#1) : k0_off29 i = ![((i 0).val - 2) % 4, 0, 0] := by
  have key : ∀ m : Fin 19, k0_cond8 (co m) = 1#1 → k0_off29 (co m) = (![(m.val - 2) % 4, 0, 0] : (Fin 3 → ℕ)) := by decide +kernel
  obtain ⟨m, rfl, hm⟩ := co_eq i
  rw [hm]; exact key m h
theorem off30 (i : grid0.Coords) (h : k0_cond8 i = 1#1) : k0_off30 i = ![((i 0).val - 2) % 2, 0, 0] := by
  have key : ∀ m : Fin 19, k0_cond8 (co m) = 1#1 → k0_off30 (co m) = (![(m.val - 2) % 2, 0, 0] : (Fin 3 → ℕ)) := by decide +kernel
  obtain ⟨m, rfl, hm⟩ := co_eq i
  rw [hm]; exact key m h
theorem off31 (i : grid0.Coords) (h : k0_cond8 i = 1#1) : k0_off31 i = ![((i 0).val - 2) % 2, 0, 0] := by
  have key : ∀ m : Fin 19, k0_cond8 (co m) = 1#1 → k0_off31 (co m) = (![(m.val - 2) % 2, 0, 0] : (Fin 3 → ℕ)) := by decide +kernel
  obtain ⟨m, rfl, hm⟩ := co_eq i
  rw [hm]; exact key m h
theorem off39 (i : grid0.Coords) (h : k0_cond11 i = 1#1) : k0_off39 i = ![((i 0).val - 2) % 4, 0, 0] := by
  have key : ∀ m : Fin 19, k0_cond11 (co m) = 1#1 → k0_off39 (co m) = (![(m.val - 2) % 4, 0, 0] : (Fin 3 → ℕ)) := by decide +kernel
  obtain ⟨m, rfl, hm⟩ := co_eq i
  rw [hm]; exact key m h
theorem off40 (i : grid0.Coords) (h : k0_cond11 i = 1#1) : k0_off40 i = ![((i 0).val - 2) % 2, 0, 0] := by
  have key : ∀ m : Fin 19, k0_cond11 (co m) = 1#1 → k0_off40 (co m) = (![(m.val - 2) % 2, 0, 0] : (Fin 3 → ℕ)) := by decide +kernel
  obtain ⟨m, rfl, hm⟩ := co_eq i
  rw [hm]; exact key m h
theorem off43 (i : grid0.Coords) (h : k0_cond11 i = 1#1) : k0_off43 i = ![((i 0).val - 2) % 2, 0, 0] := by
  have key : ∀ m : Fin 19, k0_cond11 (co m) = 1#1 → k0_off43 (co m) = (![(m.val - 2) % 2, 0, 0] : (Fin 3 → ℕ)) := by decide +kernel
  obtain ⟨m, rfl, hm⟩ := co_eq i
  rw [hm]; exact key m h
theorem off46 (i : grid0.Coords) (h : k0_cond13 i = 1#1) : k0_off46 i = ![((i 0).val - 3) % 2, 0, 0] := by
  have key : ∀ m : Fin 19, k0_cond13 (co m) = 1#1 → k0_off46 (co m) = (![(m.val - 3) % 2, 0, 0] : (Fin 3 → ℕ)) := by decide +kernel
  obtain ⟨m, rfl, hm⟩ := co_eq i
  rw [hm]; exact key m h
theorem off50 (i : grid0.Coords) (h : k0_cond13 i = 1#1) : k0_off50 i = ![((i 0).val - 3) % 4, 0, 0] := by
  have key : ∀ m : Fin 19, k0_cond13 (co m) = 1#1 → k0_off50 (co m) = (![(m.val - 3) % 4, 0, 0] : (Fin 3 → ℕ)) := by decide +kernel
  obtain ⟨m, rfl, hm⟩ := co_eq i
  rw [hm]; exact key m h
theorem off51 (i : grid0.Coords) (h : k0_cond13 i = 1#1) : k0_off51 i = ![((i 0).val - 3) % 2, 0, 0] := by
  have key : ∀ m : Fin 19, k0_cond13 (co m) = 1#1 → k0_off51 (co m) = (![(m.val - 3) % 2, 0, 0] : (Fin 3 → ℕ)) := by decide +kernel
  obtain ⟨m, rfl, hm⟩ := co_eq i
  rw [hm]; exact key m h
theorem off3 (d : Dev nD) : k0_off3 d = ![(1 - py d) * 1024 + pz d * 512, 0] := by
  revert d; decide +kernel
theorem off19 (d : Dev nD) : k0_off19 d = ![py d * 1024 + pz d * 512, 0] := by
  revert d; decide +kernel
theorem off17 (i : grid0.Coords) (d : Dev nD) (h : k0_cond4 i = 1#1) : k0_off17 i d = ![0, outRow 0 d, outCol 0 d ((i 0).val - 1)] := by
  have key : ∀ m : Fin 19, ∀ d : Dev nD, k0_cond4 (co m) = 1#1 → k0_off17 (co m) d = (![0, outRow 0 d, outCol 0 d (m.val - 1)] : Fin 3 → ℕ) := by decide +kernel
  obtain ⟨m, rfl, hm⟩ := co_eq i
  rw [hm]; exact key m d h
theorem off33 (i : grid0.Coords) (d : Dev nD) (h : k0_cond8 i = 1#1) : k0_off33 i d = ![0, outRow 1 d, outCol 1 d ((i 0).val - 2)] := by
  have key : ∀ m : Fin 19, ∀ d : Dev nD, k0_cond8 (co m) = 1#1 → k0_off33 (co m) d = (![0, outRow 1 d, outCol 1 d (m.val - 2)] : Fin 3 → ℕ) := by decide +kernel
  obtain ⟨m, rfl, hm⟩ := co_eq i
  rw [hm]; exact key m d h
theorem off42 (i : grid0.Coords) (d : Dev nD) (h : k0_cond11 i = 1#1) : k0_off42 i d = ![0, outRow 2 d, outCol 2 d ((i 0).val - 2)] := by
  have key : ∀ m : Fin 19, ∀ d : Dev nD, k0_cond11 (co m) = 1#1 → k0_off42 (co m) d = (![0, outRow 2 d, outCol 2 d (m.val - 2)] : Fin 3 → ℕ) := by decide +kernel
  obtain ⟨m, rfl, hm⟩ := co_eq i
  rw [hm]; exact key m d h
theorem off53 (i : grid0.Coords) (d : Dev nD) (h : k0_cond13 i = 1#1) : k0_off53 i d = ![0, outRow 3 d, outCol 3 d ((i 0).val - 3)] := by
  have key : ∀ m : Fin 19, ∀ d : Dev nD, k0_cond13 (co m) = 1#1 → k0_off53 (co m) d = (![0, outRow 3 d, outCol 3 d (m.val - 3)] : Fin 3 → ℕ) := by decide +kernel
  obtain ⟨m, rfl, hm⟩ := co_eq i
  rw [hm]; exact key m d h
theorem dev1 (d : Dev nD) : k0_dev1 d = (peer 0 d).val := by
  revert d; decide +kernel
theorem dev2 (d : Dev nD) : k0_dev2 d = (peer 1 d).val := by
  revert d; decide +kernel
theorem dev3 (d : Dev nD) : k0_dev3 d = (peer 2 d).val := by
  revert d; decide +kernel
theorem dev4 (d : Dev nD) : k0_dev4 d = (peer 0 d).val := by
  revert d; decide +kernel
theorem dev5 (d : Dev nD) : k0_dev5 d = (peer 1 d).val := by
  revert d; decide +kernel
theorem dev6 (d : Dev nD) : k0_dev6 d = (peer 2 d).val := by
  revert d; decide +kernel
theorem dev7 (d : Dev nD) : k0_dev7 d = (peer 3 d).val := by
  revert d; decide +kernel

end Cert.KernelIdeal.Kern
-- ==== Proof.Blocks.lean ====
/- The kernel's body cut into its conditional blocks, each with what follows it as a continuation, over the kernel's own
   buffers: the printed body is these blocks one after the other. -/
module

public import proofs.«01_k».proof.Proof.Protocol

@[expose] public section

set_option maxRecDepth 65536

noncomputable section

namespace Cert.KernelIdeal.Kern

open Cert.KernelIdeal Cert.KernelIdeal.Gen
open Idealize.ShloMosaic Idealize.SL.Sem

variable {F : FTy → Type} [FloatOps F] {α : Type}

/-- The body's block under condition 1, what follows it as a continuation. -/
def blk1 (i : grid0.Coords) (d0 : Dev nD) (k : PUnit.{1} → Prog (TpuEff nD τ sig (Elt F) Λ₀ .tc) α) : Prog (TpuEff nD τ sig (Elt F) Λ₀ .tc) α :=
  if k0_h1 : k0_cond1 i = 1#1 then do
    let v70 : Sems sig S_ := SemArray.scalar (sig.barrier 0 rfl)
    semSignalWord (⟨k0_dev1 d0, k0_dev1_lt i d0 k0_h1⟩ : Dev nD) v70.sem 1#32
    semSignalWord (⟨k0_dev2 d0, k0_dev2_lt i d0 k0_h1⟩ : Dev nD) v70.sem 1#32
    semSignalWord (⟨k0_dev3 d0, k0_dev3_lt i d0 k0_h1⟩ : Dev nD) v70.sem 1#32
    semWaitWord v70.sem 3#32
    k ⟨⟩
  else k ⟨⟩

/-- The body's block under condition 2, what follows it as a continuation. -/
def blk2 (i : grid0.Coords) (k : PUnit.{1} → Prog (TpuEff nD τ sig (Elt F) Λ₀ .tc) α) : Prog (TpuEff nD τ sig (Elt F) Λ₀ .tc) α :=
  if k0_h2 : k0_cond2 i = 1#1 then do
    let v80 : DmaSems sig S1 := cc0_scratch13.slice (Rect.unit (s := S4) (k0_off1 i) S1.size (k0_off1_inb i k0_h2))
    let v81 : DmaSems sig S_ := v80.squeeze S_ squeezes_S1_S_
    let v82 : Memref sig .tc .vmem S1x512x256 .bf16 := bYsend.slice (Rect.unit (s := S4x512x256) (k0_off2 i) S1x512x256.size (k0_off2_inb i k0_h2)) (fun _ => rfl)
    let v83 : Memref sig .tc .vmem S512x256 .bf16 := v82.squeeze S512x256 squeezes_S1x512x256_S512x256
    let v84 : Memref sig .tc .vmem S1x512x256 .bf16 := bYrecv.slice (Rect.unit (s := S4x512x256) (k0_off2 i) S1x512x256.size (k0_off2_inb i k0_h2)) (fun _ => rfl)
    let v85 : Memref sig .tc .vmem S512x256 .bf16 := v84.squeeze S512x256 squeezes_S1x512x256_S512x256
    Prog.lift (.waitDma2 v81.sem v85 v83 (((Memref.isWhole_whole _).wordExact_slice rfl _ (k0_off2_wordsbf16 i k0_h2)).reshape _ _) (((Memref.isWhole_whole _).wordExact_slice rfl _ (k0_off2_wordsbf16 i k0_h2)).reshape _ _))
    k ⟨⟩
  else k ⟨⟩

/-- The body's block under condition 3, what follows it as a continuation. -/
def blk3 (i : grid0.Coords) (arg2 : Memref sig .tc .vmem S2048x4096 .bf16) (harg2 : arg2.IsWhole) (arg3 : Memref sig .tc .vmem S4096x256 .f32) (harg3 : arg3.IsWhole) (d0 : Dev nD) (k : PUnit.{1} → Prog (TpuEff nD τ sig (Elt F) Λ₀ .tc) α) : Prog (TpuEff nD τ sig (Elt F) Λ₀ .tc) α :=
  if k0_h3 : k0_cond3 i = 1#1 then do
    let v70 : Vec F S4096x256 .f32 ← Prog.lift (.load arg3 (Rect.unit (s := S4096x256) ![0, 0] S4096x256.size inb_S4096x256_S4096x256_0_0).toLoadRect (View.loadsAt_vmem h_S4096x256))
    let v73 : Vec F S4096x256 .bf16 ← Prog.lift (.load bWb (Rect.unit (s := S4096x256) ![0, 0] S4096x256.size inb_S4096x256_S4096x256_0_0).toLoadRect (View.loadsAt_vmem h_S4096x256))
    Prog.lift (.store bWb (Rect.unit (s := S4096x256) ![0, 0] S4096x256.size inb_S4096x256_S4096x256_0_0) (k0_pay2 v70) Finset.univ (View.stores_vmem h_S4096x256 ((Memref.isWhole_whole _).storeExact_slice rfl _ packedbf16_S4096x256_S4096x256_0_0) (fun _ => rfl)) (.inl rfl))
    let v79 : Vec F S512x4096 .bf16 ← Prog.lift (.load arg2 (Rect.unit (s := S2048x4096) (k0_off3 d0) S512x4096.size (k0_off3_inb i d0 k0_h3)).toLoadRect (View.loadsAt_vmem h_S512x4096))
    let v81 : Vec F S4096x256 .bf16 ← Prog.lift (.load bWb (Rect.unit (s := S4096x256) ![0, 0] S4096x256.size inb_S4096x256_S4096x256_0_0).toLoadRect (View.loadsAt_vmem h_S4096x256))
    let v95 : Vec F S1x512x256 .bf16 ← Prog.lift (.load bYsend (Rect.unit (s := S4x512x256) (k0_off4 i) S1x512x256.size (k0_off4_inb i k0_h3)).toLoadRect (View.loadsAt_vmem h_S1x512x256))
    Prog.lift (.store bYsend (Rect.unit (s := S4x512x256) (k0_off4 i) S1x512x256.size (k0_off4_inb i k0_h3)) (k0_pay3 v79 v81) Finset.univ (View.stores_vmem h_S1x512x256 ((Memref.isWhole_whole _).storeExact_slice rfl _ (k0_off4_packedbf16 i k0_h3)) (fun _ => rfl)) (.inl rfl))
    let v114 : DmaSems sig S1 := cc0_scratch13.slice (Rect.unit (s := S4) (k0_off5 i) S1.size (k0_off5_inb i k0_h3))
    let v115 : DmaSems sig S_ := v114.squeeze S_ squeezes_S1_S_
    let v116 : DmaSems sig S1 := cc0_scratch14.slice (Rect.unit (s := S4) (k0_off5 i) S1.size (k0_off5_inb i k0_h3))
    let v117 : DmaSems sig S_ := v116.squeeze S_ squeezes_S1_S_
    let v118 : Memref sig .tc .vmem S1x512x256 .bf16 := bYrecv.slice (Rect.unit (s := S4x512x256) (k0_off6 i) S1x512x256.size (k0_off6_inb i k0_h3)) (fun _ => rfl)
    let v119 : Memref sig .tc .vmem S512x256 .bf16 := v118.squeeze S512x256 squeezes_S1x512x256_S512x256
    let v120 : Memref sig .tc .vmem S1x512x256 .bf16 := bYsend.slice (Rect.unit (s := S4x512x256) (k0_off6 i) S1x512x256.size (k0_off6_inb i k0_h3)) (fun _ => rfl)
    let v121 : Memref sig .tc .vmem S512x256 .bf16 := v120.squeeze S512x256 squeezes_S1x512x256_S512x256
    Prog.lift (.enqueueDma v121 (.remote (Dev.tc (⟨k0_dev4 d0, k0_dev4_lt i d0 k0_h3⟩ : Dev nD)) v119 (.dma v115.sem)) (.dma v117.sem) (((Memref.isWhole_whole _).wordExact_slice rfl _ (k0_off6_wordsbf16 i k0_h3)).reshape _ _) (((Memref.isWhole_whole _).wordExact_slice rfl _ (k0_off6_wordsbf16 i k0_h3)).reshape _ _) ⟨⟨rfl, Or.inl rfl⟩, trivial⟩)
    k ⟨⟩
  else k ⟨⟩

/-- What the block under condition 4 does after its computing half. -/
def blk4b (i : grid0.Coords) (d0 : Dev nD) (k0_h4 : k0_cond4 i = 1#1) (k : PUnit.{1} → Prog (TpuEff nD τ sig (Elt F) Λ₀ .tc) α) : Prog (TpuEff nD τ sig (Elt F) Λ₀ .tc) α := do
  let v147 : DmaSems sig S1 := cc0_scratch17.slice (Rect.unit (s := S4) (k0_off7 i) S1.size (k0_off7_inb i k0_h4))
  let v148 : DmaSems sig S_ := v147.squeeze S_ squeezes_S1_S_
  let v149 : DmaSems sig S1 := cc0_scratch18.slice (Rect.unit (s := S4) (k0_off7 i) S1.size (k0_off7_inb i k0_h4))
  let v150 : DmaSems sig S_ := v149.squeeze S_ squeezes_S1_S_
  let v151 : Memref sig .tc .vmem S1x512x256 .bf16 := bZrecva.slice (Rect.unit (s := S4x512x256) (k0_off8 i) S1x512x256.size (k0_off8_inb i k0_h4)) (fun _ => rfl)
  let v152 : Memref sig .tc .vmem S512x256 .bf16 := v151.squeeze S512x256 squeezes_S1x512x256_S512x256
  let v153 : Memref sig .tc .vmem S1x512x256 .bf16 := bSumbf.slice (Rect.unit (s := S4x512x256) (k0_off8 i) S1x512x256.size (k0_off8_inb i k0_h4)) (fun _ => rfl)
  let v154 : Memref sig .tc .vmem S512x256 .bf16 := v153.squeeze S512x256 squeezes_S1x512x256_S512x256
  Prog.lift (.enqueueDma v154 (.remote (Dev.tc (⟨k0_dev6 d0, k0_dev6_lt i d0 k0_h4⟩ : Dev nD)) v152 (.dma v148.sem)) (.dma v150.sem) (((Memref.isWhole_whole _).wordExact_slice rfl _ (k0_off8_wordsbf16 i k0_h4)).reshape _ _) (((Memref.isWhole_whole _).wordExact_slice rfl _ (k0_off8_wordsbf16 i k0_h4)).reshape _ _) ⟨⟨rfl, Or.inl rfl⟩, trivial⟩)
  let v157 : DmaSems sig S1 := cc0_scratch21.slice (Rect.unit (s := S2) (k0_off16 i) S1.size (k0_off16_inb i k0_h4))
  let v158 : DmaSems sig S_ := v157.squeeze S_ squeezes_S1_S_
  let v159 : Memref sig .tc .hbm S1x512x256 .f32 := bOut.slice (Rect.unit (s := S1x1024x8192) (k0_off17 i d0) S1x512x256.size (k0_off17_inb i d0 k0_h4)) (fun _ => rfl)
  let v160 : Memref sig .tc .hbm S512x256 .f32 := v159.squeeze S512x256 squeezes_S1x512x256_S512x256
  let v161 : Memref sig .tc .vmem S1x512x256 .f32 := bSum.slice (Rect.unit (s := S2x512x256) (k0_off18 i) S1x512x256.size (k0_off18_inb i k0_h4)) (fun _ => rfl)
  let v162 : Memref sig .tc .vmem S512x256 .f32 := v161.squeeze S512x256 squeezes_S1x512x256_S512x256
  Prog.lift (.enqueueDma v162 (.here v160) (.dma v158.sem) ((View.wordExact_bits rfl).reshape _ _) ((View.wordExact_bits rfl).reshape _ _) ⟨Or.inl rfl, trivial⟩)
  k ⟨⟩

/-- The body's block under condition 4, what follows it as a continuation. -/
def blk4 (i : grid0.Coords) (d0 : Dev nD) (q3 : k0_cond4 i = 1#1 → Prog (TpuEff nD τ sig (Elt F) Λ₀ .tc) (BitVec 32)) (k : PUnit.{1} → Prog (TpuEff nD τ sig (Elt F) Λ₀ .tc) α) : Prog (TpuEff nD τ sig (Elt F) Λ₀ .tc) α :=
  if k0_h4 : k0_cond4 i = 1#1 then
    let v97 : DmaSems sig S1 := cc0_scratch14.slice (Rect.unit (s := S4) (k0_off7 i) S1.size (k0_off7_inb i k0_h4))
    let v98 : DmaSems sig S_ := v97.squeeze S_ squeezes_S1_S_
    let v99 : Memref sig .tc .vmem S1x512x256 .bf16 := bYrecv.slice (Rect.unit (s := S4x512x256) (k0_off8 i) S1x512x256.size (k0_off8_inb i k0_h4)) (fun _ => rfl)
    let v100 : Memref sig .tc .vmem S512x256 .bf16 := v99.squeeze S512x256 squeezes_S1x512x256_S512x256
    let v101 : Memref sig .tc .vmem S1x512x256 .bf16 := bYsend.slice (Rect.unit (s := S4x512x256) (k0_off8 i) S1x512x256.size (k0_off8_inb i k0_h4)) (fun _ => rfl)
    let v102 : Memref sig .tc .vmem S512x256 .bf16 := v101.squeeze S512x256 squeezes_S1x512x256_S512x256
    Prog.op (.waitDma2 v98.sem v102 v100 (((Memref.isWhole_whole _).wordExact_slice rfl _ (k0_off8_wordsbf16 i k0_h4)).reshape _ _) (((Memref.isWhole_whole _).wordExact_slice rfl _ (k0_off8_wordsbf16 i k0_h4)).reshape _ _)) fun (_ : PUnit.{1}) =>
      q3 k0_h4 >>= fun _ => blk4b i d0 k0_h4 k
  else k ⟨⟩

/-- The body's block under condition 7, what follows it as a continuation. -/
def blk7 (i : grid0.Coords) (arg2 : Memref sig .tc .vmem S2048x4096 .bf16) (harg2 : arg2.IsWhole) (d0 : Dev nD) (k : PUnit.{1} → Prog (TpuEff nD τ sig (Elt F) Λ₀ .tc) α) : Prog (TpuEff nD τ sig (Elt F) Λ₀ .tc) α :=
  if k0_h7 : k0_cond7 i = 1#1 then do
    let v73 : Vec F S512x4096 .bf16 ← Prog.lift (.load arg2 (Rect.unit (s := S2048x4096) (k0_off19 d0) S512x4096.size (k0_off19_inb i d0 k0_h7)).toLoadRect (View.loadsAt_vmem h_S512x4096))
    let v75 : Vec F S4096x256 .bf16 ← Prog.lift (.load bWb (Rect.unit (s := S4096x256) ![0, 0] S4096x256.size inb_S4096x256_S4096x256_0_0).toLoadRect (View.loadsAt_vmem h_S4096x256))
    let v89 : Vec F S1x512x256 .bf16 ← Prog.lift (.load bMine (Rect.unit (s := S2x512x256) (k0_off20 i) S1x512x256.size (k0_off20_inb i k0_h7)).toLoadRect (View.loadsAt_vmem h_S1x512x256))
    Prog.lift (.store bMine (Rect.unit (s := S2x512x256) (k0_off20 i) S1x512x256.size (k0_off20_inb i k0_h7)) (k0_pay9 v73 v75) Finset.univ (View.stores_vmem h_S1x512x256 ((Memref.isWhole_whole _).storeExact_slice rfl _ (k0_off20_packedbf16 i k0_h7)) (fun _ => rfl)) (.inl rfl))
    k ⟨⟩
  else k ⟨⟩

/-- What the block under condition 8 does after its computing half. -/
def blk8b (i : grid0.Coords) (d0 : Dev nD) (k0_h8 : k0_cond8 i = 1#1) (k : PUnit.{1} → Prog (TpuEff nD τ sig (Elt F) Λ₀ .tc) α) : Prog (TpuEff nD τ sig (Elt F) Λ₀ .tc) α := do
  let v140 : DmaSems sig S1 := cc0_scratch22.slice (Rect.unit (s := S2) (k0_off32 i) S1.size (k0_off32_inb i k0_h8))
  let v141 : DmaSems sig S_ := v140.squeeze S_ squeezes_S1_S_
  let v142 : Memref sig .tc .hbm S1x512x256 .f32 := bOut.slice (Rect.unit (s := S1x1024x8192) (k0_off33 i d0) S1x512x256.size (k0_off33_inb i d0 k0_h8)) (fun _ => rfl)
  let v143 : Memref sig .tc .hbm S512x256 .f32 := v142.squeeze S512x256 squeezes_S1x512x256_S512x256
  let v144 : Memref sig .tc .vmem S1x512x256 .f32 := bXstore.slice (Rect.unit (s := S2x512x256) (k0_off31 i) S1x512x256.size (k0_off31_inb i k0_h8)) (fun _ => rfl)
  let v145 : Memref sig .tc .vmem S512x256 .f32 := v144.squeeze S512x256 squeezes_S1x512x256_S512x256
  Prog.lift (.enqueueDma v145 (.here v143) (.dma v141.sem) ((View.wordExact_bits rfl).reshape _ _) ((View.wordExact_bits rfl).reshape _ _) ⟨Or.inl rfl, trivial⟩)
  k ⟨⟩

/-- The body's block under condition 8, what follows it as a continuation. -/
def blk8 (i : grid0.Coords) (d0 : Dev nD) (q5 : k0_cond8 i = 1#1 → Prog (TpuEff nD τ sig (Elt F) Λ₀ .tc) PUnit.{1}) (k : PUnit.{1} → Prog (TpuEff nD τ sig (Elt F) Λ₀ .tc) α) : Prog (TpuEff nD τ sig (Elt F) Λ₀ .tc) α :=
  if k0_h8 : k0_cond8 i = 1#1 then
    let v97 : DmaSems sig S1 := cc0_scratch16.slice (Rect.unit (s := S4) (k0_off21 i) S1.size (k0_off21_inb i k0_h8))
    let v98 : DmaSems sig S_ := v97.squeeze S_ squeezes_S1_S_
    let v99 : Memref sig .tc .vmem S1x512x256 .bf16 := bXrecv.slice (Rect.unit (s := S4x512x256) (k0_off22 i) S1x512x256.size (k0_off22_inb i k0_h8)) (fun _ => rfl)
    let v100 : Memref sig .tc .vmem S512x256 .bf16 := v99.squeeze S512x256 squeezes_S1x512x256_S512x256
    let v101 : Memref sig .tc .vmem S1x512x256 .bf16 := bSumbf.slice (Rect.unit (s := S4x512x256) (k0_off22 i) S1x512x256.size (k0_off22_inb i k0_h8)) (fun _ => rfl)
    let v102 : Memref sig .tc .vmem S512x256 .bf16 := v101.squeeze S512x256 squeezes_S1x512x256_S512x256
    Prog.op (.waitDma2 v98.sem v102 v100 (((Memref.isWhole_whole _).wordExact_slice rfl _ (k0_off22_wordsbf16 i k0_h8)).reshape _ _) (((Memref.isWhole_whole _).wordExact_slice rfl _ (k0_off22_wordsbf16 i k0_h8)).reshape _ _)) fun (_ : PUnit.{1}) =>
      q5 k0_h8 >>= fun _ => blk8b i d0 k0_h8 k
  else k ⟨⟩

/-- The body's block under condition 12, what follows it as a continuation. -/
def blk12 (i : grid0.Coords) (d0 : Dev nD) (k0_h11 : k0_cond11 i = 1#1) (k : PUnit.{1} → Prog (TpuEff nD τ sig (Elt F) Λ₀ .tc) α) : Prog (TpuEff nD τ sig (Elt F) Λ₀ .tc) α :=
  if k0_h12 : k0_cond12 i = 1#1 then do
    let v125 : DmaSems sig S1 := cc0_scratch23.slice (Rect.unit (s := S2) (k0_off36 i) S1.size (k0_off36_inb i k0_h11 k0_h12))
    let v126 : DmaSems sig S_ := v125.squeeze S_ squeezes_S1_S_
    let v127 : Memref sig .tc .hbm S1x512x256 .f32 := bOut.slice (Rect.unit (s := S1x1024x8192) (k0_off37 i d0) S1x512x256.size (k0_off37_inb i d0 k0_h11 k0_h12)) (fun _ => rfl)
    let v128 : Memref sig .tc .hbm S512x256 .f32 := v127.squeeze S512x256 squeezes_S1x512x256_S512x256
    let v129 : Memref sig .tc .vmem S1x512x256 .f32 := bZastore.slice (Rect.unit (s := S2x512x256) (k0_off38 i) S1x512x256.size (k0_off38_inb i k0_h11 k0_h12)) (fun _ => rfl)
    let v130 : Memref sig .tc .vmem S512x256 .f32 := v129.squeeze S512x256 squeezes_S1x512x256_S512x256
    Prog.lift (.waitDma2 v126.sem v130 v128 ((View.wordExact_bits rfl).reshape _ _) ((View.wordExact_bits rfl).reshape _ _))
    k ⟨⟩
  else k ⟨⟩

/-- The body's block under condition 11, what follows it as a continuation. -/
def blk11 (i : grid0.Coords) (d0 : Dev nD) (k : PUnit.{1} → Prog (TpuEff nD τ sig (Elt F) Λ₀ .tc) α) : Prog (TpuEff nD τ sig (Elt F) Λ₀ .tc) α :=
  if k0_h11 : k0_cond11 i = 1#1 then do
    let v97 : DmaSems sig S1 := cc0_scratch18.slice (Rect.unit (s := S4) (k0_off34 i) S1.size (k0_off34_inb i k0_h11))
    let v98 : DmaSems sig S_ := v97.squeeze S_ squeezes_S1_S_
    let v99 : Memref sig .tc .vmem S1x512x256 .bf16 := bZrecva.slice (Rect.unit (s := S4x512x256) (k0_off35 i) S1x512x256.size (k0_off35_inb i k0_h11)) (fun _ => rfl)
    let v100 : Memref sig .tc .vmem S512x256 .bf16 := v99.squeeze S512x256 squeezes_S1x512x256_S512x256
    let v101 : Memref sig .tc .vmem S1x512x256 .bf16 := bSumbf.slice (Rect.unit (s := S4x512x256) (k0_off35 i) S1x512x256.size (k0_off35_inb i k0_h11)) (fun _ => rfl)
    let v102 : Memref sig .tc .vmem S512x256 .bf16 := v101.squeeze S512x256 squeezes_S1x512x256_S512x256
    Prog.lift (.waitDma2 v98.sem v102 v100 (((Memref.isWhole_whole _).wordExact_slice rfl _ (k0_off35_wordsbf16 i k0_h11)).reshape _ _) (((Memref.isWhole_whole _).wordExact_slice rfl _ (k0_off35_wordsbf16 i k0_h11)).reshape _ _))
    blk12 i d0 k0_h11 fun (_ : PUnit.{1}) => do
      let v107 : Vec F S1x512x256 .bf16 ← Prog.lift (.load bZrecva (Rect.unit (s := S4x512x256) (k0_off39 i) S1x512x256.size (k0_off39_inb i k0_h11)).toLoadRect (View.loadsAt_vmem h_S1x512x256))
      let v111 : Vec F S1x512x256 .f32 ← Prog.lift (.load bZastore (Rect.unit (s := S2x512x256) (k0_off40 i) S1x512x256.size (k0_off40_inb i k0_h11)).toLoadRect (View.loadsAt_vmem h_S1x512x256))
      Prog.lift (.store bZastore (Rect.unit (s := S2x512x256) (k0_off40 i) S1x512x256.size (k0_off40_inb i k0_h11)) (k0_pay10 v107) Finset.univ (View.stores_vmem_bits_univ h_S1x512x256 rfl) (.inl rfl))
      let v116 : DmaSems sig S1 := cc0_scratch23.slice (Rect.unit (s := S2) (k0_off41 i) S1.size (k0_off41_inb i k0_h11))
      let v117 : DmaSems sig S_ := v116.squeeze S_ squeezes_S1_S_
      let v118 : Memref sig .tc .hbm S1x512x256 .f32 := bOut.slice (Rect.unit (s := S1x1024x8192) (k0_off42 i d0) S1x512x256.size (k0_off42_inb i d0 k0_h11)) (fun _ => rfl)
      let v119 : Memref sig .tc .hbm S512x256 .f32 := v118.squeeze S512x256 squeezes_S1x512x256_S512x256
      let v120 : Memref sig .tc .vmem S1x512x256 .f32 := bZastore.slice (Rect.unit (s := S2x512x256) (k0_off43 i) S1x512x256.size (k0_off43_inb i k0_h11)) (fun _ => rfl)
      let v121 : Memref sig .tc .vmem S512x256 .f32 := v120.squeeze S512x256 squeezes_S1x512x256_S512x256
      Prog.lift (.enqueueDma v121 (.here v119) (.dma v117.sem) ((View.wordExact_bits rfl).reshape _ _) ((View.wordExact_bits rfl).reshape _ _) ⟨Or.inl rfl, trivial⟩)
      k ⟨⟩
  else k ⟨⟩

/-- The body's block under condition 14, what follows it as a continuation. -/
def blk14 (i : grid0.Coords) (d0 : Dev nD) (k0_h13 : k0_cond13 i = 1#1) (k : PUnit.{1} → Prog (TpuEff nD τ sig (Elt F) Λ₀ .tc) α) : Prog (TpuEff nD τ sig (Elt F) Λ₀ .tc) α :=
  if k0_h14 : k0_cond14 i = 1#1 then do
    let v125 : DmaSems sig S1 := cc0_scratch24.slice (Rect.unit (s := S2) (k0_off47 i) S1.size (k0_off47_inb i k0_h13 k0_h14))
    let v126 : DmaSems sig S_ := v125.squeeze S_ squeezes_S1_S_
    let v127 : Memref sig .tc .hbm S1x512x256 .f32 := bOut.slice (Rect.unit (s := S1x1024x8192) (k0_off48 i d0) S1x512x256.size (k0_off48_inb i d0 k0_h13 k0_h14)) (fun _ => rfl)
    let v128 : Memref sig .tc .hbm S512x256 .f32 := v127.squeeze S512x256 squeezes_S1x512x256_S512x256
    let v129 : Memref sig .tc .vmem S1x512x256 .f32 := bZbstore.slice (Rect.unit (s := S2x512x256) (k0_off49 i) S1x512x256.size (k0_off49_inb i k0_h13 k0_h14)) (fun _ => rfl)
    let v130 : Memref sig .tc .vmem S512x256 .f32 := v129.squeeze S512x256 squeezes_S1x512x256_S512x256
    Prog.lift (.waitDma2 v126.sem v130 v128 ((View.wordExact_bits rfl).reshape _ _) ((View.wordExact_bits rfl).reshape _ _))
    k ⟨⟩
  else k ⟨⟩

/-- The body's block under condition 13, what follows it as a continuation. -/
def blk13 (i : grid0.Coords) (d0 : Dev nD) (k : PUnit.{1} → Prog (TpuEff nD τ sig (Elt F) Λ₀ .tc) α) : Prog (TpuEff nD τ sig (Elt F) Λ₀ .tc) α :=
  if k0_h13 : k0_cond13 i = 1#1 then do
    let v97 : DmaSems sig S1 := cc0_scratch20.slice (Rect.unit (s := S4) (k0_off44 i) S1.size (k0_off44_inb i k0_h13))
    let v98 : DmaSems sig S_ := v97.squeeze S_ squeezes_S1_S_
    let v99 : Memref sig .tc .vmem S1x512x256 .bf16 := bZrecvb.slice (Rect.unit (s := S4x512x256) (k0_off45 i) S1x512x256.size (k0_off45_inb i k0_h13)) (fun _ => rfl)
    let v100 : Memref sig .tc .vmem S512x256 .bf16 := v99.squeeze S512x256 squeezes_S1x512x256_S512x256
    let v101 : Memref sig .tc .vmem S1x512x256 .bf16 := bZbsrc.slice (Rect.unit (s := S2x512x256) (k0_off46 i) S1x512x256.size (k0_off46_inb i k0_h13)) (fun _ => rfl)
    let v102 : Memref sig .tc .vmem S512x256 .bf16 := v101.squeeze S512x256 squeezes_S1x512x256_S512x256
    Prog.lift (.waitDma2 v98.sem v102 v100 (((Memref.isWhole_whole _).wordExact_slice rfl _ (k0_off46_wordsbf16 i k0_h13)).reshape _ _) (((Memref.isWhole_whole _).wordExact_slice rfl _ (k0_off45_wordsbf16 i k0_h13)).reshape _ _))
    blk14 i d0 k0_h13 fun (_ : PUnit.{1}) => do
      let v107 : Vec F S1x512x256 .bf16 ← Prog.lift (.load bZrecvb (Rect.unit (s := S4x512x256) (k0_off50 i) S1x512x256.size (k0_off50_inb i k0_h13)).toLoadRect (View.loadsAt_vmem h_S1x512x256))
      let v111 : Vec F S1x512x256 .f32 ← Prog.lift (.load bZbstore (Rect.unit (s := S2x512x256) (k0_off51 i) S1x512x256.size (k0_off51_inb i k0_h13)).toLoadRect (View.loadsAt_vmem h_S1x512x256))
      Prog.lift (.store bZbstore (Rect.unit (s := S2x512x256) (k0_off51 i) S1x512x256.size (k0_off51_inb i k0_h13)) (k0_pay1 v107) Finset.univ (View.stores_vmem_bits_univ h_S1x512x256 rfl) (.inl rfl))
      let v116 : DmaSems sig S1 := cc0_scratch24.slice (Rect.unit (s := S2) (k0_off52 i) S1.size (k0_off52_inb i k0_h13))
      let v117 : DmaSems sig S_ := v116.squeeze S_ squeezes_S1_S_
      let v118 : Memref sig .tc .hbm S1x512x256 .f32 := bOut.slice (Rect.unit (s := S1x1024x8192) (k0_off53 i d0) S1x512x256.size (k0_off53_inb i d0 k0_h13)) (fun _ => rfl)
      let v119 : Memref sig .tc .hbm S512x256 .f32 := v118.squeeze S512x256 squeezes_S1x512x256_S512x256
      let v120 : Memref sig .tc .vmem S1x512x256 .f32 := bZbstore.slice (Rect.unit (s := S2x512x256) (k0_off46 i) S1x512x256.size (k0_off46_inb i k0_h13)) (fun _ => rfl)
      let v121 : Memref sig .tc .vmem S512x256 .f32 := v120.squeeze S512x256 squeezes_S1x512x256_S512x256
      Prog.lift (.enqueueDma v121 (.here v119) (.dma v117.sem) ((View.wordExact_bits rfl).reshape _ _) ((View.wordExact_bits rfl).reshape _ _) ⟨Or.inl rfl, trivial⟩)
      k ⟨⟩
  else k ⟨⟩

/-- The body's block under condition 15, what follows it as a continuation. -/
def blk15 (i : grid0.Coords) (d0 : Dev nD) (k : PUnit.{1} → Prog (TpuEff nD τ sig (Elt F) Λ₀ .tc) α) : Prog (TpuEff nD τ sig (Elt F) Λ₀ .tc) α :=
  if k0_h15 : k0_cond15 i = 1#1 then do
    let v70 : DmaSems sig S1 := cc0_scratch13.slice (Rect.unit (s := S4) ![0] S1.size inb_S4_S1_0)
    let v71 : DmaSems sig S_ := v70.squeeze S_ squeezes_S1_S_
    let v72 : Memref sig .tc .vmem S1x512x256 .bf16 := bYsend.slice (Rect.unit (s := S4x512x256) ![0, 0, 0] S1x512x256.size inb_S4x512x256_S1x512x256_0_0_0) (fun _ => rfl)
    let v73 : Memref sig .tc .vmem S512x256 .bf16 := v72.squeeze S512x256 squeezes_S1x512x256_S512x256
    let v74 : Memref sig .tc .vmem S1x512x256 .bf16 := bYrecv.slice (Rect.unit (s := S4x512x256) ![0, 0, 0] S1x512x256.size inb_S4x512x256_S1x512x256_0_0_0) (fun _ => rfl)
    let v75 : Memref sig .tc .vmem S512x256 .bf16 := v74.squeeze S512x256 squeezes_S1x512x256_S512x256
    Prog.lift (.waitDma2 v71.sem v75 v73 (((Memref.isWhole_whole _).wordExact_slice rfl _ wordsbf16_S4x512x256_S1x512x256_0_0_0).reshape _ _) (((Memref.isWhole_whole _).wordExact_slice rfl _ wordsbf16_S4x512x256_S1x512x256_0_0_0).reshape _ _))
    let v76 : DmaSems sig S1 := cc0_scratch15.slice (Rect.unit (s := S4) ![0] S1.size inb_S4_S1_0)
    let v77 : DmaSems sig S_ := v76.squeeze S_ squeezes_S1_S_
    let v78 : Memref sig .tc .vmem S1x512x256 .bf16 := bSumbf.slice (Rect.unit (s := S4x512x256) ![0, 0, 0] S1x512x256.size inb_S4x512x256_S1x512x256_0_0_0) (fun _ => rfl)
    let v79 : Memref sig .tc .vmem S512x256 .bf16 := v78.squeeze S512x256 squeezes_S1x512x256_S512x256
    let v80 : Memref sig .tc .vmem S1x512x256 .bf16 := bXrecv.slice (Rect.unit (s := S4x512x256) ![0, 0, 0] S1x512x256.size inb_S4x512x256_S1x512x256_0_0_0) (fun _ => rfl)
    let v81 : Memref sig .tc .vmem S512x256 .bf16 := v80.squeeze S512x256 squeezes_S1x512x256_S512x256
    Prog.lift (.waitDma2 v77.sem v81 v79 (((Memref.isWhole_whole _).wordExact_slice rfl _ wordsbf16_S4x512x256_S1x512x256_0_0_0).reshape _ _) (((Memref.isWhole_whole _).wordExact_slice rfl _ wordsbf16_S4x512x256_S1x512x256_0_0_0).reshape _ _))
    let v82 : DmaSems sig S1 := cc0_scratch17.slice (Rect.unit (s := S4) ![0] S1.size inb_S4_S1_0)
    let v83 : DmaSems sig S_ := v82.squeeze S_ squeezes_S1_S_
    let v84 : Memref sig .tc .vmem S1x512x256 .bf16 := bSumbf.slice (Rect.unit (s := S4x512x256) ![0, 0, 0] S1x512x256.size inb_S4x512x256_S1x512x256_0_0_0) (fun _ => rfl)
    let v85 : Memref sig .tc .vmem S512x256 .bf16 := v84.squeeze S512x256 squeezes_S1x512x256_S512x256
    let v86 : Memref sig .tc .vmem S1x512x256 .bf16 := bZrecva.slice (Rect.unit (s := S4x512x256) ![0, 0, 0] S1x512x256.size inb_S4x512x256_S1x512x256_0_0_0) (fun _ => rfl)
    let v87 : Memref sig .tc .vmem S512x256 .bf16 := v86.squeeze S512x256 squeezes_S1x512x256_S512x256
    Prog.lift (.waitDma2 v83.sem v87 v85 (((Memref.isWhole_whole _).wordExact_slice rfl _ wordsbf16_S4x512x256_S1x512x256_0_0_0).reshape _ _) (((Memref.isWhole_whole _).wordExact_slice rfl _ wordsbf16_S4x512x256_S1x512x256_0_0_0).reshape _ _))
    let v92 : Memref sig .tc .vmem S1x512x256 .bf16 := bYrecv.slice (Rect.unit (s := S4x512x256) ![1, 0, 0] S1x512x256.size inb_S4x512x256_S1x512x256_1_0_0) (fun _ => rfl)
    let v93 : Memref sig .tc .vmem S512x256 .bf16 := v92.squeeze S512x256 squeezes_S1x512x256_S512x256
    let v88 : DmaSems sig S1 := cc0_scratch13.slice (Rect.unit (s := S4) ![1] S1.size inb_S4_S1_1)
    let v89 : DmaSems sig S_ := v88.squeeze S_ squeezes_S1_S_
    let v90 : Memref sig .tc .vmem S1x512x256 .bf16 := bYsend.slice (Rect.unit (s := S4x512x256) ![1, 0, 0] S1x512x256.size inb_S4x512x256_S1x512x256_1_0_0) (fun _ => rfl)
    let v91 : Memref sig .tc .vmem S512x256 .bf16 := v90.squeeze S512x256 squeezes_S1x512x256_S512x256
    Prog.lift (.waitDma2 v89.sem v93 v91 (((Memref.isWhole_whole _).wordExact_slice rfl _ wordsbf16_S4x512x256_S1x512x256_1_0_0).reshape _ _) (((Memref.isWhole_whole _).wordExact_slice rfl _ wordsbf16_S4x512x256_S1x512x256_1_0_0).reshape _ _))
    let v94 : DmaSems sig S1 := cc0_scratch15.slice (Rect.unit (s := S4) ![1] S1.size inb_S4_S1_1)
    let v95 : DmaSems sig S_ := v94.squeeze S_ squeezes_S1_S_
    let v96 : Memref sig .tc .vmem S1x512x256 .bf16 := bSumbf.slice (Rect.unit (s := S4x512x256) ![1, 0, 0] S1x512x256.size inb_S4x512x256_S1x512x256_1_0_0) (fun _ => rfl)
    let v97 : Memref sig .tc .vmem S512x256 .bf16 := v96.squeeze S512x256 squeezes_S1x512x256_S512x256
    let v98 : Memref sig .tc .vmem S1x512x256 .bf16 := bXrecv.slice (Rect.unit (s := S4x512x256) ![1, 0, 0] S1x512x256.size inb_S4x512x256_S1x512x256_1_0_0) (fun _ => rfl)
    let v99 : Memref sig .tc .vmem S512x256 .bf16 := v98.squeeze S512x256 squeezes_S1x512x256_S512x256
    Prog.lift (.waitDma2 v95.sem v99 v97 (((Memref.isWhole_whole _).wordExact_slice rfl _ wordsbf16_S4x512x256_S1x512x256_1_0_0).reshape _ _) (((Memref.isWhole_whole _).wordExact_slice rfl _ wordsbf16_S4x512x256_S1x512x256_1_0_0).reshape _ _))
    let v100 : DmaSems sig S1 := cc0_scratch17.slice (Rect.unit (s := S4) ![1] S1.size inb_S4_S1_1)
    let v101 : DmaSems sig S_ := v100.squeeze S_ squeezes_S1_S_
    let v102 : Memref sig .tc .vmem S1x512x256 .bf16 := bSumbf.slice (Rect.unit (s := S4x512x256) ![1, 0, 0] S1x512x256.size inb_S4x512x256_S1x512x256_1_0_0) (fun _ => rfl)
    let v103 : Memref sig .tc .vmem S512x256 .bf16 := v102.squeeze S512x256 squeezes_S1x512x256_S512x256
    let v104 : Memref sig .tc .vmem S1x512x256 .bf16 := bZrecva.slice (Rect.unit (s := S4x512x256) ![1, 0, 0] S1x512x256.size inb_S4x512x256_S1x512x256_1_0_0) (fun _ => rfl)
    let v105 : Memref sig .tc .vmem S512x256 .bf16 := v104.squeeze S512x256 squeezes_S1x512x256_S512x256
    Prog.lift (.waitDma2 v101.sem v105 v103 (((Memref.isWhole_whole _).wordExact_slice rfl _ wordsbf16_S4x512x256_S1x512x256_1_0_0).reshape _ _) (((Memref.isWhole_whole _).wordExact_slice rfl _ wordsbf16_S4x512x256_S1x512x256_1_0_0).reshape _ _))
    let v106 : DmaSems sig S1 := cc0_scratch13.slice (Rect.unit (s := S4) ![2] S1.size inb_S4_S1_2)
    let v107 : DmaSems sig S_ := v106.squeeze S_ squeezes_S1_S_
    let v108 : Memref sig .tc .vmem S1x512x256 .bf16 := bYsend.slice (Rect.unit (s := S4x512x256) ![2, 0, 0] S1x512x256.size inb_S4x512x256_S1x512x256_2_0_0) (fun _ => rfl)
    let v109 : Memref sig .tc .vmem S512x256 .bf16 := v108.squeeze S512x256 squeezes_S1x512x256_S512x256
    let v110 : Memref sig .tc .vmem S1x512x256 .bf16 := bYrecv.slice (Rect.unit (s := S4x512x256) ![2, 0, 0] S1x512x256.size inb_S4x512x256_S1x512x256_2_0_0) (fun _ => rfl)
    let v111 : Memref sig .tc .vmem S512x256 .bf16 := v110.squeeze S512x256 squeezes_S1x512x256_S512x256
    Prog.lift (.waitDma2 v107.sem v111 v109 (((Memref.isWhole_whole _).wordExact_slice rfl _ wordsbf16_S4x512x256_S1x512x256_2_0_0).reshape _ _) (((Memref.isWhole_whole _).wordExact_slice rfl _ wordsbf16_S4x512x256_S1x512x256_2_0_0).reshape _ _))
    let v114 : Memref sig .tc .vmem S1x512x256 .bf16 := bSumbf.slice (Rect.unit (s := S4x512x256) ![2, 0, 0] S1x512x256.size inb_S4x512x256_S1x512x256_2_0_0) (fun _ => rfl)
    let v115 : Memref sig .tc .vmem S512x256 .bf16 := v114.squeeze S512x256 squeezes_S1x512x256_S512x256
    let v116 : Memref sig .tc .vmem S1x512x256 .bf16 := bXrecv.slice (Rect.unit (s := S4x512x256) ![2, 0, 0] S1x512x256.size inb_S4x512x256_S1x512x256_2_0_0) (fun _ => rfl)
    let v117 : Memref sig .tc .vmem S512x256 .bf16 := v116.squeeze S512x256 squeezes_S1x512x256_S512x256
    let v112 : DmaSems sig S1 := cc0_scratch15.slice (Rect.unit (s := S4) ![2] S1.size inb_S4_S1_2)
    let v113 : DmaSems sig S_ := v112.squeeze S_ squeezes_S1_S_
    Prog.lift (.waitDma2 v113.sem v117 v115 (((Memref.isWhole_whole _).wordExact_slice rfl _ wordsbf16_S4x512x256_S1x512x256_2_0_0).reshape _ _) (((Memref.isWhole_whole _).wordExact_slice rfl _ wordsbf16_S4x512x256_S1x512x256_2_0_0).reshape _ _))
    let v118 : DmaSems sig S1 := cc0_scratch17.slice (Rect.unit (s := S4) ![2] S1.size inb_S4_S1_2)
    let v119 : DmaSems sig S_ := v118.squeeze S_ squeezes_S1_S_
    let v120 : Memref sig .tc .vmem S1x512x256 .bf16 := bSumbf.slice (Rect.unit (s := S4x512x256) ![2, 0, 0] S1x512x256.size inb_S4x512x256_S1x512x256_2_0_0) (fun _ => rfl)
    let v121 : Memref sig .tc .vmem S512x256 .bf16 := v120.squeeze S512x256 squeezes_S1x512x256_S512x256
    let v122 : Memref sig .tc .vmem S1x512x256 .bf16 := bZrecva.slice (Rect.unit (s := S4x512x256) ![2, 0, 0] S1x512x256.size inb_S4x512x256_S1x512x256_2_0_0) (fun _ => rfl)
    let v123 : Memref sig .tc .vmem S512x256 .bf16 := v122.squeeze S512x256 squeezes_S1x512x256_S512x256
    Prog.lift (.waitDma2 v119.sem v123 v121 (((Memref.isWhole_whole _).wordExact_slice rfl _ wordsbf16_S4x512x256_S1x512x256_2_0_0).reshape _ _) (((Memref.isWhole_whole _).wordExact_slice rfl _ wordsbf16_S4x512x256_S1x512x256_2_0_0).reshape _ _))
    let v124 : DmaSems sig S1 := cc0_scratch13.slice (Rect.unit (s := S4) ![3] S1.size inb_S4_S1_3)
    let v125 : DmaSems sig S_ := v124.squeeze S_ squeezes_S1_S_
    let v126 : Memref sig .tc .vmem S1x512x256 .bf16 := bYsend.slice (Rect.unit (s := S4x512x256) ![3, 0, 0] S1x512x256.size inb_S4x512x256_S1x512x256_3_0_0) (fun _ => rfl)
    let v127 : Memref sig .tc .vmem S512x256 .bf16 := v126.squeeze S512x256 squeezes_S1x512x256_S512x256
    let v128 : Memref sig .tc .vmem S1x512x256 .bf16 := bYrecv.slice (Rect.unit (s := S4x512x256) ![3, 0, 0] S1x512x256.size inb_S4x512x256_S1x512x256_3_0_0) (fun _ => rfl)
    let v129 : Memref sig .tc .vmem S512x256 .bf16 := v128.squeeze S512x256 squeezes_S1x512x256_S512x256
    Prog.lift (.waitDma2 v125.sem v129 v127 (((Memref.isWhole_whole _).wordExact_slice rfl _ wordsbf16_S4x512x256_S1x512x256_3_0_0).reshape _ _) (((Memref.isWhole_whole _).wordExact_slice rfl _ wordsbf16_S4x512x256_S1x512x256_3_0_0).reshape _ _))
    let v130 : DmaSems sig S1 := cc0_scratch15.slice (Rect.unit (s := S4) ![3] S1.size inb_S4_S1_3)
    let v131 : DmaSems sig S_ := v130.squeeze S_ squeezes_S1_S_
    let v132 : Memref sig .tc .vmem S1x512x256 .bf16 := bSumbf.slice (Rect.unit (s := S4x512x256) ![3, 0, 0] S1x512x256.size inb_S4x512x256_S1x512x256_3_0_0) (fun _ => rfl)
    let v133 : Memref sig .tc .vmem S512x256 .bf16 := v132.squeeze S512x256 squeezes_S1x512x256_S512x256
    let v134 : Memref sig .tc .vmem S1x512x256 .bf16 := bXrecv.slice (Rect.unit (s := S4x512x256) ![3, 0, 0] S1x512x256.size inb_S4x512x256_S1x512x256_3_0_0) (fun _ => rfl)
    let v135 : Memref sig .tc .vmem S512x256 .bf16 := v134.squeeze S512x256 squeezes_S1x512x256_S512x256
    Prog.lift (.waitDma2 v131.sem v135 v133 (((Memref.isWhole_whole _).wordExact_slice rfl _ wordsbf16_S4x512x256_S1x512x256_3_0_0).reshape _ _) (((Memref.isWhole_whole _).wordExact_slice rfl _ wordsbf16_S4x512x256_S1x512x256_3_0_0).reshape _ _))
    let v136 : DmaSems sig S1 := cc0_scratch17.slice (Rect.unit (s := S4) ![3] S1.size inb_S4_S1_3)
    let v137 : DmaSems sig S_ := v136.squeeze S_ squeezes_S1_S_
    let v138 : Memref sig .tc .vmem S1x512x256 .bf16 := bSumbf.slice (Rect.unit (s := S4x512x256) ![3, 0, 0] S1x512x256.size inb_S4x512x256_S1x512x256_3_0_0) (fun _ => rfl)
    let v139 : Memref sig .tc .vmem S512x256 .bf16 := v138.squeeze S512x256 squeezes_S1x512x256_S512x256
    let v140 : Memref sig .tc .vmem S1x512x256 .bf16 := bZrecva.slice (Rect.unit (s := S4x512x256) ![3, 0, 0] S1x512x256.size inb_S4x512x256_S1x512x256_3_0_0) (fun _ => rfl)
    let v141 : Memref sig .tc .vmem S512x256 .bf16 := v140.squeeze S512x256 squeezes_S1x512x256_S512x256
    Prog.lift (.waitDma2 v137.sem v141 v139 (((Memref.isWhole_whole _).wordExact_slice rfl _ wordsbf16_S4x512x256_S1x512x256_3_0_0).reshape _ _) (((Memref.isWhole_whole _).wordExact_slice rfl _ wordsbf16_S4x512x256_S1x512x256_3_0_0).reshape _ _))
    let v142 : DmaSems sig S1 := cc0_scratch19.slice (Rect.unit (s := S4) ![2] S1.size inb_S4_S1_2)
    let v143 : DmaSems sig S_ := v142.squeeze S_ squeezes_S1_S_
    let v144 : Memref sig .tc .vmem S1x512x256 .bf16 := bZbsrc.slice (Rect.unit (s := S2x512x256) ![0, 0, 0] S1x512x256.size inb_S2x512x256_S1x512x256_0_0_0) (fun _ => rfl)
    let v145 : Memref sig .tc .vmem S512x256 .bf16 := v144.squeeze S512x256 squeezes_S1x512x256_S512x256
    let v146 : Memref sig .tc .vmem S1x512x256 .bf16 := bZrecvb.slice (Rect.unit (s := S4x512x256) ![2, 0, 0] S1x512x256.size inb_S4x512x256_S1x512x256_2_0_0) (fun _ => rfl)
    let v147 : Memref sig .tc .vmem S512x256 .bf16 := v146.squeeze S512x256 squeezes_S1x512x256_S512x256
    Prog.lift (.waitDma2 v143.sem v147 v145 (((Memref.isWhole_whole _).wordExact_slice rfl _ wordsbf16_S4x512x256_S1x512x256_2_0_0).reshape _ _) (((Memref.isWhole_whole _).wordExact_slice rfl _ wordsbf16_S2x512x256_S1x512x256_0_0_0).reshape _ _))
    let v149 : DmaSems sig S1 := cc0_scratch21.slice (Rect.unit (s := S2) ![0] S1.size inb_S2_S1_0)
    let v150 : DmaSems sig S_ := v149.squeeze S_ squeezes_S1_S_
    let v151 : Memref sig .tc .hbm S1x512x256 .f32 := bOut.slice (Rect.unit (s := S1x1024x8192) (k0_off54 d0 3584#32) S1x512x256.size (k0_off54_inb i d0 k0_h15 0)) (fun _ => rfl)
    let v152 : Memref sig .tc .hbm S512x256 .f32 := v151.squeeze S512x256 squeezes_S1x512x256_S512x256
    let v153 : Memref sig .tc .vmem S1x512x256 .f32 := bSum.slice (Rect.unit (s := S2x512x256) ![0, 0, 0] S1x512x256.size inb_S2x512x256_S1x512x256_0_0_0) (fun _ => rfl)
    let v154 : Memref sig .tc .vmem S512x256 .f32 := v153.squeeze S512x256 squeezes_S1x512x256_S512x256
    Prog.lift (.waitDma2 v150.sem v154 v152 ((View.wordExact_bits rfl).reshape _ _) ((View.wordExact_bits rfl).reshape _ _))
    let v156 : DmaSems sig S1 := cc0_scratch22.slice (Rect.unit (s := S2) ![0] S1.size inb_S2_S1_0)
    let v157 : DmaSems sig S_ := v156.squeeze S_ squeezes_S1_S_
    let v158 : Memref sig .tc .hbm S1x512x256 .f32 := bOut.slice (Rect.unit (s := S1x1024x8192) (k0_off55 d0 3584#32) S1x512x256.size (k0_off55_inb i d0 k0_h15 0)) (fun _ => rfl)
    let v159 : Memref sig .tc .hbm S512x256 .f32 := v158.squeeze S512x256 squeezes_S1x512x256_S512x256
    let v160 : Memref sig .tc .vmem S1x512x256 .f32 := bXstore.slice (Rect.unit (s := S2x512x256) ![0, 0, 0] S1x512x256.size inb_S2x512x256_S1x512x256_0_0_0) (fun _ => rfl)
    let v161 : Memref sig .tc .vmem S512x256 .f32 := v160.squeeze S512x256 squeezes_S1x512x256_S512x256
    Prog.lift (.waitDma2 v157.sem v161 v159 ((View.wordExact_bits rfl).reshape _ _) ((View.wordExact_bits rfl).reshape _ _))
    let v163 : DmaSems sig S1 := cc0_scratch23.slice (Rect.unit (s := S2) ![0] S1.size inb_S2_S1_0)
    let v164 : DmaSems sig S_ := v163.squeeze S_ squeezes_S1_S_
    let v165 : Memref sig .tc .hbm S1x512x256 .f32 := bOut.slice (Rect.unit (s := S1x1024x8192) (k0_off56 d0 3584#32) S1x512x256.size (k0_off56_inb i d0 k0_h15 0)) (fun _ => rfl)
    let v166 : Memref sig .tc .hbm S512x256 .f32 := v165.squeeze S512x256 squeezes_S1x512x256_S512x256
    let v167 : Memref sig .tc .vmem S1x512x256 .f32 := bZastore.slice (Rect.unit (s := S2x512x256) ![0, 0, 0] S1x512x256.size inb_S2x512x256_S1x512x256_0_0_0) (fun _ => rfl)
    let v168 : Memref sig .tc .vmem S512x256 .f32 := v167.squeeze S512x256 squeezes_S1x512x256_S512x256
    Prog.lift (.waitDma2 v164.sem v168 v166 ((View.wordExact_bits rfl).reshape _ _) ((View.wordExact_bits rfl).reshape _ _))
    let v170 : DmaSems sig S1 := cc0_scratch24.slice (Rect.unit (s := S2) ![0] S1.size inb_S2_S1_0)
    let v171 : DmaSems sig S_ := v170.squeeze S_ squeezes_S1_S_
    let v172 : Memref sig .tc .hbm S1x512x256 .f32 := bOut.slice (Rect.unit (s := S1x1024x8192) (k0_off57 d0 3584#32) S1x512x256.size (k0_off57_inb i d0 k0_h15 0)) (fun _ => rfl)
    let v173 : Memref sig .tc .hbm S512x256 .f32 := v172.squeeze S512x256 squeezes_S1x512x256_S512x256
    let v174 : Memref sig .tc .vmem S1x512x256 .f32 := bZbstore.slice (Rect.unit (s := S2x512x256) ![0, 0, 0] S1x512x256.size inb_S2x512x256_S1x512x256_0_0_0) (fun _ => rfl)
    let v175 : Memref sig .tc .vmem S512x256 .f32 := v174.squeeze S512x256 squeezes_S1x512x256_S512x256
    Prog.lift (.waitDma2 v171.sem v175 v173 ((View.wordExact_bits rfl).reshape _ _) ((View.wordExact_bits rfl).reshape _ _))
    let v176 : DmaSems sig S1 := cc0_scratch19.slice (Rect.unit (s := S4) ![3] S1.size inb_S4_S1_3)
    let v177 : DmaSems sig S_ := v176.squeeze S_ squeezes_S1_S_
    let v178 : Memref sig .tc .vmem S1x512x256 .bf16 := bZbsrc.slice (Rect.unit (s := S2x512x256) ![1, 0, 0] S1x512x256.size inb_S2x512x256_S1x512x256_1_0_0) (fun _ => rfl)
    let v179 : Memref sig .tc .vmem S512x256 .bf16 := v178.squeeze S512x256 squeezes_S1x512x256_S512x256
    let v180 : Memref sig .tc .vmem S1x512x256 .bf16 := bZrecvb.slice (Rect.unit (s := S4x512x256) ![3, 0, 0] S1x512x256.size inb_S4x512x256_S1x512x256_3_0_0) (fun _ => rfl)
    let v181 : Memref sig .tc .vmem S512x256 .bf16 := v180.squeeze S512x256 squeezes_S1x512x256_S512x256
    Prog.lift (.waitDma2 v177.sem v181 v179 (((Memref.isWhole_whole _).wordExact_slice rfl _ wordsbf16_S4x512x256_S1x512x256_3_0_0).reshape _ _) (((Memref.isWhole_whole _).wordExact_slice rfl _ wordsbf16_S2x512x256_S1x512x256_1_0_0).reshape _ _))
    let v183 : DmaSems sig S1 := cc0_scratch21.slice (Rect.unit (s := S2) ![1] S1.size inb_S2_S1_1)
    let v184 : DmaSems sig S_ := v183.squeeze S_ squeezes_S1_S_
    let v185 : Memref sig .tc .hbm S1x512x256 .f32 := bOut.slice (Rect.unit (s := S1x1024x8192) (k0_off54 d0 3840#32) S1x512x256.size (k0_off54_inb i d0 k0_h15 1)) (fun _ => rfl)
    let v186 : Memref sig .tc .hbm S512x256 .f32 := v185.squeeze S512x256 squeezes_S1x512x256_S512x256
    let v187 : Memref sig .tc .vmem S1x512x256 .f32 := bSum.slice (Rect.unit (s := S2x512x256) ![1, 0, 0] S1x512x256.size inb_S2x512x256_S1x512x256_1_0_0) (fun _ => rfl)
    let v188 : Memref sig .tc .vmem S512x256 .f32 := v187.squeeze S512x256 squeezes_S1x512x256_S512x256
    Prog.lift (.waitDma2 v184.sem v188 v186 ((View.wordExact_bits rfl).reshape _ _) ((View.wordExact_bits rfl).reshape _ _))
    let v190 : DmaSems sig S1 := cc0_scratch22.slice (Rect.unit (s := S2) ![1] S1.size inb_S2_S1_1)
    let v191 : DmaSems sig S_ := v190.squeeze S_ squeezes_S1_S_
    let v192 : Memref sig .tc .hbm S1x512x256 .f32 := bOut.slice (Rect.unit (s := S1x1024x8192) (k0_off55 d0 3840#32) S1x512x256.size (k0_off55_inb i d0 k0_h15 1)) (fun _ => rfl)
    let v193 : Memref sig .tc .hbm S512x256 .f32 := v192.squeeze S512x256 squeezes_S1x512x256_S512x256
    let v194 : Memref sig .tc .vmem S1x512x256 .f32 := bXstore.slice (Rect.unit (s := S2x512x256) ![1, 0, 0] S1x512x256.size inb_S2x512x256_S1x512x256_1_0_0) (fun _ => rfl)
    let v195 : Memref sig .tc .vmem S512x256 .f32 := v194.squeeze S512x256 squeezes_S1x512x256_S512x256
    Prog.lift (.waitDma2 v191.sem v195 v193 ((View.wordExact_bits rfl).reshape _ _) ((View.wordExact_bits rfl).reshape _ _))
    let v197 : DmaSems sig S1 := cc0_scratch23.slice (Rect.unit (s := S2) ![1] S1.size inb_S2_S1_1)
    let v198 : DmaSems sig S_ := v197.squeeze S_ squeezes_S1_S_
    let v199 : Memref sig .tc .hbm S1x512x256 .f32 := bOut.slice (Rect.unit (s := S1x1024x8192) (k0_off56 d0 3840#32) S1x512x256.size (k0_off56_inb i d0 k0_h15 1)) (fun _ => rfl)
    let v200 : Memref sig .tc .hbm S512x256 .f32 := v199.squeeze S512x256 squeezes_S1x512x256_S512x256
    let v201 : Memref sig .tc .vmem S1x512x256 .f32 := bZastore.slice (Rect.unit (s := S2x512x256) ![1, 0, 0] S1x512x256.size inb_S2x512x256_S1x512x256_1_0_0) (fun _ => rfl)
    let v202 : Memref sig .tc .vmem S512x256 .f32 := v201.squeeze S512x256 squeezes_S1x512x256_S512x256
    Prog.lift (.waitDma2 v198.sem v202 v200 ((View.wordExact_bits rfl).reshape _ _) ((View.wordExact_bits rfl).reshape _ _))
    let v204 : DmaSems sig S1 := cc0_scratch24.slice (Rect.unit (s := S2) ![1] S1.size inb_S2_S1_1)
    let v205 : DmaSems sig S_ := v204.squeeze S_ squeezes_S1_S_
    let v206 : Memref sig .tc .hbm S1x512x256 .f32 := bOut.slice (Rect.unit (s := S1x1024x8192) (k0_off57 d0 3840#32) S1x512x256.size (k0_off57_inb i d0 k0_h15 1)) (fun _ => rfl)
    let v207 : Memref sig .tc .hbm S512x256 .f32 := v206.squeeze S512x256 squeezes_S1x512x256_S512x256
    let v208 : Memref sig .tc .vmem S1x512x256 .f32 := bZbstore.slice (Rect.unit (s := S2x512x256) ![1, 0, 0] S1x512x256.size inb_S2x512x256_S1x512x256_1_0_0) (fun _ => rfl)
    let v209 : Memref sig .tc .vmem S512x256 .f32 := v208.squeeze S512x256 squeezes_S1x512x256_S512x256
    Prog.lift (.waitDma2 v205.sem v209 v207 ((View.wordExact_bits rfl).reshape _ _) ((View.wordExact_bits rfl).reshape _ _))
    k ⟨⟩
  else k ⟨⟩

/-- The body's block under condition 5, what follows it as a continuation. -/
def blk5 (i : grid0.Coords) (d0 : Dev nD) (k0_h4 : k0_cond4 i = 1#1) (k : PUnit.{1} → Prog (TpuEff nD τ sig (Elt F) Λ₀ .tc) α) : Prog (TpuEff nD τ sig (Elt F) Λ₀ .tc) α :=
  if k0_h5 : k0_cond5 i = 1#1 then do
    let v166 : DmaSems sig S1 := cc0_scratch21.slice (Rect.unit (s := S2) (k0_off9 i) S1.size (k0_off9_inb i k0_h4 k0_h5))
    let v167 : DmaSems sig S_ := v166.squeeze S_ squeezes_S1_S_
    let v168 : Memref sig .tc .hbm S1x512x256 .f32 := bOut.slice (Rect.unit (s := S1x1024x8192) (k0_off10 i d0) S1x512x256.size (k0_off10_inb i d0 k0_h4 k0_h5)) (fun _ => rfl)
    let v169 : Memref sig .tc .hbm S512x256 .f32 := v168.squeeze S512x256 squeezes_S1x512x256_S512x256
    let v170 : Memref sig .tc .vmem S1x512x256 .f32 := bSum.slice (Rect.unit (s := S2x512x256) (k0_off11 i) S1x512x256.size (k0_off11_inb i k0_h4 k0_h5)) (fun _ => rfl)
    let v171 : Memref sig .tc .vmem S512x256 .f32 := v170.squeeze S512x256 squeezes_S1x512x256_S512x256
    Prog.lift (.waitDma2 v167.sem v171 v169 ((View.wordExact_bits rfl).reshape _ _) ((View.wordExact_bits rfl).reshape _ _))
    k ⟨⟩
  else k ⟨⟩

/-- The body's block under condition 6, what follows it as a continuation. -/
def blk6 (i : grid0.Coords) (k0_h4 : k0_cond4 i = 1#1) (k : PUnit.{1} → Prog (TpuEff nD τ sig (Elt F) Λ₀ .tc) α) : Prog (TpuEff nD τ sig (Elt F) Λ₀ .tc) α :=
  if k0_h6 : k0_cond6 i = 1#1 then do
    let v163 : DmaSems sig S1 := cc0_scratch15.slice (Rect.unit (s := S4) (k0_off12 i) S1.size (k0_off12_inb i k0_h4 k0_h6))
    let v164 : DmaSems sig S_ := v163.squeeze S_ squeezes_S1_S_
    let v165 : Memref sig .tc .vmem S1x512x256 .bf16 := bSumbf.slice (Rect.unit (s := S4x512x256) (k0_off13 i) S1x512x256.size (k0_off13_inb i k0_h4 k0_h6)) (fun _ => rfl)
    let v166 : Memref sig .tc .vmem S512x256 .bf16 := v165.squeeze S512x256 squeezes_S1x512x256_S512x256
    let v167 : Memref sig .tc .vmem S1x512x256 .bf16 := bXrecv.slice (Rect.unit (s := S4x512x256) (k0_off13 i) S1x512x256.size (k0_off13_inb i k0_h4 k0_h6)) (fun _ => rfl)
    let v168 : Memref sig .tc .vmem S512x256 .bf16 := v167.squeeze S512x256 squeezes_S1x512x256_S512x256
    Prog.lift (.waitDma2 v164.sem v168 v166 (((Memref.isWhole_whole _).wordExact_slice rfl _ (k0_off13_wordsbf16 i k0_h4 k0_h6)).reshape _ _) (((Memref.isWhole_whole _).wordExact_slice rfl _ (k0_off13_wordsbf16 i k0_h4 k0_h6)).reshape _ _))
    let v169 : DmaSems sig S1 := cc0_scratch17.slice (Rect.unit (s := S4) (k0_off12 i) S1.size (k0_off12_inb i k0_h4 k0_h6))
    let v170 : DmaSems sig S_ := v169.squeeze S_ squeezes_S1_S_
    let v171 : Memref sig .tc .vmem S1x512x256 .bf16 := bSumbf.slice (Rect.unit (s := S4x512x256) (k0_off13 i) S1x512x256.size (k0_off13_inb i k0_h4 k0_h6)) (fun _ => rfl)
    let v172 : Memref sig .tc .vmem S512x256 .bf16 := v171.squeeze S512x256 squeezes_S1x512x256_S512x256
    let v173 : Memref sig .tc .vmem S1x512x256 .bf16 := bZrecva.slice (Rect.unit (s := S4x512x256) (k0_off13 i) S1x512x256.size (k0_off13_inb i k0_h4 k0_h6)) (fun _ => rfl)
    let v174 : Memref sig .tc .vmem S512x256 .bf16 := v173.squeeze S512x256 squeezes_S1x512x256_S512x256
    Prog.lift (.waitDma2 v170.sem v174 v172 (((Memref.isWhole_whole _).wordExact_slice rfl _ (k0_off13_wordsbf16 i k0_h4 k0_h6)).reshape _ _) (((Memref.isWhole_whole _).wordExact_slice rfl _ (k0_off13_wordsbf16 i k0_h4 k0_h6)).reshape _ _))
    k ⟨⟩
  else k ⟨⟩

/-- The computing half of the block under condition 4, what follows it as a continuation. -/
def half3 (i : grid0.Coords) (d0 : Dev nD) (k0_h4 : k0_cond4 i = 1#1) (k : PUnit → Prog (TpuEff nD τ sig (Elt F) Λ₀ .tc) α) : Prog (TpuEff nD τ sig (Elt F) Λ₀ .tc) α := do
  blk5 i d0 k0_h4 fun (_ : PUnit.{1}) => do
    blk6 i k0_h4 fun (_ : PUnit.{1}) => do
      let v110 : Vec F S1x512x256 .bf16 ← Prog.lift (.load bMine (Rect.unit (s := S2x512x256) (k0_off14 i) S1x512x256.size (k0_off14_inb i k0_h4)).toLoadRect (View.loadsAt_vmem h_S1x512x256))
      let v114 : Vec F S1x512x256 .bf16 ← Prog.lift (.load bYrecv (Rect.unit (s := S4x512x256) (k0_off15 i) S1x512x256.size (k0_off15_inb i k0_h4)).toLoadRect (View.loadsAt_vmem h_S1x512x256))
      let v119 : Vec F S1x512x256 .f32 ← Prog.lift (.load bSum (Rect.unit (s := S2x512x256) (k0_off14 i) S1x512x256.size (k0_off14_inb i k0_h4)).toLoadRect (View.loadsAt_vmem h_S1x512x256))
      Prog.lift (.store bSum (Rect.unit (s := S2x512x256) (k0_off14 i) S1x512x256.size (k0_off14_inb i k0_h4)) (k0_pay5 v110 v114) Finset.univ (View.stores_vmem_bits_univ h_S1x512x256 rfl) (.inl rfl))
      let v124 : Vec F S1x512x256 .bf16 ← Prog.lift (.load bSumbf (Rect.unit (s := S4x512x256) (k0_off15 i) S1x512x256.size (k0_off15_inb i k0_h4)).toLoadRect (View.loadsAt_vmem h_S1x512x256))
      Prog.lift (.store bSumbf (Rect.unit (s := S4x512x256) (k0_off15 i) S1x512x256.size (k0_off15_inb i k0_h4)) (k0_pay6 v110 v114) Finset.univ (View.stores_vmem h_S1x512x256 ((Memref.isWhole_whole _).storeExact_slice rfl _ (k0_off15_packedbf16 i k0_h4)) (fun _ => rfl)) (.inl rfl))
      let v133 : DmaSems sig S1 := cc0_scratch15.slice (Rect.unit (s := S4) (k0_off7 i) S1.size (k0_off7_inb i k0_h4))
      let v134 : DmaSems sig S_ := v133.squeeze S_ squeezes_S1_S_
      let v135 : DmaSems sig S1 := cc0_scratch16.slice (Rect.unit (s := S4) (k0_off7 i) S1.size (k0_off7_inb i k0_h4))
      let v136 : DmaSems sig S_ := v135.squeeze S_ squeezes_S1_S_
      let v137 : Memref sig .tc .vmem S1x512x256 .bf16 := bXrecv.slice (Rect.unit (s := S4x512x256) (k0_off8 i) S1x512x256.size (k0_off8_inb i k0_h4)) (fun _ => rfl)
      let v138 : Memref sig .tc .vmem S512x256 .bf16 := v137.squeeze S512x256 squeezes_S1x512x256_S512x256
      let v139 : Memref sig .tc .vmem S1x512x256 .bf16 := bSumbf.slice (Rect.unit (s := S4x512x256) (k0_off8 i) S1x512x256.size (k0_off8_inb i k0_h4)) (fun _ => rfl)
      let v140 : Memref sig .tc .vmem S512x256 .bf16 := v139.squeeze S512x256 squeezes_S1x512x256_S512x256
      Prog.lift (.enqueueDma v140 (.remote (Dev.tc (⟨k0_dev5 d0, k0_dev5_lt i d0 k0_h4⟩ : Dev nD)) v138 (.dma v134.sem)) (.dma v136.sem) (((Memref.isWhole_whole _).wordExact_slice rfl _ (k0_off8_wordsbf16 i k0_h4)).reshape _ _) (((Memref.isWhole_whole _).wordExact_slice rfl _ (k0_off8_wordsbf16 i k0_h4)).reshape _ _) ⟨⟨rfl, Or.inl rfl⟩, trivial⟩)
      k ⟨⟩

/-- The body's block under condition 9, what follows it as a continuation. -/
def blk9 (i : grid0.Coords) (k0_h8 : k0_cond8 i = 1#1) (k : PUnit.{1} → Prog (TpuEff nD τ sig (Elt F) Λ₀ .tc) α) : Prog (TpuEff nD τ sig (Elt F) Λ₀ .tc) α :=
  if k0_h9 : k0_cond9 i = 1#1 then do
    let v157 : DmaSems sig S1 := cc0_scratch19.slice (Rect.unit (s := S4) (k0_off23 i) S1.size (k0_off23_inb i k0_h8 k0_h9))
    let v158 : DmaSems sig S_ := v157.squeeze S_ squeezes_S1_S_
    let v159 : Memref sig .tc .vmem S1x512x256 .bf16 := bZbsrc.slice (Rect.unit (s := S2x512x256) (k0_off24 i) S1x512x256.size (k0_off24_inb i k0_h8 k0_h9)) (fun _ => rfl)
    let v160 : Memref sig .tc .vmem S512x256 .bf16 := v159.squeeze S512x256 squeezes_S1x512x256_S512x256
    let v161 : Memref sig .tc .vmem S1x512x256 .bf16 := bZrecvb.slice (Rect.unit (s := S4x512x256) (k0_off25 i) S1x512x256.size (k0_off25_inb i k0_h8 k0_h9)) (fun _ => rfl)
    let v162 : Memref sig .tc .vmem S512x256 .bf16 := v161.squeeze S512x256 squeezes_S1x512x256_S512x256
    Prog.lift (.waitDma2 v158.sem v162 v160 (((Memref.isWhole_whole _).wordExact_slice rfl _ (k0_off25_wordsbf16 i k0_h8 k0_h9)).reshape _ _) (((Memref.isWhole_whole _).wordExact_slice rfl _ (k0_off24_wordsbf16 i k0_h8 k0_h9)).reshape _ _))
    k ⟨⟩
  else k ⟨⟩

/-- The body's block under condition 10, what follows it as a continuation. -/
def blk10 (i : grid0.Coords) (d0 : Dev nD) (k0_h8 : k0_cond8 i = 1#1) (k : PUnit.{1} → Prog (TpuEff nD τ sig (Elt F) Λ₀ .tc) α) : Prog (TpuEff nD τ sig (Elt F) Λ₀ .tc) α :=
  if k0_h10 : k0_cond10 i = 1#1 then do
    let v149 : DmaSems sig S1 := cc0_scratch22.slice (Rect.unit (s := S2) (k0_off26 i) S1.size (k0_off26_inb i k0_h8 k0_h10))
    let v150 : DmaSems sig S_ := v149.squeeze S_ squeezes_S1_S_
    let v151 : Memref sig .tc .hbm S1x512x256 .f32 := bOut.slice (Rect.unit (s := S1x1024x8192) (k0_off27 i d0) S1x512x256.size (k0_off27_inb i d0 k0_h8 k0_h10)) (fun _ => rfl)
    let v152 : Memref sig .tc .hbm S512x256 .f32 := v151.squeeze S512x256 squeezes_S1x512x256_S512x256
    let v153 : Memref sig .tc .vmem S1x512x256 .f32 := bXstore.slice (Rect.unit (s := S2x512x256) (k0_off28 i) S1x512x256.size (k0_off28_inb i k0_h8 k0_h10)) (fun _ => rfl)
    let v154 : Memref sig .tc .vmem S512x256 .f32 := v153.squeeze S512x256 squeezes_S1x512x256_S512x256
    Prog.lift (.waitDma2 v150.sem v154 v152 ((View.wordExact_bits rfl).reshape _ _) ((View.wordExact_bits rfl).reshape _ _))
    k ⟨⟩
  else k ⟨⟩

/-- The computing half of the block under condition 8, what follows it as a continuation. -/
def half5 (i : grid0.Coords) (d0 : Dev nD) (k0_h8 : k0_cond8 i = 1#1) (k : PUnit → Prog (TpuEff nD τ sig (Elt F) Λ₀ .tc) α) : Prog (TpuEff nD τ sig (Elt F) Λ₀ .tc) α := do
  blk9 i k0_h8 fun (_ : PUnit.{1}) => do
    blk10 i d0 k0_h8 fun (_ : PUnit.{1}) => do
      let v110 : Vec F S1x512x256 .bf16 ← Prog.lift (.load bXrecv (Rect.unit (s := S4x512x256) (k0_off29 i) S1x512x256.size (k0_off29_inb i k0_h8)).toLoadRect (View.loadsAt_vmem h_S1x512x256))
      let v113 : Vec F S1x512x256 .bf16 ← Prog.lift (.load bZbsrc (Rect.unit (s := S2x512x256) (k0_off30 i) S1x512x256.size (k0_off30_inb i k0_h8)).toLoadRect (View.loadsAt_vmem h_S1x512x256))
      Prog.lift (.store bZbsrc (Rect.unit (s := S2x512x256) (k0_off30 i) S1x512x256.size (k0_off30_inb i k0_h8)) (k0_pay7 v110) Finset.univ (View.stores_vmem h_S1x512x256 ((Memref.isWhole_whole _).storeExact_slice rfl _ (k0_off30_packedbf16 i k0_h8)) (fun _ => rfl)) (.inl rfl))
      let v122 : DmaSems sig S1 := cc0_scratch19.slice (Rect.unit (s := S4) (k0_off21 i) S1.size (k0_off21_inb i k0_h8))
      let v123 : DmaSems sig S_ := v122.squeeze S_ squeezes_S1_S_
      let v124 : DmaSems sig S1 := cc0_scratch20.slice (Rect.unit (s := S4) (k0_off21 i) S1.size (k0_off21_inb i k0_h8))
      let v125 : DmaSems sig S_ := v124.squeeze S_ squeezes_S1_S_
      let v126 : Memref sig .tc .vmem S1x512x256 .bf16 := bZrecvb.slice (Rect.unit (s := S4x512x256) (k0_off22 i) S1x512x256.size (k0_off22_inb i k0_h8)) (fun _ => rfl)
      let v127 : Memref sig .tc .vmem S512x256 .bf16 := v126.squeeze S512x256 squeezes_S1x512x256_S512x256
      let v128 : Memref sig .tc .vmem S1x512x256 .bf16 := bZbsrc.slice (Rect.unit (s := S2x512x256) (k0_off31 i) S1x512x256.size (k0_off31_inb i k0_h8)) (fun _ => rfl)
      let v129 : Memref sig .tc .vmem S512x256 .bf16 := v128.squeeze S512x256 squeezes_S1x512x256_S512x256
      Prog.lift (.enqueueDma v129 (.remote (Dev.tc (⟨k0_dev7 d0, k0_dev7_lt i d0 k0_h8⟩ : Dev nD)) v127 (.dma v123.sem)) (.dma v125.sem) (((Memref.isWhole_whole _).wordExact_slice rfl _ (k0_off31_wordsbf16 i k0_h8)).reshape _ _) (((Memref.isWhole_whole _).wordExact_slice rfl _ (k0_off22_wordsbf16 i k0_h8)).reshape _ _) ⟨⟨rfl, Or.inl rfl⟩, trivial⟩)
      let v131 : Vec F S1x512x256 .bf16 ← Prog.lift (.load bXrecv (Rect.unit (s := S4x512x256) (k0_off29 i) S1x512x256.size (k0_off29_inb i k0_h8)).toLoadRect (View.loadsAt_vmem h_S1x512x256))
      let v135 : Vec F S1x512x256 .f32 ← Prog.lift (.load bXstore (Rect.unit (s := S2x512x256) (k0_off30 i) S1x512x256.size (k0_off30_inb i k0_h8)).toLoadRect (View.loadsAt_vmem h_S1x512x256))
      Prog.lift (.store bXstore (Rect.unit (s := S2x512x256) (k0_off30 i) S1x512x256.size (k0_off30_inb i k0_h8)) (k0_pay8 v131) Finset.univ (View.stores_vmem_bits_univ h_S1x512x256 rfl) (.inl rfl))
      k ⟨⟩

/-- The body, block by block: `q3`, `q5` its two computing halves, `v` a word its first part hands on unused. -/
def body (i : grid0.Coords) (arg2 : Memref sig .tc .vmem S2048x4096 .bf16) (harg2 : arg2.IsWhole) (arg3 : Memref sig .tc .vmem S4096x256 .f32) (harg3 : arg3.IsWhole)
    (q3 : Dev nD → k0_cond4 i = 1#1 → Prog (TpuEff nD τ sig (Elt F) Λ₀ .tc) (BitVec 32)) (q5 : Dev nD → k0_cond8 i = 1#1 → Prog (TpuEff nD τ sig (Elt F) Λ₀ .tc) PUnit.{1}) (v : Dev nD → BitVec 32) :
    Prog (TpuEff nD τ sig (Elt F) Λ₀ .tc) PUnit.{1} :=
  Prog.lift .deviceId >>= fun d0 =>
    (blk1 i d0 fun (_ : PUnit.{1}) =>
      blk2 i fun (_ : PUnit.{1}) =>
      blk3 i arg2 harg2 arg3 harg3 d0 fun (_ : PUnit.{1}) =>
      blk4 i d0 (q3 d0) fun (_ : PUnit.{1}) =>
      blk7 i arg2 harg2 d0 fun (_ : PUnit.{1}) =>
      blk8 i d0 (q5 d0) fun (_ : PUnit.{1}) =>
      blk11 i d0 fun (_ : PUnit.{1}) =>
      pure (v d0)) >>= fun _ =>
      blk13 i d0 fun (_ : PUnit.{1}) =>
      blk15 i d0 fun (_ : PUnit.{1}) =>
      pure ⟨⟩

theorem body_eq (i : grid0.Coords) (arg2 : Memref sig .tc .vmem S2048x4096 .bf16) (harg2 : arg2.IsWhole) (arg3 : Memref sig .tc .vmem S4096x256 .f32) (harg3 : arg3.IsWhole) :
    ∃ q3 q5 v, cc0_body (F := F) i (Memref.whole main_v7) (Memref.isWhole_whole _) arg2 harg2 arg3 harg3 bOut (Memref.isWhole_whole _) bWb (Memref.isWhole_whole _) bYsend (Memref.isWhole_whole _) bYrecv (Memref.isWhole_whole _) bMine (Memref.isWhole_whole _) bSum (Memref.isWhole_whole _) bSumbf (Memref.isWhole_whole _) bXrecv (Memref.isWhole_whole _) bZbsrc (Memref.isWhole_whole _) bZrecva (Memref.isWhole_whole _) bZrecvb (Memref.isWhole_whole _) bXstore (Memref.isWhole_whole _) bZastore (Memref.isWhole_whole _) bZbstore (Memref.isWhole_whole _) cc0_scratch13 cc0_scratch14 cc0_scratch15 cc0_scratch16 cc0_scratch17 cc0_scratch18 cc0_scratch19 cc0_scratch20 cc0_scratch21 cc0_scratch22 cc0_scratch23 cc0_scratch24 = body (F := F) i arg2 harg2 arg3 harg3 q3 q5 v
      ∧ (∀ d h, ∃ w : BitVec 32, q3 d h = half3 i d h (fun _ => pure w))
      ∧ (∀ d h, q5 d h = half5 i d h (fun _ => pure ⟨⟩)) :=
  ⟨_, _, _, rfl, fun d h => ⟨_, rfl⟩, fun d h => rfl⟩

end Cert.KernelIdeal.Kern
-- ==== Proof.State.lean ====
/- What a device holds between two blocks of the kernel's body, piece by piece: the channels, the source slots free to fill,
   the tiles of the half product kept; and the first two blocks: the y channel's source slot taken back, and its next tile
   formed and sent. -/
module

public import proofs.«01_k».proof.Proof.Slots
public import proofs.«01_k».proof.Proof.Offsets
public import proofs.«01_k».proof.Proof.Blocks

@[expose] public section

noncomputable section

namespace Cert.KernelIdeal.Kern

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The pieces -/

/-- A channel between two blocks: every slot read is the device's to hand over. -/
def chB (ch : Fin 4) (c : Dev nD) (n m w : ℕ) : sProp (MM F) := chS ch c n m w (min (m + 2) 16) (min (n + 2) 16) (m + 4)

/-- The source slots of tiles `a` up to `b`, free to fill. -/
def srcF (ch : Fin 4) (c : Dev nD) (a b : ℕ) : sProp (MM F) := win (fun u => iprop(∃ X, ownsTc c (srcSlot ch u) fullShare X)) a b

theorem upd0 (a b d e v : ℕ) : Function.update ![a, b, d, e] 0 v = ![v, b, d, e] := by funext x; fin_cases x <;> rfl
theorem upd1 (a b d e v : ℕ) : Function.update ![a, b, d, e] 1 v = ![a, v, d, e] := by funext x; fin_cases x <;> rfl
theorem upd2 (a b d e v : ℕ) : Function.update ![a, b, d, e] 2 v = ![a, b, v, e] := by funext x; fin_cases x <;> rfl
theorem upd3 (a b d e v : ℕ) : Function.update ![a, b, d, e] 3 v = ![a, b, d, v] := by funext x; fin_cases x <;> rfl

variable (A : Dev nD → S2048x4096.Idx → Elt F .bf16) (B : Dev nD → ℕ → S4096x256.Idx → Elt F .f32)
variable (K : GSem nD τ sig → ℕ)

/-- The half products kept, tiles `a` up to `b`, and the slots free for those after. -/
def mineS (c : Dev nD) (a b : ℕ) : sProp (MM F) :=
  iprop(win (fun u => ownsTc c (slot2 bMine u) fullShare (mineD A B c u)) a b
    ∗ win (fun u => iprop(∃ X, ownsTc c (slot2 bMine u) fullShare X)) b (a + 2))

variable {defs : Defs nD τ sig (Elt F) Λ₀} (𝒱 : Variants) (c : Dev nD) {bd : Option 𝒱.V}
variable {α : Type} {Q : α → sProp (MM F)}

/-- The same with the tile `m` received and its slot not yet given up. -/
def chR (ch : Fin 4) (c : Dev nD) (n m w : ℕ) : sProp (MM F) :=
  iprop(chS ch c n (m + 1) w (min (m + 3) 16) (min (n + 2) 16) (m + 4) ∗ reached ER (recvCell ch c (m + 4)) ((m + 4) / 4))

theorem cb_send (ch : Fin 4) (n m w : ℕ) (ns : Fin 4 → ℕ) (hns : ns ch = n) (hn : n < 16) (hwn : w ≤ n) (hw : n < w + 4) (hpb : n < min (m + 2) 16)
    (hf : min (n + 2) 16 < m + 4 ∨ 14 ≤ n) {c' : Dev nD} (hc' : c' = peer ch c)
    {ms md : Memref sig .tc .vmem S1x512x256 .bf16} (hms : ms = srcSlot ch n) (hmd : md = recvSlot ch n)
    {sS sR : DmaSem sig} (hsS : sS = sendSem ch n) (hsR : sR = recvSem ch n) {h : S1x512x256.Squeezes S512x256}
    {hsc : (md.squeeze S512x256 h).view.ref.isScScratch = false}
    {hsrc : (ms.squeeze S512x256 h).view.WordExact} {hdst : (md.squeeze S512x256 h).view.WordExact}
    {hsem : DmaTarget.Typed .vmem (.dma sR) (.remote (c' : Thread nD τ) (md.squeeze S512x256 h) (.dma sS) hsc)}
    {k : PUnit → Prog (TpuEff nD τ sig (Elt F) Λ₀ .tc) α} :
    iprop(invs A B K ∗ chB ch c n m w ∗ ownsTc c (srcSlot ch n) (shareOf ch) (chD A B ch c n) ∗ owesE c (debt c ns))
      ⊢ iprop(((chB ch c (n + 1) m w ∗ owesE c (debt c (Function.update ns ch (n + 1))))
            -∗ wp frame (wpE defs 𝒱 (c : Thread nD τ) bd) Set.univ (k ⟨⟩) Q)
          -∗ wp frame (wpE defs 𝒱 (c : Thread nD τ) bd) Set.univ
              (.op (.enqueueDma (ms.squeeze S512x256 h) (.remote (c' : Thread nD τ) (md.squeeze S512x256 h) (.dma sS) hsc) (.dma sR) hsrc hdst hsem) k) Q) := by
  unfold chB
  exact ch_send A B K 𝒱 c ch ns hns hn hwn hw hpb rfl hf hc' hms hmd hsS hsR h

theorem cb_recv (ch : Fin 4) (n m w : ℕ) (ns : Fin 4 → ℕ) (j : ℕ) (hm : m < 16) (hn : n ≤ min (m + 2) 16)
    (hj : ∀ ch, j ≤ ns ch + delay ch ∨ 16 ≤ ns ch) (hj' : m + 1 + delay ch ≤ j)
    {s : DmaSem sig} (hs : s = recvSem ch m) {sp sp' : Space} {sh sh' : Shape} {e e' : EltTy} {md : Memref sig .tc sp sh e} {ms : Memref sig .tc sp' sh' e'}
    (hcr : md.view.dmaCredit = Nb) {h1 : ms.view.WordExact} {h2 : md.view.WordExact} {k : PUnit → Prog (TpuEff nD τ sig (Elt F) Λ₀ .tc) α} :
    iprop(invs A B K ∗ levAts L lv ∗ chB ch c n m w ∗ owesE c (debt c ns))
      ⊢ iprop(((chR ch c n m w ∗ ownsTc c (recvSlot ch m) fullShare (chD A B ch (peer ch c) m) ∗ owesE c (debt c ns))
            -∗ wp frame (wpE defs 𝒱 (c : Thread nD τ) bd) Set.univ (k ⟨⟩) Q)
          -∗ wp frame (wpE defs 𝒱 (c : Thread nD τ) bd) Set.univ (.op (.waitDma2 s ms md h1 h2) k) Q) := by
  unfold chB chR
  iintro H Hk
  iapply (ch_recv A B K 𝒱 c ch ns j hm rfl hn hj hj' hs hcr) $$ H
  iintro ⟨H1, H2, H3, H4⟩
  iapply Hk
  isplitl [H1 H3]
  · isplitl [H1]; · iexact H1
    iexact H3
  isplitl [H2]; · iexact H2
  iexact H4

theorem cb_free (ch : Fin 4) (n m w : ℕ) (hn : min (n + 2) 16 ≤ m + 4) (X : S1x512x256.Idx → Elt F .bf16) :
    (iprop(chR ch c n m w ∗ ownsTc c (recvSlot ch m) fullShare X) : sProp (MM F)) ⊢ chB ch c n (m + 1) w := by
  unfold chB chR
  iintro ⟨⟨H1, H3⟩, H2⟩
  rw [show m + 1 + 4 = m + 4 + 1 by omega, show m + 1 + 2 = m + 3 by omega]
  iapply (ch_free c ch m rfl hn X)
  isplitl [H1]; · iexact H1
  isplitl [H2]; · iexact H2
  iexact H3

theorem cb_left (ch : Fin 4) (n m w : ℕ) (ns : Fin 4 → ℕ) (j : ℕ) (hw : w < 16) (hwn : w < n) (hn : n ≤ w + 4)
    (hj : ∀ ch, j ≤ ns ch + delay ch ∨ 16 ≤ ns ch)
    {s : DmaSem sig} (hs : s = sendSem ch w) {sp sp' : Space} {sh sh' : Shape} {e e' : EltTy} {md : Memref sig .tc sp sh e} {ms : Memref sig .tc sp' sh' e'}
    (hcr : md.view.dmaCredit = Nb) {h1 : ms.view.WordExact} {h2 : md.view.WordExact} {k : PUnit → Prog (TpuEff nD τ sig (Elt F) Λ₀ .tc) α} :
    iprop(invs A B K ∗ levAts L lv ∗ chB ch c n m w ∗ owesE c (debt c ns))
      ⊢ iprop(((chB ch c n m (w + 1) ∗ ownsTc c (srcSlot ch w) (shareOf ch) (chD A B ch c w) ∗ owesE c (debt c ns))
            -∗ wp frame (wpE defs 𝒱 (c : Thread nD τ) bd) Set.univ (k ⟨⟩) Q)
          -∗ wp frame (wpE defs 𝒱 (c : Thread nD τ) bd) Set.univ (.op (.waitDma2 s ms md h1 h2) k) Q) := by
  unfold chB
  exact ch_left A B K 𝒱 c ch ns j hw hwn hn hj hs hcr

/-- A source slot taken back is free to fill. -/
theorem src_back4 (ch : Fin 4) (n w : ℕ) (hn : n ≤ w + 4) (X : S1x512x256.Idx → Elt F .bf16) :
    (iprop(srcF ch c n (w + 4) ∗ ownsTc c (srcSlot ch w) fullShare X) : sProp (MM F)) ⊢ srcF ch c n (w + 1 + 4) := by
  unfold srcF
  rw [show w + 1 + 4 = w + 4 + 1 by omega, win_push _ hn, srcSlot_congr ch (show (w + 4) % 4 = w % 4 by omega)]
  iintro ⟨Hf, Hs⟩
  isplitl [Hf]; · iexact Hf
  iexists _; iexact Hs

theorem blk2_ok (i : grid0.Coords) {n m w w' : ℕ} (ns : Fin 4 → ℕ) (j : ℕ) (hi : (i 0).val = j)
    (h : 4 ≤ j ∧ j < 16 → w + 4 = j ∧ n = j ∧ w' = w + 1) (h' : ¬ (4 ≤ j ∧ j < 16) → w' = w)
    (hj : ∀ ch, j ≤ ns ch + delay ch ∨ 16 ≤ ns ch) {k : PUnit.{1} → Prog (TpuEff nD τ sig (Elt F) Λ₀ .tc) α} :
    iprop(invs A B K ∗ levAts L lv ∗ (chB 0 c n m w ∗ srcF 0 c n (w + 4)) ∗ owesE c (debt c ns))
      ⊢ iprop((((chB 0 c n m w' ∗ srcF 0 c n (w' + 4)) ∗ owesE c (debt c ns))
            -∗ wp frame (wpE defs 𝒱 (c : Thread nD τ) bd) Set.univ (k ⟨⟩) Q)
          -∗ wp frame (wpE defs 𝒱 (c : Thread nD τ) bd) Set.univ (blk2 i k) Q) := by
  unfold blk2
  split
  · rename_i hc
    have hc' := (cond2 i).1 hc
    rw [hi] at hc'
    obtain ⟨e1, e2, rfl⟩ := h hc'
    iintro ⟨#HI, #HL, ⟨Hch, Hf⟩, HO⟩ Hk
    iapply (cb_left (defs := defs) A B K 𝒱 c 0 n m w ns j (by omega) (by omega) (by omega) hj (sem13 (by rw [off1 i hc, hi, show j - 4 = w by omega]) _ _) rfl) $$ [Hch HO]
    · isplitr; · iexact HI
      isplitr; · iexact HL
      isplitl [Hch]; · iexact Hch
      iexact HO
    iintro ⟨Hch, Hs, HO⟩
    iapply Hk
    isplitr [HO]
    · isplitl [Hch]; · iexact Hch
      iapply (src_back4 c 0 n w (by omega) _)
      isplitl [Hf]; · iexact Hf
      iexact Hs
    · iexact HO
  · rename_i hc
    have hc' : ¬ (4 ≤ j ∧ j < 16) := fun hh => hc ((cond2 i).2 (by rw [hi]; exact hh))
    rw [h' hc']
    iintro ⟨#HI, #HL, Hch, HO⟩ Hk
    iapply Hk
    isplitl [Hch]; · iexact Hch
    iexact HO

/-- The right-hand tile of this step, in bf16, once it is formed. -/
def wbS (c : Dev nD) (j : ℕ) : sProp (MM F) := iprop(∃ X, ⌜j < 16 → X = wbD B c j⌝ ∗ ownsTc c bWb fullShare X)

theorem blk3_ok (i : grid0.Coords) {n n' m w : ℕ} (n1 n2 n3 : ℕ) (j : ℕ) (hi : (i 0).val = j)
    (arg2 : Memref sig .tc .vmem S2048x4096 .bf16) (harg2 : arg2.IsWhole) (arg3 : Memref sig .tc .vmem S4096x256 .f32) (harg3 : arg3.IsWhole) {q3 : PosShare TreeShare} {q2 : PosShare TreeShare}
    (X3 : S4096x256.Idx → Elt F .f32) (h3 : j < 16 → X3 = B c j)
    (h : j < 16 → n = j ∧ n' = n + 1 ∧ w ≤ n ∧ n < w + 4 ∧ n < m + 2) (h' : ¬ j < 16 → n' = n)
    {k : PUnit.{1} → Prog (TpuEff nD τ sig (Elt F) Λ₀ .tc) α} :
    iprop(invs A B K ∗ (ownsTc c arg2 q2 (A c) ∗ ownsTc c arg3 q3 X3) ∗ (∃ X, ownsTc c bWb fullShare X)
        ∗ (chB 0 c n m w ∗ srcF 0 c n (w + 4)) ∗ owesE c (debt c ![n, n1, n2, n3]))
      ⊢ iprop((((ownsTc c arg2 q2 (A c) ∗ ownsTc c arg3 q3 X3) ∗ wbS B c j ∗ (chB 0 c n' m w ∗ srcF 0 c n' (w + 4)) ∗ owesE c (debt c ![n', n1, n2, n3]))
            -∗ wp frame (wpE defs 𝒱 (c : Thread nD τ) bd) Set.univ (k ⟨⟩) Q)
          -∗ wp frame (wpE defs 𝒱 (c : Thread nD τ) bd) Set.univ (blk3 i arg2 harg2 arg3 harg3 c k) Q) := by
  unfold blk3
  split
  · rename_i hc
    have hc' := (cond3 i).1 hc
    rw [hi] at hc'
    obtain ⟨e1, rfl, e2, e3, e4⟩ := h hc'
    subst e1
    have h3' := h3 hc'
    subst h3'
    unfold srcF
    rw [win_pop _ e3]
    iintro ⟨#HI, ⟨H2, H3⟩, ⟨%X, Hw⟩, ⟨Hch, ⟨%Y, Hs⟩, Hf⟩, HO⟩ Hk
    iapply (ldW (defs := defs) 𝒱 c) $$ H3
    iintro H3
    iapply (ldW (defs := defs) 𝒱 c) $$ Hw
    iintro Hw
    iapply (stW (defs := defs) 𝒱 c) $$ Hw
    iintro Hw
    iapply (ldA (defs := defs) 𝒱 c (off3 c) (inbA (1 - py c) c (by omega))) $$ H2
    iintro H2
    iapply (ldW (defs := defs) 𝒱 c) $$ Hw
    iintro Hw
    rw [show srcSlot 0 n = slot4 bYsend n from rfl]
    iapply (ld4 (defs := defs) 𝒱 c n (by rw [off4 i hc, hi])) $$ Hs
    iintro Hs
    iapply (st4 (defs := defs) 𝒱 c n (by rw [off4 i hc, hi])) $$ Hs
    iintro Hs
    iapply (cb_send (defs := defs) A B K 𝒱 c 0 n m w ![n, n1, n2, n3] rfl (by omega) (by omega) (by omega) (by omega) (by omega) (dev_congr (dev4 c) _)
      (sl4 bYsend (by rw [off6 i hc, hi]) _) (sl4 bYrecv (by rw [off6 i hc, hi]) _) (sem13 (by rw [off5 i hc, hi]) _ _) (sem14 (by rw [off5 i hc, hi]) _ _)) $$ [Hch Hs HO]
    · isplitr; · iexact HI
      isplitl [Hch]; · iexact Hch
      isplitl [Hs]; · iexact Hs
      iexact HO
    rw [upd0]
    iintro ⟨Hch, HO⟩
    iapply Hk
    isplitl [H2 H3]
    · isplitl [H2]; · iexact H2
      iexact H3
    isplitl [Hw]
    · unfold wbS
      iexists _
      isplitr; swap; · iexact Hw
      ipureintro
      intro _; rfl
    isplitr [HO]
    · isplitl [Hch]; · iexact Hch
      iexact Hf
    · iexact HO
  · rename_i hc
    have hc' : ¬ (j < 16) := fun hh => hc ((cond3 i).2 (by rw [hi]; exact hh))
    rw [h' hc']
    iintro ⟨#HI, H23, ⟨%X, Hw⟩, Hch, HO⟩ Hk
    iapply Hk
    isplitl [H23]; · iexact H23
    isplitl [Hw]
    · unfold wbS
      iexists X
      isplitr; swap; · iexact Hw
      ipureintro
      intro hh; exact absurd hh hc'
    isplitl [Hch]; · iexact Hch
    iexact HO

end Cert.KernelIdeal.Kern
-- ==== Proof.BlockSum.lean ====
/- The block that receives the y peer's half product, adds it to the one kept, and sends the sum on to the x peer and the z
   twin and out to the result; and the block that forms the next half product kept. -/
module

public import proofs.«01_k».proof.Proof.State

@[expose] public section

noncomputable section

namespace Cert.KernelIdeal.Kern

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (A : Dev nD → S2048x4096.Idx → Elt F .bf16) (B : Dev nD → ℕ → S4096x256.Idx → Elt F .f32)
variable (K : GSem nD τ sig → ℕ)

/-- A memref owned in full is owned in two halves, and two halves at the same contents make it up again. -/
theorem halves_split (c : Dev nD) {sp : Space} {sh : Shape} {e : EltTy} (m : Memref sig .tc sp sh e) (X : sh.Idx → Elt F e) :
    (ownsTc c m fullShare X : sProp (MM F)) ⊢ iprop(ownsTc c m fullShare.left X ∗ ownsTc c m fullShare.right X) := by
  iintro H
  ihave H := (owns_elim c m fullShare X) $$ H
  icases H with ⟨%f, %hf, H⟩
  ihave H := (pointsTo_share (PosShare.mem_left_op_right _)).1 $$ H
  icases H with ⟨H1, H2⟩
  isplitl [H1]
  · iapply (owns_of_pts c m _ X f hf); iexact H1
  · iapply (owns_of_pts c m _ X f hf); iexact H2
theorem halves_join (c : Dev nD) {sp : Space} {sh : Shape} {e : EltTy} (m : Memref sig .tc sp sh e) (X Y : sh.Idx → Elt F e) :
    iprop(ownsTc c m fullShare.left X ∗ ownsTc c m fullShare.right Y) ⊢ (ownsTc c m fullShare X : sProp (MM F)) := by
  iintro ⟨H1, H2⟩
  ihave H1 := (owns_elim c m _ X) $$ H1
  ihave H2 := (owns_elim c m _ Y) $$ H2
  icases H1 with ⟨%f, %hf, H1⟩
  icases H2 with ⟨%g, %hg, H2⟩
  icombine H1 H2 as H
  ihave %hag := pointsTo_agree $$ H
  icases H with ⟨H1, H2⟩
  ihave H2 := (Entails.of_eq (pointsTo_congr (f := g) (g := f) fun i hi => ((hag i (Finset.mem_inter.mpr ⟨hi, hi⟩)).1).symm)) $$ H2
  iapply (owns_of_pts c m fullShare X f hf)
  iapply (pointsTo_share (PosShare.mem_left_op_right fullShare)).2
  isplitl [H1]; · iexact H1
  iexact H2

/-- The next slot a sender will fill, taken out of those free. -/
theorem srcF_pop (ch : Fin 4) (c : Dev nD) {a b : ℕ} (h : a < b) :
    (srcF ch c a b : sProp (MM F)) ⊢ iprop((∃ X, ownsTc c (srcSlot ch a) fullShare X) ∗ srcF ch c (a + 1) b) := by
  unfold srcF
  rw [win_pop (fun u => iprop(∃ X, ownsTc c (srcSlot ch u) fullShare X)) h]
/-- The oldest half product kept, taken out; its slot, put back, is free. -/
theorem mineS_pop (c : Dev nD) (a : ℕ) :
    mineS A B c a (a + 1) ⊢ iprop(ownsTc c (slot2 bMine a) fullShare (mineD A B c a)
      ∗ ((∃ X, ownsTc c (slot2 bMine a) fullShare X) -∗ mineS A B c (a + 1) (a + 1))) := by
  unfold mineS
  rw [win_pop (fun u => ownsTc c (slot2 bMine u) fullShare (mineD A B c u)) (show a < a + 1 by omega)]
  iintro ⟨⟨Hm, Hd⟩, Hf⟩
  isplitl [Hm]; · iexact Hm
  iintro ⟨%X, H⟩
  isplitl [Hd]; · iexact Hd
  iapply (Entails.of_eq (win_push (fun u => iprop(∃ X, ownsTc c (slot2 bMine u) fullShare X)) (show a + 1 ≤ a + 2 by omega)).symm)
  isplitl [Hf]; · iexact Hf
  rw [slot2_congr bMine (show (a + 2) % 2 = a % 2 by omega)]
  iexists X; iexact H

variable {defs : Defs nD τ sig (Elt F) Λ₀} (𝒱 : Variants) (c : Dev nD) {bd : Option 𝒱.V}
variable {α : Type} {Q : α → sProp (MM F)}

/-- A program that has ended gives its value; one program after another. -/
theorem wp_val {β : Type} (a : β) {R : β → sProp (MM F)} : R a ⊢ wp frame (wpE defs 𝒱 (c : Thread nD τ) bd) Set.univ (.ret a) R :=
  fupd_intro
theorem wp_seq {β : Type} (p : Prog (TpuEff nD τ sig (Elt F) Λ₀ .tc) β) (k : β → Prog (TpuEff nD τ sig (Elt F) Λ₀ .tc) α) :
    wp frame (wpE defs 𝒱 (c : Thread nD τ) bd) Set.univ p (fun b => wp frame (wpE defs 𝒱 (c : Thread nD τ) bd) Set.univ (k b) Q)
      ⊢ wp frame (wpE defs 𝒱 (c : Thread nD τ) bd) Set.univ (p >>= k) Q :=
  Entails.of_eq (wp_bind _ _ _ _ _ _).symm

theorem wp_next {β : Type} (a : β) {k : β → Prog (TpuEff nD τ sig (Elt F) Λ₀ .tc) α} :
    wp frame (wpE defs 𝒱 (c : Thread nD τ) bd) Set.univ (k a) Q ⊢ wp frame (wpE defs 𝒱 (c : Thread nD τ) bd) Set.univ ((Prog.ret a).bind k) Q :=
  .rfl

theorem blk5_ok (i : grid0.Coords) (hc : k0_cond4 i = 1#1) (ns : Fin 4 → ℕ) (u : ℕ) (hi : (i 0).val = u + 1) (hu : u < 16)
    (hj : ∀ ch, u + 1 ≤ ns ch + delay ch ∨ 16 ≤ ns ch) {k : PUnit.{1} → Prog (TpuEff nD τ sig (Elt F) Λ₀ .tc) α} :
    iprop(invs A B K ∗ levAts L lv ∗ locS A B 0 c u (u - 2) u ∗ owesE c (debt c ns))
      ⊢ iprop(((locS A B 0 c u (u - 1) u ∗ owesE c (debt c ns)) -∗ wp frame (wpE defs 𝒱 (c : Thread nD τ) bd) Set.univ (k ⟨⟩) Q)
          -∗ wp frame (wpE defs 𝒱 (c : Thread nD τ) bd) Set.univ (blk5 i c hc k) Q) := by
  unfold blk5
  split
  · rename_i h5
    have hc' := (cond5 i).1 h5
    rw [hi] at hc'
    have h := loc_wait (Q := Q) (defs := defs) (bd := bd) A B K 𝒱 c 0 (n := u) (w := u - 2) (s := u) ns (u + 1) (by omega) (by omega) (by omega) (by omega) hj
      (sem21 (by rw [off9 i h5, hi, show u + 1 - 3 = u - 2 by omega]) (k0_off9_inb i hc h5) squeezes_S1_S_)
      (md := (bOut.slice (Rect.unit (s := S1x1024x8192) (k0_off10 i c) S1x512x256.size (k0_off10_inb i c hc h5)) (fun _ => rfl)).squeeze S512x256 squeezes_S1x512x256_S512x256) rfl
      (ms := (bSum.slice (Rect.unit (s := S2x512x256) (k0_off11 i) S1x512x256.size (k0_off11_inb i hc h5)) (fun _ => rfl)).squeeze S512x256 squeezes_S1x512x256_S512x256)
      (h1 := (View.wordExact_bits rfl).reshape _ _) (h2 := (View.wordExact_bits rfl).reshape _ _) (k := k)
    rw [show u - 2 + 1 = u - 1 by omega] at h
    exact h
  · rename_i h5
    have hc' : ¬ (3 ≤ u + 1) := fun hh => h5 ((cond5 i).2 (by rw [hi]; exact hh))
    rw [show u - 2 = u - 1 by omega]
    iintro ⟨#HI, #HL, Hch, HO⟩ Hk
    iapply Hk
    isplitl [Hch]; · iexact Hch
    iexact HO

theorem blk6_ok (i : grid0.Coords) (hc : k0_cond4 i = 1#1) (ns : Fin 4 → ℕ) (u m1 m2 : ℕ) (hi : (i 0).val = u + 1) (hu : u < 16)
    (hj : ∀ ch, u + 1 ≤ ns ch + delay ch ∨ 16 ≤ ns ch) {k : PUnit.{1} → Prog (TpuEff nD τ sig (Elt F) Λ₀ .tc) α} :
    iprop(invs A B K ∗ levAts L lv ∗ (chB 1 c u m1 (u - 4) ∗ chB 2 c u m2 (u - 4) ∗ srcF 1 c u (u - 4 + 4)) ∗ owesE c (debt c ns))
      ⊢ iprop((((chB 1 c u m1 (u - 3) ∗ chB 2 c u m2 (u - 3) ∗ srcF 1 c u (u - 3 + 4)) ∗ owesE c (debt c ns))
            -∗ wp frame (wpE defs 𝒱 (c : Thread nD τ) bd) Set.univ (k ⟨⟩) Q)
          -∗ wp frame (wpE defs 𝒱 (c : Thread nD τ) bd) Set.univ (blk6 i hc k) Q) := by
  unfold blk6
  split
  · rename_i h6
    have hc' := (cond6 i).1 h6
    rw [hi] at hc'
    rw [show u - 3 = u - 4 + 1 by omega]
    iintro ⟨#HI, #HL, ⟨Hc1, Hc2, Hf⟩, HO⟩ Hk
    iapply (cb_left (defs := defs) A B K 𝒱 c 1 u m1 (u - 4) ns (u + 1) (by omega) (by omega) (by omega) hj (sem15 (by rw [off12 i h6, hi, show u + 1 - 5 = u - 4 by omega]) _ _) rfl) $$ [Hc1 HO]
    · isplitr; · iexact HI
      isplitr; · iexact HL
      isplitl [Hc1]; · iexact Hc1
      iexact HO
    iintro ⟨Hc1, Hs1, HO⟩
    iapply (cb_left (defs := defs) A B K 𝒱 c 2 u m2 (u - 4) ns (u + 1) (by omega) (by omega) (by omega) hj (sem17 (by rw [off12 i h6, hi, show u + 1 - 5 = u - 4 by omega]) _ _) rfl) $$ [Hc2 HO]
    · isplitr; · iexact HI
      isplitr; · iexact HL
      isplitl [Hc2]; · iexact Hc2
      iexact HO
    iintro ⟨Hc2, Hs2, HO⟩
    iapply Hk
    isplitr [HO]
    · isplitl [Hc1]; · iexact Hc1
      isplitl [Hc2]; · iexact Hc2
      iapply (src_back4 c 1 u (u - 4) (by omega) (chD A B 1 c (u - 4)))
      isplitl [Hf]; · iexact Hf
      iapply (halves_join c (srcSlot 1 (u - 4)) (chD A B 1 c (u - 4)) (chD A B 2 c (u - 4)))
      isplitl [Hs1]; · iexact Hs1
      iexact Hs2
    · iexact HO
  · rename_i h6
    have hc' : ¬ (5 ≤ u + 1) := fun hh => h6 ((cond6 i).2 (by rw [hi]; exact hh))
    rw [show u - 4 = u - 3 by omega]
    iintro ⟨#HI, #HL, Hch, HO⟩ Hk
    iapply Hk
    isplitl [Hch]; · iexact Hch
    iexact HO

theorem half3_ok (i : grid0.Coords) (hc : k0_cond4 i = 1#1) (n0 n3 u m1 m2 : ℕ) (hi : (i 0).val = u + 1) (hu : u < 16)
    (hj : ∀ ch, u + 1 ≤ (![n0, u, u, n3] : Fin 4 → ℕ) ch + delay ch ∨ 16 ≤ (![n0, u, u, n3] : Fin 4 → ℕ) ch) (hm1 : u < m1 + 2)
    {k : PUnit.{1} → Prog (TpuEff nD τ sig (Elt F) Λ₀ .tc) α} :
    iprop(invs A B K ∗ levAts L lv ∗ ownsTc c (recvSlot 0 u) fullShare (chD A B 0 (peer 0 c) u) ∗ mineS A B c u (u + 1) ∗ locS A B 0 c u (u - 2) u
        ∗ (chB 1 c u m1 (u - 4) ∗ chB 2 c u m2 (u - 4) ∗ srcF 1 c u (u - 4 + 4)) ∗ owesE c (debt c ![n0, u, u, n3]))
      ⊢ iprop(((ownsTc c (recvSlot 0 u) fullShare (chD A B 0 (peer 0 c) u) ∗ mineS A B c (u + 1) (u + 1)
              ∗ locS A B 0 c u (u - 1) (u + 1) ∗ ownsTc c (locSlot 0 u) fullShare (outD A B 0 c u)
              ∗ (chB 1 c (u + 1) m1 (u - 3) ∗ chB 2 c u m2 (u - 3) ∗ srcF 1 c (u + 1) (u - 3 + 4)) ∗ ownsTc c (srcSlot 2 u) (shareOf 2) (chD A B 2 c u)
              ∗ owesE c (debt c ![n0, u + 1, u, n3]))
            -∗ wp frame (wpE defs 𝒱 (c : Thread nD τ) bd) Set.univ (k ⟨⟩) Q)
          -∗ wp frame (wpE defs 𝒱 (c : Thread nD τ) bd) Set.univ (half3 i c hc k) Q) := by
  unfold half3
  iintro ⟨#HI, #HL, Hr, Hm, Hl, Hx, HO⟩ Hk
  iapply (blk5_ok (defs := defs) A B K 𝒱 c i hc ![n0, u, u, n3] u hi hu hj) $$ [Hl HO]
  · isplitr; · iexact HI
    isplitr; · iexact HL
    isplitl [Hl]; · iexact Hl
    iexact HO
  iintro ⟨Hl, HO⟩
  iapply (blk6_ok (defs := defs) A B K 𝒱 c i hc ![n0, u, u, n3] u m1 m2 hi hu hj) $$ [Hx HO]
  · isplitr; · iexact HI
    isplitr; · iexact HL
    isplitl [Hx]; · iexact Hx
    iexact HO
  iintro ⟨⟨Hc1, Hc2, Hf⟩, HO⟩
  ihave Hl := (loc_open A B c 0 (n := u) (w := u - 1) (s := u) (by omega)) $$ Hl
  icases Hl with ⟨⟨%X, Hs⟩, Hl⟩
  ihave Hm := (mineS_pop A B c u) $$ Hm
  icases Hm with ⟨Hm, Hmf⟩
  ihave Hf := (srcF_pop 1 c (show u < u - 3 + 4 by omega)) $$ Hf
  icases Hf with ⟨⟨%Y, Hb⟩, Hf⟩
  rw [show recvSlot 0 u = slot4 bYrecv u from rfl, show locSlot 0 u = slot2 bSum u from rfl, show srcSlot 1 u = slot4 bSumbf u from rfl]
  iapply (ld2 (defs := defs) 𝒱 c u (by rw [off14 i hc, hi, Nat.add_sub_cancel])) $$ Hm
  iintro Hm
  iapply (ld4 (defs := defs) 𝒱 c u (by rw [off15 i hc, hi, Nat.add_sub_cancel])) $$ Hr
  iintro Hr
  iapply (ld2 (defs := defs) 𝒱 c u (by rw [off14 i hc, hi, Nat.add_sub_cancel])) $$ Hs
  iintro Hs
  iapply (st2 (defs := defs) 𝒱 c u (by rw [off14 i hc, hi, Nat.add_sub_cancel])) $$ Hs
  iintro Hs
  iapply (ld4 (defs := defs) 𝒱 c u (by rw [off15 i hc, hi, Nat.add_sub_cancel])) $$ Hb
  iintro Hb
  iapply (st4 (defs := defs) 𝒱 c u (by rw [off15 i hc, hi, Nat.add_sub_cancel])) $$ Hb
  iintro Hb
  ihave Hb := (halves_split c (slot4 bSumbf u) _) $$ Hb
  icases Hb with ⟨Hb1, Hb2⟩
  iapply (cb_send (defs := defs) A B K 𝒱 c 1 u m1 (u - 3) ![n0, u, u, n3] rfl (by omega) (by omega) (by omega) (by omega) (by omega) (dev_congr (dev5 c) _)
    (sl4 bSumbf (by rw [off8 i hc, hi, Nat.add_sub_cancel]) _) (sl4 bXrecv (by rw [off8 i hc, hi, Nat.add_sub_cancel]) _)
    (sem15 (by rw [off7 i hc, hi, Nat.add_sub_cancel]) _ _) (sem16 (by rw [off7 i hc, hi, Nat.add_sub_cancel]) _ _)) $$ [Hc1 Hb1 HO]
  · isplitr; · iexact HI
    isplitl [Hc1]; · iexact Hc1
    isplitl [Hb1]; · iexact Hb1
    iexact HO
  rw [upd1]
  iintro ⟨Hc1, HO⟩
  iapply Hk
  isplitl [Hr]; · iexact Hr
  isplitl [Hm Hmf]
  · iapply Hmf
    iexists _; iexact Hm
  isplitl [Hl]; · iexact Hl
  isplitl [Hs]; · iexact Hs
  isplitl [Hc1 Hc2 Hf]
  · isplitl [Hc1]; · iexact Hc1
    isplitl [Hc2]; · iexact Hc2
    iexact Hf
  isplitl [Hb2]; · iexact Hb2
  iexact HO

/-- The block that takes tile `a` of the y channel: the step's counts before it (`a`, `w`, `v`) and after it (`a'`, `w'`, `v'`). -/
theorem blk4_ok (i : grid0.Coords) {q3 : k0_cond4 i = 1#1 → Prog (TpuEff nD τ sig (Elt F) Λ₀ .tc) (BitVec 32)}
    (hq3 : ∀ h, ∃ r : BitVec 32, q3 h = half3 i c h (fun _ => pure r)) {a a' b w w' v v' n0 m1 m2 w0 : ℕ} (n3 j : ℕ) (hi : (i 0).val = j)
    (h : 1 ≤ j ∧ j ≤ 16 → a + 1 = j ∧ a' = a + 1 ∧ b = a + 1 ∧ w = a - 2 ∧ w' = a - 1 ∧ v = a - 4 ∧ v' = a - 3
      ∧ n0 ≤ min (a + 2) 16 ∧ a < m1 + 2 ∧ a < m2 + 2)
    (h' : ¬ (1 ≤ j ∧ j ≤ 16) → a' = a ∧ w' = w ∧ v' = v)
    (hj : ∀ n, a ≤ n → n ≤ a' → ∀ ch, j ≤ (![n0, n, a, n3] : Fin 4 → ℕ) ch + delay ch ∨ 16 ≤ (![n0, n, a, n3] : Fin 4 → ℕ) ch)
    {k : PUnit.{1} → Prog (TpuEff nD τ sig (Elt F) Λ₀ .tc) α} :
    iprop(invs A B K ∗ levAts L lv ∗ mineS A B c a b ∗ locS A B 0 c a w a ∗ chB 0 c n0 a w0
        ∗ (chB 1 c a m1 v ∗ chB 2 c a m2 v ∗ srcF 1 c a (v + 4)) ∗ owesE c (debt c ![n0, a, a, n3]))
      ⊢ iprop(((mineS A B c a' b ∗ locS A B 0 c a' w' a' ∗ chB 0 c n0 a' w0
              ∗ (chB 1 c a' m1 v' ∗ chB 2 c a' m2 v' ∗ srcF 1 c a' (v' + 4)) ∗ owesE c (debt c ![n0, a', a', n3]))
            -∗ wp frame (wpE defs 𝒱 (c : Thread nD τ) bd) Set.univ (k ⟨⟩) Q)
          -∗ wp frame (wpE defs 𝒱 (c : Thread nD τ) bd) Set.univ (blk4 i c q3 k) Q) := by
  unfold blk4
  split
  · rename_i hc
    have hc' := (cond4 i).1 hc
    rw [hi] at hc'
    obtain ⟨e, rfl, rfl, rfl, rfl, rfl, rfl, e1, e2, e3⟩ := h hc'
    subst e
    obtain ⟨r, hr⟩ := hq3 hc
    rw [hr]
    have hj0 := hj a (by omega) (by omega)
    iintro ⟨#HI, #HL, Hm, Hl, Hc0, Hx, HO⟩ Hk
    iapply (cb_recv (defs := defs) A B K 𝒱 c 0 n0 a w0 ![n0, a, a, n3] (a + 1) (by omega) e1 hj0 (by show a + 1 + 0 ≤ a + 1; omega)
      (sem14 (by rw [off7 i hc, hi, Nat.add_sub_cancel]) _ _) rfl) $$ [Hc0 HO]
    · isplitr; · iexact HI
      isplitr; · iexact HL
      isplitl [Hc0]; · iexact Hc0
      iexact HO
    iintro ⟨Hc0, Hr, HO⟩
    iapply (wp_seq 𝒱 c (half3 i c hc fun _ => pure r) (fun _ => blk4b i c hc k))
    have hh := half3_ok (bd := bd) (defs := defs) (Q := fun _ : BitVec 32 => wp frame (wpE defs 𝒱 (c : Thread nD τ) bd) Set.univ (blk4b i c hc k) Q)
      (k := fun _ => pure r) A B K 𝒱 c i hc n0 n3 a m1 m2 hi (by omega) hj0 e2
    iapply hh $$ [Hm Hl Hr Hx HO]
    · isplitr; · iexact HI
      isplitr; · iexact HL
      isplitl [Hr]; · iexact Hr
      isplitl [Hm]; · iexact Hm
      isplitl [Hl]; · iexact Hl
      isplitl [Hx]; · iexact Hx
      iexact HO
    iintro ⟨Hr, Hm, Hl, Hs, ⟨Hc1, Hc2, Hf⟩, Hb, HO⟩
    iapply (wp_val 𝒱 c r)
    unfold blk4b
    iapply (cb_send (defs := defs) A B K 𝒱 c 2 a m2 (a - 3) ![n0, a + 1, a, n3] rfl (by omega) (by omega) (by omega) (by omega) (by omega) (dev_congr (dev6 c) _)
      (sl4 bSumbf (by rw [off8 i hc, hi, Nat.add_sub_cancel]) _) (sl4 bZrecva (by rw [off8 i hc, hi, Nat.add_sub_cancel]) _)
      (sem17 (by rw [off7 i hc, hi, Nat.add_sub_cancel]) _ _) (sem18 (by rw [off7 i hc, hi, Nat.add_sub_cancel]) _ _)) $$ [Hc2 Hb HO]
    · isplitr; · iexact HI
      isplitl [Hc2]; · iexact Hc2
      isplitl [Hb]; · iexact Hb
      iexact HO
    rw [upd2]
    iintro ⟨Hc2, HO⟩
    iapply (loc_copy (defs := defs) A B K 𝒱 c 0 (n := a) (w := a - 1) (s := a + 1) (by omega) (by omega) (by omega)
      (sl2 bSum (by rw [off18 i hc, hi, Nat.add_sub_cancel]) _) (slOut 0 c a (by rw [off17 i c hc, hi, Nat.add_sub_cancel]) _)
      (sem21 (by rw [off16 i hc, hi, Nat.add_sub_cancel]) _ _)) $$ [Hl Hs]
    · isplitr; · iexact HI
      isplitl [Hl]; · iexact Hl
      iexact Hs
    iintro Hl
    iapply Hk
    isplitl [Hm]; · iexact Hm
    isplitl [Hl]; · iexact Hl
    isplitl [Hc0 Hr]
    · iapply (cb_free c 0 n0 a w0 (by omega))
      isplitl [Hc0]; · iexact Hc0
      iexact Hr
    isplitl [Hc1 Hc2 Hf]
    · isplitl [Hc1]; · iexact Hc1
      isplitl [Hc2]; · iexact Hc2
      iexact Hf
    iexact HO
  · rename_i hc
    have hc' : ¬ (1 ≤ j ∧ j ≤ 16) := fun hh => hc ((cond4 i).2 (by rw [hi]; exact hh))
    obtain ⟨rfl, rfl, rfl⟩ := h' hc'
    iintro ⟨#HI, #HL, H⟩ Hk
    iapply Hk
    iexact H

theorem blk7_ok (i : grid0.Coords) {a b b' : ℕ} (j : ℕ) (hi : (i 0).val = j)
    (arg2 : Memref sig .tc .vmem S2048x4096 .bf16) (harg2 : arg2.IsWhole) {q2 : PosShare TreeShare}
    (h : j < 16 → b = j ∧ b' = b + 1 ∧ a ≤ b ∧ b < a + 2) (h' : ¬ j < 16 → b' = b)
    {k : PUnit.{1} → Prog (TpuEff nD τ sig (Elt F) Λ₀ .tc) α} :
    iprop(ownsTc c arg2 q2 (A c) ∗ wbS B c j ∗ mineS A B c a b)
      ⊢ iprop(((ownsTc c arg2 q2 (A c) ∗ (∃ X, ownsTc c bWb fullShare X) ∗ mineS A B c a b')
            -∗ wp frame (wpE defs 𝒱 (c : Thread nD τ) bd) Set.univ (k ⟨⟩) Q)
          -∗ wp frame (wpE defs 𝒱 (c : Thread nD τ) bd) Set.univ (blk7 i arg2 harg2 c k) Q) := by
  unfold blk7 wbS
  split
  · rename_i hc
    have hc' := (cond7 i).1 hc
    rw [hi] at hc'
    obtain ⟨e1, rfl, e2, e3⟩ := h hc'
    subst e1
    unfold mineS
    rw [win_pop (fun u => iprop(∃ X, ownsTc c (slot2 bMine u) fullShare X)) e3, win_push (fun u => ownsTc c (slot2 bMine u) fullShare (mineD A B c u)) e2]
    iintro ⟨H2, ⟨%X, %hX, Hw⟩, Hd, ⟨%Y, Hs⟩, Hf⟩ Hk
    have hX' := hX hc'
    subst hX'
    iapply (ldA (defs := defs) 𝒱 c (off19 c) (inbA (py c) c (py_lt c))) $$ H2
    iintro H2
    iapply (ldW (defs := defs) 𝒱 c) $$ Hw
    iintro Hw
    iapply (ld2 (defs := defs) 𝒱 c b (by rw [off20 i hc, hi])) $$ Hs
    iintro Hs
    iapply (st2 (defs := defs) 𝒱 c b (by rw [off20 i hc, hi])) $$ Hs
    iintro Hs
    iapply Hk
    isplitl [H2]; · iexact H2
    isplitl [Hw]; · iexists _; iexact Hw
    isplitr [Hf]
    · isplitl [Hd]; · iexact Hd
      iexact Hs
    · iexact Hf
  · rename_i hc
    have hc' : ¬ (j < 16) := fun hh => hc ((cond7 i).2 (by rw [hi]; exact hh))
    rw [h' hc']
    iintro ⟨H2, ⟨%X, -, Hw⟩, Hm⟩ Hk
    iapply Hk
    isplitl [H2]; · iexact H2
    isplitl [Hw]; · iexists X; iexact Hw
    iexact Hm

end Cert.KernelIdeal.Kern
-- ==== Proof.BlockHop.lean ====
/- The blocks that receive from the x peer and the two z peers: each tile received is put out, and the x peer's goes on to the z twin. -/
module

public import proofs.«01_k».proof.Proof.BlockSum

@[expose] public section

noncomputable section

namespace Cert.KernelIdeal.Kern

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (A : Dev nD → S2048x4096.Idx → Elt F .bf16) (B : Dev nD → ℕ → S4096x256.Idx → Elt F .f32)
variable (K : GSem nD τ sig → ℕ)

/-- The next slot a sender will fill, a source of two slots taken back. -/
theorem src_back2 (c : Dev nD) (n w : ℕ) (hn : n ≤ w + 2) (X : S1x512x256.Idx → Elt F .bf16) :
    (iprop(srcF 3 c n (w + 2) ∗ ownsTc c (srcSlot 3 w) fullShare X) : sProp (MM F)) ⊢ srcF 3 c n (w + 1 + 2) := by
  unfold srcF
  rw [show w + 1 + 2 = w + 2 + 1 by omega, win_push _ hn, show srcSlot 3 (w + 2) = srcSlot 3 w from slot2_congr bZbsrc (show (w + 2) % 2 = w % 2 by omega)]
  iintro ⟨Hf, Hs⟩
  isplitl [Hf]; · iexact Hf
  iexists _; iexact Hs

variable {defs : Defs nD τ sig (Elt F) Λ₀} (𝒱 : Variants) (c : Dev nD) {bd : Option 𝒱.V}
variable {α : Type} {Q : α → sProp (MM F)}

theorem blk10_ok (i : grid0.Coords) (hc : k0_cond8 i = 1#1) (ns : Fin 4 → ℕ) (u : ℕ) (hi : (i 0).val = u + 2) (hu : u < 16)
    (hj : ∀ ch, u + 2 ≤ ns ch + delay ch ∨ 16 ≤ ns ch) {k : PUnit.{1} → Prog (TpuEff nD τ sig (Elt F) Λ₀ .tc) α} :
    iprop(invs A B K ∗ levAts L lv ∗ locS A B 1 c u (u - 2) u ∗ owesE c (debt c ns))
      ⊢ iprop(((locS A B 1 c u (u - 1) u ∗ owesE c (debt c ns)) -∗ wp frame (wpE defs 𝒱 (c : Thread nD τ) bd) Set.univ (k ⟨⟩) Q)
          -∗ wp frame (wpE defs 𝒱 (c : Thread nD τ) bd) Set.univ (blk10 i c hc k) Q) := by
  unfold blk10
  split
  · rename_i h5
    have hc' := (cond10 i).1 h5
    rw [hi] at hc'
    have h := loc_wait (Q := Q) (defs := defs) (bd := bd) A B K 𝒱 c 1 (n := u) (w := u - 2) (s := u) ns (u + 2) (by omega) (by omega) (by omega) (by omega) hj
      (sem22 (by rw [off26 i h5, hi, show u + 2 - 4 = u - 2 by omega]) (k0_off26_inb i hc h5) squeezes_S1_S_)
      (md := (bOut.slice (Rect.unit (s := S1x1024x8192) (k0_off27 i c) S1x512x256.size (k0_off27_inb i c hc h5)) (fun _ => rfl)).squeeze S512x256 squeezes_S1x512x256_S512x256) rfl
      (ms := (bXstore.slice (Rect.unit (s := S2x512x256) (k0_off28 i) S1x512x256.size (k0_off28_inb i hc h5)) (fun _ => rfl)).squeeze S512x256 squeezes_S1x512x256_S512x256)
      (h1 := (View.wordExact_bits rfl).reshape _ _) (h2 := (View.wordExact_bits rfl).reshape _ _) (k := k)
    rw [show u - 2 + 1 = u - 1 by omega] at h
    exact h
  · rename_i h5
    have hc' : ¬ (4 ≤ u + 2) := fun hh => h5 ((cond10 i).2 (by rw [hi]; exact hh))
    rw [show u - 2 = u - 1 by omega]
    iintro ⟨#HI, #HL, Hch, HO⟩ Hk
    iapply Hk
    isplitl [Hch]; · iexact Hch
    iexact HO

theorem blk12_ok (i : grid0.Coords) (hc : k0_cond11 i = 1#1) (ns : Fin 4 → ℕ) (u : ℕ) (hi : (i 0).val = u + 2) (hu : u < 16)
    (hj : ∀ ch, u + 2 ≤ ns ch + delay ch ∨ 16 ≤ ns ch) {k : PUnit.{1} → Prog (TpuEff nD τ sig (Elt F) Λ₀ .tc) α} :
    iprop(invs A B K ∗ levAts L lv ∗ locS A B 2 c u (u - 2) u ∗ owesE c (debt c ns))
      ⊢ iprop(((locS A B 2 c u (u - 1) u ∗ owesE c (debt c ns)) -∗ wp frame (wpE defs 𝒱 (c : Thread nD τ) bd) Set.univ (k ⟨⟩) Q)
          -∗ wp frame (wpE defs 𝒱 (c : Thread nD τ) bd) Set.univ (blk12 i c hc k) Q) := by
  unfold blk12
  split
  · rename_i h5
    have hc' := (cond12 i).1 h5
    rw [hi] at hc'
    have h := loc_wait (Q := Q) (defs := defs) (bd := bd) A B K 𝒱 c 2 (n := u) (w := u - 2) (s := u) ns (u + 2) (by omega) (by omega) (by omega) (by omega) hj
      (sem23 (by rw [off36 i h5, hi, show u + 2 - 4 = u - 2 by omega]) (k0_off36_inb i hc h5) squeezes_S1_S_)
      (md := (bOut.slice (Rect.unit (s := S1x1024x8192) (k0_off37 i c) S1x512x256.size (k0_off37_inb i c hc h5)) (fun _ => rfl)).squeeze S512x256 squeezes_S1x512x256_S512x256) rfl
      (ms := (bZastore.slice (Rect.unit (s := S2x512x256) (k0_off38 i) S1x512x256.size (k0_off38_inb i hc h5)) (fun _ => rfl)).squeeze S512x256 squeezes_S1x512x256_S512x256)
      (h1 := (View.wordExact_bits rfl).reshape _ _) (h2 := (View.wordExact_bits rfl).reshape _ _) (k := k)
    rw [show u - 2 + 1 = u - 1 by omega] at h
    exact h
  · rename_i h5
    have hc' : ¬ (4 ≤ u + 2) := fun hh => h5 ((cond12 i).2 (by rw [hi]; exact hh))
    rw [show u - 2 = u - 1 by omega]
    iintro ⟨#HI, #HL, Hch, HO⟩ Hk
    iapply Hk
    isplitl [Hch]; · iexact Hch
    iexact HO

theorem blk14_ok (i : grid0.Coords) (hc : k0_cond13 i = 1#1) (ns : Fin 4 → ℕ) (u : ℕ) (hi : (i 0).val = u + 3) (hu : u < 16)
    (hj : ∀ ch, u + 3 ≤ ns ch + delay ch ∨ 16 ≤ ns ch) {k : PUnit.{1} → Prog (TpuEff nD τ sig (Elt F) Λ₀ .tc) α} :
    iprop(invs A B K ∗ levAts L lv ∗ locS A B 3 c u (u - 2) u ∗ owesE c (debt c ns))
      ⊢ iprop(((locS A B 3 c u (u - 1) u ∗ owesE c (debt c ns)) -∗ wp frame (wpE defs 𝒱 (c : Thread nD τ) bd) Set.univ (k ⟨⟩) Q)
          -∗ wp frame (wpE defs 𝒱 (c : Thread nD τ) bd) Set.univ (blk14 i c hc k) Q) := by
  unfold blk14
  split
  · rename_i h5
    have hc' := (cond14 i).1 h5
    rw [hi] at hc'
    have h := loc_wait (Q := Q) (defs := defs) (bd := bd) A B K 𝒱 c 3 (n := u) (w := u - 2) (s := u) ns (u + 3) (by omega) (by omega) (by omega) (by omega) hj
      (sem24 (by rw [off47 i h5, hi, show u + 3 - 5 = u - 2 by omega]) (k0_off47_inb i hc h5) squeezes_S1_S_)
      (md := (bOut.slice (Rect.unit (s := S1x1024x8192) (k0_off48 i c) S1x512x256.size (k0_off48_inb i c hc h5)) (fun _ => rfl)).squeeze S512x256 squeezes_S1x512x256_S512x256) rfl
      (ms := (bZbstore.slice (Rect.unit (s := S2x512x256) (k0_off49 i) S1x512x256.size (k0_off49_inb i hc h5)) (fun _ => rfl)).squeeze S512x256 squeezes_S1x512x256_S512x256)
      (h1 := (View.wordExact_bits rfl).reshape _ _) (h2 := (View.wordExact_bits rfl).reshape _ _) (k := k)
    rw [show u - 2 + 1 = u - 1 by omega] at h
    exact h
  · rename_i h5
    have hc' : ¬ (5 ≤ u + 3) := fun hh => h5 ((cond14 i).2 (by rw [hi]; exact hh))
    rw [show u - 2 = u - 1 by omega]
    iintro ⟨#HI, #HL, Hch, HO⟩ Hk
    iapply Hk
    isplitl [Hch]; · iexact Hch
    iexact HO

theorem blk9_ok (i : grid0.Coords) (hc : k0_cond8 i = 1#1) (ns : Fin 4 → ℕ) (u m3 : ℕ) (hi : (i 0).val = u + 2) (hu : u < 16)
    (hj : ∀ ch, u + 2 ≤ ns ch + delay ch ∨ 16 ≤ ns ch) {k : PUnit.{1} → Prog (TpuEff nD τ sig (Elt F) Λ₀ .tc) α} :
    iprop(invs A B K ∗ levAts L lv ∗ (chB 3 c u m3 (u - 2) ∗ srcF 3 c u (u - 2 + 2)) ∗ owesE c (debt c ns))
      ⊢ iprop((((chB 3 c u m3 (u - 1) ∗ srcF 3 c u (u - 1 + 2)) ∗ owesE c (debt c ns))
            -∗ wp frame (wpE defs 𝒱 (c : Thread nD τ) bd) Set.univ (k ⟨⟩) Q)
          -∗ wp frame (wpE defs 𝒱 (c : Thread nD τ) bd) Set.univ (blk9 i hc k) Q) := by
  unfold blk9
  split
  · rename_i h6
    have hc' := (cond9 i).1 h6
    rw [hi] at hc'
    rw [show u - 1 = u - 2 + 1 by omega]
    iintro ⟨#HI, #HL, ⟨Hc, Hf⟩, HO⟩ Hk
    iapply (cb_left (defs := defs) A B K 𝒱 c 3 u m3 (u - 2) ns (u + 2) (by omega) (by omega) (by omega) hj (sem19 (by rw [off23 i h6, hi, show u + 2 - 4 = u - 2 by omega]) _ _) rfl) $$ [Hc HO]
    · isplitr; · iexact HI
      isplitr; · iexact HL
      isplitl [Hc]; · iexact Hc
      iexact HO
    iintro ⟨Hc, Hs, HO⟩
    iapply Hk
    isplitr [HO]
    · isplitl [Hc]; · iexact Hc
      iapply (src_back2 c u (u - 2) (by omega) (chD A B 3 c (u - 2)))
      isplitl [Hf]; · iexact Hf
      iexact Hs
    · iexact HO
  · rename_i h6
    have hc' : ¬ (4 ≤ u + 2) := fun hh => h6 ((cond9 i).2 (by rw [hi]; exact hh))
    rw [show u - 2 = u - 1 by omega]
    iintro ⟨#HI, #HL, Hch, HO⟩ Hk
    iapply Hk
    isplitl [Hch]; · iexact Hch
    iexact HO

theorem half5_ok (i : grid0.Coords) (hc : k0_cond8 i = 1#1) (n0 n1 n2 u m3 : ℕ) (hi : (i 0).val = u + 2) (hu : u < 16)
    (hj : ∀ ch, u + 2 ≤ (![n0, n1, n2, u] : Fin 4 → ℕ) ch + delay ch ∨ 16 ≤ (![n0, n1, n2, u] : Fin 4 → ℕ) ch) (hm3 : u < m3 + 2)
    {k : PUnit.{1} → Prog (TpuEff nD τ sig (Elt F) Λ₀ .tc) α} :
    iprop(invs A B K ∗ levAts L lv ∗ ownsTc c (recvSlot 1 u) fullShare (chD A B 1 (peer 1 c) u) ∗ locS A B 1 c u (u - 2) u
        ∗ (chB 3 c u m3 (u - 2) ∗ srcF 3 c u (u - 2 + 2)) ∗ owesE c (debt c ![n0, n1, n2, u]))
      ⊢ iprop(((ownsTc c (recvSlot 1 u) fullShare (chD A B 1 (peer 1 c) u)
              ∗ locS A B 1 c u (u - 1) (u + 1) ∗ ownsTc c (locSlot 1 u) fullShare (outD A B 1 c u)
              ∗ (chB 3 c (u + 1) m3 (u - 1) ∗ srcF 3 c (u + 1) (u - 1 + 2)) ∗ owesE c (debt c ![n0, n1, n2, u + 1]))
            -∗ wp frame (wpE defs 𝒱 (c : Thread nD τ) bd) Set.univ (k ⟨⟩) Q)
          -∗ wp frame (wpE defs 𝒱 (c : Thread nD τ) bd) Set.univ (half5 i c hc k) Q) := by
  unfold half5
  iintro ⟨#HI, #HL, Hr, Hl, Hz, HO⟩ Hk
  iapply (blk9_ok (defs := defs) A B K 𝒱 c i hc ![n0, n1, n2, u] u m3 hi hu hj) $$ [Hz HO]
  · isplitr; · iexact HI
    isplitr; · iexact HL
    isplitl [Hz]; · iexact Hz
    iexact HO
  iintro ⟨⟨Hc, Hf⟩, HO⟩
  iapply (blk10_ok (defs := defs) A B K 𝒱 c i hc ![n0, n1, n2, u] u hi hu hj) $$ [Hl HO]
  · isplitr; · iexact HI
    isplitr; · iexact HL
    isplitl [Hl]; · iexact Hl
    iexact HO
  iintro ⟨Hl, HO⟩
  ihave Hl := (loc_open A B c 1 (n := u) (w := u - 1) (s := u) (by omega)) $$ Hl
  icases Hl with ⟨⟨%X, Hs⟩, Hl⟩
  ihave Hf := (srcF_pop 3 c (show u < u - 1 + 2 by omega)) $$ Hf
  icases Hf with ⟨⟨%Y, Hb⟩, Hf⟩
  rw [show recvSlot 1 u = slot4 bXrecv u from rfl, show locSlot 1 u = slot2 bXstore u from rfl, show srcSlot 3 u = slot2 bZbsrc u from rfl]
  iapply (ld4 (defs := defs) 𝒱 c u (by rw [off29 i hc, hi, Nat.add_sub_cancel])) $$ Hr
  iintro Hr
  iapply (ld2 (defs := defs) 𝒱 c u (by rw [off30 i hc, hi, Nat.add_sub_cancel])) $$ Hb
  iintro Hb
  iapply (st2 (defs := defs) 𝒱 c u (by rw [off30 i hc, hi, Nat.add_sub_cancel])) $$ Hb
  iintro Hb
  iapply (cb_send (defs := defs) A B K 𝒱 c 3 u m3 (u - 1) ![n0, n1, n2, u] rfl (by omega) (by omega) (by omega) (by omega) (by omega) (dev_congr (dev7 c) _)
    (sl2 bZbsrc (by rw [off31 i hc, hi, Nat.add_sub_cancel]) _) (sl4 bZrecvb (by rw [off22 i hc, hi, Nat.add_sub_cancel]) _)
    (sem19 (by rw [off21 i hc, hi, Nat.add_sub_cancel]) _ _) (sem20 (by rw [off21 i hc, hi, Nat.add_sub_cancel]) _ _)) $$ [Hc Hb HO]
  · isplitr; · iexact HI
    isplitl [Hc]; · iexact Hc
    isplitl [Hb]; · iexact Hb
    iexact HO
  rw [upd3]
  iintro ⟨Hc, HO⟩
  iapply (ld4 (defs := defs) 𝒱 c u (by rw [off29 i hc, hi, Nat.add_sub_cancel])) $$ Hr
  iintro Hr
  iapply (ld2 (defs := defs) 𝒱 c u (by rw [off30 i hc, hi, Nat.add_sub_cancel])) $$ Hs
  iintro Hs
  iapply (st2 (defs := defs) 𝒱 c u (by rw [off30 i hc, hi, Nat.add_sub_cancel])) $$ Hs
  iintro Hs
  iapply Hk
  isplitl [Hr]; · iexact Hr
  isplitl [Hl]; · iexact Hl
  isplitl [Hs]; · iexact Hs
  isplitr [HO]
  · isplitl [Hc]; · iexact Hc
    iexact Hf
  iexact HO

/-- The block that takes tile `a` of the x channel. -/
theorem blk8_ok (i : grid0.Coords) {q5 : k0_cond8 i = 1#1 → Prog (TpuEff nD τ sig (Elt F) Λ₀ .tc) PUnit.{1}}
    (hq5 : ∀ h, q5 h = half5 i c h (fun _ => pure ⟨⟩)) {a a' w w' m3 n1 v1 : ℕ} (n0 n2 j : ℕ) (hi : (i 0).val = j)
    (h : 2 ≤ j ∧ j ≤ 17 → a + 2 = j ∧ a' = a + 1 ∧ w = a - 2 ∧ w' = a - 1 ∧ n1 ≤ min (a + 2) 16 ∧ a < m3 + 2)
    (h' : ¬ (2 ≤ j ∧ j ≤ 17) → a' = a ∧ w' = w)
    (hj : ∀ n, a ≤ n → n ≤ a' → ∀ ch, j ≤ (![n0, n1, n2, n] : Fin 4 → ℕ) ch + delay ch ∨ 16 ≤ (![n0, n1, n2, n] : Fin 4 → ℕ) ch)
    {k : PUnit.{1} → Prog (TpuEff nD τ sig (Elt F) Λ₀ .tc) α} :
    iprop(invs A B K ∗ levAts L lv ∗ locS A B 1 c a w a ∗ chB 1 c n1 a v1 ∗ (chB 3 c a m3 w ∗ srcF 3 c a (w + 2)) ∗ owesE c (debt c ![n0, n1, n2, a]))
      ⊢ iprop(((locS A B 1 c a' w' a' ∗ chB 1 c n1 a' v1 ∗ (chB 3 c a' m3 w' ∗ srcF 3 c a' (w' + 2)) ∗ owesE c (debt c ![n0, n1, n2, a']))
            -∗ wp frame (wpE defs 𝒱 (c : Thread nD τ) bd) Set.univ (k ⟨⟩) Q)
          -∗ wp frame (wpE defs 𝒱 (c : Thread nD τ) bd) Set.univ (blk8 i c q5 k) Q) := by
  unfold blk8
  split
  · rename_i hc
    have hc' := (cond8 i).1 hc
    rw [hi] at hc'
    obtain ⟨e, rfl, rfl, rfl, e1, e2⟩ := h hc'
    subst e
    rw [hq5 hc]
    have hj0 := hj a (by omega) (by omega)
    iintro ⟨#HI, #HL, Hl, Hc1, Hz, HO⟩ Hk
    iapply (cb_recv (defs := defs) A B K 𝒱 c 1 n1 a v1 ![n0, n1, n2, a] (a + 2) (by omega) e1 hj0 (by show a + 1 + 1 ≤ a + 2; omega)
      (sem16 (by rw [off21 i hc, hi, Nat.add_sub_cancel]) _ _) rfl) $$ [Hc1 HO]
    · isplitr; · iexact HI
      isplitr; · iexact HL
      isplitl [Hc1]; · iexact Hc1
      iexact HO
    iintro ⟨Hc1, Hr, HO⟩
    iapply (wp_seq 𝒱 c (half5 i c hc fun _ => pure ⟨⟩) (fun _ => blk8b i c hc k))
    have hh := half5_ok (bd := bd) (defs := defs) (Q := fun _ : PUnit.{1} => wp frame (wpE defs 𝒱 (c : Thread nD τ) bd) Set.univ (blk8b i c hc k) Q)
      (k := fun _ => pure ⟨⟩) A B K 𝒱 c i hc n0 n1 n2 a m3 hi (by omega) hj0 e2
    iapply hh $$ [Hl Hr Hz HO]
    · isplitr; · iexact HI
      isplitr; · iexact HL
      isplitl [Hr]; · iexact Hr
      isplitl [Hl]; · iexact Hl
      isplitl [Hz]; · iexact Hz
      iexact HO
    iintro ⟨Hr, Hl, Hs, Hz, HO⟩
    iapply (wp_val 𝒱 c PUnit.unit.{1})
    unfold blk8b
    iapply (loc_copy (defs := defs) A B K 𝒱 c 1 (n := a) (w := a - 1) (s := a + 1) (by omega) (by omega) (by omega)
      (sl2 bXstore (by rw [off31 i hc, hi, Nat.add_sub_cancel]) _) (slOut 1 c a (by rw [off33 i c hc, hi, Nat.add_sub_cancel]) _)
      (sem22 (by rw [off32 i hc, hi, Nat.add_sub_cancel]) _ _)) $$ [Hl Hs]
    · isplitr; · iexact HI
      isplitl [Hl]; · iexact Hl
      iexact Hs
    iintro Hl
    iapply Hk
    isplitl [Hl]; · iexact Hl
    isplitl [Hc1 Hr]
    · iapply (cb_free c 1 n1 a v1 (by omega))
      isplitl [Hc1]; · iexact Hc1
      iexact Hr
    isplitl [Hz]; · iexact Hz
    iexact HO
  · rename_i hc
    have hc' : ¬ (2 ≤ j ∧ j ≤ 17) := fun hh => hc ((cond8 i).2 (by rw [hi]; exact hh))
    obtain ⟨rfl, rfl⟩ := h' hc'
    iintro ⟨#HI, #HL, H⟩ Hk
    iapply Hk
    iexact H

/-- The block that takes tile `a` of the first z channel. -/
theorem blk11_ok (i : grid0.Coords) {a a' w w' n v : ℕ} (ns : Fin 4 → ℕ) (j : ℕ) (hi : (i 0).val = j)
    (h : 2 ≤ j ∧ j ≤ 17 → a + 2 = j ∧ a' = a + 1 ∧ w = a - 2 ∧ w' = a - 1 ∧ n ≤ min (a + 2) 16)
    (h' : ¬ (2 ≤ j ∧ j ≤ 17) → a' = a ∧ w' = w)
    (hj : ∀ ch, j ≤ ns ch + delay ch ∨ 16 ≤ ns ch)
    {k : PUnit.{1} → Prog (TpuEff nD τ sig (Elt F) Λ₀ .tc) α} :
    iprop(invs A B K ∗ levAts L lv ∗ locS A B 2 c a w a ∗ chB 2 c n a v ∗ owesE c (debt c ns))
      ⊢ iprop(((locS A B 2 c a' w' a' ∗ chB 2 c n a' v ∗ owesE c (debt c ns))
            -∗ wp frame (wpE defs 𝒱 (c : Thread nD τ) bd) Set.univ (k ⟨⟩) Q)
          -∗ wp frame (wpE defs 𝒱 (c : Thread nD τ) bd) Set.univ (blk11 i c k) Q) := by
  unfold blk11
  split
  · rename_i hc
    have hc' := (cond11 i).1 hc
    rw [hi] at hc'
    obtain ⟨e, rfl, rfl, rfl, e1⟩ := h hc'
    subst e
    iintro ⟨#HI, #HL, Hl, Hc1, HO⟩ Hk
    iapply (cb_recv (defs := defs) A B K 𝒱 c 2 n a v ns (a + 2) (by omega) e1 hj (by show a + 1 + 1 ≤ a + 2; omega)
      (sem18 (by rw [off34 i hc, hi, Nat.add_sub_cancel]) _ _) rfl) $$ [Hc1 HO]
    · isplitr; · iexact HI
      isplitr; · iexact HL
      isplitl [Hc1]; · iexact Hc1
      iexact HO
    iintro ⟨Hc1, Hr, HO⟩
    iapply (wp_next 𝒱 c PUnit.unit.{1})
    iapply (blk12_ok (defs := defs) A B K 𝒱 c i hc ns a hi (by omega) hj) $$ [Hl HO]
    · isplitr; · iexact HI
      isplitr; · iexact HL
      isplitl [Hl]; · iexact Hl
      iexact HO
    iintro ⟨Hl, HO⟩
    ihave Hl := (loc_open A B c 2 (n := a) (w := a - 1) (s := a) (by omega)) $$ Hl
    icases Hl with ⟨⟨%X, Hs⟩, Hl⟩
    rw [show recvSlot 2 a = slot4 bZrecva a from rfl, show locSlot 2 a = slot2 bZastore a from rfl]
    iapply (ld4 (defs := defs) 𝒱 c a (by rw [off39 i hc, hi, Nat.add_sub_cancel])) $$ Hr
    iintro Hr
    iapply (ld2 (defs := defs) 𝒱 c a (by rw [off40 i hc, hi, Nat.add_sub_cancel])) $$ Hs
    iintro Hs
    iapply (st2 (defs := defs) 𝒱 c a (by rw [off40 i hc, hi, Nat.add_sub_cancel])) $$ Hs
    iintro Hs
    iapply (loc_copy (defs := defs) A B K 𝒱 c 2 (n := a) (w := a - 1) (s := a + 1) (by omega) (by omega) (by omega)
      (sl2 bZastore (by rw [off43 i hc, hi, Nat.add_sub_cancel]) _) (slOut 2 c a (by rw [off42 i c hc, hi, Nat.add_sub_cancel]) _)
      (sem23 (by rw [off41 i hc, hi, Nat.add_sub_cancel]) _ _)) $$ [Hl Hs]
    · isplitr; · iexact HI
      isplitl [Hl]; · iexact Hl
      iexact Hs
    iintro Hl
    iapply Hk
    isplitl [Hl]; · iexact Hl
    isplitl [Hc1 Hr]
    · iapply (cb_free c 2 n a v (by omega))
      isplitl [Hc1]; · iexact Hc1
      iexact Hr
    iexact HO
  · rename_i hc
    have hc' : ¬ (2 ≤ j ∧ j ≤ 17) := fun hh => hc ((cond11 i).2 (by rw [hi]; exact hh))
    obtain ⟨rfl, rfl⟩ := h' hc'
    iintro ⟨#HI, #HL, H⟩ Hk
    iapply Hk
    iexact H

/-- The block that takes tile `a` of the second z channel. -/
theorem blk13_ok (i : grid0.Coords) {a a' w w' n v : ℕ} (ns : Fin 4 → ℕ) (j : ℕ) (hi : (i 0).val = j)
    (h : 3 ≤ j ∧ j ≤ 18 → a + 3 = j ∧ a' = a + 1 ∧ w = a - 2 ∧ w' = a - 1 ∧ n ≤ min (a + 2) 16)
    (h' : ¬ (3 ≤ j ∧ j ≤ 18) → a' = a ∧ w' = w)
    (hj : ∀ ch, j ≤ ns ch + delay ch ∨ 16 ≤ ns ch)
    {k : PUnit.{1} → Prog (TpuEff nD τ sig (Elt F) Λ₀ .tc) α} :
    iprop(invs A B K ∗ levAts L lv ∗ locS A B 3 c a w a ∗ chB 3 c n a v ∗ owesE c (debt c ns))
      ⊢ iprop(((locS A B 3 c a' w' a' ∗ chB 3 c n a' v ∗ owesE c (debt c ns))
            -∗ wp frame (wpE defs 𝒱 (c : Thread nD τ) bd) Set.univ (k ⟨⟩) Q)
          -∗ wp frame (wpE defs 𝒱 (c : Thread nD τ) bd) Set.univ (blk13 i c k) Q) := by
  unfold blk13
  split
  · rename_i hc
    have hc' := (cond13 i).1 hc
    rw [hi] at hc'
    obtain ⟨e, rfl, rfl, rfl, e1⟩ := h hc'
    subst e
    iintro ⟨#HI, #HL, Hl, Hc1, HO⟩ Hk
    iapply (cb_recv (defs := defs) A B K 𝒱 c 3 n a v ns (a + 3) (by omega) e1 hj (by show a + 1 + 2 ≤ a + 3; omega)
      (sem20 (by rw [off44 i hc, hi, Nat.add_sub_cancel]) _ _) rfl) $$ [Hc1 HO]
    · isplitr; · iexact HI
      isplitr; · iexact HL
      isplitl [Hc1]; · iexact Hc1
      iexact HO
    iintro ⟨Hc1, Hr, HO⟩
    iapply (wp_next 𝒱 c PUnit.unit.{1})
    iapply (blk14_ok (defs := defs) A B K 𝒱 c i hc ns a hi (by omega) hj) $$ [Hl HO]
    · isplitr; · iexact HI
      isplitr; · iexact HL
      isplitl [Hl]; · iexact Hl
      iexact HO
    iintro ⟨Hl, HO⟩
    ihave Hl := (loc_open A B c 3 (n := a) (w := a - 1) (s := a) (by omega)) $$ Hl
    icases Hl with ⟨⟨%X, Hs⟩, Hl⟩
    rw [show recvSlot 3 a = slot4 bZrecvb a from rfl, show locSlot 3 a = slot2 bZbstore a from rfl]
    iapply (ld4 (defs := defs) 𝒱 c a (by rw [off50 i hc, hi, Nat.add_sub_cancel])) $$ Hr
    iintro Hr
    iapply (ld2 (defs := defs) 𝒱 c a (by rw [off51 i hc, hi, Nat.add_sub_cancel])) $$ Hs
    iintro Hs
    iapply (st2 (defs := defs) 𝒱 c a (by rw [off51 i hc, hi, Nat.add_sub_cancel])) $$ Hs
    iintro Hs
    iapply (loc_copy (defs := defs) A B K 𝒱 c 3 (n := a) (w := a - 1) (s := a + 1) (by omega) (by omega) (by omega)
      (sl2 bZbstore (by rw [off46 i hc, hi, Nat.add_sub_cancel]) _) (slOut 3 c a (by rw [off53 i c hc, hi, Nat.add_sub_cancel]) _)
      (sem24 (by rw [off52 i hc, hi, Nat.add_sub_cancel]) _ _)) $$ [Hl Hs]
    · isplitr; · iexact HI
      isplitl [Hl]; · iexact Hl
      iexact Hs
    iintro Hl
    iapply Hk
    isplitl [Hl]; · iexact Hl
    isplitl [Hc1 Hr]
    · iapply (cb_free c 3 n a v (by omega))
      isplitl [Hc1]; · iexact Hc1
      iexact Hr
    iexact HO
  · rename_i hc
    have hc' : ¬ (3 ≤ j ∧ j ≤ 18) := fun hh => hc ((cond13 i).2 (by rw [hi]; exact hh))
    obtain ⟨rfl, rfl⟩ := h' hc'
    iintro ⟨#HI, #HL, H⟩ Hk
    iapply Hk
    iexact H

end Cert.KernelIdeal.Kern
-- ==== Proof.Ends.lean ====
/- The body's first block, the barrier that hands the first receive slots over, and its last, which waits until everything has left. -/
module

public import proofs.«01_k».proof.Proof.BlockHop

@[expose] public section

noncomputable section

namespace Cert.KernelIdeal.Kern

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (A : Dev nD → S2048x4096.Idx → Elt F .bf16) (B : Dev nD → ℕ → S4096x256.Idx → Elt F .f32)
variable (K : GSem nD τ sig → ℕ)

/-- A channel before the barrier gives up its first two receive slots, and after it holds the peer's. -/
theorem bar_chan (ch : Fin 4) (c : Dev nD) :
    (chS ch c 0 0 0 0 0 4 : sProp (MM F)) ⊢ iprop((freeR ch c 0 ∗ freeR ch c 1) ∗ ((freeR ch (peer ch c) 0 ∗ freeR ch (peer ch c) 1) -∗ chB ch c 0 0 0)) := by
  unfold chB chS
  rw [win_pop (fun u => freeR ch c u) (show 0 < 4 by omega), win_pop (fun u => freeR ch c u) (show 0 + 1 < 4 by omega),
    win_empty (fun u => freeR ch (peer ch c) u) (show 0 ≤ 0 by omega), show min (0 + 2) 16 = 2 by omega,
    win_pop (fun u => freeR ch (peer ch c) u) (show 0 < 2 by omega), win_pop (fun u => freeR ch (peer ch c) u) (show 0 + 1 < 2 by omega),
    win_empty (fun u => freeR ch (peer ch c) u) (show 2 ≤ 0 + 1 + 1 by omega)]
  iintro ⟨Hw1, Hw2, Hw3, Hw4, Hw5, Hw6, Hw7, Hw8, Hf0, Hf1, Hw9⟩
  isplitl [Hf0 Hf1]
  · isplitl [Hf0]; · iexact Hf0
    iexact Hf1
  iintro ⟨Hp0, Hp1⟩
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [Hp0 Hp1 Hw8]
  · isplitl [Hp0]; · iexact Hp0
    isplitl [Hp1]; · iexact Hp1
    iexact Hw8
  iexact Hw9

/-- What a device owes before the barrier: its three units, and every tile it is to send. -/
def debtB (c : Dev nD) : CellTallies nD τ sig ℕ :=
  debt c ![0, 0, 0, 0] + tallyAt (barCell (peer 2 c)) 0 1 + tallyAt (barCell (peer 1 c)) 0 1 + tallyAt (barCell (peer 0 c)) 0 1

/-- What a device brings to the barrier: the duty of one unit to each of its three peers, and the right to wait for its own three. -/
def barS (c : Dev nD) : sProp (MM F) :=
  iprop((dutyTok ER (barCell (peer 0 c)) 0 0 ∗ reached ER (barCell (peer 0 c)) 0) ∗ (dutyTok ER (barCell (peer 1 c)) 0 1 ∗ reached ER (barCell (peer 1 c)) 0)
    ∗ (dutyTok ER (barCell (peer 2 c)) 0 2 ∗ reached ER (barCell (peer 2 c)) 0) ∗ cred (tallyAt (barCell c) 0 3) ∗ atPos ER (barCell c) 0 ∅ 0)

variable {defs : Defs nD τ sig (Elt F) Λ₀} (𝒱 : Variants) (c : Dev nD) {bd : Option 𝒱.V}
variable {α : Type} {Q : α → sProp (MM F)}

theorem signal_ok (d : Fin 3) {c' : Dev nD} (dst : Dev nD) (hd : c' = dst) (O : CellTallies nD τ sig ℕ)
    {k : PUnit → Prog (TpuEff nD τ sig (Elt F) Λ₀ .tc) α} :
    iprop(invs A B K ∗ owesE c (O + tallyAt (barCell dst) 0 1) ∗ (dutyTok ER (barCell dst) 0 d ∗ reached ER (barCell dst) 0) ∗ barPay dst d)
      ⊢ iprop((owesE c O -∗ wp frame (wpE defs 𝒱 (c : Thread nD τ) bd) Set.univ (k ⟨⟩) Q)
          -∗ wp frame (wpE defs 𝒱 (c : Thread nD τ) bd) Set.univ (.op (.semSignal (c' : Thread nD τ) barrier0 1) k) Q) := by
  subst hd
  unfold owesE
  iintro ⟨#HI, ⟨%W, HO⟩, ⟨Ht, Hr⟩, Hp⟩ Hk
  iapply (Rounds.wp_signal (defs := defs) 𝒱 ER (Rd A B) (c : Thread nD τ) bd (dst := (c' : Thread nD τ)) (sem := barrier0) (r := 0) (d := d) (κ := K (barCell c'))
      (by rw [duties_bar A B c']; exact Finset.mem_univ _) rfl 0 O rfl (by routes)) $$ [HO Ht Hr Hp]
  · isplitr; · iapply (invs_elim A B K (bar_mem c')); iexact HI
    isplitl [HO]; · iexact HO
    isplitl [Ht]; · iexact Ht
    isplitl [Hp]; · iapply (Entails.of_eq (payload_bar A B c' 0 d).symm); iexact Hp
    iexact Hr
  iintro HO
  iapply Hk
  iexists W; iexact HO

/-- The first step's barrier. -/
theorem blk1_do (i : grid0.Coords) (hi : (i 0).val = 0) {k : PUnit.{1} → Prog (TpuEff nD τ sig (Elt F) Λ₀ .tc) α} :
    iprop(invs A B K ∗ levAts L lv ∗ barS c ∗ (chS 0 c 0 0 0 0 0 4 ∗ chS 1 c 0 0 0 0 0 4 ∗ chS 2 c 0 0 0 0 0 4 ∗ chS 3 c 0 0 0 0 0 4) ∗ owesE c (debtB c))
      ⊢ iprop(((atPos ER (barCell c) 1 ∅ 0 ∗ (chB 0 c 0 0 0 ∗ chB 1 c 0 0 0 ∗ chB 2 c 0 0 0 ∗ chB 3 c 0 0 0) ∗ owesE c (debt c ![0, 0, 0, 0]))
            -∗ wp frame (wpE defs 𝒱 (c : Thread nD τ) bd) Set.univ (k ⟨⟩) Q)
          -∗ wp frame (wpE defs 𝒱 (c : Thread nD τ) bd) Set.univ (blk1 i c k) Q) := by
  unfold blk1
  rw [dif_pos ((cond1 i).2 hi)]
  unfold barS debtB
  iintro ⟨#HI, #HL, ⟨Ht0, Ht1, Ht2, Hcr, Hat⟩, ⟨Hc0, Hc1, Hc2, Hc3⟩, HO⟩ Hk
  ihave Hc0 := (bar_chan 0 c) $$ Hc0
  icases Hc0 with ⟨⟨Hf00, Hf01⟩, Hc0⟩
  ihave Hc1 := (bar_chan 1 c) $$ Hc1
  icases Hc1 with ⟨⟨Hf10, Hf11⟩, Hc1⟩
  ihave Hc2 := (bar_chan 2 c) $$ Hc2
  icases Hc2 with ⟨⟨Hf20, Hf21⟩, Hc2⟩
  ihave Hc3 := (bar_chan 3 c) $$ Hc3
  icases Hc3 with ⟨⟨Hf30, Hf31⟩, Hc3⟩
  iapply (signal_ok (defs := defs) A B K 𝒱 c 0 (peer 0 c) (dev_congr (dev1 c) _)) $$ [HO Ht0 Hf00 Hf01]
  · isplitr; · iexact HI
    isplitl [HO]; · iexact HO
    isplitl [Ht0]; · iexact Ht0
    iapply (Entails.of_eq (show iprop(freeR 0 c 0 ∗ freeR 0 c 1) = (barPay (peer 0 c) 0 : sProp (MM F)) by unfold barPay; simp only [peer_peer]))
    isplitl [Hf00]; · iexact Hf00
    iexact Hf01
  iintro HO
  iapply (signal_ok (defs := defs) A B K 𝒱 c 1 (peer 1 c) (dev_congr (dev2 c) _)) $$ [HO Ht1 Hf10 Hf11]
  · isplitr; · iexact HI
    isplitl [HO]; · iexact HO
    isplitl [Ht1]; · iexact Ht1
    iapply (Entails.of_eq (show iprop(freeR 1 c 0 ∗ freeR 1 c 1) = (barPay (peer 1 c) 1 : sProp (MM F)) by unfold barPay; simp only [peer_peer]))
    isplitl [Hf10]; · iexact Hf10
    iexact Hf11
  iintro HO
  iapply (signal_ok (defs := defs) A B K 𝒱 c 2 (peer 2 c) (dev_congr (dev3 c) _)) $$ [HO Ht2 Hf20 Hf21 Hf30 Hf31]
  · isplitr; · iexact HI
    isplitl [HO]; · iexact HO
    isplitl [Ht2]; · iexact Ht2
    iapply (Entails.of_eq (show iprop((freeR 2 c 0 ∗ freeR 2 c 1) ∗ (freeR 3 c 0 ∗ freeR 3 c 1)) = (barPay (peer 2 c) 2 : sProp (MM F)) by
      unfold barPay; simp only [peer_three, peer_peer]))
    isplitl [Hf20 Hf21]
    · isplitl [Hf20]; · iexact Hf20
      iexact Hf21
    isplitl [Hf30]; · iexact Hf30
    iexact Hf31
  iintro HO
  unfold owesE
  icases HO with ⟨%W, HO⟩
  iapply (Rounds.wp_wait_rest_token (defs := defs) 𝒱 ER (Rd A B) (c : Thread nD τ) bd (κ := K (barCell c)) (sm := .reg barrier0) (k' := 3)
      (wpE_semWait_eq 𝒱 (c : Thread nD τ) bd Set.univ) (Set.mem_univ _) 0 (O := debt c ![0, 0, 0, 0]) (W := W) (R := 0) (m := 0) (T := ∅)
      ((Nat.zero_add _).trans (expect_bar A B c).symm)) $$ [Hcr HO Hat]
  · isplitr; · iapply (invs_elim A B K (bar_mem c)); iexact HI
    isplitl [Hcr]; · iexact Hcr
    isplitl [HO]; · iexact HO
    isplitr
    · iapply (mayWait c ![0, 0, 0, 0] 0 (.reg barrier0) 0 (by omega) (fun ch => Or.inl (Nat.zero_le _)) (by rw [show lv ((c : Thread nD τ), .reg barrier0) 0 = 1 from rfl]; omega))
      iexact HL
    iexact Hat
  iintro ⟨HO, Hat, -, Hp⟩
  ihave Hp := (Entails.of_eq (rest_bar A B c)) $$ Hp
  unfold barPay
  icases Hp with ⟨Hp0, Hp1, Hp2, Hp3⟩
  iapply Hk
  isplitl [Hat]; · iexact Hat
  isplitr [HO]
  · isplitl [Hc0 Hp0]
    · iapply Hc0; iexact Hp0
    isplitl [Hc1 Hp1]
    · iapply Hc1; iexact Hp1
    isplitl [Hc2 Hp2]
    · iapply Hc2; iexact Hp2
    iapply Hc3; iexact Hp3
  iexists _; iexact HO

theorem blk1_skip (i : grid0.Coords) (hi : (i 0).val ≠ 0) (k : PUnit.{1} → Prog (TpuEff nD τ sig (Elt F) Λ₀ .tc) α) : blk1 i c k = k ⟨⟩ := by
  unfold blk1
  exact dif_neg fun h => hi ((cond1 i).1 h)

/-- The last step waits until every tile sent has left and every copy has been made. -/
theorem blk15_do (i : grid0.Coords) (hi : (i 0).val = 18) {k : PUnit.{1} → Prog (TpuEff nD τ sig (Elt F) Λ₀ .tc) α} :
    iprop(invs A B K ∗ levAts L lv ∗ ((chB 0 c 16 16 12 ∗ srcF 0 c 16 (12 + 4)) ∗ (chB 1 c 16 16 12 ∗ chB 2 c 16 16 12 ∗ srcF 1 c 16 (12 + 4)) ∗ (chB 3 c 16 16 14 ∗ srcF 3 c 16 (14 + 2))
        ∗ (locS A B 0 c 16 14 16 ∗ locS A B 1 c 16 14 16 ∗ locS A B 2 c 16 14 16 ∗ locS A B 3 c 16 14 16)) ∗ owesE c (debt c ![16, 16, 16, 16]))
      ⊢ iprop(((((chB 0 c 16 16 16 ∗ srcF 0 c 16 (16 + 4)) ∗ (chB 1 c 16 16 16 ∗ chB 2 c 16 16 16 ∗ srcF 1 c 16 (16 + 4)) ∗ (chB 3 c 16 16 16 ∗ srcF 3 c 16 (16 + 2))
        ∗ (locS A B 0 c 16 16 16 ∗ locS A B 1 c 16 16 16 ∗ locS A B 2 c 16 16 16 ∗ locS A B 3 c 16 16 16)) ∗ owesE c (debt c ![16, 16, 16, 16]))
            -∗ wp frame (wpE defs 𝒱 (c : Thread nD τ) bd) Set.univ (k ⟨⟩) Q)
          -∗ wp frame (wpE defs 𝒱 (c : Thread nD τ) bd) Set.univ (blk15 i c k) Q) := by
  unfold blk15
  rw [dif_pos ((cond15 i).2 hi)]
  have hj : ∀ ch, 18 ≤ (![16, 16, 16, 16] : Fin 4 → ℕ) ch + delay ch ∨ 16 ≤ (![16, 16, 16, 16] : Fin 4 → ℕ) ch :=
    fun ch => Or.inr (by fin_cases ch <;> exact Nat.le_refl 16)
  iintro ⟨#HI, #HL, ⟨⟨Hc0, Hf0⟩, ⟨Hc1, Hc2, Hf1⟩, ⟨Hc3, Hf3⟩, ⟨Hl0, Hl1, Hl2, Hl3⟩⟩, HO⟩ Hk
  iapply (cb_left (defs := defs) A B K 𝒱 c 0 16 16 12 ![16, 16, 16, 16] 18 (by omega) (by omega) (by omega) hj (sem13 (u := 12) rfl _ _) rfl) $$ [Hc0 HO]
  · isplitr; · iexact HI
    isplitr; · iexact HL
    isplitl [Hc0]; · iexact Hc0
    iexact HO
  iintro ⟨Hc0, Hs0, HO⟩
  ihave Hf0 := (src_back4 c 0 16 12 (by omega) (chD A B 0 c 12)) $$ [Hf0 Hs0]
  · isplitl [Hf0]; · iexact Hf0
    iexact Hs0
  iapply (cb_left (defs := defs) A B K 𝒱 c 1 16 16 12 ![16, 16, 16, 16] 18 (by omega) (by omega) (by omega) hj (sem15 (u := 12) rfl _ _) rfl) $$ [Hc1 HO]
  · isplitr; · iexact HI
    isplitr; · iexact HL
    isplitl [Hc1]; · iexact Hc1
    iexact HO
  iintro ⟨Hc1, Hs1, HO⟩
  iapply (cb_left (defs := defs) A B K 𝒱 c 2 16 16 12 ![16, 16, 16, 16] 18 (by omega) (by omega) (by omega) hj (sem17 (u := 12) rfl _ _) rfl) $$ [Hc2 HO]
  · isplitr; · iexact HI
    isplitr; · iexact HL
    isplitl [Hc2]; · iexact Hc2
    iexact HO
  iintro ⟨Hc2, Hs2, HO⟩
  ihave Hf1 := (src_back4 c 1 16 12 (by omega) (chD A B 1 c 12)) $$ [Hf1 Hs1 Hs2]
  · isplitl [Hf1]; · iexact Hf1
    iapply (halves_join c (srcSlot 1 12) (chD A B 1 c 12) (chD A B 2 c 12))
    isplitl [Hs1]; · iexact Hs1
    iexact Hs2
  iapply (cb_left (defs := defs) A B K 𝒱 c 0 16 16 13 ![16, 16, 16, 16] 18 (by omega) (by omega) (by omega) hj (sem13 (u := 13) rfl _ _) rfl) $$ [Hc0 HO]
  · isplitr; · iexact HI
    isplitr; · iexact HL
    isplitl [Hc0]; · iexact Hc0
    iexact HO
  iintro ⟨Hc0, Hs0, HO⟩
  ihave Hf0 := (src_back4 c 0 16 13 (by omega) (chD A B 0 c 13)) $$ [Hf0 Hs0]
  · isplitl [Hf0]; · iexact Hf0
    iexact Hs0
  iapply (cb_left (defs := defs) A B K 𝒱 c 1 16 16 13 ![16, 16, 16, 16] 18 (by omega) (by omega) (by omega) hj (sem15 (u := 13) rfl _ _) rfl) $$ [Hc1 HO]
  · isplitr; · iexact HI
    isplitr; · iexact HL
    isplitl [Hc1]; · iexact Hc1
    iexact HO
  iintro ⟨Hc1, Hs1, HO⟩
  iapply (cb_left (defs := defs) A B K 𝒱 c 2 16 16 13 ![16, 16, 16, 16] 18 (by omega) (by omega) (by omega) hj (sem17 (u := 13) rfl _ _) rfl) $$ [Hc2 HO]
  · isplitr; · iexact HI
    isplitr; · iexact HL
    isplitl [Hc2]; · iexact Hc2
    iexact HO
  iintro ⟨Hc2, Hs2, HO⟩
  ihave Hf1 := (src_back4 c 1 16 13 (by omega) (chD A B 1 c 13)) $$ [Hf1 Hs1 Hs2]
  · isplitl [Hf1]; · iexact Hf1
    iapply (halves_join c (srcSlot 1 13) (chD A B 1 c 13) (chD A B 2 c 13))
    isplitl [Hs1]; · iexact Hs1
    iexact Hs2
  iapply (cb_left (defs := defs) A B K 𝒱 c 0 16 16 14 ![16, 16, 16, 16] 18 (by omega) (by omega) (by omega) hj (sem13 (u := 14) rfl _ _) rfl) $$ [Hc0 HO]
  · isplitr; · iexact HI
    isplitr; · iexact HL
    isplitl [Hc0]; · iexact Hc0
    iexact HO
  iintro ⟨Hc0, Hs0, HO⟩
  ihave Hf0 := (src_back4 c 0 16 14 (by omega) (chD A B 0 c 14)) $$ [Hf0 Hs0]
  · isplitl [Hf0]; · iexact Hf0
    iexact Hs0
  iapply (cb_left (defs := defs) A B K 𝒱 c 1 16 16 14 ![16, 16, 16, 16] 18 (by omega) (by omega) (by omega) hj (sem15 (u := 14) rfl _ _) rfl) $$ [Hc1 HO]
  · isplitr; · iexact HI
    isplitr; · iexact HL
    isplitl [Hc1]; · iexact Hc1
    iexact HO
  iintro ⟨Hc1, Hs1, HO⟩
  iapply (cb_left (defs := defs) A B K 𝒱 c 2 16 16 14 ![16, 16, 16, 16] 18 (by omega) (by omega) (by omega) hj (sem17 (u := 14) rfl _ _) rfl) $$ [Hc2 HO]
  · isplitr; · iexact HI
    isplitr; · iexact HL
    isplitl [Hc2]; · iexact Hc2
    iexact HO
  iintro ⟨Hc2, Hs2, HO⟩
  ihave Hf1 := (src_back4 c 1 16 14 (by omega) (chD A B 1 c 14)) $$ [Hf1 Hs1 Hs2]
  · isplitl [Hf1]; · iexact Hf1
    iapply (halves_join c (srcSlot 1 14) (chD A B 1 c 14) (chD A B 2 c 14))
    isplitl [Hs1]; · iexact Hs1
    iexact Hs2
  iapply (cb_left (defs := defs) A B K 𝒱 c 0 16 16 15 ![16, 16, 16, 16] 18 (by omega) (by omega) (by omega) hj (sem13 (u := 15) rfl _ _) rfl) $$ [Hc0 HO]
  · isplitr; · iexact HI
    isplitr; · iexact HL
    isplitl [Hc0]; · iexact Hc0
    iexact HO
  iintro ⟨Hc0, Hs0, HO⟩
  ihave Hf0 := (src_back4 c 0 16 15 (by omega) (chD A B 0 c 15)) $$ [Hf0 Hs0]
  · isplitl [Hf0]; · iexact Hf0
    iexact Hs0
  iapply (cb_left (defs := defs) A B K 𝒱 c 1 16 16 15 ![16, 16, 16, 16] 18 (by omega) (by omega) (by omega) hj (sem15 (u := 15) rfl _ _) rfl) $$ [Hc1 HO]
  · isplitr; · iexact HI
    isplitr; · iexact HL
    isplitl [Hc1]; · iexact Hc1
    iexact HO
  iintro ⟨Hc1, Hs1, HO⟩
  iapply (cb_left (defs := defs) A B K 𝒱 c 2 16 16 15 ![16, 16, 16, 16] 18 (by omega) (by omega) (by omega) hj (sem17 (u := 15) rfl _ _) rfl) $$ [Hc2 HO]
  · isplitr; · iexact HI
    isplitr; · iexact HL
    isplitl [Hc2]; · iexact Hc2
    iexact HO
  iintro ⟨Hc2, Hs2, HO⟩
  ihave Hf1 := (src_back4 c 1 16 15 (by omega) (chD A B 1 c 15)) $$ [Hf1 Hs1 Hs2]
  · isplitl [Hf1]; · iexact Hf1
    iapply (halves_join c (srcSlot 1 15) (chD A B 1 c 15) (chD A B 2 c 15))
    isplitl [Hs1]; · iexact Hs1
    iexact Hs2
  iapply (cb_left (defs := defs) A B K 𝒱 c 3 16 16 14 ![16, 16, 16, 16] 18 (by omega) (by omega) (by omega) hj (sem19 (u := 14) rfl _ _) rfl) $$ [Hc3 HO]
  · isplitr; · iexact HI
    isplitr; · iexact HL
    isplitl [Hc3]; · iexact Hc3
    iexact HO
  iintro ⟨Hc3, Hs3, HO⟩
  ihave Hf3 := (src_back2 c 16 14 (by omega) (chD A B 3 c 14)) $$ [Hf3 Hs3]
  · isplitl [Hf3]; · iexact Hf3
    iexact Hs3
  iapply (loc_wait (defs := defs) A B K 𝒱 c 0 (n := 16) (w := 14) (s := 16) ![16, 16, 16, 16] 18 (by omega) (by omega) (by omega) (by omega) hj (sem21 (u := 14) rfl _ _) rfl) $$ [Hl0 HO]
  · isplitr; · iexact HI
    isplitr; · iexact HL
    isplitl [Hl0]; · iexact Hl0
    iexact HO
  iintro ⟨Hl0, HO⟩
  iapply (loc_wait (defs := defs) A B K 𝒱 c 1 (n := 16) (w := 14) (s := 16) ![16, 16, 16, 16] 18 (by omega) (by omega) (by omega) (by omega) hj (sem22 (u := 14) rfl _ _) rfl) $$ [Hl1 HO]
  · isplitr; · iexact HI
    isplitr; · iexact HL
    isplitl [Hl1]; · iexact Hl1
    iexact HO
  iintro ⟨Hl1, HO⟩
  iapply (loc_wait (defs := defs) A B K 𝒱 c 2 (n := 16) (w := 14) (s := 16) ![16, 16, 16, 16] 18 (by omega) (by omega) (by omega) (by omega) hj (sem23 (u := 14) rfl _ _) rfl) $$ [Hl2 HO]
  · isplitr; · iexact HI
    isplitr; · iexact HL
    isplitl [Hl2]; · iexact Hl2
    iexact HO
  iintro ⟨Hl2, HO⟩
  iapply (loc_wait (defs := defs) A B K 𝒱 c 3 (n := 16) (w := 14) (s := 16) ![16, 16, 16, 16] 18 (by omega) (by omega) (by omega) (by omega) hj (sem24 (u := 14) rfl _ _) rfl) $$ [Hl3 HO]
  · isplitr; · iexact HI
    isplitr; · iexact HL
    isplitl [Hl3]; · iexact Hl3
    iexact HO
  iintro ⟨Hl3, HO⟩
  iapply (cb_left (defs := defs) A B K 𝒱 c 3 16 16 15 ![16, 16, 16, 16] 18 (by omega) (by omega) (by omega) hj (sem19 (u := 15) rfl _ _) rfl) $$ [Hc3 HO]
  · isplitr; · iexact HI
    isplitr; · iexact HL
    isplitl [Hc3]; · iexact Hc3
    iexact HO
  iintro ⟨Hc3, Hs3, HO⟩
  ihave Hf3 := (src_back2 c 16 15 (by omega) (chD A B 3 c 15)) $$ [Hf3 Hs3]
  · isplitl [Hf3]; · iexact Hf3
    iexact Hs3
  iapply (loc_wait (defs := defs) A B K 𝒱 c 0 (n := 16) (w := 15) (s := 16) ![16, 16, 16, 16] 18 (by omega) (by omega) (by omega) (by omega) hj (sem21 (u := 15) rfl _ _) rfl) $$ [Hl0 HO]
  · isplitr; · iexact HI
    isplitr; · iexact HL
    isplitl [Hl0]; · iexact Hl0
    iexact HO
  iintro ⟨Hl0, HO⟩
  iapply (loc_wait (defs := defs) A B K 𝒱 c 1 (n := 16) (w := 15) (s := 16) ![16, 16, 16, 16] 18 (by omega) (by omega) (by omega) (by omega) hj (sem22 (u := 15) rfl _ _) rfl) $$ [Hl1 HO]
  · isplitr; · iexact HI
    isplitr; · iexact HL
    isplitl [Hl1]; · iexact Hl1
    iexact HO
  iintro ⟨Hl1, HO⟩
  iapply (loc_wait (defs := defs) A B K 𝒱 c 2 (n := 16) (w := 15) (s := 16) ![16, 16, 16, 16] 18 (by omega) (by omega) (by omega) (by omega) hj (sem23 (u := 15) rfl _ _) rfl) $$ [Hl2 HO]
  · isplitr; · iexact HI
    isplitr; · iexact HL
    isplitl [Hl2]; · iexact Hl2
    iexact HO
  iintro ⟨Hl2, HO⟩
  iapply (loc_wait (defs := defs) A B K 𝒱 c 3 (n := 16) (w := 15) (s := 16) ![16, 16, 16, 16] 18 (by omega) (by omega) (by omega) (by omega) hj (sem24 (u := 15) rfl _ _) rfl) $$ [Hl3 HO]
  · isplitr; · iexact HI
    isplitr; · iexact HL
    isplitl [Hl3]; · iexact Hl3
    iexact HO
  iintro ⟨Hl3, HO⟩
  iapply Hk
  isplitr [HO]
  · isplitl [Hc0 Hf0]
    · isplitl [Hc0]; · iexact Hc0
      iexact Hf0
    isplitl [Hc1 Hc2 Hf1]
    · isplitl [Hc1]; · iexact Hc1
      isplitl [Hc2]; · iexact Hc2
      iexact Hf1
    isplitl [Hc3 Hf3]
    · isplitl [Hc3]; · iexact Hc3
      iexact Hf3
    isplitl [Hl0]; · iexact Hl0
    isplitl [Hl1]; · iexact Hl1
    isplitl [Hl2]; · iexact Hl2
    iexact Hl3
  iexact HO

theorem blk15_skip (i : grid0.Coords) (hi : (i 0).val ≠ 18) (k : PUnit.{1} → Prog (TpuEff nD τ sig (Elt F) Λ₀ .tc) α) : blk15 i c k = k ⟨⟩ := by
  unfold blk15
  exact dif_neg fun h => hi ((cond15 i).1 h)

end Cert.KernelIdeal.Kern
-- ==== Proof.Step.lean ====
/- One step of the kernel between the barrier and the drain: what the device holds before step `j`, and that the step takes it on. -/
module

public import proofs.«01_k».proof.Proof.Ends

@[expose] public section

noncomputable section

namespace Cert.KernelIdeal.Kern

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (A : Dev nD → S2048x4096.Idx → Elt F .bf16) (B : Dev nD → ℕ → S4096x256.Idx → Elt F .f32)
variable (K : GSem nD τ sig → ℕ)

theorem hj4 {j a b d e : ℕ} (h0 : j ≤ a ∨ 16 ≤ a) (h1 : j ≤ b + 1 ∨ 16 ≤ b) (h2 : j ≤ d + 1 ∨ 16 ≤ d) (h3 : j ≤ e + 2 ∨ 16 ≤ e) :
    ∀ ch, j ≤ (![a, b, d, e] : Fin 4 → ℕ) ch + delay ch ∨ 16 ≤ (![a, b, d, e] : Fin 4 → ℕ) ch := by
  intro ch
  fin_cases ch
  · exact h0
  · exact h1
  · exact h2
  · exact h3

/-- What the device holds before step `j`, its barrier behind it. -/
def runS (c : Dev nD) (j : ℕ) : sProp (MM F) :=
  iprop((chB 0 c (min j 16) (min (j - 1) 16) (min (j - 4) 12) ∗ srcF 0 c (min j 16) (min (j - 4) 12 + 4))
    ∗ (chB 1 c (min (j - 1) 16) (min (j - 2) 16) (min (j - 5) 12) ∗ chB 2 c (min (j - 1) 16) (min (j - 2) 16) (min (j - 5) 12)
      ∗ srcF 1 c (min (j - 1) 16) (min (j - 5) 12 + 4))
    ∗ (chB 3 c (min (j - 2) 16) (min (j - 3) 16) (min (j - 4) 14) ∗ srcF 3 c (min (j - 2) 16) (min (j - 4) 14 + 2))
    ∗ (locS A B 0 c (min (j - 1) 16) (min (j - 3) 14) (min (j - 1) 16) ∗ locS A B 1 c (min (j - 2) 16) (min (j - 4) 14) (min (j - 2) 16)
      ∗ locS A B 2 c (min (j - 2) 16) (min (j - 4) 14) (min (j - 2) 16) ∗ locS A B 3 c (min (j - 3) 16) (min (j - 5) 14) (min (j - 3) 16))
    ∗ mineS A B c (min (j - 1) 16) (min j 16) ∗ (∃ X, ownsTc c bWb fullShare X)
    ∗ owesE c (debt c ![min j 16, min (j - 1) 16, min (j - 1) 16, min (j - 2) 16]))

/-- The step from its second block to the block before its last receive. -/
def mid {α : Type} (i : grid0.Coords) (arg2 : Memref sig .tc .vmem S2048x4096 .bf16) (harg2 : arg2.IsWhole) (arg3 : Memref sig .tc .vmem S4096x256 .f32) (harg3 : arg3.IsWhole)
    (d0 : Dev nD) (q3 : k0_cond4 i = 1#1 → Prog (TpuEff nD τ sig (Elt F) Λ₀ .tc) (BitVec 32)) (q5 : k0_cond8 i = 1#1 → Prog (TpuEff nD τ sig (Elt F) Λ₀ .tc) PUnit.{1})
    (k : PUnit.{1} → Prog (TpuEff nD τ sig (Elt F) Λ₀ .tc) α) : Prog (TpuEff nD τ sig (Elt F) Λ₀ .tc) α :=
  blk2 i fun _ => blk3 i arg2 harg2 arg3 harg3 d0 fun _ => blk4 i d0 q3 fun _ => blk7 i arg2 harg2 d0 fun _ => blk8 i d0 q5 fun _ => blk11 i d0 k

variable {defs : Defs nD τ sig (Elt F) Λ₀} (𝒱 : Variants) (c : Dev nD) {bd : Option 𝒱.V}
variable {α β : Type} {Q : α → sProp (MM F)}

theorem run_ok (i : grid0.Coords) (j : ℕ) (hi : (i 0).val = j) (hj18 : j ≤ 18)
    (arg2 : Memref sig .tc .vmem S2048x4096 .bf16) (harg2 : arg2.IsWhole) (arg3 : Memref sig .tc .vmem S4096x256 .f32) (harg3 : arg3.IsWhole) {q2 qw : PosShare TreeShare}
    (X3 : S4096x256.Idx → Elt F .f32) (h3 : j < 16 → X3 = B c j)
    {q3 : k0_cond4 i = 1#1 → Prog (TpuEff nD τ sig (Elt F) Λ₀ .tc) (BitVec 32)} {q5 : k0_cond8 i = 1#1 → Prog (TpuEff nD τ sig (Elt F) Λ₀ .tc) PUnit.{1}}
    (hq3 : ∀ h, ∃ r : BitVec 32, q3 h = half3 i c h (fun _ => pure r)) (hq5 : ∀ h, q5 h = half5 i c h (fun _ => pure ⟨⟩))
    (v : β) {k : PUnit.{1} → Prog (TpuEff nD τ sig (Elt F) Λ₀ .tc) α} :
    iprop(invs A B K ∗ levAts L lv ∗ (ownsTc c arg2 q2 (A c) ∗ ownsTc c arg3 qw X3) ∗ runS A B c j)
      ⊢ iprop((((ownsTc c arg2 q2 (A c) ∗ ownsTc c arg3 qw X3) ∗ runS A B c (j + 1))
            -∗ wp frame (wpE defs 𝒱 (c : Thread nD τ) bd) Set.univ (k ⟨⟩) Q)
          -∗ wp frame (wpE defs 𝒱 (c : Thread nD τ) bd) Set.univ (mid i arg2 harg2 arg3 harg3 c q3 q5 fun _ => pure v)
            (fun _ => wp frame (wpE defs 𝒱 (c : Thread nD τ) bd) Set.univ (blk13 i c k) Q)) := by
  unfold mid runS
  iintro ⟨#HI, #HL, ⟨H2, H3⟩, ⟨HY, ⟨Hc1, Hc2, Hf1⟩, HZ, ⟨Hl0, Hl1, Hl2, Hl3⟩, Hm, Hw, HO⟩⟩ Hk
  iapply (blk2_ok (defs := defs) A B K 𝒱 c i (n := min j 16) (m := min (j - 1) 16) (w := min (j - 4) 12) (w' := min (j + 1 - 4) 12)
    ![min j 16, min (j - 1) 16, min (j - 1) 16, min (j - 2) 16] j hi (by omega) (by omega) (hj4 (by omega) (by omega) (by omega) (by omega))) $$ [HY HO]
  · isplitr; · iexact HI
    isplitr; · iexact HL
    isplitl [HY]; · iexact HY
    iexact HO
  iintro ⟨HY, HO⟩
  iapply (blk3_ok (defs := defs) A B K 𝒱 c i (n := min j 16) (n' := min (j + 1) 16) (m := min (j - 1) 16) (w := min (j + 1 - 4) 12)
    (min (j - 1) 16) (min (j - 1) 16) (min (j - 2) 16) j hi arg2 harg2 arg3 harg3 X3 h3 (by omega) (by omega)) $$ [H2 H3 Hw HY HO]
  · isplitr; · iexact HI
    isplitl [H2 H3]
    · isplitl [H2]; · iexact H2
      iexact H3
    isplitl [Hw]; · iexact Hw
    isplitl [HY]; · iexact HY
    iexact HO
  iintro ⟨⟨H2, H3⟩, Hw, ⟨Hc0, Hf0⟩, HO⟩
  iapply (blk4_ok (defs := defs) A B K 𝒱 c i hq3 (a := min (j - 1) 16) (a' := min (j + 1 - 1) 16) (b := min j 16) (w := min (j - 3) 14) (w' := min (j + 1 - 3) 14)
    (v := min (j - 5) 12) (v' := min (j + 1 - 5) 12) (n0 := min (j + 1) 16) (m1 := min (j - 2) 16) (m2 := min (j - 2) 16) (w0 := min (j + 1 - 4) 12)
    (min (j - 2) 16) j hi (by omega) (by omega) (fun n h1 h2 => hj4 (by omega) (by omega) (by omega) (by omega))) $$ [Hm Hl0 Hc0 Hc1 Hc2 Hf1 HO]
  · isplitr; · iexact HI
    isplitr; · iexact HL
    isplitl [Hm]; · iexact Hm
    isplitl [Hl0]; · iexact Hl0
    isplitl [Hc0]; · iexact Hc0
    isplitl [Hc1 Hc2 Hf1]
    · isplitl [Hc1]; · iexact Hc1
      isplitl [Hc2]; · iexact Hc2
      iexact Hf1
    iexact HO
  iintro ⟨Hm, Hl0, Hc0, ⟨Hc1, Hc2, Hf1⟩, HO⟩
  iapply (blk7_ok (defs := defs) A B 𝒱 c i (a := min (j + 1 - 1) 16) (b := min j 16) (b' := min (j + 1) 16) j hi arg2 harg2 (by omega) (by omega)) $$ [H2 Hw Hm]
  · isplitl [H2]; · iexact H2
    isplitl [Hw]; · iexact Hw
    iexact Hm
  iintro ⟨H2, Hw, Hm⟩
  iapply (blk8_ok (defs := defs) A B K 𝒱 c i hq5 (a := min (j - 2) 16) (a' := min (j + 1 - 2) 16) (w := min (j - 4) 14) (w' := min (j + 1 - 4) 14)
    (m3 := min (j - 3) 16) (n1 := min (j + 1 - 1) 16) (v1 := min (j + 1 - 5) 12) (min (j + 1) 16) (min (j + 1 - 1) 16) j hi (by omega) (by omega)
    (fun n h1 h2 => hj4 (by omega) (by omega) (by omega) (by omega))) $$ [Hl1 Hc1 HZ HO]
  · isplitr; · iexact HI
    isplitr; · iexact HL
    isplitl [Hl1]; · iexact Hl1
    isplitl [Hc1]; · iexact Hc1
    isplitl [HZ]; · iexact HZ
    iexact HO
  iintro ⟨Hl1, Hc1, ⟨Hc3, Hf3⟩, HO⟩
  iapply (blk11_ok (defs := defs) A B K 𝒱 c i (a := min (j - 2) 16) (a' := min (j + 1 - 2) 16) (w := min (j - 4) 14) (w' := min (j + 1 - 4) 14)
    (n := min (j + 1 - 1) 16) (v := min (j + 1 - 5) 12) ![min (j + 1) 16, min (j + 1 - 1) 16, min (j + 1 - 1) 16, min (j + 1 - 2) 16] j hi (by omega) (by omega)
    (hj4 (by omega) (by omega) (by omega) (by omega))) $$ [Hl2 Hc2 HO]
  · isplitr; · iexact HI
    isplitr; · iexact HL
    isplitl [Hl2]; · iexact Hl2
    isplitl [Hc2]; · iexact Hc2
    iexact HO
  iintro ⟨Hl2, Hc2, HO⟩
  iapply (wp_val 𝒱 c v)
  iapply (blk13_ok (defs := defs) A B K 𝒱 c i (a := min (j - 3) 16) (a' := min (j + 1 - 3) 16) (w := min (j - 5) 14) (w' := min (j + 1 - 5) 14)
    (n := min (j + 1 - 2) 16) (v := min (j + 1 - 4) 14) ![min (j + 1) 16, min (j + 1 - 1) 16, min (j + 1 - 1) 16, min (j + 1 - 2) 16] j hi (by omega) (by omega)
    (hj4 (by omega) (by omega) (by omega) (by omega))) $$ [Hl3 Hc3 HO]
  · isplitr; · iexact HI
    isplitr; · iexact HL
    isplitl [Hl3]; · iexact Hl3
    isplitl [Hc3]; · iexact Hc3
    iexact HO
  iintro ⟨Hl3, Hc3, HO⟩
  iapply Hk
  isplitl [H2 H3]
  · isplitl [H2]; · iexact H2
    iexact H3
  isplitl [Hc0 Hf0]
  · isplitl [Hc0]; · iexact Hc0
    iexact Hf0
  isplitl [Hc1 Hc2 Hf1]
  · isplitl [Hc1]; · iexact Hc1
    isplitl [Hc2]; · iexact Hc2
    iexact Hf1
  isplitl [Hc3 Hf3]
  · isplitl [Hc3]; · iexact Hc3
    iexact Hf3
  isplitl [Hl0 Hl1 Hl2 Hl3]
  · isplitl [Hl0]; · iexact Hl0
    isplitl [Hl1]; · iexact Hl1
    isplitl [Hl2]; · iexact Hl2
    iexact Hl3
  isplitl [Hm]; · iexact Hm
  isplitl [Hw]; · iexact Hw
  iexact HO

end Cert.KernelIdeal.Kern
-- ==== Proof.Close.lean ====
/- The kernel's body over its nineteen steps: the first passes the barrier, the last drains and closes every semaphore. -/
module

public import proofs.«01_k».proof.Proof.Step

@[expose] public section

noncomputable section

namespace Cert.KernelIdeal.Kern

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (A : Dev nD → S2048x4096.Idx → Elt F .bf16) (B : Dev nD → ℕ → S4096x256.Idx → Elt F .f32)
variable (K : GSem nD τ sig → ℕ)

variable {defs : Defs nD τ sig (Elt F) Λ₀} (𝒱 : Variants) (c : Dev nD) {bd : Option 𝒱.V}
variable {α : Type} {Q : α → sProp (MM F)}

/-- What a device holds before its first step. -/
def openS (c : Dev nD) : sProp (MM F) :=
  iprop(barS c ∗ (chS 0 c 0 0 0 0 0 4 ∗ chS 1 c 0 0 0 0 0 4 ∗ chS 2 c 0 0 0 0 0 4 ∗ chS 3 c 0 0 0 0 0 4)
    ∗ (srcF 0 c 0 4 ∗ srcF 1 c 0 4 ∗ srcF 3 c 0 2)
    ∗ (locS A B 0 c 0 0 0 ∗ locS A B 1 c 0 0 0 ∗ locS A B 2 c 0 0 0 ∗ locS A B 3 c 0 0 0)
    ∗ mineS A B c 0 0 ∗ ∃ X, ownsTc c bWb fullShare X)

/-- What it holds when the last tile has left and the last copy is made. -/
def drained (c : Dev nD) : sProp (MM F) :=
  iprop(atPos ER (barCell c) 1 ∅ 0
    ∗ ((chB 0 c 16 16 16 ∗ srcF 0 c 16 (16 + 4)) ∗ (chB 1 c 16 16 16 ∗ chB 2 c 16 16 16 ∗ srcF 1 c 16 (16 + 4)) ∗ (chB 3 c 16 16 16 ∗ srcF 3 c 16 (16 + 2))
        ∗ (locS A B 0 c 16 16 16 ∗ locS A B 1 c 16 16 16 ∗ locS A B 2 c 16 16 16 ∗ locS A B 3 c 16 16 16))
    ∗ mineS A B c 16 16 ∗ ∃ X, ownsTc c bWb fullShare X)

theorem wp_dev (f : Dev nD → Prog (TpuEff nD τ sig (Elt F) Λ₀ .tc) α) :
    wp frame (wpE defs 𝒱 (c : Thread nD τ) bd) Set.univ (f c) Q ⊢ wp frame (wpE defs 𝒱 (c : Thread nD τ) bd) Set.univ (Prog.lift .deviceId >>= f) Q := by
  refine BIBase.Entails.trans ?_ (wp_seq (defs := defs) (bd := bd) 𝒱 c (Prog.lift .deviceId) f)
  rw [show (Prog.lift (.deviceId : TpuEff nD τ sig (Elt F) Λ₀ .tc (Dev nD)) : Prog (TpuEff nD τ sig (Elt F) Λ₀ .tc) (Dev nD)) = .op .deviceId .ret from rfl, wp_deviceId]
  exact fupd_intro

theorem body_mid (i : grid0.Coords) (arg2 : Memref sig .tc .vmem S2048x4096 .bf16) (harg2 : arg2.IsWhole) (arg3 : Memref sig .tc .vmem S4096x256 .f32) (harg3 : arg3.IsWhole)
    (q3 : Dev nD → k0_cond4 i = 1#1 → Prog (TpuEff nD τ sig (Elt F) Λ₀ .tc) (BitVec 32)) (q5 : Dev nD → k0_cond8 i = 1#1 → Prog (TpuEff nD τ sig (Elt F) Λ₀ .tc) PUnit.{1}) (v : Dev nD → BitVec 32) :
    body i arg2 harg2 arg3 harg3 q3 q5 v = Prog.lift .deviceId >>= fun d0 => (blk1 i d0 fun _ => mid i arg2 harg2 arg3 harg3 d0 (q3 d0) (q5 d0) fun _ => pure (v d0)) >>= fun _ =>
      blk13 i d0 fun _ => blk15 i d0 fun _ => pure ⟨⟩ := rfl

/-- A step, from what its first block and its last one do. -/
theorem body_of (i : grid0.Coords) (j : ℕ) (hi : (i 0).val = j) (hj18 : j ≤ 18)
    (arg2 : Memref sig .tc .vmem S2048x4096 .bf16) (harg2 : arg2.IsWhole) (arg3 : Memref sig .tc .vmem S4096x256 .f32) (harg3 : arg3.IsWhole) {q2 qw : PosShare TreeShare}
    (X3 : S4096x256.Idx → Elt F .f32) (h3 : j < 16 → X3 = B c j)
    {q3 : Dev nD → k0_cond4 i = 1#1 → Prog (TpuEff nD τ sig (Elt F) Λ₀ .tc) (BitVec 32)} {q5 : Dev nD → k0_cond8 i = 1#1 → Prog (TpuEff nD τ sig (Elt F) Λ₀ .tc) PUnit.{1}}
    (hq3 : ∀ d h, ∃ r : BitVec 32, q3 d h = half3 i d h (fun _ => pure r)) (hq5 : ∀ d h, q5 d h = half5 i d h (fun _ => pure ⟨⟩))
    (v : Dev nD → BitVec 32) (X R Y : sProp (MM F)) {Q : PUnit.{1} → sProp (MM F)}
    (hfirst : ∀ (k : PUnit.{1} → Prog (TpuEff nD τ sig (Elt F) Λ₀ .tc) (BitVec 32)) (Q' : BitVec 32 → sProp (MM F)),
      iprop(invs A B K ∗ levAts L lv ∗ X) ⊢ iprop(((R ∗ runS A B c j) -∗ wp frame (wpE defs 𝒱 (c : Thread nD τ) bd) Set.univ (k ⟨⟩) Q')
        -∗ wp frame (wpE defs 𝒱 (c : Thread nD τ) bd) Set.univ (blk1 i c k) Q'))
    (hlast : iprop(invs A B K ∗ levAts L lv ∗ R ∗ runS A B c (j + 1)) ⊢ iprop((Y -∗ wp frame (wpE defs 𝒱 (c : Thread nD τ) bd) Set.univ (.ret ⟨⟩) Q)
        -∗ wp frame (wpE defs 𝒱 (c : Thread nD τ) bd) Set.univ (blk15 i c fun _ => pure ⟨⟩) Q)) :
    iprop(invs A B K ∗ levAts L lv ∗ (ownsTc c arg2 q2 (A c) ∗ ownsTc c arg3 qw X3) ∗ X)
      ⊢ iprop((((ownsTc c arg2 q2 (A c) ∗ ownsTc c arg3 qw X3) ∗ Y) -∗ wp frame (wpE defs 𝒱 (c : Thread nD τ) bd) Set.univ (.ret ⟨⟩) Q)
          -∗ wp frame (wpE defs 𝒱 (c : Thread nD τ) bd) Set.univ (body i arg2 harg2 arg3 harg3 q3 q5 v) Q) := by
  rw [body_mid]
  iintro ⟨#HI, #HL, HA, HX⟩ Hk
  iapply (wp_dev (defs := defs) (bd := bd) 𝒱 c)
  iapply (wp_seq (defs := defs) 𝒱 c (blk1 i c fun _ => mid i arg2 harg2 arg3 harg3 c (q3 c) (q5 c) fun _ => pure (v c))
    (fun _ => blk13 i c fun _ => blk15 i c fun _ => pure ⟨⟩))
  iapply (hfirst (fun _ => mid i arg2 harg2 arg3 harg3 c (q3 c) (q5 c) fun _ => pure (v c))
    (fun _ => wp frame (wpE defs 𝒱 (c : Thread nD τ) bd) Set.univ (blk13 i c fun _ => blk15 i c fun _ => pure ⟨⟩) Q)) $$ [HX]
  · isplitr; · iexact HI
    isplitr; · iexact HL
    iexact HX
  iintro ⟨HR, Hr⟩
  have hh := run_ok (defs := defs) (bd := bd) (Q := Q) A B K 𝒱 c i j hi hj18 arg2 harg2 arg3 harg3 (q2 := q2) (qw := qw) X3 h3 (q3 := q3 c) (q5 := q5 c) (hq3 c) (hq5 c) (v c)
    (k := fun _ => blk15 i c fun _ => pure ⟨⟩)
  iapply hh $$ [HA Hr]
  · isplitr; · iexact HI
    isplitr; · iexact HL
    isplitl [HA]; · iexact HA
    iexact Hr
  iintro ⟨HA, Hr⟩
  iapply hlast $$ [HR Hr]
  · isplitr; · iexact HI
    isplitr; · iexact HL
    isplitl [HR]; · iexact HR
    iexact Hr
  iintro HY
  iapply Hk
  isplitl [HA]; · iexact HA
  iexact HY

theorem runS_zero : (runS A B c 0 : sProp (MM F)) = iprop((chB 0 c 0 0 0 ∗ srcF 0 c 0 4) ∗ (chB 1 c 0 0 0 ∗ chB 2 c 0 0 0 ∗ srcF 1 c 0 4) ∗ (chB 3 c 0 0 0 ∗ srcF 3 c 0 2)
    ∗ (locS A B 0 c 0 0 0 ∗ locS A B 1 c 0 0 0 ∗ locS A B 2 c 0 0 0 ∗ locS A B 3 c 0 0 0) ∗ mineS A B c 0 0 ∗ (∃ X, ownsTc c bWb fullShare X)
    ∗ owesE c (debt c ![0, 0, 0, 0])) := rfl

theorem runS_last : (runS A B c (18 + 1) : sProp (MM F)) = iprop((chB 0 c 16 16 12 ∗ srcF 0 c 16 (12 + 4)) ∗ (chB 1 c 16 16 12 ∗ chB 2 c 16 16 12 ∗ srcF 1 c 16 (12 + 4)) ∗ (chB 3 c 16 16 14 ∗ srcF 3 c 16 (14 + 2))
    ∗ (locS A B 0 c 16 14 16 ∗ locS A B 1 c 16 14 16 ∗ locS A B 2 c 16 14 16 ∗ locS A B 3 c 16 14 16) ∗ mineS A B c 16 16 ∗ (∃ X, ownsTc c bWb fullShare X)
    ∗ owesE c (debt c ![16, 16, 16, 16])) := rfl

theorem first_open (i : grid0.Coords) (hi : (i 0).val = 0) (k : PUnit.{1} → Prog (TpuEff nD τ sig (Elt F) Λ₀ .tc) α) :
    iprop(invs A B K ∗ levAts L lv ∗ (openS A B c ∗ owesE c (debtB c)))
      ⊢ iprop(((atPos ER (barCell c) 1 ∅ 0 ∗ runS A B c 0) -∗ wp frame (wpE defs 𝒱 (c : Thread nD τ) bd) Set.univ (k ⟨⟩) Q)
        -∗ wp frame (wpE defs 𝒱 (c : Thread nD τ) bd) Set.univ (blk1 i c k) Q) := by
  rw [runS_zero]
  unfold openS
  iintro ⟨#HI, #HL, ⟨Hb, Hc, ⟨Hf0, Hf1, Hf3⟩, Hl, Hm, Hw⟩, HO⟩ Hk
  iapply (blk1_do (defs := defs) A B K 𝒱 c i hi) $$ [Hb Hc HO]
  · isplitr; · iexact HI
    isplitr; · iexact HL
    isplitl [Hb]; · iexact Hb
    isplitl [Hc]; · iexact Hc
    iexact HO
  iintro ⟨Hat, ⟨Hc0, Hc1, Hc2, Hc3⟩, HO⟩
  iapply Hk
  isplitl [Hat]; · iexact Hat
  isplitl [Hc0 Hf0]
  · isplitl [Hc0]; · iexact Hc0
    iexact Hf0
  isplitl [Hc1 Hc2 Hf1]
  · isplitl [Hc1]; · iexact Hc1
    isplitl [Hc2]; · iexact Hc2
    iexact Hf1
  isplitl [Hc3 Hf3]
  · isplitl [Hc3]; · iexact Hc3
    iexact Hf3
  isplitl [Hl]; · iexact Hl
  isplitl [Hm]; · iexact Hm
  isplitl [Hw]; · iexact Hw
  iexact HO

theorem first_skip (i : grid0.Coords) (j : ℕ) (hi : (i 0).val ≠ 0) (k : PUnit.{1} → Prog (TpuEff nD τ sig (Elt F) Λ₀ .tc) α) :
    iprop(invs A B K ∗ levAts L lv ∗ (atPos ER (barCell c) 1 ∅ 0 ∗ runS A B c j))
      ⊢ iprop(((atPos ER (barCell c) 1 ∅ 0 ∗ runS A B c j) -∗ wp frame (wpE defs 𝒱 (c : Thread nD τ) bd) Set.univ (k ⟨⟩) Q)
        -∗ wp frame (wpE defs 𝒱 (c : Thread nD τ) bd) Set.univ (blk1 i c k) Q) := by
  rw [blk1_skip c i hi k]
  iintro ⟨-, -, H⟩ Hk
  iapply Hk; iexact H

theorem last_skip (i : grid0.Coords) (j : ℕ) (hi : (i 0).val ≠ 18) (k : PUnit.{1} → Prog (TpuEff nD τ sig (Elt F) Λ₀ .tc) α) :
    iprop(invs A B K ∗ levAts L lv ∗ atPos ER (barCell c) 1 ∅ 0 ∗ runS A B c (j + 1))
      ⊢ iprop(((atPos ER (barCell c) 1 ∅ 0 ∗ runS A B c (j + 1)) -∗ wp frame (wpE defs 𝒱 (c : Thread nD τ) bd) Set.univ (k ⟨⟩) Q)
        -∗ wp frame (wpE defs 𝒱 (c : Thread nD τ) bd) Set.univ (blk15 i c k) Q) := by
  rw [blk15_skip c i hi k]
  iintro ⟨-, -, H⟩ Hk
  iapply Hk; iexact H

theorem last_drain (i : grid0.Coords) (hi : (i 0).val = 18) (k : PUnit.{1} → Prog (TpuEff nD τ sig (Elt F) Λ₀ .tc) α) :
    iprop(invs A B K ∗ levAts L lv ∗ atPos ER (barCell c) 1 ∅ 0 ∗ runS A B c (18 + 1))
      ⊢ iprop(((drained A B c ∗ owesE c 0) -∗ wp frame (wpE defs 𝒱 (c : Thread nD τ) bd) Set.univ (k ⟨⟩) Q)
        -∗ wp frame (wpE defs 𝒱 (c : Thread nD τ) bd) Set.univ (blk15 i c k) Q) := by
  have e0 : debt c ![16, 16, 16, 16] = 0 := by
    unfold debt
    exact Finset.sum_eq_zero fun ch _ => debt1_done ch c _ (by fin_cases ch <;> exact Nat.le_refl 16)
  rw [runS_last]
  unfold drained
  iintro ⟨#HI, #HL, Hat, ⟨H0, H1, H3, Hl, Hm, Hw, HO⟩⟩ Hk
  iapply (blk15_do (defs := defs) A B K 𝒱 c i hi) $$ [H0 H1 H3 Hl HO]
  · isplitr; · iexact HI
    isplitr; · iexact HL
    isplitr [HO]
    · isplitl [H0]; · iexact H0
      isplitl [H1]; · iexact H1
      isplitl [H3]; · iexact H3
      iexact Hl
    iexact HO
  iintro ⟨H, HO⟩
  iapply Hk
  isplitr [HO]
  · isplitl [Hat]; · iexact Hat
    isplitl [H]; · iexact H
    isplitl [Hm]; · iexact Hm
    iexact Hw
  · rw [e0]; iexact HO

end Cert.KernelIdeal.Kern
-- ==== Proof.Parts.lean ====
/- A buffer cut into its slots, the result cut into its sixty-four tiles, and both put together again. -/
module

public import proofs.«01_k».proof.Proof.Close

@[expose] public section

noncomputable section

namespace Cert.KernelIdeal.Kern

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A window of consecutive numbers as a family over a finite type. -/
theorem win_fin (Φ : ℕ → sProp (MM F)) (a n : ℕ) : win Φ a (a + n) = bigSep Finset.univ fun s : Fin n => Φ (a + s.val) := by
  unfold win
  have e : Finset.Ico a (a + n) = (Finset.univ : Finset (Fin n)).map ⟨fun s => a + s.val, fun s s' h => Fin.ext (by simpa using h)⟩ := by
    ext x
    rw [Finset.mem_Ico, Finset.mem_map]
    constructor
    · rintro ⟨h1, h2⟩
      exact ⟨⟨x - a, by omega⟩, Finset.mem_univ _, by show a + (x - a) = x; omega⟩
    · rintro ⟨s, -, rfl⟩
      exact ⟨Nat.le_add_right _ _, Nat.add_lt_add_left s.isLt _⟩
  rw [e, BI.bigSep_map]
  rfl

theorem some_of (c : Dev nD) {sp : Space} {s : Shape} {e : EltTy} (M : Memref sig .tc sp s e) (X : s.Idx → Elt F e) :
    ownsTc c M fullShare X ⊢ (iprop(∃ X, ownsTc c M fullShare X) : sProp (MM F)) := by
  iintro H; iexists X; iexact H

section Glue

variable {s : Shape} {T : Type} [Fintype T] [DecidableEq T] (r : T → Rect s)
  (hd : ∀ t t', t ≠ t' → Disjoint (r t).set (r t').set)
  (hcov : (Finset.univ : Finset T).biUnion (fun t => (r t).set) = Finset.univ)
include hd hcov

omit [DecidableEq T] in
/-- Contents given on each part of a partition are the parts of one contents. -/
theorem glue {V : Type} (Xs : ∀ t, (r t).shape.Idx → V) : ∃ X : s.Idx → V, ∀ t, (fun j => X ((r t).emb j)) = Xs t := by
  classical
  have h : ∀ i : s.Idx, ∃ t, ∃ j : (r t).shape.Idx, (r t).emb j = i := fun i => by
    obtain ⟨t, -, ht⟩ := Finset.mem_biUnion.mp (hcov.symm ▸ Finset.mem_univ i)
    rw [← Rect.map_emb_univ] at ht
    obtain ⟨j, -, hj⟩ := Finset.mem_map.mp ht
    exact ⟨t, j, hj⟩
  choose tt jj hj using h
  refine ⟨fun i => Xs (tt i) (jj i), fun t => funext fun j => ?_⟩
  have key : ∀ t' (j' : (r t').shape.Idx), (r t').emb j' = (r t).emb j → Xs t' j' = Xs t j := fun t' j' e => by
    by_cases htt : t' = t
    · subst htt
      rw [(r t').emb.injective e]
    · refine absurd (hd t' t htt) (Finset.not_disjoint_iff.mpr ⟨(r t).emb j, ?_, ?_⟩)
      · rw [← e, ← Rect.map_emb_univ]; exact Finset.mem_map_of_mem _ (Finset.mem_univ _)
      · rw [← Rect.map_emb_univ]; exact Finset.mem_map_of_mem _ (Finset.mem_univ _)
  exact key _ _ (hj ((r t).emb j))

variable (hr : ∀ t a, (r t).stride a = 1) (c : Dev nD) {sp : Space} {e : EltTy} (M : Memref sig .tc sp s e)

theorem parts_eq : (iprop(∃ X, ownsTc c M fullShare X) : sProp (MM F))
    = bigSep Finset.univ fun t => iprop(∃ X, ownsTc c (M.slice (r t) (hr t)) fullShare X) := by
  refine BI.equiv_iff.mp ⟨?_, ?_⟩
  · refine (?_ : (iprop(∃ X, ownsTc c M fullShare X) : sProp (MM F)) ⊢ bigSep Finset.univ fun t => iprop(∃ X, ownsTc c (M.slice (r t) (hr t)) fullShare X))
    iintro ⟨%X, H⟩
    ihave H' := (owns_rects (c : Thread nD τ) M fullShare r hr hd hcov X) $$ H
    have hm : (bigSep Finset.univ fun t => ownsTc c (M.slice (r t) (hr t)) fullShare (fun j => X ((r t).emb j)) : sProp (MM F))
        ⊢ bigSep Finset.univ fun t => iprop(∃ X, ownsTc c (M.slice (r t) (hr t)) fullShare X) := BI.bigSep_mono fun t _ => some_of c _ _
    iapply hm
    iexact H'
  · refine (BI.bigSep_exists_pi Finset.univ (fun t (X : (r t).shape.Idx → Elt F e) => (ownsTc c (M.slice (r t) (hr t)) fullShare X : sProp (MM F)))).trans ?_
    iintro ⟨%Xs, H⟩
    obtain ⟨X, hX⟩ := glue r hd hcov Xs
    iexists X
    iapply (owns_of_rects (c : Thread nD τ) M fullShare r hr hd hcov X)
    simp only [hX]
    iexact H

end Glue

/-! ## Slots -/

theorem r4_disjoint (t t' : Fin 4) (h : t ≠ t') : Disjoint (r4 t.val).set (r4 t'.val).set :=
  Rect.disjoint_of_axis _ _ 0 fun j₁ h₁ j₂ h₂ => by
    have h1 : j₁ < 1 := h₁
    have h2 : j₂ < 1 := h₂
    have := t.isLt
    have := t'.isLt
    show t.val % 4 + 1 * j₁ ≠ t'.val % 4 + 1 * j₂
    intro e
    exact h (Fin.ext (by omega))
theorem r4_cover : (Finset.univ : Finset (Fin 4)).biUnion (fun t => (r4 t.val).set) = Finset.univ := by
  ext i
  simp only [Finset.mem_biUnion, Finset.mem_univ, true_and, iff_true]
  have h0 : (i 0).val < 4 := (i 0).isLt
  refine ⟨⟨(i 0).val, h0⟩, Rect.mem_set_unit.mpr fun a => ?_⟩
  fin_cases a
  · show (i 0).val % 4 ≤ (i 0).val ∧ (i 0).val < (i 0).val % 4 + 1; omega
  · exact ⟨Nat.zero_le _, by show (i 1).val < 0 + 512; have : (i 1).val < 512 := (i 1).isLt; omega⟩
  · exact ⟨Nat.zero_le _, by show (i 2).val < 0 + 256; have : (i 2).val < 256 := (i 2).isLt; omega⟩
theorem r2_disjoint (t t' : Fin 2) (h : t ≠ t') : Disjoint (r2 t.val).set (r2 t'.val).set :=
  Rect.disjoint_of_axis _ _ 0 fun j₁ h₁ j₂ h₂ => by
    have h1 : j₁ < 1 := h₁
    have h2 : j₂ < 1 := h₂
    have := t.isLt
    have := t'.isLt
    show t.val % 2 + 1 * j₁ ≠ t'.val % 2 + 1 * j₂
    intro e
    exact h (Fin.ext (by omega))
theorem r2_cover : (Finset.univ : Finset (Fin 2)).biUnion (fun t => (r2 t.val).set) = Finset.univ := by
  ext i
  simp only [Finset.mem_biUnion, Finset.mem_univ, true_and, iff_true]
  have h0 : (i 0).val < 2 := (i 0).isLt
  refine ⟨⟨(i 0).val, h0⟩, Rect.mem_set_unit.mpr fun a => ?_⟩
  fin_cases a
  · show (i 0).val % 2 ≤ (i 0).val ∧ (i 0).val < (i 0).val % 2 + 1; omega
  · exact ⟨Nat.zero_le _, by show (i 1).val < 0 + 512; have : (i 1).val < 512 := (i 1).isLt; omega⟩
  · exact ⟨Nat.zero_le _, by show (i 2).val < 0 + 256; have : (i 2).val < 256 := (i 2).isLt; omega⟩

variable (c : Dev nD)

/-- A buffer of four tiles is its four slots, counted from a multiple of four. -/
theorem slots4 {e : EltTy} (M : Memref sig .tc .vmem S4x512x256 e) (a : ℕ) (ha : a % 4 = 0) :
    (iprop(∃ X, ownsTc c M fullShare X) : sProp (MM F)) = win (fun u => iprop(∃ X, ownsTc c (slot4 M u) fullShare X)) a (a + 4) := by
  rw [win_fin, parts_eq (fun t : Fin 4 => r4 t.val) r4_disjoint r4_cover (fun _ _ => rfl) c M]
  exact BI.bigSep_congr fun t _ => by
    rw [slot4_congr M (show (a + t.val) % 4 = t.val % 4 by omega)]; rfl
theorem slots2 {e : EltTy} (M : Memref sig .tc .vmem S2x512x256 e) (a : ℕ) (ha : a % 2 = 0) :
    (iprop(∃ X, ownsTc c M fullShare X) : sProp (MM F)) = win (fun u => iprop(∃ X, ownsTc c (slot2 M u) fullShare X)) a (a + 2) := by
  rw [win_fin, parts_eq (fun t : Fin 2 => r2 t.val) r2_disjoint r2_cover (fun _ _ => rfl) c M]
  exact BI.bigSep_congr fun t _ => by
    rw [slot2_congr M (show (a + t.val) % 2 = t.val % 2 by omega)]; rfl

/-- A whole buffer at some contents. -/
theorem whole_any (b : Ref sig .tc) : (iprop(∃ f : Buf (Elt F) ((c : Thread nD τ).loc b), ((c : Thread nD τ).loc b) ↦{fullShare} f) : sProp (MM F))
    = iprop(∃ X, ownsTc c (Memref.whole b) fullShare X) := by
  simp only [ownsTc, owns_whole_eq]
  refine BI.equiv_iff.mp ⟨(?_ : (iprop(∃ f : Buf (Elt F) ((c : Thread nD τ).loc b), ((c : Thread nD τ).loc b) ↦{fullShare} f) : sProp (MM F)) ⊢ iprop(∃ X, ∃ f : Buf (Elt F) ((c : Thread nD τ).loc b), ⌜f = X⌝ ∗ ((c : Thread nD τ).loc b) ↦{fullShare} f)),
    (?_ : iprop(∃ X, ∃ f : Buf (Elt F) ((c : Thread nD τ).loc b), ⌜f = X⌝ ∗ ((c : Thread nD τ).loc b) ↦{fullShare} f) ⊢ (iprop(∃ f : Buf (Elt F) ((c : Thread nD τ).loc b), ((c : Thread nD τ).loc b) ↦{fullShare} f) : sProp (MM F)))⟩
  · iintro ⟨%f, H⟩; iexists f; iexists f; isplitr; · ipureintro; rfl
    iexact H
  · iintro ⟨%X, ⟨%f, -, H⟩⟩; iexists f; iexact H

/-- Every scratch buffer, slot by slot, the slots counted from `a`. -/
def slotsS (c : Dev nD) (a : ℕ) : sProp (MM F) :=
  iprop((∃ X, ownsTc c bWb fullShare X)
    ∗ srcF 0 c a (a + 4)
    ∗ win (fun u => iprop(∃ X, ownsTc c (recvSlot 0 u) fullShare X)) a (a + 4)
    ∗ win (fun u => iprop(∃ X, ownsTc c (slot2 bMine u) fullShare X)) a (a + 2)
    ∗ win (fun u => iprop(∃ X, ownsTc c (locSlot 0 u) fullShare X)) a (a + 2)
    ∗ srcF 1 c a (a + 4)
    ∗ win (fun u => iprop(∃ X, ownsTc c (recvSlot 1 u) fullShare X)) a (a + 4)
    ∗ srcF 3 c a (a + 2)
    ∗ win (fun u => iprop(∃ X, ownsTc c (recvSlot 2 u) fullShare X)) a (a + 4)
    ∗ win (fun u => iprop(∃ X, ownsTc c (recvSlot 3 u) fullShare X)) a (a + 4)
    ∗ win (fun u => iprop(∃ X, ownsTc c (locSlot 1 u) fullShare X)) a (a + 2)
    ∗ win (fun u => iprop(∃ X, ownsTc c (locSlot 2 u) fullShare X)) a (a + 2)
    ∗ win (fun u => iprop(∃ X, ownsTc c (locSlot 3 u) fullShare X)) a (a + 2))

theorem scratch_eq (a : ℕ) (ha : a % 4 = 0) :
    (Pipeline.scopedRest (Ix := ℕ) (Name := ℕ) (U := UU) (Lvl := ℕ) (Val := Elt F) spec0 c : sProp (MM F)) = slotsS c a := by
  have h2 : a % 2 = 0 := by omega
  rw [scopedRest0_eq]
  simp only [whole_any]
  change iprop((∃ X, ownsTc c bWb fullShare X) ∗ (∃ X, ownsTc c bYsend fullShare X) ∗ (∃ X, ownsTc c bYrecv fullShare X) ∗ (∃ X, ownsTc c bMine fullShare X) ∗ (∃ X, ownsTc c bSum fullShare X) ∗ (∃ X, ownsTc c bSumbf fullShare X) ∗ (∃ X, ownsTc c bXrecv fullShare X) ∗ (∃ X, ownsTc c bZbsrc fullShare X) ∗ (∃ X, ownsTc c bZrecva fullShare X) ∗ (∃ X, ownsTc c bZrecvb fullShare X) ∗ (∃ X, ownsTc c bXstore fullShare X) ∗ (∃ X, ownsTc c bZastore fullShare X) ∗ (∃ X, ownsTc c bZbstore fullShare X)) = _
  rw [slots4 c bYsend a ha, slots4 c bYrecv a ha, slots2 c bMine a h2, slots2 c bSum a h2, slots4 c bSumbf a ha, slots4 c bXrecv a ha, slots2 c bZbsrc a h2,
    slots4 c bZrecva a ha, slots4 c bZrecvb a ha, slots2 c bXstore a h2, slots2 c bZastore a h2, slots2 c bZbstore a h2]
  rfl

/-! ## The result -/

theorem rOut_disjoint (t t' : Fin 4 × Fin 16) (h : t ≠ t') : Disjoint (rOut t.1 c t.2.val).set (rOut t'.1 c t'.2.val).set := by
  obtain ⟨l, u⟩ := t
  obtain ⟨l', u'⟩ := t'
  have hx := px_lt c
  have hz := pz_lt c
  have hu := u.isLt
  have hu' := u'.isLt
  by_cases hrow : outRow l c = outRow l' c
  · refine Rect.disjoint_of_axis _ _ 2 fun j₁ h₁ j₂ h₂ => ?_
    have h1 : j₁ < 256 := h₁
    have h2 : j₂ < 256 := h₂
    show outCol l c u.val + 1 * j₁ ≠ outCol l' c u'.val + 1 * j₂
    intro e
    refine h ?_
    revert e hrow h
    unfold outRow outCol
    fin_cases l <;> fin_cases l' <;> dsimp only <;> intro hrow h e <;>
      first
        | exact absurd hrow (by omega)
        | exact absurd e (by omega)
        | (have : u = u' := Fin.ext (by omega)
           subst this; rfl)
  · refine Rect.disjoint_of_axis _ _ 1 fun j₁ h₁ j₂ h₂ => ?_
    have h1 : j₁ < 512 := h₁
    have h2 : j₂ < 512 := h₂
    show outRow l c + 1 * j₁ ≠ outRow l' c + 1 * j₂
    intro e
    revert e hrow
    unfold outRow
    fin_cases l <;> fin_cases l' <;> dsimp only <;> intro hrow e <;> omega

/-- The part of the result a row and a column lie in. -/
theorem part_of (c : Dev nD) (row col : ℕ) (hr : row < 1024) (hcl : col < 8192) :
    ∃ (l : Fin 4) (u : Fin 16), outRow l c ≤ row ∧ row < outRow l c + 512 ∧ outCol l c u.val ≤ col ∧ col < outCol l c u.val + 256 := by
  have hx := px_lt c
  have hz := pz_lt c
  have hu : col % 4096 / 256 < 16 := by omega
  have ho : outRow 0 c = pz c * 512 ∧ outRow 1 c = pz c * 512 ∧ outRow 2 c = (1 - pz c) * 512 ∧ outRow 3 c = (1 - pz c) * 512 := ⟨rfl, rfl, rfl, rfl⟩
  have hc : ∀ u, outCol 0 c u = px c * 4096 + u % 16 * 256 ∧ outCol 1 c u = (1 - px c) * 4096 + u % 16 * 256
      ∧ outCol 2 c u = px c * 4096 + u % 16 * 256 ∧ outCol 3 c u = (1 - px c) * 4096 + u % 16 * 256 := fun u => ⟨rfl, rfl, rfl, rfl⟩
  obtain ⟨o0, o1, o2, o3⟩ := ho
  obtain ⟨c0, c1, c2, c3⟩ := hc (col % 4096 / 256)
  by_cases hrow : row / 512 = pz c
  · by_cases hcol : col / 4096 = px c
    · exact ⟨0, ⟨_, hu⟩, by rw [o0]; omega, by rw [o0]; omega, by rw [c0]; omega, by rw [c0]; omega⟩
    · exact ⟨1, ⟨_, hu⟩, by rw [o1]; omega, by rw [o1]; omega, by rw [c1]; omega, by rw [c1]; omega⟩
  · by_cases hcol : col / 4096 = px c
    · exact ⟨2, ⟨_, hu⟩, by rw [o2]; omega, by rw [o2]; omega, by rw [c2]; omega, by rw [c2]; omega⟩
    · exact ⟨3, ⟨_, hu⟩, by rw [o3]; omega, by rw [o3]; omega, by rw [c3]; omega, by rw [c3]; omega⟩

theorem rOut_cover : (Finset.univ : Finset (Fin 4 × Fin 16)).biUnion (fun t => (rOut t.1 c t.2.val).set) = Finset.univ := by
  ext i
  simp only [Finset.mem_biUnion, Finset.mem_univ, true_and, iff_true]
  have h0 : (i 0).val < 1 := (i 0).isLt
  obtain ⟨l, u, h1, h2, h3, h4⟩ := part_of c (i 1).val (i 2).val (i 1).isLt (i 2).isLt
  refine ⟨(l, u), Rect.mem_set_unit.mpr fun a => ?_⟩
  fin_cases a
  · show 0 ≤ (i 0).val ∧ (i 0).val < 0 + 1; omega
  · exact ⟨h1, h2⟩
  · exact ⟨h3, h4⟩

theorem win16 (Φ : ℕ → sProp (MM F)) : win Φ 0 16 = bigSep Finset.univ fun s : Fin 16 => Φ s.val := by
  rw [win_fin Φ 0 16]; exact BI.bigSep_congr fun s _ => by rw [Nat.zero_add]

theorem fin4 (Φ : Fin 4 → sProp (MM F)) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-- The result's buffer is its sixty-four tiles. -/
theorem out_split : (iprop(∃ f : Buf (Elt F) ((c : Thread nD τ).loc main_v8), ((c : Thread nD τ).loc main_v8) ↦{fullShare} f) : sProp (MM F))
    ⊢ bigSep Finset.univ fun l : Fin 4 => win (fun u => iprop(∃ X, ownsTc c (outReg l c u) fullShare X)) 0 16 := by
  rw [whole_any]
  change (iprop(∃ X, ownsTc c bOut fullShare X) : sProp (MM F)) ⊢ _
  rw [parts_eq (fun t : Fin 4 × Fin 16 => rOut t.1 c t.2.val) (rOut_disjoint c) (rOut_cover c) (fun _ _ => rfl) c bOut, BI.bigSep_univ_prod]
  simp only [win16]
  exact .rfl

variable (A : Dev nD → S2048x4096.Idx → Elt F .bf16) (B : Dev nD → ℕ → S4096x256.Idx → Elt F .f32)

/-- The contents of the result on device `c`: every tile at what its part holds. -/
def IsOut (c : Dev nD) (f : S1x1024x8192.Idx → Elt F .f32) : Prop := ∀ (l : Fin 4) (u : Fin 16), (fun j => f ((rOut l c u.val).emb j)) = outD A B l c u.val

theorem out_join : (bigSep Finset.univ fun l : Fin 4 => win (fun u => ownsTc c (outReg l c u) fullShare (outD A B l c u)) 0 16)
    ⊢ (iprop(∃ f : Buf (Elt F) ((c : Thread nD τ).loc main_v8), ⌜IsOut A B c f⌝ ∗ ((c : Thread nD τ).loc main_v8) ↦{fullShare} f) : sProp (MM F)) := by
  obtain ⟨X, hX⟩ := glue (fun t : Fin 4 × Fin 16 => rOut t.1 c t.2.val) (rOut_disjoint c) (rOut_cover c) (fun t => outD A B t.1 c t.2.val)
  have e : (bigSep Finset.univ fun l : Fin 4 => win (fun u => ownsTc c (outReg l c u) fullShare (outD A B l c u)) 0 16 : sProp (MM F))
      = bigSep Finset.univ fun t : Fin 4 × Fin 16 => ownsTc c (bOut.slice (rOut t.1 c t.2.val) (fun _ => rfl)) fullShare (fun j => X ((rOut t.1 c t.2.val).emb j)) := by
    rw [BI.bigSep_univ_prod]
    refine BI.bigSep_congr fun l _ => ?_
    rw [win16]
    exact BI.bigSep_congr fun u _ => by rw [← hX (l, u)]
  rw [e]
  refine (owns_of_rects (c : Thread nD τ) bOut fullShare (fun t : Fin 4 × Fin 16 => rOut t.1 c t.2.val) (fun _ _ => rfl) (rOut_disjoint c) (rOut_cover c) X).trans ?_
  rw [owns_whole_eq]
  iintro ⟨%f, %h, H⟩
  iexists f
  isplitr
  · ipureintro
    intro l u
    have := hX (l, u)
    rw [← h] at this
    exact this
  iexact H

end Cert.KernelIdeal.Kern
-- ==== Proof.Shut.lean ====
/- From the cells, tokens and buffers a device is handed to what its first step starts from, and from what its last step leaves to every counter at zero. -/
module

public import proofs.«01_k».proof.Proof.Parts

@[expose] public section

noncomputable section

namespace Cert.KernelIdeal.Kern

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (A : Dev nD → S2048x4096.Idx → Elt F .bf16) (B : Dev nD → ℕ → S4096x256.Idx → Elt F .f32)
variable (K : GSem nD τ sig → ℕ)

variable (c : Dev nD)

/-- The device's own counters: arrivals and departures of the four channels by slot, and the four local writers' by slot. -/
abbrev Own : Type := (Fin 4 × Fin 4) ⊕ (Fin 4 × Fin 4) ⊕ (Fin 4 × Fin 2)

def osem : Own → SemLoc sig
  | .inl p => .dma (recvSem p.1 p.2.val)
  | .inr (.inl p) => .dma (sendSem p.1 p.2.val)
  | .inr (.inr p) => .dma (locSem p.1 p.2.val)

/-- How many rounds each of them runs through. -/
def rounds : Own → ℕ
  | .inl _ => 4
  | .inr (.inl _) => 4
  | .inr (.inr _) => 8

theorem own_sum (Φ : Own → sProp (MM F)) : bigSep Finset.univ Φ
    = iprop(((bigSep Finset.univ fun s : Fin 4 => Φ (.inl (0, s))) ∗ (bigSep Finset.univ fun s : Fin 4 => Φ (.inl (1, s))) ∗ (bigSep Finset.univ fun s : Fin 4 => Φ (.inl (2, s))) ∗ (bigSep Finset.univ fun s : Fin 4 => Φ (.inl (3, s))))
      ∗ ((bigSep Finset.univ fun s : Fin 4 => Φ (.inr (.inl (0, s)))) ∗ (bigSep Finset.univ fun s : Fin 4 => Φ (.inr (.inl (1, s)))) ∗ (bigSep Finset.univ fun s : Fin 4 => Φ (.inr (.inl (2, s)))) ∗ (bigSep Finset.univ fun s : Fin 4 => Φ (.inr (.inl (3, s)))))
      ∗ ((bigSep Finset.univ fun s : Fin 2 => Φ (.inr (.inr (0, s)))) ∗ (bigSep Finset.univ fun s : Fin 2 => Φ (.inr (.inr (1, s)))) ∗ (bigSep Finset.univ fun s : Fin 2 => Φ (.inr (.inr (2, s)))) ∗ (bigSep Finset.univ fun s : Fin 2 => Φ (.inr (.inr (3, s)))))) := by
  rw [BI.bigSep_univ_sum, BI.bigSep_univ_sum, BI.bigSep_univ_prod, BI.bigSep_univ_prod, BI.bigSep_univ_prod,
    fin4 (fun ch => bigSep Finset.univ fun s : Fin 4 => Φ (.inl (ch, s))), fin4 (fun ch => bigSep Finset.univ fun s : Fin 4 => Φ (.inr (.inl (ch, s)))),
    fin4 (fun ch => bigSep Finset.univ fun s : Fin 2 => Φ (.inr (.inr (ch, s))))]
  rfl

theorem own_mem (k : Own) : ((c : Thread nD τ), osem k) ∈ talkCells := by
  rcases k with p | p | p
  · exact dma_mem c _ (recv_lt p.1 p.2.val).1
  · exact dma_mem c _ (send_lt p.1 p.2.val).1
  · exact dma_mem c _ (by have := loc_ge p.1 p.2.val; omega)

theorem own_late (k : Own) (r : ℕ) (hr : rounds k ≤ r) : (Rd A B).duties ((c : Thread nD τ), osem k) r = ∅ := by
  rcases k with p | p | p
  · exact duties_late4 A B c r hr _ (recv_lt p.1 p.2.val).2
  · exact duties_late4 A B c r hr _ (send_lt p.1 p.2.val).2
  · exact duties_late8 A B c r hr _

/-- Tokens and credit a device holds for the four channels and the four local writers. -/
def tokC (c : Dev nD) : sProp (MM F) := bigSep Finset.univ fun ch : Fin 4 =>
  iprop(win (fun u => dutyTok ER (recvCell ch (peer ch c) u) (u / 4) 0) 0 16
    ∗ win (fun u => dutyTok ER (sendCell ch c u) (u / 4) 0) 0 16
    ∗ win (fun u => cred (tallyAt (recvCell ch c u) u Nb)) 0 16)
def tokL (c : Dev nD) : sProp (MM F) := bigSep Finset.univ fun l : Fin 4 => win (fun u => dutyTok ER (locCell l c u) (u / 2) 0) 0 16

/-- Its own counters, each at its first round. -/
def cellsAt (c : Dev nD) : sProp (MM F) := bigSep Finset.univ fun k : Own =>
  iprop(atPos ER ((c : Thread nD τ), osem k) 0 ∅ 0 ∗ reached ER ((c : Thread nD τ), osem k) 0)

theorem win4_start (Φ : ℕ → ℕ → sProp (MM F)) : win (fun u => Φ u (u / 4)) 0 (0 + 4) = bigSep Finset.univ fun s : Fin 4 => Φ s.val 0 := by
  rw [win_fin]
  exact BI.bigSep_congr fun s _ => by
    show Φ (0 + s.val) ((0 + s.val) / 4) = _
    rw [Nat.zero_add, Nat.div_eq_of_lt s.isLt]
theorem win2_start (Φ : ℕ → ℕ → sProp (MM F)) : win (fun u => Φ u (u / 2)) 0 (0 + 2) = bigSep Finset.univ fun s : Fin 2 => Φ s.val 0 := by
  rw [win_fin]
  exact BI.bigSep_congr fun s _ => by
    show Φ (0 + s.val) ((0 + s.val) / 2) = _
    rw [Nat.zero_add, Nat.div_eq_of_lt s.isLt]
theorem win4_end (Φ : ℕ → ℕ → sProp (MM F)) (h : ∀ u v r, u % 4 = v % 4 → Φ u r = Φ v r) :
    win (fun u => Φ u (u / 4)) 16 (16 + 4) = bigSep Finset.univ fun s : Fin 4 => Φ s.val 4 := by
  rw [win_fin]
  exact BI.bigSep_congr fun s _ => by
    have := s.isLt
    show Φ (16 + s.val) ((16 + s.val) / 4) = _
    rw [show (16 + s.val) / 4 = 4 by omega]
    exact h _ _ _ (by omega)
theorem win2_end (Φ : ℕ → ℕ → sProp (MM F)) (h : ∀ u v r, u % 2 = v % 2 → Φ u r = Φ v r) :
    win (fun u => Φ u (u / 2)) 16 (16 + 2) = bigSep Finset.univ fun s : Fin 2 => Φ s.val 8 := by
  rw [win_fin]
  exact BI.bigSep_congr fun s _ => by
    have := s.isLt
    show Φ (16 + s.val) ((16 + s.val) / 2) = _
    rw [show (16 + s.val) / 2 = 8 by omega]
    exact h _ _ _ (by omega)

/-- A channel before its first transfer. -/
theorem ch_start (ch : Fin 4) :
    iprop((win (fun u => dutyTok ER (recvCell ch (peer ch c) u) (u / 4) 0) 0 16
        ∗ win (fun u => dutyTok ER (sendCell ch c u) (u / 4) 0) 0 16
        ∗ win (fun u => cred (tallyAt (recvCell ch c u) u Nb)) 0 16)
      ∗ (bigSep Finset.univ fun s : Fin 4 => iprop(atPos ER (recvCell ch c s.val) 0 ∅ 0 ∗ reached ER (recvCell ch c s.val) 0))
      ∗ (bigSep Finset.univ fun s : Fin 4 => iprop(atPos ER (sendCell ch c s.val) 0 ∅ 0 ∗ reached ER (sendCell ch c s.val) 0))
      ∗ win (fun u => iprop(∃ X, ownsTc c (recvSlot ch u) fullShare X)) 0 (0 + 4))
    ⊢ (chS ch c 0 0 0 0 0 4 : sProp (MM F)) := by
  have e1 : (win (fun u => atPos ER (recvCell ch c u) (u / 4) ∅ 0) 0 (0 + 4) : sProp (MM F)) = _ :=
    win4_start fun u r => atPos ER (recvCell ch c u) r ∅ 0
  have e2 : (win (fun u => atPos ER (sendCell ch c u) (u / 4) ∅ 0) 0 (0 + 4) : sProp (MM F)) = _ :=
    win4_start fun u r => atPos ER (sendCell ch c u) r ∅ 0
  have e3 : (win (fun u => reached ER (sendCell ch c u) (u / 4)) 0 (0 + 4) : sProp (MM F)) = _ :=
    win4_start fun u r => reached ER (sendCell ch c u) r
  have e4 : (win (fun u => freeR ch c u) 0 4 : sProp (MM F))
      = iprop(win (fun u => iprop(∃ X, ownsTc c (recvSlot ch u) fullShare X)) 0 (0 + 4)
        ∗ bigSep Finset.univ fun s : Fin 4 => reached ER (recvCell ch c s.val) 0) := by
    rw [← win4_start fun u r => reached ER (recvCell ch c u) r]
    unfold win freeR
    rw [← BI.bigSep_sep']
  unfold chS
  rw [e1, e2, e3, e4]
  simp only [win_empty _ (Nat.le_refl 0), BI.bigSep_sep']
  iintro ⟨⟨H1, H2, H3⟩, ⟨H4, H5⟩, ⟨H6, H7⟩, H8⟩
  isplitl [H1]; · iexact H1
  isplitl [H2]; · iexact H2
  isplitl [H3]; · iexact H3
  isplitl [H4]; · iexact H4
  isplitl [H6]; · iexact H6
  isplitl [H7]; · iexact H7
  isplitr; · iempintro
  isplitr; · iempintro
  isplitl [H8]; · iexact H8
  iexact H5

/-- A local writer before its first tile. -/
theorem loc_start (l : Fin 4) :
    iprop(win (fun u => dutyTok ER (locCell l c u) (u / 2) 0) 0 16
      ∗ (bigSep Finset.univ fun s : Fin 2 => iprop(atPos ER (locCell l c s.val) 0 ∅ 0 ∗ reached ER (locCell l c s.val) 0))
      ∗ win (fun u => iprop(∃ X, ownsTc c (locSlot l u) fullShare X)) 0 (0 + 2)
      ∗ win (fun u => iprop(∃ X, ownsTc c (outReg l c u) fullShare X)) 0 16)
    ⊢ (locS A B l c 0 0 0 : sProp (MM F)) := by
  have e1 : (win (fun u => atPos ER (locCell l c u) (u / 2) ∅ 0) 0 (0 + 2) : sProp (MM F)) = _ :=
    win2_start fun u r => atPos ER (locCell l c u) r ∅ 0
  have e2 : (win (fun u => reached ER (locCell l c u) (u / 2)) 0 (0 + 2) : sProp (MM F)) = _ :=
    win2_start fun u r => reached ER (locCell l c u) r
  unfold locS
  rw [e1, e2]
  simp only [win_empty _ (Nat.le_refl 0), BI.bigSep_sep']
  iintro ⟨H1, ⟨H2, H3⟩, H4, H5⟩
  isplitl [H1]; · iexact H1
  isplitl [H2]; · iexact H2
  isplitl [H3]; · iexact H3
  isplitr; · iempintro
  isplitl [H4]; · iexact H4
  isplitl [H5]; · iexact H5
  iempintro

theorem out_split4 : (iprop(∃ f : Buf (Elt F) ((c : Thread nD τ).loc main_v8), ((c : Thread nD τ).loc main_v8) ↦{fullShare} f) : sProp (MM F))
    ⊢ iprop(win (fun u => iprop(∃ X, ownsTc c (outReg 0 c u) fullShare X)) 0 16 ∗ win (fun u => iprop(∃ X, ownsTc c (outReg 1 c u) fullShare X)) 0 16 ∗ win (fun u => iprop(∃ X, ownsTc c (outReg 2 c u) fullShare X)) 0 16 ∗ win (fun u => iprop(∃ X, ownsTc c (outReg 3 c u) fullShare X)) 0 16) := by
  have h := out_split (F := F) c
  rw [fin4] at h
  exact h

theorem out_join4 : (iprop(win (fun u => ownsTc c (outReg 0 c u) fullShare (outD A B 0 c u)) 0 16 ∗ win (fun u => ownsTc c (outReg 1 c u) fullShare (outD A B 1 c u)) 0 16 ∗ win (fun u => ownsTc c (outReg 2 c u) fullShare (outD A B 2 c u)) 0 16 ∗ win (fun u => ownsTc c (outReg 3 c u) fullShare (outD A B 3 c u)) 0 16) : sProp (MM F))
    ⊢ iprop(∃ f : Buf (Elt F) ((c : Thread nD τ).loc main_v8), ⌜IsOut A B c f⌝ ∗ ((c : Thread nD τ).loc main_v8) ↦{fullShare} f) := by
  have h := out_join c A B
  rw [fin4] at h
  exact h

/-- All a device needs for its first step. -/
theorem start_of : iprop(barS c ∗ tokC c ∗ tokL c ∗ cellsAt c ∗ slotsS c 0
      ∗ (∃ f : Buf (Elt F) ((c : Thread nD τ).loc main_v8), ((c : Thread nD τ).loc main_v8) ↦{fullShare} f))
    ⊢ (openS A B c : sProp (MM F)) := by
  unfold tokC tokL cellsAt slotsS openS mineS
  rw [own_sum, fin4, fin4, win_empty _ (Nat.le_refl 0)]
  iintro ⟨Hb, ⟨T0, T1, T2, T3⟩, ⟨L0, L1, L2, L3⟩, ⟨⟨R0, R1, R2, R3⟩, ⟨S0, S1, S2, S3⟩, ⟨C0, C1, C2, C3⟩⟩, ⟨Bw, F0, V0, Bm, W0, F1, V1, F3, V2, V3, W1, W2, W3⟩, Ho⟩
  isplitl [Hb]; · iexact Hb
  isplitl [T0 T1 T2 T3 R0 R1 R2 R3 S0 S1 S2 S3 V0 V1 V2 V3]
  · isplitl [T0 R0 S0 V0]
    · iapply (ch_start c 0); isplitl [T0]; · iexact T0
      isplitl [R0]; · iexact R0
      isplitl [S0]; · iexact S0
      iexact V0
    isplitl [T1 R1 S1 V1]
    · iapply (ch_start c 1); isplitl [T1]; · iexact T1
      isplitl [R1]; · iexact R1
      isplitl [S1]; · iexact S1
      iexact V1
    isplitl [T2 R2 S2 V2]
    · iapply (ch_start c 2); isplitl [T2]; · iexact T2
      isplitl [R2]; · iexact R2
      isplitl [S2]; · iexact S2
      iexact V2
    iapply (ch_start c 3); isplitl [T3]; · iexact T3
    isplitl [R3]; · iexact R3
    isplitl [S3]; · iexact S3
    iexact V3
  isplitl [F0 F1 F3]
  · isplitl [F0]; · iexact F0
    isplitl [F1]; · iexact F1
    iexact F3
  isplitl [Ho L0 L1 L2 L3 C0 C1 C2 C3 W0 W1 W2 W3]
  · ihave Ho' := (out_split4 c) $$ Ho
    icases Ho' with ⟨O0, O1, O2, O3⟩
    isplitl [L0 C0 W0 O0]
    · iapply (loc_start A B c 0); isplitl [L0]; · iexact L0
      isplitl [C0]; · iexact C0
      isplitl [W0]; · iexact W0
      iexact O0
    isplitl [L1 C1 W1 O1]
    · iapply (loc_start A B c 1); isplitl [L1]; · iexact L1
      isplitl [C1]; · iexact C1
      isplitl [W1]; · iexact W1
      iexact O1
    isplitl [L2 C2 W2 O2]
    · iapply (loc_start A B c 2); isplitl [L2]; · iexact L2
      isplitl [C2]; · iexact C2
      isplitl [W2]; · iexact W2
      iexact O2
    iapply (loc_start A B c 3); isplitl [L3]; · iexact L3
    isplitl [C3]; · iexact C3
    isplitl [W3]; · iexact W3
    iexact O3
  isplitl [Bm]
  · isplitr; · iempintro
    iexact Bm
  iexact Bw

/-! ## The end -/

/-- Its own counters, each past its last round. -/
def cellsEnd (c : Dev nD) : sProp (MM F) := bigSep Finset.univ fun k : Own => atPos ER ((c : Thread nD τ), osem k) (rounds k) ∅ 0

/-- What a channel leaves: its counters past their last round, and the arrival slots. -/
theorem ch_end (ch : Fin 4) : (chB ch c 16 16 16 : sProp (MM F))
    ⊢ iprop((bigSep Finset.univ fun s : Fin 4 => atPos ER (recvCell ch c s.val) 4 ∅ 0)
      ∗ (bigSep Finset.univ fun s : Fin 4 => atPos ER (sendCell ch c s.val) 4 ∅ 0)
      ∗ win (fun u => iprop(∃ X, ownsTc c (recvSlot ch u) fullShare X)) 16 (16 + 4)) := by
  have e1 : (win (fun u => atPos ER (recvCell ch c u) (u / 4) ∅ 0) 16 (16 + 4) : sProp (MM F)) = _ :=
    win4_end (fun u r => atPos ER (recvCell ch c u) r ∅ 0) fun u v r h => by unfold recvCell; rw [recvSem_congr ch h]
  have e2 : (win (fun u => atPos ER (sendCell ch c u) (u / 4) ∅ 0) 16 (16 + 4) : sProp (MM F)) = _ :=
    win4_end (fun u r => atPos ER (sendCell ch c u) r ∅ 0) fun u v r h => by unfold sendCell; rw [sendSem_congr ch h]
  have e4 : (win (fun u => freeR ch c u) 16 (16 + 4) : sProp (MM F))
      = iprop((win (fun u => iprop(∃ X, ownsTc c (recvSlot ch u) fullShare X)) 16 (16 + 4))
        ∗ win (fun u => reached ER (recvCell ch c u) (u / 4)) 16 (16 + 4)) := by
    unfold win freeR
    rw [← BI.bigSep_sep']
  unfold chB chS
  rw [show min (16 + 2) 16 = 16 from rfl, e1, e2, e4]
  iintro ⟨-, -, -, H1, H2, -, -, -, ⟨H3, -⟩⟩
  isplitl [H1]; · iexact H1
  isplitl [H2]; · iexact H2
  iexact H3

/-- What a local writer leaves: its counters past their last round, its slots, and its sixteen tiles of the result. -/
theorem loc_end (l : Fin 4) : (locS A B l c 16 16 16 : sProp (MM F))
    ⊢ iprop((bigSep Finset.univ fun s : Fin 2 => atPos ER (locCell l c s.val) 8 ∅ 0)
      ∗ win (fun u => iprop(∃ X, ownsTc c (locSlot l u) fullShare X)) 16 (16 + 2)
      ∗ win (fun u => ownsTc c (outReg l c u) fullShare (outD A B l c u)) 0 16) := by
  have e1 : (win (fun u => atPos ER (locCell l c u) (u / 2) ∅ 0) 16 (16 + 2) : sProp (MM F)) = _ :=
    win2_end (fun u r => atPos ER (locCell l c u) r ∅ 0) fun u v r h => by unfold locCell; rw [locSem_congr l h]
  unfold locS
  rw [e1]
  iintro ⟨-, H1, -, -, H2, -, H3⟩
  isplitl [H1]; · iexact H1
  isplitl [H2]; · iexact H2
  iexact H3

theorem drained_split : (drained A B c : sProp (MM F)) ⊢ iprop(atPos ER (barCell c) 1 ∅ 0 ∗ cellsEnd c ∗ slotsS c 16
    ∗ ∃ f : Buf (Elt F) ((c : Thread nD τ).loc main_v8), ⌜IsOut A B c f⌝ ∗ ((c : Thread nD τ).loc main_v8) ↦{fullShare} f) := by
  unfold drained cellsEnd slotsS mineS
  rw [own_sum]
  iintro ⟨Hb, ⟨⟨D0, F0⟩, ⟨D1, D2, F1⟩, ⟨D3, F3⟩, ⟨L0, L1, L2, L3⟩⟩, ⟨-, Hm⟩, Hw⟩
  ihave D0 := (ch_end c 0) $$ D0
  ihave D1 := (ch_end c 1) $$ D1
  ihave D2 := (ch_end c 2) $$ D2
  ihave D3 := (ch_end c 3) $$ D3
  ihave L0 := (loc_end A B c 0) $$ L0
  ihave L1 := (loc_end A B c 1) $$ L1
  ihave L2 := (loc_end A B c 2) $$ L2
  ihave L3 := (loc_end A B c 3) $$ L3
  icases D0 with ⟨R0, S0, V0⟩
  icases D1 with ⟨R1, S1, V1⟩
  icases D2 with ⟨R2, S2, V2⟩
  icases D3 with ⟨R3, S3, V3⟩
  icases L0 with ⟨C0, W0, O0⟩
  icases L1 with ⟨C1, W1, O1⟩
  icases L2 with ⟨C2, W2, O2⟩
  icases L3 with ⟨C3, W3, O3⟩
  isplitl [Hb]; · iexact Hb
  isplitl [R0 R1 R2 R3 S0 S1 S2 S3 C0 C1 C2 C3]
  · isplitl [R0 R1 R2 R3]
    · isplitl [R0]; · iexact R0
      isplitl [R1]; · iexact R1
      isplitl [R2]; · iexact R2
      iexact R3
    isplitl [S0 S1 S2 S3]
    · isplitl [S0]; · iexact S0
      isplitl [S1]; · iexact S1
      isplitl [S2]; · iexact S2
      iexact S3
    isplitl [C0]; · iexact C0
    isplitl [C1]; · iexact C1
    isplitl [C2]; · iexact C2
    iexact C3
  isplitl [Hw F0 V0 Hm W0 F1 V1 F3 V2 V3 W1 W2 W3]
  · isplitl [Hw]; · iexact Hw
    isplitl [F0]; · iexact F0
    isplitl [V0]; · iexact V0
    isplitl [Hm]; · iexact Hm
    isplitl [W0]; · iexact W0
    isplitl [F1]; · iexact F1
    isplitl [V1]; · iexact V1
    isplitl [F3]; · iexact F3
    isplitl [V2]; · iexact V2
    isplitl [V3]; · iexact V3
    isplitl [W1]; · iexact W1
    isplitl [W2]; · iexact W2
    iexact W3
  iapply (out_join4 A B c)
  isplitl [O0]; · iexact O0
  isplitl [O1]; · iexact O1
  isplitl [O2]; · iexact O2
  iexact O3

/-- Past its last round a device's counters are all at zero. -/
theorem cells_close : iprop(invs A B K ∗ cellsEnd c) ⊢ (iprop(|={Set.univ}=> Pipeline.ownSems0 (Ix := ℕ) (Name := ℕ) (U := UU) (Lvl := ℕ) (Val := Elt F) osem c) : sProp (MM F)) := by
  unfold cellsEnd Pipeline.ownSems0
  exact (bigSep_with_persistent (R := invs A B K) (Φ := fun k : Own => atPos ER ((c : Thread nD τ), osem k) (rounds k) ∅ 0)
    (Ψ := fun k : Own => iprop(|={Set.univ}=> semVal ((c : Thread nD τ), osem k) 0)) fun k _ => by
      iintro ⟨HI, H⟩
      iapply (cell_close ER (Rd A B) (Set.mem_univ (K ((c : Thread nD τ), osem k))) (fun h => nomatch h) (own_late A B c k))
      isplitl [HI]
      · iapply (invs_elim A B K (own_mem c k)); iexact HI
      iexact H).trans (BI.bigSep_fupd Finset.univ _)

theorem bar_close : iprop(invs A B K ∗ atPos ER (barCell c) 1 ∅ 0) ⊢ (iprop(|={Set.univ}=> semVal (barCell c) 0) : sProp (MM F)) := by
  iintro ⟨HI, H⟩
  iapply (cell_close ER (Rd A B) (Set.mem_univ (K (barCell c))) (fun h => nomatch h) (fun r hr => duties_late_bar A B c r hr))
  isplitl [HI]
  · iapply (invs_elim A B K (bar_mem c)); iexact HI
  iexact H

/-- All a device holds after its last step. -/
def doneS (c : Dev nD) : sProp (MM F) :=
  iprop(semVal (barCell c) 0 ∗ Pipeline.ownSems0 (Ix := ℕ) (Name := ℕ) (U := UU) (Lvl := ℕ) (Val := Elt F) osem c ∗ slotsS c 16
    ∗ ∃ f : Buf (Elt F) ((c : Thread nD τ).loc main_v8), ⌜IsOut A B c f⌝ ∗ ((c : Thread nD τ).loc main_v8) ↦{fullShare} f)

theorem done_of : iprop(invs A B K ∗ drained A B c) ⊢ (iprop(|={Set.univ}=> doneS A B c) : sProp (MM F)) := by
  iintro ⟨#HI, H⟩
  ihave H := (drained_split A B c) $$ H
  icases H with ⟨Hb, Hc, Hs, Ho⟩
  imod (bar_close A B K c) $$ [Hb] with Hb
  · isplitr; · iexact HI
    iexact Hb
  imod (cells_close A B K c) $$ [Hc] with Hc
  · isplitr; · iexact HI
    iexact Hc
  imodintro
  unfold doneS
  isplitl [Hb]; · iexact Hb
  isplitl [Hc]; · iexact Hc
  isplitl [Hs]; · iexact Hs
  iexact Ho

end Cert.KernelIdeal.Kern
-- ==== Proof.Host.lean ====
/- What the launch finds in the arrays when the kernel region is entered: the first argument recast, the second as given, and the table with the column half of the device. -/
module

public import proofs.«01_k».proof.Proof.Shut
public import proofs.«01_k».proof.Proof.Gen.KernelIdeal.Regions
public import Idealize.ShloMosaic.Lib.Claim

@[expose] public section

noncomputable section

namespace Cert.KernelIdeal.Kern

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

set_option backward.proofsInPublic true

variable (m : (ℓ : Loc nD τ sig) → Buf (Elt F) ℓ)

/-! ### The table -/

/-- The table on device `c`: its column half. -/
def tab (c : Dev nD) : pre0.Contents (Elt F) := fun
  | ⟨0, _⟩ => fun _ => (BitVec.ofNat 32 (px c) : BitVec 32)
  | ⟨_ + 1, h⟩ => absurd h (by simp)

/-- The column tile the second window reads at grid point `i`. -/
theorem word_tile : ∀ (x : Fin 2) (i : Fin 19),
    (Scalar.addi (Scalar.muli (BitVec.ofNat 32 x.val) 16#32) (Scalar.minsi (BitVec.ofNat 32 i.val) 15#32)).toNat = x.val * 16 + min i.val 15 := by
  decide +kernel

theorem tile_ix (c : Dev nD) (i : grid0.Coords) :
    ix0 (F := F) (tab c) 1 i = ![0, px c * 16 + min (i 0).val 15] := by
  have h := word_tile ⟨px c, px_lt c⟩ (i 0)
  show (![0, (Scalar.addi (Scalar.muli (BitVec.ofNat 32 (px c)) 16#32) (Scalar.minsi (BitVec.ofNat 32 (i 0).val) 15#32)).toNat] : Fin 2 → ℕ) = _
  rw [h]

theorem tab_ok (c : Dev nD) : ok0 (F := F) (tab c) := by
  intro i
  refine ⟨fun a => ?_, Or.inl rfl⟩
  have h := congrFun (tile_ix (F := F) c i) a
  have hx := px_lt c
  change (ix0 (F := F) (tab c) 1 i a + 1) * S4096x256.size a ≤ S4096x8192.size a
  rw [h]
  match a with
  | 0 => show (0 + 1) * 4096 ≤ 4096; omega
  | 1 =>
    show (px c * 16 + min (i 0).val 15 + 1) * 256 ≤ 8192
    omega

/-- The table's contents, admitted. -/
def adm (c : Dev nD) (p : Fin 1) : (pcfgs (F := F) p).Adm := ⟨tab c, tab_ok c⟩

/-- The word of device `c`, divided by eight, modulo two. -/
theorem word_px : ∀ c : Dev nD, IntOp.remui .vector (IntOp.divui .vector (Dev.word c) 8#32) 2#32 = BitVec.ofNat 32 (px c) := by
  unfold px; decide +kernel

theorem V1_table (c : Dev nD) : V1 m c main_v7 = tab (F := F) c 0 := by
  show StableHlo.after (hostOps0 c) (V0 m c) _ = _
  after_results
  funext j
  exact word_px c

/-! ### The two inputs -/

/-- The first operand: the first argument as a matrix, in the narrower type. -/
def inA (c : Dev nD) : S2048x4096.Idx → Elt F .bf16 :=
  fun j => (truncf .bf16 (shapeCast S2048x4096 (m (c.tc.loc main_arg0)) shapeCasts_S1x2048x32x128_S2048x4096) bitsLt_bf16_f32) j

theorem V1_inA (c : Dev nD) : V1 m c main_v2 = inA m c := by
  show StableHlo.after (hostOps0 c) (V0 m c) _ = _
  after_results
  rfl

/-- Column tile `u` of the device's half of the second argument, as a part of the whole. -/
def rTile (c : Dev nD) (u : ℕ) : Rect S4096x8192 :=
  Rect.block (s := S4096x8192) S4096x256.size ![0, px c * 16 + min u 15] fun a => by
    have hx := px_lt c
    match a with
    | 0 => show (0 + 1) * 4096 ≤ 4096; omega
    | 1 => show (px c * 16 + min u 15 + 1) * 256 ≤ 8192; omega

/-- What that tile holds. -/
def inB (c : Dev nD) (u : ℕ) : S4096x256.Idx → Elt F .f32 := fun j => m (c.tc.loc main_arg1) ((rTile c u).emb j)

theorem V1_arg1 (c : Dev nD) : V1 m c main_arg1 = m (c.tc.loc main_arg1) := V1_of m c main_arg1 (by decide)

/-! ### The proof data's pieces: the configuration on each device -/

/-- The configuration on device `c`. -/
abbrev cfgD (c : Dev nD) : Pipeline.Cfg sig Λ₀ := pinD (pcfgs (F := F)) adm c 0

/-- The grid's one coordinate at point `t` is `t`. -/
theorem coords_val : ∀ t : Fin grid0.N, (grid0.coords t 0).val = t.val := by decide

/-- The first window's block index is zero. -/
theorem first_ix : ∀ (i : grid0.Coords) (a : Fin 2), cc0_transform_0 i a = 0
  | _, 0 => rfl
  | _, 1 => rfl

/-- The second window's block at point `t`. -/
theorem tile_read (c : Dev nD) (t : Fin grid0.N) (f : S4096x8192.Idx → Elt F .f32) :
    (((cfgD (F := F) c).win 1).blk t).view.read (Elt F) f = fun j => f ((rTile c t.val).emb j) := by
  funext j
  refine congrArg f (funext fun a => Fin.ext ?_)
  show ix0 (F := F) (tab c) 1 (grid0.coords t) a * S4096x256.size a + 1 * (j a).val = _
  rw [tile_ix]
  have h : (grid0.coords t 0).val = t.val := coords_val t
  rw [h]
  rfl

/-- The first window's block is the whole operand. -/
theorem whole_read (c : Dev nD) (t : Fin grid0.N) (f : S2048x4096.Idx → Elt F .bf16) :
    (((cfgD (F := F) c).win 0).blk t).view.read (Elt F) f = f := by
  funext j
  refine congrArg f (funext fun a => Fin.ext ?_)
  show cc0_transform_0 (grid0.coords t) a * S2048x4096.size a + 1 * (j a).val = (j a).val
  have h : cc0_transform_0 (grid0.coords t) a = 0 := first_ix _ a
  rw [h]; omega

end Cert.KernelIdeal.Kern
-- ==== Proof.Data.lean ====
/- The proof data of the kernel region on each device: what the windows hold, what the device holds and owes between grid points; and the body against them. -/
module

public import proofs.«01_k».proof.Proof.Host
public import Idealize.ShloMosaic.Lib.Pipeline.FrameBody
public import Idealize.ShloMosaic.Lib.Pipeline.TalkSched

@[expose] public section

noncomputable section

namespace Cert.KernelIdeal.Kern

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

variable (m : (ℓ : Loc nD τ sig) → Buf (Elt F) ℓ)

/-! ### What the device holds between grid points, and what it owes -/

section State

variable (A : Dev nD → S2048x4096.Idx → Elt F .bf16) (B : Dev nD → ℕ → S4096x256.Idx → Elt F .f32)

/-- What the device holds before step `j`, what it owes aside. -/
def runB (c : Dev nD) (j : ℕ) : sProp (MM F) :=
  iprop((chB 0 c (min j 16) (min (j - 1) 16) (min (j - 4) 12) ∗ srcF 0 c (min j 16) (min (j - 4) 12 + 4))
    ∗ (chB 1 c (min (j - 1) 16) (min (j - 2) 16) (min (j - 5) 12) ∗ chB 2 c (min (j - 1) 16) (min (j - 2) 16) (min (j - 5) 12)
      ∗ srcF 1 c (min (j - 1) 16) (min (j - 5) 12 + 4))
    ∗ (chB 3 c (min (j - 2) 16) (min (j - 3) 16) (min (j - 4) 14) ∗ srcF 3 c (min (j - 2) 16) (min (j - 4) 14 + 2))
    ∗ (locS A B 0 c (min (j - 1) 16) (min (j - 3) 14) (min (j - 1) 16) ∗ locS A B 1 c (min (j - 2) 16) (min (j - 4) 14) (min (j - 2) 16)
      ∗ locS A B 2 c (min (j - 2) 16) (min (j - 4) 14) (min (j - 2) 16) ∗ locS A B 3 c (min (j - 3) 16) (min (j - 5) 14) (min (j - 3) 16))
    ∗ mineS A B c (min (j - 1) 16) (min j 16) ∗ (∃ X, ownsTc c bWb fullShare X))

/-- What it owes then. -/
def debtS (c : Dev nD) (j : ℕ) : CellTallies nD τ sig ℕ := debt c ![min j 16, min (j - 1) 16, min (j - 1) 16, min (j - 2) 16]

theorem runS_split (c : Dev nD) (j : ℕ) : runS A B c j ⊢ (iprop(runB A B c j ∗ owesE c (debtS c j)) : sProp (MM F)) := by
  unfold runS runB debtS
  iintro ⟨H0, H1, H3, Hl, Hm, Hw, HO⟩
  isplitr [HO]
  · isplitl [H0]; · iexact H0
    isplitl [H1]; · iexact H1
    isplitl [H3]; · iexact H3
    isplitl [Hl]; · iexact Hl
    isplitl [Hm]; · iexact Hm
    iexact Hw
  iexact HO

theorem runS_join (c : Dev nD) (j : ℕ) : (iprop(runB A B c j ∗ owesE c (debtS c j)) : sProp (MM F)) ⊢ runS A B c j := by
  unfold runS runB debtS
  iintro ⟨⟨H0, H1, H3, Hl, Hm, Hw⟩, HO⟩
  isplitl [H0]; · iexact H0
  isplitl [H1]; · iexact H1
  isplitl [H3]; · iexact H3
  isplitl [Hl]; · iexact Hl
  isplitl [Hm]; · iexact Hm
  isplitl [Hw]; · iexact Hw
  iexact HO

theorem debtS_last (c : Dev nD) : debtS c 19 = 0 := by
  show debt c ![16, 16, 16, 16] = 0
  unfold debt
  exact Finset.sum_eq_zero fun ch _ => debt1_done ch c _ (by fin_cases ch <;> exact Nat.le_refl 16)

/-- The invariants and the level facts, for some choice of the invariants' names. -/
def known : sProp (MM F) := iprop(∃ K : GSem nD τ sig → ℕ, invs A B K ∗ levAts L lv)

/-- Before the first point: all that the launch hands out. -/
def phi0 (c : Dev nD) : sProp (MM F) := iprop(known A B ∗ openS A B c)
/-- Between two points. -/
def phiM (c : Dev nD) (j : ℕ) : sProp (MM F) := iprop(known A B ∗ atPos ER (barCell c) 1 ∅ 0 ∗ runB A B c j)

/-- The device's state before point `n` (after point `n - 1`). -/
def phi (c : Dev nD) (n : ℕ) : sProp (MM F) :=
  if n = 0 then phi0 A B c else if n = 19 then doneS A B c else phiM A B c n

theorem phi_first (c : Dev nD) (n : ℕ) (h : n = 0) : (phi A B c n : sProp (MM F)) = phi0 A B c := if_pos h
theorem phi_last (c : Dev nD) (n : ℕ) (h : n = 19) : (phi A B c n : sProp (MM F)) = doneS A B c := by
  subst h; rfl
theorem phi_mid (c : Dev nD) (n : ℕ) (h0 : n ≠ 0) (h : n ≠ 19) : (phi A B c n : sProp (MM F)) = phiM A B c n := by
  unfold phi; rw [if_neg h0, if_neg h]

/-- What the device owes before point `n`. -/
def dues (c : Dev nD) (n : ℕ) : CellTallies nD τ sig ℕ := if n = 0 then debtB c else debtS c n

end State

/-! ### The proof data -/

/-- The proof data of the region on device `c`. -/
def dats (p : Fin 1) (c : Dev nD) : Dat τ (Elt F) ℕ ℕ UU ℕ (pinD (pcfgs (F := F)) adm c p) c where
  A := fun w => match w with
    | ⟨0, _⟩ => inA m c
    | ⟨1, _⟩ => m (c.tc.loc main_arg1)
    | ⟨_ + 2, h⟩ => absurd h (Nat.not_lt.2 (Nat.le_add_left _ _))
  after := fun w t => match w with
    | ⟨0, _⟩ => inA m c
    | ⟨1, _⟩ => inB m c t.val
    | ⟨_ + 2, h⟩ => absurd h (Nat.not_lt.2 (Nat.le_add_left _ _))
  Φ := fun t => phi (inA m) (inB m) c t.val
  q := fun _ => fullShare
  owed := fun t => dues c t.val

theorem before_0 (c : Dev nD) (t : Fin grid0.N) (d) : (dats m 0 c).before 0 t d = inA m c := by
  rw [Dat.before_in_eq_fetched (dats m 0 c) 0 rfl (fun _ => rfl) (fun _ _ _ => rfl) (fun t => (whole_read c t (inA m c)).symm) t d]
  exact whole_read c t (inA m c)

theorem before_1 (c : Dev nD) (t : Fin grid0.N) (d) : (dats m 0 c).before 1 t d = inB m c t.val := by
  rw [Dat.before_in_eq_fetched (dats m 0 c) 1 rfl (fun _ => rfl) (fun _ _ _ => rfl) (fun t => (tile_read c t (m (c.tc.loc main_arg1))).symm) t d]
  exact tile_read c t (m (c.tc.loc main_arg1))

/-! ### The body at each point -/

/-- The body as the region calls it at point `t`. -/
theorem body_call (c : Dev nD) (t : Fin grid0.N) :
    ∃ q3 q5 v, (defs₀ (F := F)) (.tc : Proc τ) (cfgD (F := F) c).body ((cfgD (F := F) c).bodyArgs t ((cfgD (F := F) c).slots t))
        = body (F := F) (grid0.coords t) (spec0_0.stage ((cfgD (F := F) c).slots t 0)) (hstage0_0 (((cfgD (F := F) c).slots t 0).cast nbuf0_0))
            (spec0_1.stage ((cfgD (F := F) c).slots t 1)) (hstage0_1 (((cfgD (F := F) c).slots t 1).cast nbuf0_1)) q3 q5 v
      ∧ (∀ d h, ∃ w : BitVec 32, q3 d h = half3 (grid0.coords t) d h (fun _ => pure w))
      ∧ (∀ d h, q5 d h = half5 (grid0.coords t) d h (fun _ => pure ⟨⟩)) := body_eq _ _ _ _ _

/-- The body at point `t`: from what the device holds (`X`) and the two windows' blocks to what it holds after (`Y`). -/
theorem body_at (c : Dev nD) (t : Fin grid0.N) (𝒱 : Variants) (K : GSem nD τ sig → ℕ) (X R Y Z : sProp (MM F))
    (hfirst : ∀ (k : PUnit.{1} → Prog (TpuEff nD τ sig (Elt F) Λ₀ .tc) (BitVec 32)) (Q' : BitVec 32 → sProp (MM F)),
      iprop(invs (inA m) (inB m) K ∗ levAts L lv ∗ X) ⊢ iprop(((R ∗ runS (inA m) (inB m) c t.val) -∗ wp frame (wpE (defs₀ (F := F)) 𝒱 (c : Thread nD τ) none) Set.univ (k ⟨⟩) Q')
        -∗ wp frame (wpE (defs₀ (F := F)) 𝒱 (c : Thread nD τ) none) Set.univ (blk1 (grid0.coords t) c k) Q'))
    (hlast : ∀ Q : PUnit.{1} → sProp (MM F), iprop(invs (inA m) (inB m) K ∗ levAts L lv ∗ R ∗ runS (inA m) (inB m) c (t.val + 1))
      ⊢ iprop((Y -∗ wp frame (wpE (defs₀ (F := F)) 𝒱 (c : Thread nD τ) none) Set.univ (.ret ⟨⟩) Q)
        -∗ wp frame (wpE (defs₀ (F := F)) 𝒱 (c : Thread nD τ) none) Set.univ (blk15 (grid0.coords t) c fun _ => pure ⟨⟩) Q))
    (hZ : iprop(invs (inA m) (inB m) K ∗ levAts L lv ∗ Y) ⊢ iprop(|={Set.univ}=> Z)) :
    iprop(invs (inA m) (inB m) K ∗ levAts L lv ∗ X ∗ (∃ d, owns c (spec0_0.stage ((cfgD (F := F) c).slots t 0)) fullShare ((dats m 0 c).before 0 t d))
        ∗ (∃ d, owns c (spec0_1.stage ((cfgD (F := F) c).slots t 1)) fullShare ((dats m 0 c).before 1 t d)))
      ⊢ wp frame (wpE (defs₀ (F := F)) 𝒱 (c : Thread nD τ) none) Set.univ
          ((defs₀ (F := F)) (.tc : Proc τ) (cfgD (F := F) c).body ((cfgD (F := F) c).bodyArgs t ((cfgD (F := F) c).slots t)))
          fun _ => iprop(Z ∗ owns c (spec0_0.stage ((cfgD (F := F) c).slots t 0)) fullShare (inA m c)
            ∗ owns c (spec0_1.stage ((cfgD (F := F) c).slots t 1)) fullShare (inB m c t.val)) := by
  obtain ⟨q3, q5, v, hb, h3, h5⟩ := body_call (F := F) c t
  rw [hb]
  simp only [before_0, before_1]
  iintro ⟨#HI, #HL, HX, ⟨%d0, H0⟩, ⟨%d1, H1⟩⟩
  iapply (body_of.{0, 0} (defs := defs₀ (F := F)) (bd := none) (inA m) (inB m) K 𝒱 c (grid0.coords t) t.val (coords_val t) (Nat.lt_succ_iff.mp t.isLt) _ _ _ _ (inB m c t.val) (fun _ => rfl)
    h3 h5 v X R Y hfirst (hlast _)) $$ [HX H0 H1]
  · isplitr; · iexact HI
    isplitr; · iexact HL
    isplitl [H0 H1]
    · isplitl [H0]; · iexact H0
      iexact H1
    iexact HX
  iintro ⟨⟨H0, H1⟩, HY⟩
  rw [wp_ret]
  imod hZ $$ [HY] with HZ
  · isplitr; · iexact HI
    isplitr; · iexact HL
    iexact HY
  imodintro
  isplitl [HZ]; · iexact HZ
  isplitl [H0]; · iexact H0
  iexact H1

/-- What the device owes, as the region's rule holds it: in, -/
theorem owes_in (c : Dev nD) (t : Fin (grid0.N + 1)) (O : CellTallies nD τ sig ℕ) (h : dues c t.val = O) :
    (owesE c O : sProp (MM F)) ⊢ (dats m 0 c).owesAt 0 t := by
  subst h
  unfold owesE
  iintro ⟨%W, H⟩
  iapply (TalkSites.owesAt_intro (dats m 0 c) 0 t (dues c t.val) rfl rfl W)
  iexact H

/-- and out. -/
theorem owes_out (c : Dev nD) (t : Fin (grid0.N + 1)) (O : CellTallies nD τ sig ℕ) (h : dues c t.val = O) :
    ((dats m 0 c).owesAt 0 t : sProp (MM F)) ⊢ owesE c O := by
  subst h
  exact TalkSites.owesAt_elim (dats m 0 c) 0 t (dues c t.val) rfl

/-- The state before point `t`, opened: the first point's, -/
theorem enter_first (c : Dev nD) (t : Fin grid0.N) (ht : t.val = 0) :
    iprop((dats m 0 c).Φ t.castSucc ∗ (dats m 0 c).owesAt 0 t.castSucc)
      ⊢ (iprop(∃ K : GSem nD τ sig → ℕ, invs (inA m) (inB m) K ∗ levAts L lv ∗ (openS (inA m) (inB m) c ∗ owesE c (debtB c))) : sProp (MM F)) := by
  rw [show (dats m 0 c).Φ t.castSucc = phi0 (inA m) (inB m) c from phi_first _ _ c t.val ht]
  unfold phi0 known
  iintro ⟨⟨⟨%K, HI, HL⟩, Ho⟩, HO⟩
  ihave HO := (owes_out m c t.castSucc (debtB c) (if_pos ht)) $$ HO
  iexists K
  isplitl [HI]; · iexact HI
  isplitl [HL]; · iexact HL
  isplitl [Ho]; · iexact Ho
  iexact HO

/-- any other's. -/
theorem enter_next (c : Dev nD) (t : Fin grid0.N) (ht : t.val ≠ 0) :
    iprop((dats m 0 c).Φ t.castSucc ∗ (dats m 0 c).owesAt 0 t.castSucc)
      ⊢ (iprop(∃ K : GSem nD τ sig → ℕ, invs (inA m) (inB m) K ∗ levAts L lv ∗ (atPos ER (barCell c) 1 ∅ 0 ∗ runS (inA m) (inB m) c t.val)) : sProp (MM F)) := by
  have h19 : t.val ≠ 19 := Nat.ne_of_lt t.isLt
  rw [show (dats m 0 c).Φ t.castSucc = phiM (inA m) (inB m) c t.val from phi_mid _ _ c t.val ht h19]
  unfold phiM known
  iintro ⟨⟨⟨%K, HI, HL⟩, Hat, Hr⟩, HO⟩
  ihave HO := (owes_out m c t.castSucc (debtS c t.val) (if_neg ht)) $$ HO
  iexists K
  isplitl [HI]; · iexact HI
  isplitl [HL]; · iexact HL
  isplitl [Hat]; · iexact Hat
  iapply (runS_join (inA m) (inB m) c t.val)
  isplitl [Hr]; · iexact Hr
  iexact HO

/-- The state after point `t`, closed: the last point's, -/
theorem leave_last (c : Dev nD) (t : Fin grid0.N) (ht : t.val = 18) (K : GSem nD τ sig → ℕ) :
    iprop(invs (inA m) (inB m) K ∗ levAts L lv ∗ (drained (inA m) (inB m) c ∗ owesE c 0))
      ⊢ (iprop(|={Set.univ}=> ((dats m 0 c).Φ t.succ ∗ (dats m 0 c).owesAt 0 t.succ)) : sProp (MM F)) := by
  have e : t.succ.val = 19 := by rw [Fin.val_succ, ht]
  rw [show (dats m 0 c).Φ t.succ = doneS (inA m) (inB m) c from phi_last _ _ c t.succ.val e]
  iintro ⟨#HI, -, Hd, HO⟩
  ihave HO := (owes_in m c t.succ 0 ((if_neg (by rw [e]; decide)).trans (by rw [e]; exact debtS_last c))) $$ HO
  imod (done_of (inA m) (inB m) K c) $$ [Hd] with Hd
  · isplitr; · iexact HI
    iexact Hd
  imodintro
  isplitl [Hd]; · iexact Hd
  iexact HO

/-- any other's. -/
theorem leave_next (c : Dev nD) (t : Fin grid0.N) (ht : t.val ≠ 18) (K : GSem nD τ sig → ℕ) :
    iprop(invs (inA m) (inB m) K ∗ levAts L lv ∗ (atPos ER (barCell c) 1 ∅ 0 ∗ runS (inA m) (inB m) c (t.val + 1)))
      ⊢ (iprop(|={Set.univ}=> ((dats m 0 c).Φ t.succ ∗ (dats m 0 c).owesAt 0 t.succ)) : sProp (MM F)) := by
  have e : t.succ.val = t.val + 1 := Fin.val_succ t
  have h0 : t.succ.val ≠ 0 := by omega
  have h19 : t.succ.val ≠ 19 := by omega
  rw [show (dats m 0 c).Φ t.succ = phiM (inA m) (inB m) c (t.val + 1) from phi_mid _ _ c t.succ.val h0 h19]
  unfold phiM known
  iintro ⟨HI, HL, Hat, Hr⟩
  ihave Hr := (runS_split (inA m) (inB m) c (t.val + 1)) $$ Hr
  icases Hr with ⟨Hr, HO⟩
  ihave HO := (owes_in m c t.succ (debtS c (t.val + 1)) (if_neg h0)) $$ HO
  imodintro
  isplitr [HO]
  · isplitl [HI HL]
    · iexists K
      isplitl [HI]; · iexact HI
      iexact HL
    isplitl [Hat]; · iexact Hat
    iexact Hr
  iexact HO

/-- The body's obligation on every device. -/
theorem body_ok (𝒱 : Variants) (c : Dev nD) : BodyObligation (dats m 0 c) (defs₀ (F := F)) 𝒱 0 Set.univ := by
  intro t
  rw [bigSep_W0, bigSep_W0]
  change iprop((dats m 0 c).Φ t.castSucc ∗ (dats m 0 c).owesAt 0 t.castSucc
      ∗ (∃ d, owns c (spec0_0.stage ((cfgD (F := F) c).slots t 0)) fullShare ((dats m 0 c).before 0 t d))
      ∗ (∃ d, owns c (spec0_1.stage ((cfgD (F := F) c).slots t 1)) fullShare ((dats m 0 c).before 1 t d)))
    ⊢ wp frame (wpE (defs₀ (F := F)) 𝒱 (c : Thread nD τ) none) Set.univ
        ((defs₀ (F := F)) (.tc : Proc τ) (cfgD (F := F) c).body ((cfgD (F := F) c).bodyArgs t ((cfgD (F := F) c).slots t)))
        fun _ => iprop((dats m 0 c).Φ t.succ ∗ (dats m 0 c).owesAt 0 t.succ ∗ owns c (spec0_0.stage ((cfgD (F := F) c).slots t 0)) fullShare (inA m c)
          ∗ owns c (spec0_1.stage ((cfgD (F := F) c).slots t 1)) fullShare (inB m c t.val))
  have out : ∀ (X : sProp (MM F)), iprop((∃ K : GSem nD τ sig → ℕ, invs (inA m) (inB m) K ∗ levAts L lv ∗ X)
        ∗ (∃ d, owns c (spec0_0.stage ((cfgD (F := F) c).slots t 0)) fullShare ((dats m 0 c).before 0 t d))
        ∗ (∃ d, owns c (spec0_1.stage ((cfgD (F := F) c).slots t 1)) fullShare ((dats m 0 c).before 1 t d)))
      ⊢ iprop(∃ K : GSem nD τ sig → ℕ, invs (inA m) (inB m) K ∗ levAts L lv ∗ X ∗ (∃ d, owns c (spec0_0.stage ((cfgD (F := F) c).slots t 0)) fullShare ((dats m 0 c).before 0 t d))
        ∗ (∃ d, owns c (spec0_1.stage ((cfgD (F := F) c).slots t 1)) fullShare ((dats m 0 c).before 1 t d))) := fun X => by
    iintro ⟨⟨%K, HI, HL, HX⟩, H⟩
    iexists K
    isplitl [HI]; · iexact HI
    isplitl [HL]; · iexact HL
    isplitl [HX]; · iexact HX
    iexact H
  have assoc : ∀ (P Q R : sProp (MM F)), iprop(P ∗ Q ∗ R) ⊢ iprop((P ∗ Q) ∗ R) := fun P Q R => by
    iintro ⟨H1, H2, H3⟩
    isplitl [H1 H2]
    · isplitl [H1]; · iexact H1
      iexact H2
    iexact H3
  have assoc' : ∀ (P Q R : sProp (MM F)), iprop((P ∗ Q) ∗ R) ⊢ iprop(P ∗ Q ∗ R) := fun P Q R => by
    iintro ⟨⟨H1, H2⟩, H3⟩
    isplitl [H1]; · iexact H1
    isplitl [H2]; · iexact H2
    iexact H3
  have key : ∀ (X : sProp (MM F)),
      (iprop((dats m 0 c).Φ t.castSucc ∗ (dats m 0 c).owesAt 0 t.castSucc) ⊢ iprop(∃ K : GSem nD τ sig → ℕ, invs (inA m) (inB m) K ∗ levAts L lv ∗ X)) →
      (∀ K : GSem nD τ sig → ℕ, iprop(invs (inA m) (inB m) K ∗ levAts L lv ∗ X ∗ (∃ d, owns c (spec0_0.stage ((cfgD (F := F) c).slots t 0)) fullShare ((dats m 0 c).before 0 t d))
          ∗ (∃ d, owns c (spec0_1.stage ((cfgD (F := F) c).slots t 1)) fullShare ((dats m 0 c).before 1 t d)))
        ⊢ wp frame (wpE (defs₀ (F := F)) 𝒱 (c : Thread nD τ) none) Set.univ
          ((defs₀ (F := F)) (.tc : Proc τ) (cfgD (F := F) c).body ((cfgD (F := F) c).bodyArgs t ((cfgD (F := F) c).slots t)))
          fun _ => iprop(((dats m 0 c).Φ t.succ ∗ (dats m 0 c).owesAt 0 t.succ) ∗ owns c (spec0_0.stage ((cfgD (F := F) c).slots t 0)) fullShare (inA m c)
            ∗ owns c (spec0_1.stage ((cfgD (F := F) c).slots t 1)) fullShare (inB m c t.val))) →
      iprop((dats m 0 c).Φ t.castSucc ∗ (dats m 0 c).owesAt 0 t.castSucc
        ∗ (∃ d, owns c (spec0_0.stage ((cfgD (F := F) c).slots t 0)) fullShare ((dats m 0 c).before 0 t d))
        ∗ (∃ d, owns c (spec0_1.stage ((cfgD (F := F) c).slots t 1)) fullShare ((dats m 0 c).before 1 t d)))
      ⊢ wp frame (wpE (defs₀ (F := F)) 𝒱 (c : Thread nD τ) none) Set.univ
        ((defs₀ (F := F)) (.tc : Proc τ) (cfgD (F := F) c).body ((cfgD (F := F) c).bodyArgs t ((cfgD (F := F) c).slots t)))
        fun _ => iprop((dats m 0 c).Φ t.succ ∗ (dats m 0 c).owesAt 0 t.succ ∗ owns c (spec0_0.stage ((cfgD (F := F) c).slots t 0)) fullShare (inA m c)
          ∗ owns c (spec0_1.stage ((cfgD (F := F) c).slots t 1)) fullShare (inB m c t.val)) := fun X h1 h2 =>
    (assoc _ _ _).trans ((sep_mono h1 .rfl).trans ((out X).trans ((exists_elim fun K => h2 K).trans (wp_mono _ _ _ fun _ => assoc' _ _ _))))
  by_cases h0 : t.val = 0
  · have h18 : t.val ≠ 18 := by omega
    refine key _ (enter_first m c t h0) fun K => ?_
    refine body_at m c t 𝒱 K _ (atPos ER (barCell c) 1 ∅ 0) _ _ (fun k Q' => ?_) (fun Q => ?_) (leave_next m c t h18 K)
    · have h := first_open (defs := defs₀ (F := F)) (bd := none) (Q := Q') (inA m) (inB m) K 𝒱 c (grid0.coords t) ((coords_val t).trans h0) k
      rwa [show runS (inA m) (inB m) c t.val = (runS (inA m) (inB m) c 0 : sProp (MM F)) by rw [h0]]
    · exact last_skip (defs := defs₀ (F := F)) (bd := none) (Q := Q) (inA m) (inB m) K 𝒱 c (grid0.coords t) t.val (by rw [coords_val]; exact h18) _
  · by_cases h18 : t.val = 18
    · refine key _ (enter_next m c t h0) fun K => ?_
      refine body_at m c t 𝒱 K _ (atPos ER (barCell c) 1 ∅ 0) _ _ (fun k Q' => ?_) (fun Q => ?_) (leave_last m c t h18 K)
      · exact first_skip (defs := defs₀ (F := F)) (bd := none) (Q := Q') (inA m) (inB m) K 𝒱 c (grid0.coords t) t.val (by rw [coords_val]; exact h0) k
      · have h := last_drain (defs := defs₀ (F := F)) (bd := none) (Q := Q) (inA m) (inB m) K 𝒱 c (grid0.coords t) ((coords_val t).trans h18) (fun _ => pure ⟨⟩)
        rwa [show runS (inA m) (inB m) c (t.val + 1) = (runS (inA m) (inB m) c (18 + 1) : sProp (MM F)) by rw [h18]]
    · refine key _ (enter_next m c t h0) fun K => ?_
      refine body_at m c t 𝒱 K _ (atPos ER (barCell c) 1 ∅ 0) _ _ (fun k Q' => ?_) (fun Q => ?_) (leave_next m c t h18 K)
      · exact first_skip (defs := defs₀ (F := F)) (bd := none) (Q := Q') (inA m) (inB m) K 𝒱 c (grid0.coords t) t.val (by rw [coords_val]; exact h0) k
      · exact last_skip (defs := defs₀ (F := F)) (bd := none) (Q := Q) (inA m) (inB m) K 𝒱 c (grid0.coords t) t.val (by rw [coords_val]; exact h18) _

end Cert.KernelIdeal.Kern
-- ==== Proof.Region.lean ====
/- The kernel region of @main on each device: what it is entered from, what enters the body's state and comes back, and what it leaves. -/
module

public import proofs.«01_k».proof.Proof.Data
public import Idealize.ShloMosaic.Lib.Pipeline.Regions
public import Idealize.ShloMosaic.Lib.Pipeline.Frame

@[expose] public section

noncomputable section

namespace Cert.KernelIdeal.Kern

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

variable (m : (ℓ : Loc nD τ sig) → Buf (Elt F) ℓ)

/-! ### The pipeline's own waits sit below everything a device owes -/

theorem tally_pos {g g' : GSem nD τ sig} {ι ι' k : ℕ} (h : 0 < (tallyAt g ι k : CellTallies nD τ sig ℕ) g' ι') : g' = g ∧ ι' = ι := by
  rw [tallyAt_apply] at h
  by_contra hne
  rw [if_neg hne] at h
  exact absurd h (Nat.lt_irrefl 0)

theorem debtB_mem (c : Dev nD) (g : GSem nD τ sig) (v : ℕ) (h : 0 < debtB c g v) : v ∈ L g ∧ 0 < lv g v := by
  have hsplit : 0 < debt c ![0, 0, 0, 0] g v ∨ 0 < (tallyAt (barCell (peer 2 c)) 0 1 : CellTallies nD τ sig ℕ) g v
      ∨ 0 < (tallyAt (barCell (peer 1 c)) 0 1 : CellTallies nD τ sig ℕ) g v
      ∨ 0 < (tallyAt (barCell (peer 0 c)) 0 1 : CellTallies nD τ sig ℕ) g v := by
    have h' : 0 < debt c ![0, 0, 0, 0] g v + (tallyAt (barCell (peer 2 c)) 0 1 : CellTallies nD τ sig ℕ) g v
        + (tallyAt (barCell (peer 1 c)) 0 1 : CellTallies nD τ sig ℕ) g v
        + (tallyAt (barCell (peer 0 c)) 0 1 : CellTallies nD τ sig ℕ) g v := h
    omega
  rcases hsplit with h | h | h | h
  · obtain ⟨ch, -, h2, rfl⟩ := debt_mem c _ g v h
    exact ⟨by rw [L_tc]; exact Finset.mem_range.2 (by omega), by rw [lv_recv]; omega⟩
  all_goals
    obtain ⟨rfl, rfl⟩ := tally_pos h
    exact ⟨by rw [L_tc]; exact Finset.mem_range.2 (by omega), by rw [lv_bar]; exact Nat.one_pos⟩

theorem dues_mem (c : Dev nD) (n : ℕ) (g : GSem nD τ sig) (v : ℕ) (h : 0 < dues c n g v) : v ∈ L g ∧ 0 < lv g v := by
  unfold dues at h
  by_cases hn : n = 0
  · rw [if_pos hn] at h
    exact debtB_mem c g v h
  · rw [if_neg hn] at h
    obtain ⟨ch, -, h2, rfl⟩ := debt_mem c _ g v h
    exact ⟨by rw [L_tc]; exact Finset.mem_range.2 (by omega), by rw [lv_recv]; omega⟩

/-- The windows' semaphores are the first three. -/
theorem stage_lt (w : Fin 2) (s : Fin (spec0 w).nbuf) : ((spec0 w).sem s).val < 3 := by
  revert s; revert w; decide

theorem waits_ok (c : Dev nD) : (levAts L lv : sProp (MM F)) ⊢ PerCore.cellsWaits (pinD (pcfgs (F := F)) adm) (dats m) 0 0 c :=
  PerCore.cellsWaits_intro (pinD (pcfgs (F := F)) adm) (dats m) 0 0 c fun w s t =>
    MayOwe.of_cut (L := L) (lev := lv) 0
      (fun p hp => by rw [Finset.mem_singleton.mp hp, L_tc]; exact Finset.mem_range.2 (by omega))
      (fun g u hg => (dues_mem c t.val g u hg).1)
      (fun p hp => by rw [Finset.mem_singleton.mp hp]; exact Nat.le_of_eq (lv_stage c _ (stage_lt w s) 0))
      (fun g u hg => (dues_mem c t.val g u hg).2)

/-! ### The thread states -/

section State

variable (A : Dev nD → S2048x4096.Idx → Elt F .bf16) (B : Dev nD → ℕ → S4096x256.Idx → Elt F .f32)

/-- What rides along to the region beside the buffers: the invariants, the ways to open the device's own cells, its duties, its dues. -/
def ride (c : Dev nD) : sProp (MM F) :=
  iprop((∃ K : GSem nD τ sig → ℕ, invs A B K) ∗ barS c ∗ tokC c ∗ tokL c
    ∗ (bigSep Finset.univ fun k : Own => openTok ER ((c : Thread nD τ), osem k)) ∗ owesE c (debtB c))

/-- What enters the body's state. -/
def enterX (c : Dev nD) : sProp (MM F) :=
  iprop(known A B ∗ barS c ∗ tokC c ∗ tokL c ∗ cellsAt c
    ∗ ∃ f : Buf (Elt F) ((c : Thread nD τ).loc main_v8), ((c : Thread nD τ).loc main_v8) ↦{fullShare} f)

/-- What the body's last state gives back. -/
def leaveY (c : Dev nD) : sProp (MM F) :=
  iprop(semVal (barCell c) 0
    ∗ ∃ f : Buf (Elt F) ((c : Thread nD τ).loc main_v8), ⌜IsOut A B c f⌝ ∗ ((c : Thread nD τ).loc main_v8) ↦{fullShare} f)

instance known_persistent : BI.Persistent (known A B : sProp (MM F)) := by unfold known; infer_instance

/-- The device's own cells, opened at their first round. -/
theorem open_cells (K : GSem nD τ sig → ℕ) (c : Dev nD) :
    iprop(invs A B K ∗ (bigSep Finset.univ fun k : Own => openTok ER ((c : Thread nD τ), osem k))
        ∗ ownSems0 (Ix := ℕ) (Name := ℕ) (U := UU) (Lvl := ℕ) (Val := Elt F) osem c)
      ⊢ (iprop(|={Set.univ}=> cellsAt c) : sProp (MM F)) := by
  unfold ownSems0 cellsAt
  rw [← BI.bigSep_sep']
  exact BIBase.Entails.trans (bigSep_with_persistent (R := invs A B K)
      (Φ := fun k : Own => iprop(openTok ER ((c : Thread nD τ), osem k) ∗ semVal ((c : Thread nD τ), osem k) 0))
      (Ψ := fun k : Own => iprop(|={Set.univ}=> (atPos ER ((c : Thread nD τ), osem k) 0 ∅ 0 ∗ reached ER ((c : Thread nD τ), osem k) 0)))
      fun k _ => by
        iintro ⟨#HI, Ht, Hv⟩
        ihave Hg := (invs_elim A B K (own_mem c k)) $$ HI
        iapply (cell_open ER (Rd A B) (Es := Set.univ) (Set.mem_univ _))
        isplitr; · iexact Hg
        isplitl [Ht]; · iexact Ht
        iexact Hv) (BI.bigSep_fupd _ _)

theorem enter_phi (c : Dev nD) :
    iprop(enterX A B c ∗ scopedRest (Ix := ℕ) (Name := ℕ) (U := UU) (Lvl := ℕ) (Val := Elt F) spec0 c) ⊢ (phi A B c 0 : sProp (MM F)) := by
  rw [phi_first A B c 0 rfl, scratch_eq c 0 rfl]
  unfold enterX phi0
  iintro ⟨⟨#HK, Hb, Ht, Hl, Hc, Ho⟩, Hs⟩
  isplitr; · iexact HK
  iapply (start_of A B c)
  isplitl [Hb]; · iexact Hb
  isplitl [Ht]; · iexact Ht
  isplitl [Hl]; · iexact Hl
  isplitl [Hc]; · iexact Hc
  isplitl [Hs]; · iexact Hs
  iexact Ho

theorem leave_phi (c : Dev nD) (n : ℕ) (hn : n = 19) :
    (phi A B c n : sProp (MM F)) ⊢ iprop(leaveY A B c ∗ ownSems0 (Ix := ℕ) (Name := ℕ) (U := UU) (Lvl := ℕ) (Val := Elt F) osem c
      ∗ scopedRest (Ix := ℕ) (Name := ℕ) (U := UU) (Lvl := ℕ) (Val := Elt F) spec0 c) := by
  rw [phi_last A B c n hn, scratch_eq c 16 rfl]
  unfold doneS leaveY
  iintro ⟨Hb, Hs, Hr, Ho⟩
  isplitl [Hb Ho]
  · isplitl [Hb]; · iexact Hb
    iexact Ho
  isplitl [Hs]; · iexact Hs
  iexact Hr

end State

/-- What the device holds at the end: its barrier counter at zero, its result, its arguments as launched. -/
def fin (c : Dev nD) : sProp (MM F) :=
  iprop(leaveY (inA m) (inB m) c ∗ (((c : Thread nD τ).loc main_arg0) ↦{fullShare} m ((c : Thread nD τ).loc main_arg0))
    ∗ (((c : Thread nD τ).loc main_arg1) ↦{fullShare} m ((c : Thread nD τ).loc main_arg1)))

theorem V1_arg0 (c : Dev nD) : V1 m c main_arg0 = m ((c : Thread nD τ).loc main_arg0) := V1_of m c main_arg0 (by decide)

/-- The unscoped buffers after the host operations, sorted. -/
theorem sort_bufs (c : Dev nD) :
    (StableHlo.held (c : Thread nD τ) (ucRefs τ sig) (V1 m c) : sProp (MM F))
      ⊢ iprop((dats m 0 c).arrays ((dats m 0 c).arrAt · 0) ∗ prefHeld pre0 c (fun _ => fullShare) (tab (F := F) c)
        ∗ (((c : Thread nD τ).loc main_arg0) ↦{fullShare} m ((c : Thread nD τ).loc main_arg0))
        ∗ ∃ f : Buf (Elt F) ((c : Thread nD τ).loc main_v8), ((c : Thread nD τ).loc main_v8) ↦{fullShare} f) := by
  rw [← unscopedBufs_held c (V1 m c)]
  have hA : ∀ w, (dats m 0 c).A w = V1 m c (arrRef ((pcfgs (F := F) 0).spec) w) := fun w => by
    fin_cases w
    · exact (V1_inA m c).symm
    · exact (V1_arg1 m c).symm
  have harr : ∀ w, (((pcfgs (F := F) 0).spec) w).arr.IsWhole := arr_whole0
  have h1 := PerCore.arrays_of_unscopedBufs (pcfgs (F := F)) adm (dats m) (p := 0) winFacts0 harr c
    (fun w => by fin_cases w <;> rfl) (fun b => V1 m c b) hA
  have h2 : (unscopedRest (Ix := ℕ) (Name := ℕ) (U := UU) (Lvl := ℕ) (pcfgs (F := F) 0).spec c (fun b => V1 m c b) : sProp (MM F))
      ⊢ iprop(prefHeld pre0 c (fun _ => fullShare) (tab (F := F) c)
        ∗ (((c : Thread nD τ).loc main_arg0) ↦{fullShare} m ((c : Thread nD τ).loc main_arg0))
        ∗ ∃ f : Buf (Elt F) ((c : Thread nD τ).loc main_v8), ((c : Thread nD τ).loc main_v8) ↦{fullShare} f) := by
    show (unscopedRest (Ix := ℕ) (Name := ℕ) (U := UU) (Lvl := ℕ) spec0 c (fun b => V1 m c b) : sProp (MM F)) ⊢ _
    rw [unscopedRest_split preFacts0 c (fun b => V1 m c b), unscopedRestP0_eq c (fun b => V1 m c b)]
    have ht : (fun k => V1 m c (pre0.ref k)) = tab (F := F) c := funext fun k => by
      fin_cases k
      exact V1_table m c
    rw [show (fun k => (fun b : Ref sig .tc => V1 m c b) (pre0.ref k)) = tab (F := F) c from ht]
    rw [V1_arg0 m c]
    iintro ⟨Ht, Ha, -, -, -, -, -, -, -, Ho⟩
    isplitl [Ht]; · iexact Ht
    isplitl [Ha]; · iexact Ha
    iexists _; iexact Ho
  refine BIBase.Entails.trans h1 ?_
  iintro ⟨Ha, Hr⟩
  isplitl [Ha]; · iexact Ha
  iapply h2; iexact Hr

/-- The second window's array at the end, as launched. -/
theorem arrays_arg1 (c : Dev nD) (n : ℕ) :
    ((dats m 0 c).arrays ((dats m 0 c).arrAt · n) : sProp (MM F))
      ⊢ (((c : Thread nD τ).loc main_arg1) ↦{fullShare} m ((c : Thread nD τ).loc main_arg1)) := by
  have harr : ∀ w, (((pinD (pcfgs (F := F)) adm c 0).spec) w).arr.IsWhole := arr_whole0
  rw [PerCore.arrays_eq (pinD (pcfgs (F := F)) adm) (dats m) (p := 0) c harr (fun w => by fin_cases w <;> rfl)]
  refine BIBase.Entails.trans (BI.bigSep_elim (i := (1 : Fin 2)) (Finset.mem_univ _)) ?_
  rw [Dat.arrAt_in (dats m 0 c) 1 rfl n]
  exact .rfl

theorem own_facts : OwnSemFacts spec0 osem := by decide

/-- The kernel region. -/
def region (𝒱 : Variants) : PerCore.RegionSeg (pcfgs (F := F)) adm (dats m) 0 (defs₀ (F := F)) 𝒱 L lv 0 where
  win := winFacts0.to₀
  block_pos := block_pos0
  stage_whole := stage_whole0
  K := Own
  osem := osem
  ho := own_facts
  hbody c := (body_ok m 𝒱 c).loose
  hwaits c := waits_ok m c
  pre c := iprop(StableHlo.held (c : Thread nD τ) (ucRefs τ sig) (V1 m c) ∗ ride (inA m) (inB m) c)
  post c := iprop(fin m c ∗ ∃ W, owes (c : Thread nD τ) (0 : CellTallies nD τ sig ℕ) W)
  X c := enterX (inA m) (inB m) c
  Y c := leaveY (inA m) (inB m) c
  Z c := iprop(((c : Thread nD τ).loc main_arg0) ↦{fullShare} m ((c : Thread nD τ).loc main_arg0))
  hentry c := by
    unfold ride enterX known
    iintro ⟨⟨Hh, ⟨%K, #HI⟩, Hb, Ht, Hl, Ho, HO⟩, Hs, #HL⟩
    imod (open_cells (inA m) (inB m) K c) $$ [Ho Hs] with Hc
    · isplitr; · iexact HI
      isplitl [Ho]; · iexact Ho
      iexact Hs
    ihave H := (sort_bufs m c) $$ Hh
    icases H with ⟨Ha, Hp, Hz, Hf⟩
    imodintro
    isplitl [Ha]; · iexact Ha
    isplitl [Hp]; · iexact Hp
    isplitl [HO]; · iapply (owes_in m c 0 (debtB c) rfl); iexact HO
    isplitr [Hz]
    · isplitr
      · iexists K
        isplitr; · iexact HI
        iexact HL
      isplitl [Hb]; · iexact Hb
      isplitl [Ht]; · iexact Ht
      isplitl [Hl]; · iexact Hl
      isplitl [Hc]; · iexact Hc
      iexact Hf
    iexact Hz
  hin c := by
    refine BIBase.Entails.trans ?_ (enter_phi (inA m) (inB m) c)
    iintro ⟨HX, -, Hs⟩
    isplitl [HX]; · iexact HX
    iexact Hs
  hout c := leave_phi (inA m) (inB m) c _ N_0
  hexit c := by
    unfold fin
    iintro ⟨Ha, HO, HY, HZ⟩
    imodintro
    isplitl [Ha HY HZ]
    · isplitl [HY]; · iexact HY
      isplitl [HZ]; · iexact HZ
      iapply (arrays_arg1 m c _); iexact Ha
    ihave H := (owes_out m c (Fin.last grid0.N) 0 (by rw [Fin.val_last, N_0]; exact debtS_last c)) $$ HO
    iapply (show (owesE c 0 : sProp (MM F)) ⊢ iprop(∃ W, owes (c : Thread nD τ) (0 : CellTallies nD τ sig ℕ) W) from .rfl)
    iexact H

end Cert.KernelIdeal.Kern
-- ==== Proof.Deal.lean ====
/- The launch: every cell's invariant, and each device's share of the rights, duties and credits. -/
module

public import proofs.«01_k».proof.Proof.Region

@[expose] public section

noncomputable section

namespace Cert.KernelIdeal.Kern

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

variable (m : (ℓ : Loc nD τ sig) → Buf (Elt F) ℓ)

/-! ### The cells: the barrier's, funded from their counters, and the region's own, funded without -/

def barEmb : Dev nD ↪ GSem nD τ sig := ⟨fun c => barCell c, fun _ _ h => congrArg (fun g : GSem nD τ sig => g.1.1) h⟩
def ownEmb : Dev nD × Own ↪ GSem nD τ sig :=
  ⟨fun ck => ((ck.1 : Thread nD τ), osem ck.2), fun _ _ h =>
    Prod.ext (congrArg (fun g : GSem nD τ sig => g.1.1) h) (own_facts.inj (congrArg Prod.snd h))⟩

abbrev bars : Finset (GSem nD τ sig) := Finset.univ.map barEmb
abbrev owns' : Finset (GSem nD τ sig) := Finset.univ.map ownEmb

theorem cells_disjoint : Disjoint bars owns' := by
  rw [Finset.disjoint_left]
  rintro g h₁ h₂
  obtain ⟨c, -, rfl⟩ := Finset.mem_map.mp h₁
  obtain ⟨⟨c', k⟩, -, h⟩ := Finset.mem_map.mp h₂
  have h' : osem k = .reg barrier0 := congrArg Prod.snd h
  rcases k with ⟨ch, s⟩ | ⟨ch, s⟩ | ⟨l, s⟩ <;> exact absurd h' (fun e => by injection e)

theorem sems_all : ∀ sm ∈ talkSems, sm = .reg barrier0 ∨ ∃ k : Own, osem k = sm := by
  intro sm h
  unfold talkSems at h
  rw [Finset.mem_insert, Finset.mem_map] at h
  rcases h with rfl | ⟨s, hs, rfl⟩
  · exact .inl rfl
  · right
    have h3 : 3 ≤ s.val := (Finset.mem_filter.1 hs).2
    revert h3
    clear hs
    revert s
    decide

theorem cells_all : talkCells ⊆ bars ∪ owns' := by
  intro g hg
  unfold talkCells at hg
  obtain ⟨⟨c, sm⟩, h, rfl⟩ := Finset.mem_map.mp hg
  have hs := (Finset.mem_product.1 h).2
  rcases sems_all sm hs with rfl | ⟨k, rfl⟩
  · exact Finset.mem_union_left _ (Finset.mem_map_of_mem barEmb (Finset.mem_univ c))
  · exact Finset.mem_union_right _ (Finset.mem_map_of_mem ownEmb (Finset.mem_univ (c, k)))

/-! ### The duties' tokens -/

/-- A duty of one device's cells: a tile received or sent on a channel, a tile of an output quadrant landed, a peer's signal. -/
abbrev Duty : Type := ((Fin 4 × Fin 16) ⊕ (Fin 4 × Fin 16) ⊕ (Fin 4 × Fin 16)) ⊕ Fin 3

def dutyOf : Duty → SemLoc sig × ℕ × Fin 3
  | .inl (.inl (ch, u)) => (.dma (recvSem ch u.val), u.val / 4, 0)
  | .inl (.inr (.inl (ch, u))) => (.dma (sendSem ch u.val), u.val / 4, 0)
  | .inl (.inr (.inr (l, u))) => (.dma (locSem l u.val), u.val / 2, 0)
  | .inr d => (.reg barrier0, 0, d)

/-- A number that tells a DMA semaphore, the barrier at zero. -/
def semNo : SemLoc sig → ℕ
  | .dma s => s.val + 1
  | _ => 0

theorem duty_inj : Function.Injective dutyOf := by
  intro x y h
  have h1 : semNo (dutyOf x).1 = semNo (dutyOf y).1 := by rw [h]
  have h2 : (dutyOf x).2.1 = (dutyOf y).2.1 := by rw [h]
  have h3 : (dutyOf x).2.2 = (dutyOf y).2.2 := by rw [h]
  clear h
  have rs (ch : Fin 4) (u : Fin 16) : (recvSem ch u.val).val = 7 + 8 * ch.val + u.val % 4 := rfl
  have ss (ch : Fin 4) (u : Fin 16) : (sendSem ch u.val).val = 3 + 8 * ch.val + u.val % 4 := rfl
  have ls (l : Fin 4) (u : Fin 16) : (locSem l u.val).val = 35 + 2 * l.val + u.val % 2 := rfl
  rcases x with (⟨ch, u⟩ | ⟨ch, u⟩ | ⟨ch, u⟩) | d <;> rcases y with (⟨ch', u'⟩ | ⟨ch', u'⟩ | ⟨ch', u'⟩) | d' <;>
    simp only [dutyOf, semNo, rs, ss, ls] at h1 h2 h3 <;>
    first
      | (exfalso; omega)
      | (have hc : ch = ch' := Fin.ext (by omega)
         have hu : u = u' := Fin.ext (by omega)
         rw [hc, hu])
      | rw [h3]

def tokEmb : Dev nD × Duty ↪ GSem nD τ sig × ℕ × Fin 3 :=
  ⟨fun cd => (((cd.1 : Thread nD τ), (dutyOf cd.2).1), (dutyOf cd.2).2), fun _ _ h =>
    Prod.ext (congrArg (fun t : GSem nD τ sig × ℕ × Fin 3 => t.1.1.1) h)
      (duty_inj (Prod.ext (congrArg (fun t : GSem nD τ sig × ℕ × Fin 3 => t.1.2) h) (congrArg (fun t : GSem nD τ sig × ℕ × Fin 3 => t.2) h)))⟩

def toks : Finset (GSem nD τ sig × ℕ × Fin 3) := Finset.univ.map tokEmb

/-- Device `c`'s neighbour on a channel, as a permutation of the devices. -/
def swap (ch : Fin 4) : Dev nD ≃ Dev nD := ⟨peer ch, peer ch, peer_peer ch, peer_peer ch⟩

/-- The tokens of the barrier's duties, each to the device that pays it. -/
def barTok (c : Dev nD) : sProp (MM F) :=
  iprop(dutyTok ER (barCell (peer 0 c)) 0 0 ∗ dutyTok ER (barCell (peer 1 c)) 0 1 ∗ dutyTok ER (barCell (peer 2 c)) 0 2)

/-- The tokens of the channels' duties, each to the device that pays it. -/
def chTok (c : Dev nD) : sProp (MM F) :=
  iprop((bigSep Finset.univ fun ch : Fin 4 => bigSep Finset.univ fun u : Fin 16 => dutyTok ER (recvCell ch (peer ch c) u.val) (u.val / 4) 0)
    ∗ (bigSep Finset.univ fun ch : Fin 4 => bigSep Finset.univ fun u : Fin 16 => dutyTok ER (sendCell ch c u.val) (u.val / 4) 0)
    ∗ (bigSep Finset.univ fun l : Fin 4 => bigSep Finset.univ fun u : Fin 16 => dutyTok ER (locCell l c u.val) (u.val / 2) 0))

theorem fin4c (Φ : Dev nD → Fin 4 → sProp (MM F)) :
    (bigSep Finset.univ fun c : Dev nD => bigSep Finset.univ fun ch : Fin 4 => Φ c ch)
      = iprop((bigSep Finset.univ fun c => Φ c 0) ∗ (bigSep Finset.univ fun c => Φ c 1) ∗ (bigSep Finset.univ fun c => Φ c 2)
        ∗ bigSep Finset.univ fun c => Φ c 3) := by
  rw [BI.bigSep_congr fun c _ => fin4 (Φ c)]
  simp only [BI.bigSep_sep']

theorem around (Φ : Fin 4 → Dev nD → sProp (MM F)) :
    (bigSep Finset.univ fun c : Dev nD => bigSep Finset.univ fun ch : Fin 4 => Φ ch c)
      = bigSep Finset.univ fun c : Dev nD => bigSep Finset.univ fun ch : Fin 4 => Φ ch (peer ch c) := by
  rw [fin4c, fin4c (fun c ch => Φ ch (peer ch c))]
  rw [bigSep_univ_equiv (swap 0) (Φ 0), bigSep_univ_equiv (swap 1) (Φ 1), bigSep_univ_equiv (swap 2) (Φ 2), bigSep_univ_equiv (swap 3) (Φ 3)]
  rfl

theorem toks_deal : (bigSep toks (fun x => dutyTok ER x.1 x.2.1 x.2.2) : sProp (MM F))
    ⊢ iprop((bigSep Finset.univ fun c : Dev nD => chTok c) ∗ bigSep Finset.univ fun c : Dev nD => barTok c) := by
  unfold toks
  rw [bigSep_map, bigSep_univ_prod]
  have hsplit (c : Dev nD) : (bigSep Finset.univ fun d : Duty => (dutyTok ER (tokEmb (c, d)).1 (tokEmb (c, d)).2.1 (tokEmb (c, d)).2.2 : sProp (MM F)))
      = iprop(((bigSep Finset.univ fun ch : Fin 4 => bigSep Finset.univ fun u : Fin 16 => dutyTok ER (recvCell ch c u.val) (u.val / 4) 0)
        ∗ (bigSep Finset.univ fun ch : Fin 4 => bigSep Finset.univ fun u : Fin 16 => dutyTok ER (sendCell ch c u.val) (u.val / 4) 0)
        ∗ (bigSep Finset.univ fun l : Fin 4 => bigSep Finset.univ fun u : Fin 16 => dutyTok ER (locCell l c u.val) (u.val / 2) 0))
        ∗ (dutyTok ER (barCell c) 0 0 ∗ dutyTok ER (barCell c) 0 1 ∗ dutyTok ER (barCell c) 0 2)) := by
    rw [bigSep_univ_sum, bigSep_univ_sum, bigSep_univ_sum, bigSep_univ_prod, bigSep_univ_prod, bigSep_univ_prod]
    rw [bigSep_univ_eq_bigSepL [(0 : Fin 3), (1 : Fin 3), (2 : Fin 3)] (by decide) (by decide)]
    rfl
  rw [BI.bigSep_congr fun c _ => hsplit c]
  unfold chTok barTok
  simp only [BI.bigSep_sep']
  rw [around (fun ch c => bigSep Finset.univ fun u : Fin 16 => dutyTok ER (recvCell ch c u.val) (u.val / 4) 0)]
  rw [bigSep_univ_equiv (swap 0) (fun c : Dev nD => (dutyTok ER (barCell c) 0 0 : sProp (MM F))),
    bigSep_univ_equiv (swap 1) (fun c : Dev nD => (dutyTok ER (barCell c) 0 1 : sProp (MM F))),
    bigSep_univ_equiv (swap 2) (fun c : Dev nD => (dutyTok ER (barCell c) 0 2 : sProp (MM F)))]
  exact .rfl

/-! ### The credits -/

/-- What device `c`'s own waits take. -/
def gets (c : Dev nD) : CellTallies nD τ sig ℕ :=
  (∑ ch : Fin 4, ∑ u ∈ Finset.Ico 0 16, tallyAt (recvCell ch c u) u Nb) + tallyAt (barCell c) 0 3

theorem around_sum (f : Fin 4 → Dev nD → CellTallies nD τ sig ℕ) :
    (∑ c : Dev nD, ∑ ch : Fin 4, f ch (peer ch c)) = ∑ c : Dev nD, ∑ ch : Fin 4, f ch c := by
  rw [Finset.sum_comm, Finset.sum_comm (s := Finset.univ (α := Dev nD))]
  exact Finset.sum_congr rfl fun ch _ => Equiv.sum_comp (swap ch) (f ch)

theorem dues_gets : (∑ d : Dev nD, debtB d) = ∑ d : Dev nD, gets d := by
  unfold debtB gets debt debt1
  simp only [Finset.sum_add_distrib]
  have hz (ch : Fin 4) : (![0, 0, 0, 0] : Fin 4 → ℕ) ch = 0 := by fin_cases ch <;> rfl
  simp only [hz]
  rw [around_sum fun ch c => ∑ u ∈ Finset.Ico 0 16, tallyAt (recvCell ch c u) u Nb]
  have e (ch : Fin 4) : (∑ d : Dev nD, (tallyAt (barCell (peer ch d)) 0 1 : CellTallies nD τ sig ℕ)) = ∑ d : Dev nD, tallyAt (barCell d) 0 1 :=
    Equiv.sum_comp (swap ch) fun d => (tallyAt (barCell d) 0 1 : CellTallies nD τ sig ℕ)
  rw [e 0, e 1, e 2, add_assoc, add_assoc, ← Finset.sum_add_distrib, ← Finset.sum_add_distrib]
  refine congrArg _ (Finset.sum_congr rfl fun d _ => ?_)
  rw [tallyAt_add, tallyAt_add]

theorem gets_own (d : Dev nD) (g : GSem nD τ sig) (h : gets d g ≠ 0) : g.1 = (d : Thread nD τ) := by
  by_contra hne
  refine h ?_
  unfold gets
  rw [Pi.add_apply, Finset.sum_apply, Finset.sum_eq_zero, tallyAt_ne_cell (fun e => hne (by rw [e])), add_zero]
  intro ch _
  rw [Finset.sum_apply, Finset.sum_eq_zero]
  intro u _
  exact tallyAt_ne_cell (fun e => hne (by rw [e])) u Nb

theorem creds (c : Dev nD) : (launchCred debtB c : sProp (MM F))
    ⊢ iprop((bigSep Finset.univ fun ch : Fin 4 => win (fun u => cred (tallyAt (recvCell ch c u) u Nb)) 0 16) ∗ cred (tallyAt (barCell c) 0 3)) := by
  rw [launchCred_of_sum debtB gets dues_gets gets_own c]
  unfold gets
  refine BIBase.Entails.trans (cred_add _ _).1 ?_
  rw [cred_finsetSum]
  simp only [cred_finsetSum]
  exact .rfl

/-! ### The launch element -/

theorem stage_inj : Function.Injective (PerCore.cellOf (nD := nD) (τ := τ) (pinD (pcfgs (F := F)) adm)) :=
  PerCore.cellOf_injective (pinD (pcfgs (F := F)) adm)
    (fun _ => fun
      | 0 => specSemsDistinct_of_nodup _ (semsDistinct 0))
    (fun _ p p' h => absurd (Subsingleton.elim p p') h)

def u₀ : UU :=
  (initOf (PerCore.cells (pinD (pcfgs (F := F)) adm) stage_inj) (PerCore.launchToks (pinD (pcfgs (F := F)) adm) stage_inj),
    launchOf bars owns' toks)

theorem both {Φ Ψ : Dev nD → sProp (MM F)} :
    iprop(bigSep Finset.univ Φ ∗ bigSep Finset.univ Ψ) ⊢ bigSep Finset.univ fun c => iprop(Φ c ∗ Ψ c) := by
  rw [BI.bigSep_sep']
theorem apart {Φ Ψ : Dev nD → sProp (MM F)} :
    (bigSep Finset.univ fun c => iprop(Φ c ∗ Ψ c)) ⊢ iprop(bigSep Finset.univ Φ ∗ bigSep Finset.univ Ψ) := by
  rw [BI.bigSep_sep']

/-- A resource dealt whole to one device. -/
def onDev (c₀ : Dev nD) (X : sProp (MM F)) (c : Dev nD) : sProp (MM F) := if c = c₀ then X else iprop(emp)

theorem bigSep_onDev (c₀ : Dev nD) (X : sProp (MM F)) : bigSep Finset.univ (onDev c₀ X) = X := by
  rw [bigSep_univ_at _ c₀, BI.bigSep_congr (s := Finset.univ.erase c₀) (Ψ := fun _ => (BI.emp : sProp (MM F)))
      fun c hc => by unfold onDev; rw [if_neg (Finset.ne_of_mem_erase hc)]; rfl, BI.bigSep_emp_const]
  unfold onDev
  rw [if_pos rfl]
  exact BI.equiv_iff.mp sep_emp

def G : Dev nD → sProp (MM F) := onDev 0 (BI.own (ER (launchOf bars owns' toks)))

/-! ### Each device's share -/

section State

variable (A : Dev nD → S2048x4096.Idx → Elt F .bf16) (B : Dev nD → ℕ → S4096x256.Idx → Elt F .f32)

/-- What every device may consult. -/
def records (K : GSem nD τ sig → ℕ) : sProp (MM F) := iprop(invs A B K ∗ bigSep bars fun g => reached ER g 0)

instance records_persistent (K : GSem nD τ sig → ℕ) : BI.Persistent (records A B K) := by unfold records; infer_instance

theorem reached_at (c : Dev nD) : (bigSep bars fun g => (reached ER g 0 : sProp (MM F))) ⊢ reached ER (barCell c) 0 :=
  BI.bigSep_elim (Finset.mem_map_of_mem barEmb (Finset.mem_univ c))

/-- What goes to one device alone. -/
def share (c : Dev nD) : sProp (MM F) :=
  iprop(atPos ER (barCell c) 0 ∅ 0 ∗ (bigSep Finset.univ fun k : Own => openTok ER ((c : Thread nD τ), osem k)) ∗ chTok c ∗ barTok c)

def bundle (c : Dev nD) : sProp (MM F) :=
  iprop(StableHlo.held (c : Thread nD τ) (ucRefs τ sig) (V0 m c)
    ∗ (bigSep Finset.univ fun ch : Fin 4 => win (fun u => cred (tallyAt (recvCell ch c u) u Nb)) 0 16) ∗ cred (tallyAt (barCell c) 0 3)
    ∗ owes (c : Thread nD τ) (debtB c) ∅)

theorem ride_of (K : GSem nD τ sig → ℕ) (c : Dev nD) :
    iprop(records A B K ∗ share c ∗ bundle m c)
      ⊢ (iprop(StableHlo.held (c : Thread nD τ) (ucRefs τ sig) (V0 m c) ∗ ride A B c) : sProp (MM F)) := by
  unfold records share bundle ride chTok barTok barS tokC tokL owesE
  rw [BI.bigSep_sep', BI.bigSep_sep']
  simp only [win16]
  iintro ⟨⟨#HI, #HR⟩, ⟨Hat, Hop, ⟨Tr, Ts, Tl⟩, ⟨T0, T1, T2⟩⟩, Hh, Hc, Hb, HO⟩
  isplitl [Hh]; · iexact Hh
  isplitr; · iexists K; iexact HI
  isplitl [Hat T0 T1 T2 Hb]
  · isplitl [T0]
    · isplitl [T0]; · iexact T0
      iapply (reached_at (F := F) (peer 0 c)); iexact HR
    isplitl [T1]
    · isplitl [T1]; · iexact T1
      iapply (reached_at (F := F) (peer 1 c)); iexact HR
    isplitl [T2]
    · isplitl [T2]; · iexact T2
      iapply (reached_at (F := F) (peer 2 c)); iexact HR
    isplitl [Hb]; · iexact Hb
    iexact Hat
  isplitl [Tr Ts Hc]
  · isplitl [Tr]; · iexact Tr
    isplitl [Ts]; · iexact Ts
    iexact Hc
  isplitl [Tl]; · iexact Tl
  isplitl [Hop]; · iexact Hop
  iexists ∅; iexact HO

end State

theorem sems_unscoped (c : Dev nD) : (unscopedSems0 c : sProp (MM F)) = semVal (barCell c) 0 := by
  unfold unscopedSems0
  rw [show (Finset.univ.filter fun sm : SemLoc sig => ¬ sm.isScoped .tc) = {SemLoc.reg barrier0} from by decide, BI.bigSep_singleton]

variable (ρ : Dev nD → PrngReg)

/-- What the launch gives each device, before the cells are made. -/
def given (c : Dev nD) : sProp (MM F) :=
  iprop(unscopedBufs c (fun b => m ((c : Thread nD τ).loc b)) ∗ unscopedSems0 c ∗ owes (c : Thread nD τ) (debtB c) ∅
    ∗ launchCred debtB c ∗ prngReg c (ρ c) ∗ G c)

theorem given_sort (c : Dev nD) : (given m ρ c : sProp (MM F)) ⊢ iprop(bundle m c ∗ semVal (barCell c) 0 ∗ G c) := by
  unfold given
  rw [show (unscopedBufs c (fun b => m ((c : Thread nD τ).loc b)) : sProp (MM F)) = StableHlo.held (c : Thread nD τ) (ucRefs τ sig) (V0 m c)
    from unscopedBufs_held c (V0 m c), sems_unscoped]
  unfold bundle
  iintro ⟨Hh, Hs, HO, Hc, -, HG⟩
  ihave H := (creds (F := F) c) $$ Hc
  icases H with ⟨Hc, Hb⟩
  isplitl [Hh Hc Hb HO]
  · isplitl [Hh]; · iexact Hh
    isplitl [Hc]; · iexact Hc
    isplitl [Hb]; · iexact Hb
    iexact HO
  isplitl [Hs]; · iexact Hs
  iexact HG

/-- The launch deals every device its buffers and its share. -/
theorem deal : iprop((bigSep Finset.univ fun c : Dev nD => given m ρ c) ∗ levAts L lv)
    ⊢ (iprop(|={Set.univ}=> bigSep Finset.univ fun c : Dev nD =>
      iprop(StableHlo.held (c : Thread nD τ) (ucRefs τ sig) (V0 m c) ∗ ride (inA m) (inB m) c)) : sProp (MM F)) := by
  have hv : bigSep Finset.univ (fun c : Dev nD => (semVal (barCell c) 0 : sProp (MM F))) ⊢ bigSep bars (fun g => (semVal g 0 : sProp (MM F))) :=
    Entails.of_eq (bigSep_map (s := Finset.univ) barEmb (Φ := fun g : GSem nD τ sig => (semVal g 0 : sProp (MM F)))).symm
  have hat : bigSep bars (fun g => (atPos ER g 0 ∅ 0 : sProp (MM F))) ⊢ bigSep Finset.univ (fun c : Dev nD => (atPos ER (barCell c) 0 ∅ 0 : sProp (MM F))) :=
    Entails.of_eq (bigSep_map (s := Finset.univ) barEmb (Φ := fun g : GSem nD τ sig => (atPos ER g 0 ∅ 0 : sProp (MM F))))
  have hopen : bigSep owns' (fun g => (openTok ER g : sProp (MM F)))
      ⊢ bigSep Finset.univ (fun c : Dev nD => bigSep Finset.univ fun k : Own => (openTok ER ((c : Thread nD τ), osem k) : sProp (MM F))) :=
    Entails.of_eq (by
      rw [bigSep_map, bigSep_univ_prod]
      rfl)
  have hinv (K : GSem nD τ sig → ℕ) : bigSep (bars ∪ owns') (fun g => (cellInv ER (Rd (inA m) (inB m)) (K g) g : sProp (MM F)))
      ⊢ invs (inA m) (inB m) K := BI.bigSep_subset cells_all
  iintro ⟨H, -⟩
  ihave H' := (show (bigSep Finset.univ fun c : Dev nD => given m ρ c : sProp (MM F))
      ⊢ bigSep Finset.univ fun c : Dev nD => iprop(bundle m c ∗ semVal (barCell c) 0 ∗ G c) from BI.bigSep_mono fun c _ => given_sort m ρ c) $$ H
  ihave H2 := apart $$ H'; icases H2 with ⟨HB, H3⟩
  ihave H4 := apart $$ H3; icases H4 with ⟨Hv, HG⟩
  ihave Hu := (show bigSep Finset.univ (G (F := F)) ⊢ BI.own (ER (launchOf bars owns' toks)) from
    Entails.of_eq (bigSep_onDev (F := F) 0 (BI.own (ER (launchOf bars owns' toks))))) $$ HG
  imod (Rounds.fund_launch ER (Rd (inA m) (inB m)) cells_disjoint (fun g _ h => h) toks) $$ [Hv Hu] with ⟨%K, -, #Hinv, #Hr, Hat, Hopen, Htok⟩
  · isplitl [Hv]
    · iapply hv $$ Hv
    · iexact Hu
  imodintro
  ihave HT := (toks_deal (F := F)) $$ Htok
  icases HT with ⟨HTc, HTb⟩
  iapply (bigSep_with_persistent (R := records (inA m) (inB m) K) (Φ := fun c => iprop(share c ∗ bundle m c)) fun c _ => ride_of m (inA m) (inB m) K c)
  isplitr
  · unfold records
    isplitr; · iapply (hinv K); iexact Hinv
    iexact Hr
  iapply both
  isplitr [HB]
  · unfold share
    iapply both; isplitl [Hat]; · iapply hat $$ Hat
    iapply both; isplitl [Hopen]; · iapply hopen $$ Hopen
    iapply both; isplitl [HTc]; · iexact HTc
    iexact HTb
  · iexact HB

end Cert.KernelIdeal.Kern
-- ==== Proof.Run.lean ====
/- The run: the kernel ends on every device with its result in place, its arguments as launched and every semaphore at zero. -/
module

public import proofs.«01_k».proof.Proof.Deal

@[expose] public section

noncomputable section

namespace Cert.KernelIdeal.Kern

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

variable (m : (ℓ : Loc nD τ sig) → Buf (Elt F) ℓ)

/-- No reuse of names between the host's levels and the kernel's. -/
abbrev 𝒱₀ : Variants := Variants.none

/-- @main on a device: the host operations, then the kernel region. -/
def items (c : Dev nD) : List (PerCore.Seg (pcfgs (F := F)) adm (dats m) 0 (defs₀ (F := F)) 𝒱₀ L lv) :=
  [.host (seg0 m 𝒱₀ L lv (fun _ => ride (inA m) (inB m)) c), .region (region m 𝒱₀)]

theorem sem_unscoped : ∀ sm : SemLoc sig, sm.isScoped .tc = false → sm = .reg barrier0 := by decide

set_option backward.isDefEq.respectTransparency.types false in
/-- THE RUN. -/
theorem runs (ρ : Dev nD → PrngReg) : θ_run defs (onTc (τ := τ) (main (F := F))) ⟨m, fun _ => 0, ρ⟩
    (fun r => (∀ c : Dev nD, IsOut (inA m) (inB m) c (r.2.mem ((c : Thread nD τ).loc main_v8))
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  PerCore.θ_run_regions_kit_sems (pcfgs (F := F)) adm (dats m) 0 stage_inj EP defs₀ 𝒱₀ L lv m ρ main (items m)
    (fun c Q => by
      rewrite [main_chain c, PerCore.Seg.run_eq_chain]
      exact .rfl)
    (fun c => by simp only [items, PerCore.Seg.pipes, List.filterMap, PerCore.Seg.pipe?]; decide)
    (O₀ := debtB) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_onDev]; iexact HX)
    (T₀ := fun c => iprop(StableHlo.held (c : Thread nD τ) (ucRefs τ sig) (V0 m c) ∗ ride (inA m) (inB m) c)) (Tₙ := fin m)
    (hch := fun c => ⟨.rfl, .rfl, .rfl⟩)
    (hinit := deal m ρ)
    (QY := fun c s => (IsOut (inA m) (inB m) c (s.mem ((c : Thread nD τ).loc main_v8))
        ∧ s.mem ((c : Thread nD τ).loc main_arg0) = m ((c : Thread nD τ).loc main_arg0)
        ∧ s.mem ((c : Thread nD τ).loc main_arg1) = m ((c : Thread nD τ).loc main_arg1)) ∧ s.sem (barCell c) = 0)
    (hfin := fun c s' => by
      dsimp only [fin, leaveY]
      iintro ⟨⟨⟨Hb, ⟨%f, %hf, Ho⟩⟩, H0, H1⟩, HSI⟩
      icombine HSI Ho gives %ho
      icombine HSI H0 gives %h0
      icombine HSI H1 gives %h1
      icombine HSI Hb gives %hb
      imodintro
      isplitr
      · ipureintro
        have e : s'.mem.mem ((c : Thread nD τ).loc main_v8) = f := Buf.eq_of_forall_mem_univ ho
        exact ⟨⟨e ▸ hf, Buf.eq_of_forall_mem_univ h0, Buf.eq_of_forall_mem_univ h1⟩, by simpa using hb⟩
      iexact HSI)
    (hQ := fun s h hs => ⟨fun c => (h c).1, sem_eq_zero hs fun c sm hsm => by
        obtain rfl := sem_unscoped sm hsm
        exact (h c).2⟩)

end Cert.KernelIdeal.Kern
-- ==== Proof.Transfer.lean ====
/- The kernel and its idealisation are one program at every float instance: nothing of it was rewritten. So its run, proved of the idealised program at every float instance, is a run of the kernel itself. -/
module

public import proofs.«01_k».proof.Kernel
public import proofs.«01_k».proof.Proof.Gen.Kernel
public import proofs.«01_k».proof.Proof.Run
public import Idealize.ShloMosaic.Lib.Tactic

@[expose] public section

noncomputable section

namespace Cert.Kernel.Transfer

open Idealize.ShloMosaic Idealize.ShloMosaic.TcCoe Idealize.SL.Sem

variable {F : FTy → Type} [FloatOps F]

theorem main_eq : Cert.Kernel.main (F := F) = Cert.KernelIdeal.main (F := F) := by sl_kernel_rfl
theorem defs_eq : Cert.Kernel.defs (F := F) = Cert.KernelIdeal.defs (F := F) := by sl_kernel_rfl

open Cert.Kernel in
/-- Every execution of the kernel ends, with its arguments unchanged and every counter at zero. -/
theorem ends (m : (ℓ : Loc nD τ sig) → Buf (Elt F) ℓ) (ρ : Dev nD → PrngReg) :
    θ_run defs (onTc (τ := τ) (main (F := F))) ⟨m, fun _ => 0, ρ⟩
      (fun r => (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0) := by
  rw [defs_eq, main_eq]
  exact (θ_run _ _ _).mono (fun _ h => ⟨fun c => (h.1 c).2, h.2⟩) (Cert.KernelIdeal.Kern.runs (F := F) m ρ)

end Cert.Kernel.Transfer
-- ==== Proof.Tile.lean ====
/- What one step computes over the extended reals: the product of a block of rows with a tile of columns, and the sums and copies made of it, each read at an index. -/
module

public import proofs.«01_k».proof.Proof.Protocol
public import Idealize.ShloMosaic.Lib.Pointwise

@[expose] public section

set_option maxRecDepth 16384

noncomputable section

namespace Cert.KernelIdeal.Kern

open Cert.KernelIdeal Cert.KernelIdeal.Gen
open Idealize.ShloMosaic

/-- The tile that goes to the other half of the y axis, at row `r` and column `q`. -/
theorem away_apply (a : S512x4096.Idx → Elt Ideal .bf16) (b : S4096x256.Idx → Elt Ideal .f32) (r : Fin 512) (q : Fin 256) :
    k0_pay3 (F := Ideal) a (k0_pay2 (F := Ideal) b) (ix3 0 r q) = ∑ k : Fin 4096, a (ix2 r k) * b (ix2 k q) := by
  pointwise [k0_pay3, k0_pay2]

/-- The tile that is kept, at row `r` and column `q`. -/
theorem kept_apply (a : S512x4096.Idx → Elt Ideal .bf16) (b : S4096x256.Idx → Elt Ideal .f32) (r : Fin 512) (q : Fin 256) :
    k0_pay9 (F := Ideal) a (k0_pay2 (F := Ideal) b) (ix3 0 r q) = ∑ k : Fin 4096, a (ix2 r k) * b (ix2 k q) := by
  pointwise [k0_pay9, k0_pay2]

/-- The sum of a kept and a received tile. -/
theorem sum_apply (a b : S1x512x256.Idx → Elt Ideal .bf16) (r : Fin 512) (q : Fin 256) :
    k0_pay5 (F := Ideal) a b (ix3 0 r q) = a (ix3 0 r q) + b (ix3 0 r q) := by
  pointwise [k0_pay5, k0_pay4]

/-- The same sum as it is sent on. -/
theorem sent_apply (a b : S1x512x256.Idx → Elt Ideal .bf16) (r : Fin 512) (q : Fin 256) :
    k0_pay6 (F := Ideal) a b (ix3 0 r q) = a (ix3 0 r q) + b (ix3 0 r q) := by
  pointwise [k0_pay6, k0_pay4]

/-- A received tile as it is sent on. -/
theorem relay_apply (a : S1x512x256.Idx → Elt Ideal .bf16) (r : Fin 512) (q : Fin 256) :
    k0_pay7 (F := Ideal) a (ix3 0 r q) = a (ix3 0 r q) := by
  pointwise [k0_pay7]

/-- A received tile as it is stored, for each of the three links. -/
theorem store1_apply (a : S1x512x256.Idx → Elt Ideal .bf16) (r : Fin 512) (q : Fin 256) :
    k0_pay8 (F := Ideal) a (ix3 0 r q) = a (ix3 0 r q) := by
  pointwise [k0_pay8]

theorem store2_apply (a : S1x512x256.Idx → Elt Ideal .bf16) (r : Fin 512) (q : Fin 256) :
    k0_pay10 (F := Ideal) a (ix3 0 r q) = a (ix3 0 r q) := by
  pointwise [k0_pay10]

theorem store3_apply (a : S1x512x256.Idx → Elt Ideal .bf16) (r : Fin 512) (q : Fin 256) :
    k0_pay1 (F := Ideal) a (ix3 0 r q) = a (ix3 0 r q) := by
  pointwise [k0_pay1]

end Cert.KernelIdeal.Kern
-- ==== Proof.Whole.lean ====
/- The whole product as sums over the inner index, and its two halves; and the reference's result as that sum. -/
module

public import proofs.«01_k».proof.Proof.Gen.ReferenceIdeal
public import Idealize.ShloMosaic.Lib.Pointwise

@[expose] public section

set_option maxRecDepth 16384

noncomputable section

namespace Cert.Whole

open Cert.ReferenceIdeal Cert.ReferenceIdeal.Gen
open Idealize.ShloMosaic

/-- The left operand with its heads laid side by side, at row `r` and position `n` of the inner index (zero outside). -/
def left (o : S1x2048x64x128.Idx → Elt Ideal .f32) (r n : ℕ) : EReal :=
  if h : r < 2048 ∧ n < 8192 then o (ix4 0 ⟨r, h.1⟩ ⟨n / 128, by omega⟩ ⟨n % 128, by omega⟩) else 0

/-- The right operand at position `n` of the inner index and column `q` (zero outside). -/
def right (w : S8192x8192.Idx → Elt Ideal .f32) (n q : ℕ) : EReal :=
  if h : n < 8192 ∧ q < 8192 then w (ix2 ⟨n, h.1⟩ ⟨q, h.2⟩) else 0

theorem left_eq (o : S1x2048x64x128.Idx → Elt Ideal .f32) (r n : ℕ) (hr : r < 2048) (hn : n < 8192) :
    left o r n = o (ix4 0 ⟨r, hr⟩ ⟨n / 128, by omega⟩ ⟨n % 128, by omega⟩) := dif_pos ⟨hr, hn⟩

theorem right_eq (w : S8192x8192.Idx → Elt Ideal .f32) (n q : ℕ) (hn : n < 8192) (hq : q < 8192) :
    right w n q = w (ix2 ⟨n, hn⟩ ⟨q, hq⟩) := dif_pos ⟨hn, hq⟩

variable (o : S1x2048x64x128.Idx → Elt Ideal .f32) (w : S8192x8192.Idx → Elt Ideal .f32)

/-- What half `y` of the inner index gives the product at row `r` and column `q`. -/
def half (y r q : ℕ) : EReal := ∑ k : Fin 4096, left o r (y * 4096 + k.val) * right w (y * 4096 + k.val) q

/-- The product at row `r` and column `q`. -/
def entry (r q : ℕ) : EReal := ∑ k : Fin 8192, left o r k.val * right w k.val q

theorem entry_halves (r q : ℕ) : entry o w r q = half o w 0 r q + half o w 1 r q := by
  unfold entry half
  refine (Fin.sum_univ_add (a := 4096) (b := 4096) (fun k : Fin 8192 => left o r k.val * right w k.val q)).trans ?_
  refine congrArg₂ (· + ·) (Finset.sum_congr rfl fun k _ => ?_) (Finset.sum_congr rfl fun k _ => ?_)
  · show left o r k.val * right w k.val q = _
    rw [Nat.zero_mul, Nat.zero_add]
  · show left o r (4096 + k.val) * right w (4096 + k.val) q = _
    rw [Nat.one_mul]

/-- The two halves in either order. -/
theorem halves (y r q : ℕ) (hy : y < 2) : half o w y r q + half o w (1 - y) r q = entry o w r q := by
  rw [entry_halves]
  obtain rfl | rfl : y = 0 ∨ y = 1 := by omega
  · rfl
  · exact add_comm _ _

/-- The reference's result. -/
def result : S1x2048x8192.Idx → Elt Ideal .f32 :=
  Host.dotGeneral (F := Ideal) (φ₁ := .f32) (φ₂ := .f32) dot_S1x2048x8192_S8192x8192_S1x2048x8192_2_0_01_1_n_n none (shapeCast S1x2048x8192 o shapeCasts_S1x2048x64x128_S1x2048x8192) w

theorem result_apply (r : Fin 2048) (q : Fin 8192) : result o w (ix3 0 r q) = entry o w r.val q.val := by
  unfold entry
  refine Eq.trans ?_ (Finset.sum_congr rfl fun k _ => by rw [left_eq o r.val k.val r.isLt k.isLt, right_eq w k.val q.val k.isLt q.isLt])
  pointwise [result]

end Cert.Whole
-- ==== Proof.Array.lean ====
/- The kernel's result over the extended reals: when the devices hold their blocks of the whole arguments, each entry of a device's result is the whole product at one row and column. -/
module

public import proofs.«01_k».proof.Proof.Parts
public import proofs.«01_k».proof.Proof.Host
public import proofs.«01_k».proof.Proof.Tile
public import proofs.«01_k».proof.Proof.Whole

@[expose] public section

set_option maxRecDepth 16384

noncomputable section

namespace Cert.KernelIdeal.Kern

open Cert.KernelIdeal Cert.KernelIdeal.Gen
open Idealize.ShloMosaic Idealize.ShloMosaic.TcCoe
open Cert.Whole (left right half entry)

/-! ### Where the peers are -/

theorem peer_y (c : Dev nD) : px (peer 0 c) = px c ∧ py (peer 0 c) = 1 - py c ∧ pz (peer 0 c) = pz c := by revert c; decide
theorem peer_x (c : Dev nD) : px (peer 1 c) = 1 - px c ∧ py (peer 1 c) = py c ∧ pz (peer 1 c) = pz c := by revert c; decide
theorem peer_z (c : Dev nD) : px (peer 2 c) = px c ∧ py (peer 2 c) = py c ∧ pz (peer 2 c) = 1 - pz c := by revert c; decide

/-! ### The arguments -/

/-- Heads laid side by side, in bf16, at a row and a position. -/
theorem flat_apply (a : S1x2048x32x128.Idx → Elt Ideal .f32) (r : Fin 2048) (k : Fin 4096) :
    (truncf (F := Ideal) (φ := .f32) .bf16 (shapeCast S2048x4096 a shapeCasts_S1x2048x32x128_S2048x4096) bitsLt_bf16_f32) (ix2 r k)
      = a (ix4 (0 : Fin 1) r (⟨k.val / 128, by omega⟩ : Fin 32) (⟨k.val % 128, by omega⟩ : Fin 128)) := by
  pointwise

variable (m : (ℓ : Loc nD τ sig) → Buf (Elt Ideal) ℓ)
variable (o : Cert.ReferenceIdeal.S1x2048x64x128.Idx → Elt Ideal .f32) (w : Cert.ReferenceIdeal.S8192x8192.Idx → Elt Ideal .f32)

/-- Every device holds its blocks of the whole arguments: a half of the heads, and a half of the rows of the right operand. -/
def Held : Prop := ∀ c : Dev nD,
  m ((c.tc : Thread nD τ).loc main_arg0) = Layout.blockN ⟨4, ![1, 2048, 32, 128]⟩ ⟨4, ![1, 2048, 64, 128]⟩ (Layout.meshBlock [2, 2, 4] ![[], [], [1], []] c) o
  ∧ m ((c.tc : Thread nD τ).loc main_arg1) = Layout.blockN ⟨2, ![4096, 8192]⟩ ⟨2, ![8192, 8192]⟩ (Layout.meshBlock [2, 2, 4] ![[1], []] c) w

/-- The mesh's block of a device along the y axis. -/
theorem mesh_y (c : Dev nD) : Layout.meshLin [2, 2, 4] c.val [1] = py c := by revert c; decide

omit o w in
/-- The left operand is the first argument with its heads laid side by side. -/
theorem inA_read (c : Dev nD) (r : Fin 2048) (k : Fin 4096) :
    inA m c (ix2 r k) = m ((c.tc : Thread nD τ).loc main_arg0) (ix4 (0 : Fin 1) r (⟨k.val / 128, by omega⟩ : Fin 32) (⟨k.val % 128, by omega⟩ : Fin 128)) := by
  unfold inA
  generalize (m ((c.tc : Thread nD τ).loc main_arg0)) = a
  exact flat_apply a r k

variable (hm : Held m o w)
include hm

theorem inA_apply (c : Dev nD) (r : Fin 2048) (k : Fin 4096) : inA m c (ix2 r k) = left o r.val (py c * 4096 + k.val) := by
  have hy := py_lt c
  have hk := k.isLt
  rw [Cert.Whole.left_eq o r.val _ r.isLt (by omega)]
  rw [inA_read, (hm c).1]
  show o _ = o _
  refine congrArg o (funext fun a => Fin.ext ?_)
  rw [Layout.TilesN.idx_val]
  have e := mesh_y c
  fin_cases a
  · show 0 * 1 + 0 = 0; rfl
  · show 0 * 2048 + r.val = r.val; omega
  · show Layout.meshLin [2, 2, 4] c.val [1] * 32 + k.val / 128 = (py c * 4096 + k.val) / 128
    rw [e]; omega
  · show 0 * 128 + k.val % 128 = (py c * 4096 + k.val) % 128; omega

theorem inB_apply (c : Dev nD) (u : ℕ) (hu : u < 16) (k : Fin 4096) (q : Fin 256) :
    inB m c u (ix2 k q) = right w (py c * 4096 + k.val) (px c * 4096 + u * 256 + q.val) := by
  have hy := py_lt c
  have hx := px_lt c
  have hk := k.isLt
  have hq := q.isLt
  rw [Cert.Whole.right_eq w _ _ (by omega) (by omega)]
  unfold inB
  rw [(hm c).2]
  show w _ = w _
  refine congrArg w (funext fun a => Fin.ext ?_)
  rw [Layout.TilesN.idx_val]
  have e := mesh_y c
  fin_cases a
  · show Layout.meshLin [2, 2, 4] c.val [1] * 4096 + (0 * 4096 + 1 * k.val) = py c * 4096 + k.val
    rw [e]; omega
  · show 0 * 8192 + ((px c * 16 + min u 15) * 256 + 1 * q.val) = px c * 4096 + u * 256 + q.val
    omega

/-! ### The tiles -/

/-- The product kept, at row `r` and column `q` of tile `u`. -/
theorem mine_apply (c : Dev nD) (u : ℕ) (hu : u < 16) (r : Fin 512) (q : Fin 256) :
    mineD (inA m) (inB m) c u (ix3 0 r q) = half o w (py c) (py c * 1024 + pz c * 512 + r.val) (px c * 4096 + u * 256 + q.val) := by
  have hy := py_lt c
  have hz := pz_lt c
  have hr := r.isLt
  unfold mineD wbD
  rw [kept_apply]
  refine Finset.sum_congr rfl fun k _ => ?_
  rw [inB_apply m o w hm c u hu k q, show (rMine c).emb (ix2 r k) = ix2 (⟨py c * 1024 + pz c * 512 + r.val, by omega⟩ : Fin 2048) k from ?_, inA_apply m o w hm c]
  refine funext fun a => Fin.ext ?_
  fin_cases a
  · show py c * 1024 + pz c * 512 + 1 * r.val = py c * 1024 + pz c * 512 + r.val; omega
  · show 0 + 1 * k.val = k.val; omega

/-- The product sent to the peer on the y axis, at row `r` and column `q` of tile `u`. -/
theorem away_tile (c : Dev nD) (u : ℕ) (hu : u < 16) (r : Fin 512) (q : Fin 256) :
    ydD (inA m) (inB m) c u (ix3 0 r q) = half o w (py c) ((1 - py c) * 1024 + pz c * 512 + r.val) (px c * 4096 + u * 256 + q.val) := by
  have hy := py_lt c
  have hz := pz_lt c
  have hr := r.isLt
  unfold ydD wbD
  rw [away_apply]
  refine Finset.sum_congr rfl fun k _ => ?_
  rw [inB_apply m o w hm c u hu k q, show (rPeer c).emb (ix2 r k) = ix2 (⟨(1 - py c) * 1024 + pz c * 512 + r.val, by omega⟩ : Fin 2048) k from ?_, inA_apply m o w hm c]
  refine funext fun a => Fin.ext ?_
  fin_cases a
  · show (1 - py c) * 1024 + pz c * 512 + 1 * r.val = (1 - py c) * 1024 + pz c * 512 + r.val; omega
  · show 0 + 1 * k.val = k.val; omega

/-- What a device keeps and what it receives add up to the whole product. -/
theorem both_tiles (c : Dev nD) (u : ℕ) (hu : u < 16) (r : Fin 512) (q : Fin 256) :
    (mineD (inA m) (inB m) c u (ix3 0 r q) : EReal) + ydD (inA m) (inB m) (peer 0 c) u (ix3 0 r q)
      = entry o w (py c * 1024 + pz c * 512 + r.val) (px c * 4096 + u * 256 + q.val) := by
  have hy := py_lt c
  obtain ⟨e1, e2, e3⟩ := peer_y c
  rw [mine_apply m o w hm c u hu r q, away_tile m o w hm (peer 0 c) u hu r q, e1, e2, e3, show 1 - (1 - py c) = py c by omega]
  exact Cert.Whole.halves o w (py c) _ _ hy

theorem sum_tile (c : Dev nD) (u : ℕ) (hu : u < 16) (r : Fin 512) (q : Fin 256) :
    sumD (inA m) (inB m) c u (ix3 0 r q) = entry o w (py c * 1024 + pz c * 512 + r.val) (px c * 4096 + u * 256 + q.val) :=
  (sum_apply _ _ r q).trans (both_tiles m o w hm c u hu r q)

theorem sent_tile (c : Dev nD) (u : ℕ) (hu : u < 16) (r : Fin 512) (q : Fin 256) :
    sbD (inA m) (inB m) c u (ix3 0 r q) = entry o w (py c * 1024 + pz c * 512 + r.val) (px c * 4096 + u * 256 + q.val) :=
  (sent_apply _ _ r q).trans (both_tiles m o w hm c u hu r q)

theorem relay_tile (c : Dev nD) (u : ℕ) (hu : u < 16) (r : Fin 512) (q : Fin 256) :
    zbD (inA m) (inB m) c u (ix3 0 r q) = entry o w (py c * 1024 + pz c * 512 + r.val) ((1 - px c) * 4096 + u * 256 + q.val) := by
  obtain ⟨e1, e2, e3⟩ := peer_x c
  refine (relay_apply _ r q).trans ?_
  rw [sent_tile m o w hm (peer 1 c) u hu r q, e1, e2, e3]

/-- Every tile of the result, whichever way it came. -/
theorem out_tile (l : Fin 4) (c : Dev nD) (u : ℕ) (hu : u < 16) (r : Fin 512) (q : Fin 256) :
    outD (inA m) (inB m) l c u (ix3 0 r q) = entry o w (py c * 1024 + outRow l c + r.val) (outCol l c u + q.val) := by
  have hmod : u % 16 = u := Nat.mod_eq_of_lt hu
  obtain ⟨x1, x2, x3⟩ := peer_x c
  obtain ⟨z1, z2, z3⟩ := peer_z c
  fin_cases l
  · show sumD (inA m) (inB m) c u (ix3 0 r q) = entry o w (py c * 1024 + pz c * 512 + r.val) (px c * 4096 + u % 16 * 256 + q.val)
    rw [hmod]; exact sum_tile m o w hm c u hu r q
  · show k0_pay8 (F := Ideal) (sbD (inA m) (inB m) (peer 1 c) u) (ix3 0 r q) = entry o w (py c * 1024 + pz c * 512 + r.val) ((1 - px c) * 4096 + u % 16 * 256 + q.val)
    rw [hmod, store1_apply, sent_tile m o w hm (peer 1 c) u hu r q, x1, x2, x3]
  · show k0_pay10 (F := Ideal) (sbD (inA m) (inB m) (peer 2 c) u) (ix3 0 r q) = entry o w (py c * 1024 + (1 - pz c) * 512 + r.val) (px c * 4096 + u % 16 * 256 + q.val)
    rw [hmod, store2_apply, sent_tile m o w hm (peer 2 c) u hu r q, z1, z2, z3]
  · show k0_pay1 (F := Ideal) (zbD (inA m) (inB m) (peer 3 c) u) (ix3 0 r q) = entry o w (py c * 1024 + (1 - pz c) * 512 + r.val) ((1 - px c) * 4096 + u % 16 * 256 + q.val)
    rw [hmod, store3_apply, peer_three, relay_tile m o w hm (peer 2 c) u hu r q, z1, z2, z3]

/-! ### The array -/

/-- Every entry of the result on device `c`. -/
theorem out_apply (c : Dev nD) (f : S1x1024x8192.Idx → Elt Ideal .f32) (hf : IsOut (inA m) (inB m) c f) (row : Fin 1024) (col : Fin 8192) :
    f (ix3 0 row col) = entry o w (py c * 1024 + row.val) col.val := by
  obtain ⟨l, u, h1, h2, h3, h4⟩ := part_of c row.val col.val row.isLt col.isLt
  have h := congrFun (hf l u) (ix3 0 ⟨row.val - outRow l c, by omega⟩ ⟨col.val - outCol l c u.val, by omega⟩)
  rw [out_tile m o w hm l c u.val u.isLt] at h
  have e : (rOut l c u.val).emb (ix3 (0 : Fin 1) (⟨row.val - outRow l c, by omega⟩ : Fin 512) (⟨col.val - outCol l c u.val, by omega⟩ : Fin 256))
      = ix3 (0 : Fin 1) row col := by
    refine funext fun a => Fin.ext ?_
    fin_cases a
    · rfl
    · show outRow l c + 1 * (row.val - outRow l c) = row.val; omega
    · show outCol l c u.val + 1 * (col.val - outCol l c u.val) = col.val; omega
  rw [show py c * 1024 + outRow l c + (row.val - outRow l c) = py c * 1024 + row.val by omega,
    show outCol l c u.val + (col.val - outCol l c u.val) = col.val by omega] at h
  exact (congrArg f e).symm.trans h

/-- The result on device `c` is its block of the reference's. -/
theorem out_block (c : Dev nD) (f : S1x1024x8192.Idx → Elt Ideal .f32) (hf : IsOut (inA m) (inB m) c f) :
    f = Layout.blockN ⟨3, ![1, 1024, 8192]⟩ ⟨3, ![1, 2048, 8192]⟩ (Layout.meshBlock [2, 2, 4] ![[], [1], []] c) (Cert.Whole.result o w) := by
  have hy := py_lt c
  funext j
  obtain ⟨z, row, col, rfl⟩ : ∃ (z : Fin 1) (row : Fin 1024) (col : Fin 8192), j = ix3 z row col := ⟨j 0, j 1, j 2, eq_ix3 j⟩
  obtain rfl : z = 0 := Subsingleton.elim _ _
  have hr := row.isLt
  rw [out_apply m o w hm c f hf row col, Layout.blockN_apply]
  refine Eq.trans ?_ (congrArg (Cert.Whole.result o w) (show ix3 (0 : Fin 1) (⟨py c * 1024 + row.val, by omega⟩ : Fin 2048) col = _ from ?_))
  · rw [Cert.Whole.result_apply]
  refine funext fun a => Fin.ext ?_
  rw [Layout.TilesN.idx_val]
  have e := mesh_y c
  fin_cases a
  · rfl
  · show py c * 1024 + row.val = Layout.meshLin [2, 2, 4] c.val [1] * 1024 + row.val
    rw [e]
  · show col.val = 0 * 8192 + col.val; omega

end Cert.KernelIdeal.Kern
-- ==== Proof.lean ====
module

public import proofs.«01_k».proof.Defs
public import proofs.«01_k».proof.Proof.Transfer
public import proofs.«01_k».proof.Proof.Array
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel, at bit patterns. -/
theorem kernel : Cert.quiescent_Kernel := fun m g _ => Cert.Kernel.Transfer.ends m g

/-- The idealised kernel. -/
theorem kernelIdeal : Cert.quiescent_KernelIdeal := fun m g _ =>
  (θ_run _ _ _).mono (fun _ h => ⟨fun c => (h.1 c).2, h.2⟩) (Cert.KernelIdeal.Kern.runs m g)

/-- The reference: no operation writes its arguments, and it declares no semaphore. -/
theorem referenceIdeal : Cert.quiescent_ReferenceIdeal := fun m g _ =>
  (θ_run _ _ _).mono (fun r h => ⟨fun c => (h c).2, sem_eq_zero_of_no_sems (by decide) r.2⟩) (Cert.ReferenceIdeal.Value.run m g)

/-- Each device's result is its block of the reference's. -/
theorem algebraic : Cert.algebraic_KernelIdeal_ReferenceIdeal := by
  intro m g m' g' _ hm
  refine ⟨Cert.Whole.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run _ _ _).mono (fun _ h c => ⟨Cert.KernelIdeal.Kern.out_block m _ _ hm c _ (h.1 c).1, (h.1 c).2⟩) (Cert.KernelIdeal.Kern.runs m g)
  · exact (θ_run _ _ _).mono (fun _ h => h 0) (Cert.ReferenceIdeal.Value.run m' g')

theorem claim : Cert.Claim := ⟨Cert.Kernel.Gen.facts, Cert.KernelIdeal.Gen.facts, Cert.ReferenceIdeal.Gen.facts,
  kernel, kernelIdeal, referenceIdeal, trivial, algebraic⟩

end Cert.Proof

end
